-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_ok [hPre_ok : Cert.Pre_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ok [hPre_ok : Cert.Pre_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ok [hKernelIdeal : Cert.KernelIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ok [hReferenceIdeal : Cert.ReferenceIdeal.Facts] [hPre_ok : Cert.Pre_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_ok [hKernelIdeal : Cert.KernelIdeal.Facts] [hReferenceIdeal : Cert.ReferenceIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ok : Cert.Pre_ok.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ok (hKernelIdeal := hKernelIdeal) (hPre_ok := hPre_ok)
    ∧ quiescent_ReferenceIdeal (hReferenceIdeal := hReferenceIdeal)
    ∧ quiescent_ReferenceIdeal_pre_ok (hReferenceIdeal := hReferenceIdeal) (hPre_ok := hPre_ok)
    ∧ preserves_Kernel_KernelIdeal
    ∧ algebraic_KernelIdeal_ReferenceIdeal_pre_ok (hKernelIdeal := hKernelIdeal) (hReferenceIdeal := hReferenceIdeal) (hPre_ok := hPre_ok)
-- ==== Pre_ids_in_range.lean ====
abbrev S4x100000x128 : Shape := ⟨3, ![4, 100000, 128]⟩
abbrev S100000 : Shape := ⟨1, ![100000]⟩
abbrev S128x1 : Shape := ⟨2, ![128, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S4x100000x128 .f32) (main_arg1 : IVec S100000 32) (main_arg2 : FVec F S128x1 .f32) (main_arg3 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_ok.lean ====
abbrev S4x100000x128 : Shape := ⟨3, ![4, 100000, 128]⟩
abbrev S100000 : Shape := ⟨1, ![100000]⟩
abbrev S128x1 : Shape := ⟨2, ![128, 1]⟩
abbrev S1 : Shape := ⟨1, ![1]⟩
abbrev S_ : Shape := ⟨0, ![]⟩
abbrev S100000x1 : Shape := ⟨2, ![100000, 1]⟩
abbrev S256 : Shape := ⟨1, ![256]⟩
abbrev S1x256 : Shape := ⟨2, ![1, 256]⟩
abbrev S100000x256 : Shape := ⟨2, ![100000, 256]⟩

class Facts : Prop where
  bcast_S_S100000 : S_.BroadcastsInDim S100000 (![] : Fin 0 → Fin S100000.rank)
  reducesTo_S100000_S_d0 : S100000.ReducesTo [0] S_
  h_S_ : 0 < S_.numel
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S100000x1_S100000x256_0_1 : S100000x1.BroadcastsInDim S100000x256 (![0, 1] : Fin 2 → Fin S100000x256.rank)
  bcast_S1x256_S100000x256_0_1 : S1x256.BroadcastsInDim S100000x256 (![0, 1] : Fin 2 → Fin S100000x256.rank)
  reducesTo_S100000x256_S256_d0 : S100000x256.ReducesTo [0] S256
  reducesTo_S256_S_d0 : S256.ReducesTo [0] S_
  bcast_S_S4x100000x128 : S_.BroadcastsInDim S4x100000x128 (![] : Fin 0 → Fin S4x100000x128.rank)
  reducesTo_S4x100000x128_S_d0_1_2 : S4x100000x128.ReducesTo [0, 1, 2] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg2 : FVec F S128x1 .f32) (main_arg3 : FVec F S1 .f32) (main_v14 : IVec S_ 1) (main_v17 : IVec S4x100000x128 1) : IVec S_ 1 :=
  let main_c_4 : IVec S_ 1 := constantI S_ 1 1#1
  let main_v18 : IVec S_ 1 := (fun x v => Host.reduce IntOp.andi x v reducesTo_S4x100000x128_S_d0_1_2 h_S_) main_v17 main_c_4
  let main_v19 : IVec S_ 1 := andi main_v14 main_v18
  let main_v20 : FVec F S128x1 .f32 := Host.absf main_arg2
  let main_cst_5 : FVec F S_ .f32 := constant S_ .f32 0x7F800000#32
  let main_v21 : FVec F S128x1 .f32 := broadcastInDim S128x1 ![] bcast_S_S128x1 main_cst_5
  let main_v22 : IVec S128x1 1 := cmpf .olt main_v20 main_v21
  let main_c_6 : IVec S_ 1 := constantI S_ 1 1#1
  let main_v23 : IVec S_ 1 := (fun x v => Host.reduce IntOp.andi x v reducesTo_S128x1_S_d0_1 h_S_) main_v22 main_c_6
  let main_v24 : IVec S_ 1 := andi main_v19 main_v23
  let main_v25 : FVec F S1 .f32 := Host.absf main_arg3
  let main_cst_7 : FVec F S_ .f32 := constant S_ .f32 0x7F800000#32
  let main_v26 : FVec F S1 .f32 := broadcastInDim S1 ![] bcast_S_S1 main_cst_7
  let main_v27 : IVec S1 1 := cmpf .olt main_v25 main_v26
  let main_c_8 : IVec S_ 1 := constantI S_ 1 1#1
  let main_v28 : IVec S_ 1 := (fun x v => Host.reduce IntOp.andi x v reducesTo_S1_S_d0 h_S_) main_v27 main_c_8
  let main_v29 : IVec S_ 1 := andi main_v24 main_v28
  main_v29

def fn {F : FTy → Type} [FloatOps F] (main_arg0 : FVec F S4x100000x128 .f32) (main_arg1 : IVec S100000 32) (main_arg2 : FVec F S128x1 .f32) (main_arg3 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S100000x1 32 := broadcastInDim S100000x1 ![0] bcast_S100000_S100000x1_0 main_arg1
  let main_v7 : IVec S256 32 := iotaInDim S256 32 0
  let main_v8 : IVec S1x256 32 := broadcastInDim S1x256 ![1] bcast_S256_S1x256_1 main_v7
  let main_v9 : IVec S100000x256 32 := broadcastInDim S100000x256 ![0, 1] bcast_S100000x1_S100000x256_0_1 main_v6
  let main_v10 : IVec S100000x256 32 := broadcastInDim S100000x256 ![0, 1] bcast_S1x256_S100000x256_0_1 main_v8
  let main_v11 : IVec S100000x256 1 := cmpi .eq main_v9 main_v10
  let main_c_2 : IVec S_ 1 := constantI S_ 1 0#1
  let main_v12 : IVec S256 1 := (fun x v => Host.reduce IntOp.ori x v reducesTo_S100000x256_S256_d0 h_S_) main_v11 main_c_2
  let main_c_3 : IVec S_ 1 := constantI S_ 1 1#1
  let main_v13 : IVec S_ 1 := (fun x v => Host.reduce IntOp.andi x v reducesTo_S256_S_d0 h_S_) main_v12 main_c_3
  let main_v14 : IVec S_ 1 := andi main_v5 main_v13
  let main_v15 : FVec F S4x100000x128 .f32 := Host.absf main_arg0
  let main_cst : FVec F S_ .f32 := constant S_ .f32 0x7F800000#32
  let main_v16 : FVec F S4x100000x128 .f32 := broadcastInDim S4x100000x128 ![] bcast_S_S4x100000x128 main_cst
  let main_v17 : IVec S4x100000x128 1 := cmpf .olt main_v15 main_v16
  fn_part1 (F := F) main_arg2 main_arg3 main_v14 main_v17
-- ==== Kernel.lean ====
abbrev S4x100000x128 : Shape := ⟨3, ![4, 100000, 128]⟩
abbrev S100000 : Shape := ⟨1, ![100000]⟩
abbrev S128x1 : Shape := ⟨2, ![128, 1]⟩
abbrev S1 : Shape := ⟨1, ![1]⟩
abbrev S_ : Shape := ⟨0, ![]⟩
abbrev S2 : Shape := ⟨1, ![2]⟩
abbrev S1x1 : Shape := ⟨2, ![1, 1]⟩
abbrev S4x100000 : Shape := ⟨2, ![4, 100000]⟩
abbrev S4x102400 : Shape := ⟨2, ![4, 102400]⟩
abbrev S102400 : Shape := ⟨1, ![102400]⟩
abbrev S1x128 : Shape := ⟨2, ![1, 128]⟩
abbrev S4x2048x128 : Shape := ⟨3, ![4, 2048, 128]⟩
abbrev S4x2048 : Shape := ⟨2, ![4, 2048]⟩
abbrev S2048 : Shape := ⟨1, ![2048]⟩
abbrev S1x2048x128 : Shape := ⟨3, ![1, 2048, 128]⟩
abbrev S2048x128 : Shape := ⟨2, ![2048, 128]⟩
abbrev S1x2048 : Shape := ⟨2, ![1, 2048]⟩
abbrev S4x32x4352 : Shape := ⟨3, ![4, 32, 4352]⟩
abbrev S3200 : Shape := ⟨1, ![3200]⟩
abbrev S4352 : Shape := ⟨1, ![4352]⟩
abbrev S16 : Shape := ⟨1, ![16]⟩
abbrev S1x1x4352 : Shape := ⟨3, ![1, 1, 4352]⟩
abbrev S4x512x272 : Shape := ⟨3, ![4, 512, 272]⟩
abbrev S4x256 : Shape := ⟨2, ![4, 256]⟩
abbrev S1x512x272 : Shape := ⟨3, ![1, 512, 272]⟩
abbrev S512x272 : Shape := ⟨2, ![512, 272]⟩
abbrev S272 : Shape := ⟨1, ![272]⟩
abbrev S1x272 : Shape := ⟨2, ![1, 272]⟩
abbrev S1x256 : Shape := ⟨2, ![1, 256]⟩

abbrev nBuf : Table → Nat
  | .hbm => 317
  | .local .tc .vmem => 30
  | .local .scVector .vmem => 29
  | _ => 0

abbrev hbmTy0_0 (i : Nat) : BufTy := match i % 128 with
  | 0 => ⟨S4x100000x128, .f32⟩
  | 1 => ⟨S100000, .i32⟩
  | 2 => ⟨S128x1, .f32⟩
  | 3 => ⟨S1, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S4x100000, .i64⟩
  | 25 => ⟨S4x100000, .i64⟩
  | 26 => ⟨S_, .i64⟩
  | 27 => ⟨S4x100000, .i64⟩
  | 28 => ⟨S4x100000, .i64⟩
  | 29 => ⟨S_, .i64⟩
  | 30 => ⟨S4x100000, .i64⟩
  | 31 => ⟨S4x100000, .i64⟩
  | 32 => ⟨S4x100000, .i64⟩
  | 33 => ⟨S_, .i64⟩
  | 34 => ⟨S4x100000, .i64⟩
  | 35 => ⟨S4x100000, .i64⟩
  | 36 => ⟨S4x100000, .i32⟩
  | 37 => ⟨S4x100000, .i32⟩
  | 38 => ⟨S_, .i32⟩
  | 39 => ⟨S_, .i32⟩
  | 40 => ⟨S_, .i32⟩
  | 41 => ⟨S4x100000, .i32⟩
  | 42 => ⟨S4x100000, .i32⟩
  | 43 => ⟨S4x100000, .i32⟩
  | 44 => ⟨S4x100000, .i32⟩
  | 45 => ⟨S4x100000, .i32⟩
  | 46 => ⟨S_, .i32⟩
  | 47 => ⟨S4x100000, .i32⟩
  | 48 => ⟨S4x100000, .i32⟩
  | 49 => ⟨S_, .i32⟩
  | 50 => ⟨S4x100000, .i32⟩
  | 51 => ⟨S4x100000, .i32⟩
  | 52 => ⟨S4x100000, .i32⟩
  | 53 => ⟨S4x100000, .i32⟩
  | 54 => ⟨S4x100000, .i32⟩
  | 55 => ⟨S_, .i32⟩
  | 56 => ⟨S4x100000, .i32⟩
  | 57 => ⟨S4x100000, .i32⟩
  | 58 => ⟨S_, .i32⟩
  | 59 => ⟨S4x100000, .i32⟩
  | 60 => ⟨S4x100000, .i32⟩
  | 61 => ⟨S4x100000, .i32⟩
  | 62 => ⟨S4x100000, .i32⟩
  | 63 => ⟨S4x100000, .i32⟩
  | 64 => ⟨S_, .i32⟩
  | 65 => ⟨S4x100000, .i32⟩
  | 66 => ⟨S4x100000, .i32⟩
  | 67 => ⟨S_, .i32⟩
  | 68 => ⟨S4x100000, .i32⟩
  | 69 => ⟨S4x100000, .i32⟩
  | 70 => ⟨S4x100000, .i32⟩
  | 71 => ⟨S4x100000, .i32⟩
  | 72 => ⟨S4x100000, .i32⟩
  | 73 => ⟨S_, .i32⟩
  | 74 => ⟨S4x100000, .i32⟩
  | 75 => ⟨S4x100000, .i32⟩
  | 76 => ⟨S_, .i32⟩
  | 77 => ⟨S4x100000, .i32⟩
  | 78 => ⟨S4x100000, .i32⟩
  | 79 => ⟨S4x100000, .i32⟩
  | 80 => ⟨S4x100000, .i32⟩
  | 81 => ⟨S4x100000, .i32⟩
  | 82 => ⟨S4x100000, .i32⟩
  | 83 => ⟨S4x100000, .i32⟩
  | 84 => ⟨S4x100000, .i32⟩
  | 85 => ⟨S_, .i32⟩
  | 86 => ⟨S4x100000, .i32⟩
  | 87 => ⟨S4x100000, .i32⟩
  | 88 => ⟨S4x100000, .i32⟩
  | 89 => ⟨S_, .i32⟩
  | 90 => ⟨S4x100000, .i32⟩
  | 91 => ⟨S4x100000, .i32⟩
  | 92 => ⟨S_, .i32⟩
  | 93 => ⟨S4x100000, .i32⟩
  | 94 => ⟨S4x100000, .i32⟩
  | 95 => ⟨S4x100000, .i32⟩
  | 96 => ⟨S4x100000, .i32⟩
  | 97 => ⟨S4x100000, .i32⟩
  | 98 => ⟨S_, .i32⟩
  | 99 => ⟨S4x100000, .i32⟩
  | 100 => ⟨S4x100000, .i32⟩
  | 101 => ⟨S_, .i32⟩
  | 102 => ⟨S4x100000, .i32⟩
  | 103 => ⟨S4x100000, .i32⟩
  | 104 => ⟨S4x100000, .i32⟩
  | 105 => ⟨S4x100000, .i32⟩
  | 106 => ⟨S4x100000, .i32⟩
  | 107 => ⟨S_, .i32⟩
  | 108 => ⟨S4x100000, .i32⟩
  | 109 => ⟨S4x100000, .i32⟩
  | 110 => ⟨S_, .i32⟩
  | 111 => ⟨S4x100000, .i32⟩
  | 112 => ⟨S4x100000, .i32⟩
  | 113 => ⟨S4x100000, .i32⟩
  | 114 => ⟨S4x100000, .i32⟩
  | 115 => ⟨S4x100000, .i32⟩
  | 116 => ⟨S_, .i32⟩
  | 117 => ⟨S4x100000, .i32⟩
  | 118 => ⟨S4x100000, .i32⟩
  | 119 => ⟨S_, .i32⟩
  | 120 => ⟨S4x100000, .i32⟩
  | 121 => ⟨S4x100000, .i32⟩
  | 122 => ⟨S4x100000, .i32⟩
  | 123 => ⟨S4x100000, .i32⟩
  | 124 => ⟨S4x100000, .i32⟩
  | 125 => ⟨S4x100000, .i32⟩
  | 126 => ⟨S4x100000, .i32⟩
  | 127 => ⟨S4x100000, .i32⟩
  | _ => ⟨S4x100000x128, .f32⟩

abbrev hbmTy0_1 (i : Nat) : BufTy := match i % 128 with
  | 0 => ⟨S_, .i32⟩
  | 1 => ⟨S4x100000, .i32⟩
  | 2 => ⟨S4x100000, .i32⟩
  | 3 => ⟨S4x100000, .i32⟩
  | 4 => ⟨S_, .i32⟩
  | 5 => ⟨S4x100000, .i32⟩
  | 6 => ⟨S4x100000, .i32⟩
  | 7 => ⟨S_, .i32⟩
  | 8 => ⟨S4x100000, .i32⟩
  | 9 => ⟨S4x100000, .i32⟩
  | 10 => ⟨S4x100000, .i32⟩
  | 11 => ⟨S4x100000, .i32⟩
  | 12 => ⟨S4x100000, .i32⟩
  | 13 => ⟨S_, .i32⟩
  | 14 => ⟨S4x100000, .i32⟩
  | 15 => ⟨S4x100000, .i32⟩
  | 16 => ⟨S_, .i32⟩
  | 17 => ⟨S4x100000, .i32⟩
  | 18 => ⟨S4x100000, .i32⟩
  | 19 => ⟨S4x100000, .i32⟩
  | 20 => ⟨S4x100000, .i32⟩
  | 21 => ⟨S4x100000, .i32⟩
  | 22 => ⟨S_, .i32⟩
  | 23 => ⟨S4x100000, .i32⟩
  | 24 => ⟨S4x100000, .i32⟩
  | 25 => ⟨S_, .i32⟩
  | 26 => ⟨S4x100000, .i32⟩
  | 27 => ⟨S4x100000, .i32⟩
  | 28 => ⟨S4x100000, .i32⟩
  | 29 => ⟨S4x100000, .i32⟩
  | 30 => ⟨S4x100000, .i32⟩
  | 31 => ⟨S_, .i32⟩
  | 32 => ⟨S4x100000, .i32⟩
  | 33 => ⟨S4x100000, .i32⟩
  | 34 => ⟨S_, .i32⟩
  | 35 => ⟨S4x100000, .i32⟩
  | 36 => ⟨S4x100000, .i32⟩
  | 37 => ⟨S4x100000, .i32⟩
  | 38 => ⟨S4x100000, .i32⟩
  | 39 => ⟨S4x100000, .i32⟩
  | 40 => ⟨S4x100000, .i32⟩
  | 41 => ⟨S4x100000, .i32⟩
  | 42 => ⟨S4x100000, .i32⟩
  | 43 => ⟨S_, .i32⟩
  | 44 => ⟨S4x100000, .i32⟩
  | 45 => ⟨S4x100000, .i32⟩
  | 46 => ⟨S4x100000, .i32⟩
  | 47 => ⟨S_, .i32⟩
  | 48 => ⟨S4x100000, .i32⟩
  | 49 => ⟨S4x100000, .i32⟩
  | 50 => ⟨S_, .i32⟩
  | 51 => ⟨S4x100000, .i32⟩
  | 52 => ⟨S4x100000, .i32⟩
  | 53 => ⟨S4x100000, .i32⟩
  | 54 => ⟨S4x100000, .i32⟩
  | 55 => ⟨S4x100000, .i32⟩
  | 56 => ⟨S_, .i32⟩
  | 57 => ⟨S4x100000, .i32⟩
  | 58 => ⟨S4x100000, .i32⟩
  | 59 => ⟨S_, .i32⟩
  | 60 => ⟨S4x100000, .i32⟩
  | 61 => ⟨S4x100000, .i32⟩
  | 62 => ⟨S4x100000, .i32⟩
  | 63 => ⟨S4x100000, .i32⟩
  | 64 => ⟨S4x100000, .i32⟩
  | 65 => ⟨S_, .i32⟩
  | 66 => ⟨S4x100000, .i32⟩
  | 67 => ⟨S4x100000, .i32⟩
  | 68 => ⟨S_, .i32⟩
  | 69 => ⟨S4x100000, .i32⟩
  | 70 => ⟨S4x100000, .i32⟩
  | 71 => ⟨S4x100000, .i32⟩
  | 72 => ⟨S4x100000, .i32⟩
  | 73 => ⟨S4x100000, .i32⟩
  | 74 => ⟨S_, .i32⟩
  | 75 => ⟨S4x100000, .i32⟩
  | 76 => ⟨S4x100000, .i32⟩
  | 77 => ⟨S_, .i32⟩
  | 78 => ⟨S4x100000, .i32⟩
  | 79 => ⟨S4x100000, .i32⟩
  | 80 => ⟨S4x100000, .i32⟩
  | 81 => ⟨S4x100000, .i32⟩
  | 82 => ⟨S4x100000, .i32⟩
  | 83 => ⟨S4x100000, .i32⟩
  | 84 => ⟨S4x100000, .i32⟩
  | 85 => ⟨S4x100000, .i32⟩
  | 86 => ⟨S_, .i32⟩
  | 87 => ⟨S4x100000, .i32⟩
  | 88 => ⟨S4x100000, .i32⟩
  | 89 => ⟨S4x100000, .i32⟩
  | 90 => ⟨S_, .i32⟩
  | 91 => ⟨S4x100000, .i32⟩
  | 92 => ⟨S4x100000, .i32⟩
  | 93 => ⟨S_, .i32⟩
  | 94 => ⟨S4x100000, .i32⟩
  | 95 => ⟨S4x100000, .i32⟩
  | 96 => ⟨S4x100000, .i32⟩
  | 97 => ⟨S4x100000, .i32⟩
  | 98 => ⟨S4x100000, .i32⟩
  | 99 => ⟨S_, .i32⟩
  | 100 => ⟨S4x100000, .i32⟩
  | 101 => ⟨S4x100000, .i32⟩
  | 102 => ⟨S_, .i32⟩
  | 103 => ⟨S4x100000, .i32⟩
  | 104 => ⟨S4x100000, .i32⟩
  | 105 => ⟨S4x100000, .i32⟩
  | 106 => ⟨S4x100000, .i32⟩
  | 107 => ⟨S4x100000, .i32⟩
  | 108 => ⟨S_, .i32⟩
  | 109 => ⟨S4x100000, .i32⟩
  | 110 => ⟨S4x100000, .i32⟩
  | 111 => ⟨S_, .i32⟩
  | 112 => ⟨S4x100000, .i32⟩
  | 113 => ⟨S4x100000, .i32⟩
  | 114 => ⟨S4x100000, .i32⟩
  | 115 => ⟨S4x100000, .i32⟩
  | 116 => ⟨S4x100000, .i32⟩
  | 117 => ⟨S_, .i32⟩
  | 118 => ⟨S4x100000, .i32⟩
  | 119 => ⟨S4x100000, .i32⟩
  | 120 => ⟨S_, .i32⟩
  | 121 => ⟨S4x100000, .i32⟩
  | 122 => ⟨S4x100000, .i32⟩
  | 123 => ⟨S4x100000, .i32⟩
  | 124 => ⟨S4x100000, .i32⟩
  | 125 => ⟨S4x100000, .i32⟩
  | 126 => ⟨S4x100000, .i32⟩
  | 127 => ⟨S4x100000, .i32⟩
  | _ => ⟨S4x100000x128, .f32⟩

abbrev hbmTy0_2 (i : Nat) : BufTy := match i % 128 with
  | 0 => ⟨S4x100000, .i32⟩
  | 1 => ⟨S_, .i32⟩
  | 2 => ⟨S4x100000, .i32⟩
  | 3 => ⟨S4x100000, .i32⟩
  | 4 => ⟨S4x100000, .i32⟩
  | 5 => ⟨S_, .i32⟩
  | 6 => ⟨S4x100000, .i32⟩
  | 7 => ⟨S4x100000, .i32⟩
  | 8 => ⟨S_, .i32⟩
  | 9 => ⟨S4x100000, .i32⟩
  | 10 => ⟨S4x100000, .i32⟩
  | 11 => ⟨S4x100000, .f32⟩
  | 12 => ⟨S_, .f32⟩
  | 13 => ⟨S4x100000, .f32⟩
  | 14 => ⟨S4x100000, .f32⟩
  | 15 => ⟨S1x1, .f32⟩
  | 16 => ⟨S4x100000, .f32⟩
  | 17 => ⟨S4x100000, .f32⟩
  | 18 => ⟨S4x100000, .f32⟩
  | 19 => ⟨S4x100000, .f32⟩
  | 20 => ⟨S4x100000, .f32⟩
  | 21 => ⟨S4x100000, .f32⟩
  | 22 => ⟨S_, .f32⟩
  | 23 => ⟨S4x100000, .f32⟩
  | 24 => ⟨S4x100000, .f32⟩
  | 25 => ⟨S4x100000, .f32⟩
  | 26 => ⟨S4x100000, .f32⟩
  | 27 => ⟨S_, .f32⟩
  | 28 => ⟨S4x100000, .f32⟩
  | 29 => ⟨S4x100000, .f32⟩
  | 30 => ⟨S4x100000, .f32⟩
  | 31 => ⟨S4x100000, .f32⟩
  | 32 => ⟨S_, .i32⟩
  | 33 => ⟨S_, .f32⟩
  | 34 => ⟨S4x102400, .f32⟩
  | 35 => ⟨S_, .i32⟩
  | 36 => ⟨S_, .i32⟩
  | 37 => ⟨S102400, .i32⟩
  | 38 => ⟨S1x128, .f32⟩
  | 39 => ⟨S1x1, .f32⟩
  | 40 => ⟨S102400, .f32⟩
  | 41 => ⟨S102400, .f32⟩
  | 42 => ⟨S102400, .f32⟩
  | 43 => ⟨S102400, .f32⟩
  | 44 => ⟨S102400, .f32⟩
  | 45 => ⟨S102400, .f32⟩
  | 46 => ⟨S102400, .f32⟩
  | 47 => ⟨S102400, .f32⟩
  | 48 => ⟨S4x32x4352, .f32⟩
  | 49 => ⟨S4x32x4352, .i32⟩
  | 50 => ⟨S4x32x4352, .f32⟩
  | 51 => ⟨S4x32x4352, .f32⟩
  | 52 => ⟨S4x32x4352, .f32⟩
  | 53 => ⟨S4x512x272, .f32⟩
  | 54 => ⟨S4x512x272, .i32⟩
  | 55 => ⟨S4x512x272, .f32⟩
  | 56 => ⟨S4x512x272, .f32⟩
  | 57 => ⟨S4x512x272, .f32⟩
  | 58 => ⟨S4x256, .i32⟩
  | 59 => ⟨S4x256, .f32⟩
  | 60 => ⟨S4x256, .f32⟩
  | _ => ⟨S4x100000x128, .f32⟩

abbrev hbmTy (i : Nat) : BufTy := match i / 128 with
  | 0 => hbmTy0_0 i
  | 1 => hbmTy0_1 i
  | 2 => hbmTy0_2 i
  | _ => ⟨S4x100000x128, .f32⟩

abbrev bufTy : (tb : Table) → Fin (nBuf tb) → BufTy
  | .hbm, ⟨i, _⟩ => hbmTy i
  | .local .tc .vmem, ⟨0, _⟩ => ⟨S4x2048x128, .f32⟩
  | .local .tc .vmem, ⟨1, _⟩ => ⟨S4x2048x128, .f32⟩
  | .local .tc .vmem, ⟨2, _⟩ => ⟨S4x2048, .f32⟩
  | .local .tc .vmem, ⟨3, _⟩ => ⟨S4x2048, .f32⟩
  | .local .tc .vmem, ⟨4, _⟩ => ⟨S1x128, .f32⟩
  | .local .tc .vmem, ⟨5, _⟩ => ⟨S1x1, .f32⟩
  | .local .tc .vmem, ⟨6, _⟩ => ⟨S2048, .f32⟩
  | .local .tc .vmem, ⟨7, _⟩ => ⟨S2048, .f32⟩
  | .local .tc .vmem, ⟨8, _⟩ => ⟨S2048, .f32⟩
  | .local .tc .vmem, ⟨9, _⟩ => ⟨S2048, .f32⟩
  | .local .tc .vmem, ⟨10, _⟩ => ⟨S2048, .f32⟩
  | .local .tc .vmem, ⟨11, _⟩ => ⟨S2048, .f32⟩
  | .local .tc .vmem, ⟨12, _⟩ => ⟨S2048, .f32⟩
  | .local .tc .vmem, ⟨13, _⟩ => ⟨S2048, .f32⟩
  | .local .tc .vmem, ⟨14, _⟩ => ⟨S2048, .f32⟩
  | .local .tc .vmem, ⟨15, _⟩ => ⟨S2048, .f32⟩
  | .local .tc .vmem, ⟨16, _⟩ => ⟨S2048, .f32⟩
  | .local .tc .vmem, ⟨17, _⟩ => ⟨S2048, .f32⟩
  | .local .tc .vmem, ⟨18, _⟩ => ⟨S2048, .f32⟩
  | .local .tc .vmem, ⟨19, _⟩ => ⟨S2048, .f32⟩
  | .local .tc .vmem, ⟨20, _⟩ => ⟨S2048, .f32⟩
  | .local .tc .vmem, ⟨21, _⟩ => ⟨S2048, .f32⟩
  | .local .tc .vmem, ⟨22, _⟩ => ⟨S4x512x272, .f32⟩
  | .local .tc .vmem, ⟨23, _⟩ => ⟨S4x512x272, .i32⟩
  | .local .tc .vmem, ⟨24, _⟩ => ⟨S4x512x272, .f32⟩
  | .local .tc .vmem, ⟨25, _⟩ => ⟨S4x512x272, .f32⟩
  | .local .tc .vmem, ⟨26, _⟩ => ⟨S4x512x272, .f32⟩
  | .local .tc .vmem, ⟨27, _⟩ => ⟨S4x256, .i32⟩
  | .local .tc .vmem, ⟨28, _⟩ => ⟨S4x256, .f32⟩
  | .local .tc .vmem, ⟨29, _⟩ => ⟨S4x256, .f32⟩
  | .local .scVector .vmem, ⟨0, _⟩ => ⟨S3200, .i32⟩
  | .local .scVector .vmem, ⟨1, _⟩ => ⟨S3200, .f32⟩
  | .local .scVector .vmem, ⟨2, _⟩ => ⟨S3200, .f32⟩
  | .local .scVector .vmem, ⟨3, _⟩ => ⟨S3200, .f32⟩
  | .local .scVector .vmem, ⟨4, _⟩ => ⟨S3200, .f32⟩
  | .local .scVector .vmem, ⟨5, _⟩ => ⟨S3200, .f32⟩
  | .local .scVector .vmem, ⟨6, _⟩ => ⟨S3200, .f32⟩
  | .local .scVector .vmem, ⟨7, _⟩ => ⟨S3200, .f32⟩
  | .local .scVector .vmem, ⟨8, _⟩ => ⟨S3200, .f32⟩
  | .local .scVector .vmem, ⟨9, _⟩ => ⟨S4352, .f32⟩
  | .local .scVector .vmem, ⟨10, _⟩ => ⟨S4352, .f32⟩
  | .local .scVector .vmem, ⟨11, _⟩ => ⟨S4352, .f32⟩
  | .local .scVector .vmem, ⟨12, _⟩ => ⟨S4352, .f32⟩
  | .local .scVector .vmem, ⟨13, _⟩ => ⟨S4352, .i32⟩
  | .local .scVector .vmem, ⟨14, _⟩ => ⟨S4352, .i32⟩
  | .local .scVector .vmem, ⟨15, _⟩ => ⟨S4352, .i32⟩
  | .local .scVector .vmem, ⟨16, _⟩ => ⟨S4352, .i32⟩
  | .local .scVector .vmem, ⟨17, _⟩ => ⟨S4352, .f32⟩
  | .local .scVector .vmem, ⟨18, _⟩ => ⟨S4352, .f32⟩
  | .local .scVector .vmem, ⟨19, _⟩ => ⟨S4352, .f32⟩
  | .local .scVector .vmem, ⟨20, _⟩ => ⟨S4352, .f32⟩
  | .local .scVector .vmem, ⟨21, _⟩ => ⟨S4352, .f32⟩
  | .local .scVector .vmem, ⟨22, _⟩ => ⟨S4352, .f32⟩
  | .local .scVector .vmem, ⟨23, _⟩ => ⟨S4352, .f32⟩
  | .local .scVector .vmem, ⟨24, _⟩ => ⟨S4352, .f32⟩
  | .local .scVector .vmem, ⟨25, _⟩ => ⟨S4352, .f32⟩
  | .local .scVector .vmem, ⟨26, _⟩ => ⟨S4352, .f32⟩
  | .local .scVector .vmem, ⟨27, _⟩ => ⟨S4352, .f32⟩
  | .local .scVector .vmem, ⟨28, _⟩ => ⟨S4352, .f32⟩
  | _, _ => ⟨S4x100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_1 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_call0_v0 : Ref sig .tc := ⟨.hbm, 38, rfl⟩
abbrev main_call0_call0_c : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_c_0 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_c_1 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_c_2 : Ref sig .tc := ⟨.hbm, 55, rfl⟩
abbrev main_call0_call0_v14 : Ref sig .tc := ⟨.hbm, 56, rfl⟩
abbrev main_call0_call0_v15 : Ref sig .tc := ⟨.hbm, 57, rfl⟩
abbrev main_call0_call0_c_3 : Ref sig .tc := ⟨.hbm, 58, rfl⟩
abbrev main_call0_call0_v16 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_v19 : Ref sig .tc := ⟨.hbm, 62, rfl⟩
abbrev main_call0_call0_v20 : Ref sig .tc := ⟨.hbm, 63, rfl⟩
abbrev main_call0_call0_c_4 : Ref sig .tc := ⟨.hbm, 64, rfl⟩
abbrev main_call0_call0_v21 : Ref sig .tc := ⟨.hbm, 65, rfl⟩
abbrev main_call0_call0_v22 : Ref sig .tc := ⟨.hbm, 66, rfl⟩
abbrev main_call0_call0_c_5 : Ref sig .tc := ⟨.hbm, 67, rfl⟩
abbrev main_call0_call0_v23 : Ref sig .tc := ⟨.hbm, 68, rfl⟩
abbrev main_call0_call0_v24 : Ref sig .tc := ⟨.hbm, 69, rfl⟩
abbrev main_call0_call0_v25 : Ref sig .tc := ⟨.hbm, 70, rfl⟩
abbrev main_call0_call0_v26 : Ref sig .tc := ⟨.hbm, 71, rfl⟩
abbrev main_call0_call0_v27 : Ref sig .tc := ⟨.hbm, 72, rfl⟩
abbrev main_call0_call0_c_6 : Ref sig .tc := ⟨.hbm, 73, rfl⟩
abbrev main_call0_call0_v28 : Ref sig .tc := ⟨.hbm, 74, rfl⟩
abbrev main_call0_call0_v29 : Ref sig .tc := ⟨.hbm, 75, rfl⟩
abbrev main_call0_call0_c_7 : Ref sig .tc := ⟨.hbm, 76, rfl⟩
abbrev main_call0_call0_v30 : Ref sig .tc := ⟨.hbm, 77, rfl⟩
abbrev main_call0_call0_v31 : Ref sig .tc := ⟨.hbm, 78, rfl⟩
abbrev main_call0_call0_v32 : Ref sig .tc := ⟨.hbm, 79, rfl⟩
abbrev main_call0_call0_v33 : Ref sig .tc := ⟨.hbm, 80, rfl⟩
abbrev main_call0_call0_v34 : Ref sig .tc := ⟨.hbm, 81, rfl⟩
abbrev main_call0_call0_v35 : Ref sig .tc := ⟨.hbm, 82, rfl⟩
abbrev main_call0_call0_v36 : Ref sig .tc := ⟨.hbm, 83, rfl⟩
abbrev main_call0_call0_v37 : Ref sig .tc := ⟨.hbm, 84, rfl⟩
abbrev main_call0_call0_c_8 : Ref sig .tc := ⟨.hbm, 85, rfl⟩
abbrev main_call0_call0_v38 : Ref sig .tc := ⟨.hbm, 86, rfl⟩
abbrev main_call0_call0_v39 : Ref sig .tc := ⟨.hbm, 87, rfl⟩
abbrev main_call0_call0_v40 : Ref sig .tc := ⟨.hbm, 88, rfl⟩
abbrev main_call0_call0_c_9 : Ref sig .tc := ⟨.hbm, 89, rfl⟩
abbrev main_call0_call0_v41 : Ref sig .tc := ⟨.hbm, 90, rfl⟩
abbrev main_call0_call0_v42 : Ref sig .tc := ⟨.hbm, 91, rfl⟩
abbrev main_call0_call0_c_10 : Ref sig .tc := ⟨.hbm, 92, rfl⟩
abbrev main_call0_call0_v43 : Ref sig .tc := ⟨.hbm, 93, rfl⟩
abbrev main_call0_call0_v44 : Ref sig .tc := ⟨.hbm, 94, rfl⟩
abbrev main_call0_call0_v45 : Ref sig .tc := ⟨.hbm, 95, rfl⟩
abbrev main_call0_call0_v46 : Ref sig .tc := ⟨.hbm, 96, rfl⟩
abbrev main_call0_call0_v47 : Ref sig .tc := ⟨.hbm, 97, rfl⟩
abbrev main_call0_call0_c_11 : Ref sig .tc := ⟨.hbm, 98, rfl⟩
abbrev main_call0_call0_v48 : Ref sig .tc := ⟨.hbm, 99, rfl⟩
abbrev main_call0_call0_v49 : Ref sig .tc := ⟨.hbm, 100, rfl⟩
abbrev main_call0_call0_c_12 : Ref sig .tc := ⟨.hbm, 101, rfl⟩
abbrev main_call0_call0_v50 : Ref sig .tc := ⟨.hbm, 102, rfl⟩
abbrev main_call0_call0_v51 : Ref sig .tc := ⟨.hbm, 103, rfl⟩
abbrev main_call0_call0_v52 : Ref sig .tc := ⟨.hbm, 104, rfl⟩
abbrev main_call0_call0_v53 : Ref sig .tc := ⟨.hbm, 105, rfl⟩
abbrev main_call0_call0_v54 : Ref sig .tc := ⟨.hbm, 106, rfl⟩
abbrev main_call0_call0_c_13 : Ref sig .tc := ⟨.hbm, 107, rfl⟩
abbrev main_call0_call0_v55 : Ref sig .tc := ⟨.hbm, 108, rfl⟩
abbrev main_call0_call0_v56 : Ref sig .tc := ⟨.hbm, 109, rfl⟩
abbrev main_call0_call0_c_14 : Ref sig .tc := ⟨.hbm, 110, rfl⟩
abbrev main_call0_call0_v57 : Ref sig .tc := ⟨.hbm, 111, rfl⟩
abbrev main_call0_call0_v58 : Ref sig .tc := ⟨.hbm, 112, rfl⟩
abbrev main_call0_call0_v59 : Ref sig .tc := ⟨.hbm, 113, rfl⟩
abbrev main_call0_call0_v60 : Ref sig .tc := ⟨.hbm, 114, rfl⟩
abbrev main_call0_call0_v61 : Ref sig .tc := ⟨.hbm, 115, rfl⟩
abbrev main_call0_call0_c_15 : Ref sig .tc := ⟨.hbm, 116, rfl⟩
abbrev main_call0_call0_v62 : Ref sig .tc := ⟨.hbm, 117, rfl⟩
abbrev main_call0_call0_v63 : Ref sig .tc := ⟨.hbm, 118, rfl⟩
abbrev main_call0_call0_c_16 : Ref sig .tc := ⟨.hbm, 119, rfl⟩
abbrev main_call0_call0_v64 : Ref sig .tc := ⟨.hbm, 120, rfl⟩
abbrev main_call0_call0_v65 : Ref sig .tc := ⟨.hbm, 121, rfl⟩
abbrev main_call0_call0_v66 : Ref sig .tc := ⟨.hbm, 122, rfl⟩
abbrev main_call0_call0_v67 : Ref sig .tc := ⟨.hbm, 123, rfl⟩
abbrev main_call0_call0_v68 : Ref sig .tc := ⟨.hbm, 124, rfl⟩
abbrev main_call0_call0_v69 : Ref sig .tc := ⟨.hbm, 125, rfl⟩
abbrev main_call0_call0_v70 : Ref sig .tc := ⟨.hbm, 126, rfl⟩
abbrev main_call0_call0_v71 : Ref sig .tc := ⟨.hbm, 127, rfl⟩
abbrev main_call0_call0_c_17 : Ref sig .tc := ⟨.hbm, 128, rfl⟩
abbrev main_call0_call0_v72 : Ref sig .tc := ⟨.hbm, 129, rfl⟩
abbrev main_call0_call0_v73 : Ref sig .tc := ⟨.hbm, 130, rfl⟩
abbrev main_call0_call0_v74 : Ref sig .tc := ⟨.hbm, 131, rfl⟩
abbrev main_call0_call0_c_18 : Ref sig .tc := ⟨.hbm, 132, rfl⟩
abbrev main_call0_call0_v75 : Ref sig .tc := ⟨.hbm, 133, rfl⟩
abbrev main_call0_call0_v76 : Ref sig .tc := ⟨.hbm, 134, rfl⟩
abbrev main_call0_call0_c_19 : Ref sig .tc := ⟨.hbm, 135, rfl⟩
abbrev main_call0_call0_v77 : Ref sig .tc := ⟨.hbm, 136, rfl⟩
abbrev main_call0_call0_v78 : Ref sig .tc := ⟨.hbm, 137, rfl⟩
abbrev main_call0_call0_v79 : Ref sig .tc := ⟨.hbm, 138, rfl⟩
abbrev main_call0_call0_v80 : Ref sig .tc := ⟨.hbm, 139, rfl⟩
abbrev main_call0_call0_v81 : Ref sig .tc := ⟨.hbm, 140, rfl⟩
abbrev main_call0_call0_c_20 : Ref sig .tc := ⟨.hbm, 141, rfl⟩
abbrev main_call0_call0_v82 : Ref sig .tc := ⟨.hbm, 142, rfl⟩
abbrev main_call0_call0_v83 : Ref sig .tc := ⟨.hbm, 143, rfl⟩
abbrev main_call0_call0_c_21 : Ref sig .tc := ⟨.hbm, 144, rfl⟩
abbrev main_call0_call0_v84 : Ref sig .tc := ⟨.hbm, 145, rfl⟩
abbrev main_call0_call0_v85 : Ref sig .tc := ⟨.hbm, 146, rfl⟩
abbrev main_call0_call0_v86 : Ref sig .tc := ⟨.hbm, 147, rfl⟩
abbrev main_call0_call0_v87 : Ref sig .tc := ⟨.hbm, 148, rfl⟩
abbrev main_call0_call0_v88 : Ref sig .tc := ⟨.hbm, 149, rfl⟩
abbrev main_call0_call0_c_22 : Ref sig .tc := ⟨.hbm, 150, rfl⟩
abbrev main_call0_call0_v89 : Ref sig .tc := ⟨.hbm, 151, rfl⟩
abbrev main_call0_call0_v90 : Ref sig .tc := ⟨.hbm, 152, rfl⟩
abbrev main_call0_call0_c_23 : Ref sig .tc := ⟨.hbm, 153, rfl⟩
abbrev main_call0_call0_v91 : Ref sig .tc := ⟨.hbm, 154, rfl⟩
abbrev main_call0_call0_v92 : Ref sig .tc := ⟨.hbm, 155, rfl⟩
abbrev main_call0_call0_v93 : Ref sig .tc := ⟨.hbm, 156, rfl⟩
abbrev main_call0_call0_v94 : Ref sig .tc := ⟨.hbm, 157, rfl⟩
abbrev main_call0_call0_v95 : Ref sig .tc := ⟨.hbm, 158, rfl⟩
abbrev main_call0_call0_c_24 : Ref sig .tc := ⟨.hbm, 159, rfl⟩
abbrev main_call0_call0_v96 : Ref sig .tc := ⟨.hbm, 160, rfl⟩
abbrev main_call0_call0_v97 : Ref sig .tc := ⟨.hbm, 161, rfl⟩
abbrev main_call0_call0_c_25 : Ref sig .tc := ⟨.hbm, 162, rfl⟩
abbrev main_call0_call0_v98 : Ref sig .tc := ⟨.hbm, 163, rfl⟩
abbrev main_call0_call0_v99 : Ref sig .tc := ⟨.hbm, 164, rfl⟩
abbrev main_call0_call0_v100 : Ref sig .tc := ⟨.hbm, 165, rfl⟩
abbrev main_call0_call0_v101 : Ref sig .tc := ⟨.hbm, 166, rfl⟩
abbrev main_call0_call0_v102 : Ref sig .tc := ⟨.hbm, 167, rfl⟩
abbrev main_call0_call0_v103 : Ref sig .tc := ⟨.hbm, 168, rfl⟩
abbrev main_call0_call0_v104 : Ref sig .tc := ⟨.hbm, 169, rfl⟩
abbrev main_call0_call0_v105 : Ref sig .tc := ⟨.hbm, 170, rfl⟩
abbrev main_call0_call0_c_26 : Ref sig .tc := ⟨.hbm, 171, rfl⟩
abbrev main_call0_call0_v106 : Ref sig .tc := ⟨.hbm, 172, rfl⟩
abbrev main_call0_call0_v107 : Ref sig .tc := ⟨.hbm, 173, rfl⟩
abbrev main_call0_call0_v108 : Ref sig .tc := ⟨.hbm, 174, rfl⟩
abbrev main_call0_call0_c_27 : Ref sig .tc := ⟨.hbm, 175, rfl⟩
abbrev main_call0_call0_v109 : Ref sig .tc := ⟨.hbm, 176, rfl⟩
abbrev main_call0_call0_v110 : Ref sig .tc := ⟨.hbm, 177, rfl⟩
abbrev main_call0_call0_c_28 : Ref sig .tc := ⟨.hbm, 178, rfl⟩
abbrev main_call0_call0_v111 : Ref sig .tc := ⟨.hbm, 179, rfl⟩
abbrev main_call0_call0_v112 : Ref sig .tc := ⟨.hbm, 180, rfl⟩
abbrev main_call0_call0_v113 : Ref sig .tc := ⟨.hbm, 181, rfl⟩
abbrev main_call0_call0_v114 : Ref sig .tc := ⟨.hbm, 182, rfl⟩
abbrev main_call0_call0_v115 : Ref sig .tc := ⟨.hbm, 183, rfl⟩
abbrev main_call0_call0_c_29 : Ref sig .tc := ⟨.hbm, 184, rfl⟩
abbrev main_call0_call0_v116 : Ref sig .tc := ⟨.hbm, 185, rfl⟩
abbrev main_call0_call0_v117 : Ref sig .tc := ⟨.hbm, 186, rfl⟩
abbrev main_call0_call0_c_30 : Ref sig .tc := ⟨.hbm, 187, rfl⟩
abbrev main_call0_call0_v118 : Ref sig .tc := ⟨.hbm, 188, rfl⟩
abbrev main_call0_call0_v119 : Ref sig .tc := ⟨.hbm, 189, rfl⟩
abbrev main_call0_call0_v120 : Ref sig .tc := ⟨.hbm, 190, rfl⟩
abbrev main_call0_call0_v121 : Ref sig .tc := ⟨.hbm, 191, rfl⟩
abbrev main_call0_call0_v122 : Ref sig .tc := ⟨.hbm, 192, rfl⟩
abbrev main_call0_call0_c_31 : Ref sig .tc := ⟨.hbm, 193, rfl⟩
abbrev main_call0_call0_v123 : Ref sig .tc := ⟨.hbm, 194, rfl⟩
abbrev main_call0_call0_v124 : Ref sig .tc := ⟨.hbm, 195, rfl⟩
abbrev main_call0_call0_c_32 : Ref sig .tc := ⟨.hbm, 196, rfl⟩
abbrev main_call0_call0_v125 : Ref sig .tc := ⟨.hbm, 197, rfl⟩
abbrev main_call0_call0_v126 : Ref sig .tc := ⟨.hbm, 198, rfl⟩
abbrev main_call0_call0_v127 : Ref sig .tc := ⟨.hbm, 199, rfl⟩
abbrev main_call0_call0_v128 : Ref sig .tc := ⟨.hbm, 200, rfl⟩
abbrev main_call0_call0_v129 : Ref sig .tc := ⟨.hbm, 201, rfl⟩
abbrev main_call0_call0_c_33 : Ref sig .tc := ⟨.hbm, 202, rfl⟩
abbrev main_call0_call0_v130 : Ref sig .tc := ⟨.hbm, 203, rfl⟩
abbrev main_call0_call0_v131 : Ref sig .tc := ⟨.hbm, 204, rfl⟩
abbrev main_call0_call0_c_34 : Ref sig .tc := ⟨.hbm, 205, rfl⟩
abbrev main_call0_call0_v132 : Ref sig .tc := ⟨.hbm, 206, rfl⟩
abbrev main_call0_call0_v133 : Ref sig .tc := ⟨.hbm, 207, rfl⟩
abbrev main_call0_call0_v134 : Ref sig .tc := ⟨.hbm, 208, rfl⟩
abbrev main_call0_call0_v135 : Ref sig .tc := ⟨.hbm, 209, rfl⟩
abbrev main_call0_call0_v136 : Ref sig .tc := ⟨.hbm, 210, rfl⟩
abbrev main_call0_call0_v137 : Ref sig .tc := ⟨.hbm, 211, rfl⟩
abbrev main_call0_call0_v138 : Ref sig .tc := ⟨.hbm, 212, rfl⟩
abbrev main_call0_call0_v139 : Ref sig .tc := ⟨.hbm, 213, rfl⟩
abbrev main_call0_call0_c_35 : Ref sig .tc := ⟨.hbm, 214, rfl⟩
abbrev main_call0_call0_v140 : Ref sig .tc := ⟨.hbm, 215, rfl⟩
abbrev main_call0_call0_v141 : Ref sig .tc := ⟨.hbm, 216, rfl⟩
abbrev main_call0_call0_v142 : Ref sig .tc := ⟨.hbm, 217, rfl⟩
abbrev main_call0_call0_c_36 : Ref sig .tc := ⟨.hbm, 218, rfl⟩
abbrev main_call0_call0_v143 : Ref sig .tc := ⟨.hbm, 219, rfl⟩
abbrev main_call0_call0_v144 : Ref sig .tc := ⟨.hbm, 220, rfl⟩
abbrev main_call0_call0_c_37 : Ref sig .tc := ⟨.hbm, 221, rfl⟩
abbrev main_call0_call0_v145 : Ref sig .tc := ⟨.hbm, 222, rfl⟩
abbrev main_call0_call0_v146 : Ref sig .tc := ⟨.hbm, 223, rfl⟩
abbrev main_call0_call0_v147 : Ref sig .tc := ⟨.hbm, 224, rfl⟩
abbrev main_call0_call0_v148 : Ref sig .tc := ⟨.hbm, 225, rfl⟩
abbrev main_call0_call0_v149 : Ref sig .tc := ⟨.hbm, 226, rfl⟩
abbrev main_call0_call0_c_38 : Ref sig .tc := ⟨.hbm, 227, rfl⟩
abbrev main_call0_call0_v150 : Ref sig .tc := ⟨.hbm, 228, rfl⟩
abbrev main_call0_call0_v151 : Ref sig .tc := ⟨.hbm, 229, rfl⟩
abbrev main_call0_call0_c_39 : Ref sig .tc := ⟨.hbm, 230, rfl⟩
abbrev main_call0_call0_v152 : Ref sig .tc := ⟨.hbm, 231, rfl⟩
abbrev main_call0_call0_v153 : Ref sig .tc := ⟨.hbm, 232, rfl⟩
abbrev main_call0_call0_v154 : Ref sig .tc := ⟨.hbm, 233, rfl⟩
abbrev main_call0_call0_v155 : Ref sig .tc := ⟨.hbm, 234, rfl⟩
abbrev main_call0_call0_v156 : Ref sig .tc := ⟨.hbm, 235, rfl⟩
abbrev main_call0_call0_c_40 : Ref sig .tc := ⟨.hbm, 236, rfl⟩
abbrev main_call0_call0_v157 : Ref sig .tc := ⟨.hbm, 237, rfl⟩
abbrev main_call0_call0_v158 : Ref sig .tc := ⟨.hbm, 238, rfl⟩
abbrev main_call0_call0_c_41 : Ref sig .tc := ⟨.hbm, 239, rfl⟩
abbrev main_call0_call0_v159 : Ref sig .tc := ⟨.hbm, 240, rfl⟩
abbrev main_call0_call0_v160 : Ref sig .tc := ⟨.hbm, 241, rfl⟩
abbrev main_call0_call0_v161 : Ref sig .tc := ⟨.hbm, 242, rfl⟩
abbrev main_call0_call0_v162 : Ref sig .tc := ⟨.hbm, 243, rfl⟩
abbrev main_call0_call0_v163 : Ref sig .tc := ⟨.hbm, 244, rfl⟩
abbrev main_call0_call0_c_42 : Ref sig .tc := ⟨.hbm, 245, rfl⟩
abbrev main_call0_call0_v164 : Ref sig .tc := ⟨.hbm, 246, rfl⟩
abbrev main_call0_call0_v165 : Ref sig .tc := ⟨.hbm, 247, rfl⟩
abbrev main_call0_call0_c_43 : Ref sig .tc := ⟨.hbm, 248, rfl⟩
abbrev main_call0_call0_v166 : Ref sig .tc := ⟨.hbm, 249, rfl⟩
abbrev main_call0_call0_v167 : Ref sig .tc := ⟨.hbm, 250, rfl⟩
abbrev main_call0_call0_v168 : Ref sig .tc := ⟨.hbm, 251, rfl⟩
abbrev main_call0_call0_v169 : Ref sig .tc := ⟨.hbm, 252, rfl⟩
abbrev main_call0_call0_v170 : Ref sig .tc := ⟨.hbm, 253, rfl⟩
abbrev main_call0_v19_0 : Ref sig .tc := ⟨.hbm, 254, rfl⟩
abbrev main_call0_call0_v172 : Ref sig .tc := ⟨.hbm, 255, rfl⟩
abbrev main_call0_call0_v173 : Ref sig .tc := ⟨.hbm, 256, rfl⟩
abbrev main_call0_call0_c_44 : Ref sig .tc := ⟨.hbm, 257, rfl⟩
abbrev main_call0_call0_v174 : Ref sig .tc := ⟨.hbm, 258, rfl⟩
abbrev main_call0_v19_1 : Ref sig .tc := ⟨.hbm, 259, rfl⟩
abbrev main_call0_v20 : Ref sig .tc := ⟨.hbm, 260, rfl⟩
abbrev main_call0_c_2 : Ref sig .tc := ⟨.hbm, 261, rfl⟩
abbrev main_call0_v21 : Ref sig .tc := ⟨.hbm, 262, rfl⟩
abbrev main_call0_v22 : Ref sig .tc := ⟨.hbm, 263, rfl⟩
abbrev main_call0_c_3 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_cst : Ref sig .tc := ⟨.hbm, 268, rfl⟩
abbrev main_call0_v26 : Ref sig .tc := ⟨.hbm, 269, rfl⟩
abbrev main_call0_v27 : Ref sig .tc := ⟨.hbm, 270, rfl⟩
abbrev main_call0_v28 : Ref sig .tc := ⟨.hbm, 271, rfl⟩
abbrev main_call0_v29 : Ref sig .tc := ⟨.hbm, 272, rfl⟩
abbrev main_call0_v30 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_v7 : Ref sig .tc := ⟨.hbm, 277, rfl⟩
abbrev main_cst_3 : Ref sig .tc := ⟨.hbm, 278, rfl⟩
abbrev main_v8 : Ref sig .tc := ⟨.hbm, 279, rfl⟩
abbrev main_v9 : Ref sig .tc := ⟨.hbm, 280, rfl⟩
abbrev main_v10 : Ref sig .tc := ⟨.hbm, 281, rfl⟩
abbrev main_v11 : Ref sig .tc := ⟨.hbm, 282, rfl⟩
abbrev main_cst_4 : Ref sig .tc := ⟨.hbm, 283, rfl⟩
abbrev main_v12 : Ref sig .tc := ⟨.hbm, 284, rfl⟩
abbrev main_v13 : Ref sig .tc := ⟨.hbm, 285, rfl⟩
abbrev main_v14 : Ref sig .tc := ⟨.hbm, 286, rfl⟩
abbrev main_v15 : Ref sig .tc := ⟨.hbm, 287, rfl⟩
abbrev main_c_5 : Ref sig .tc := ⟨.hbm, 288, rfl⟩
abbrev main_call1_v0 : Ref sig .tc := ⟨.hbm, 289, rfl⟩
abbrev main_v16 : Ref sig .tc := ⟨.hbm, 290, rfl⟩
abbrev main_c_6 : Ref sig .tc := ⟨.hbm, 291, rfl⟩
abbrev main_call2_v0 : Ref sig .tc := ⟨.hbm, 292, rfl⟩
abbrev main_v17 : Ref sig .tc := ⟨.hbm, 293, rfl⟩
abbrev main_v18 : Ref sig .tc := ⟨.hbm, 294, rfl⟩
abbrev main_v19 : Ref sig .tc := ⟨.hbm, 295, rfl⟩
abbrev main_v20_0 : Ref sig .tc := ⟨.hbm, 296, rfl⟩
abbrev main_v20_1 : Ref sig .tc := ⟨.hbm, 297, rfl⟩
abbrev main_v20_2 : Ref sig .tc := ⟨.hbm, 298, rfl⟩
abbrev main_v20_3 : Ref sig .tc := ⟨.hbm, 299, rfl⟩
abbrev main_v20_4 : Ref sig .tc := ⟨.hbm, 300, rfl⟩
abbrev main_v20_5 : Ref sig .tc := ⟨.hbm, 301, rfl⟩
abbrev main_v20_6 : Ref sig .tc := ⟨.hbm, 302, rfl⟩
abbrev main_v20_7 : Ref sig .tc := ⟨.hbm, 303, rfl⟩
abbrev main_v21_0 : Ref sig .tc := ⟨.hbm, 304, rfl⟩
abbrev main_v21_1 : Ref sig .tc := ⟨.hbm, 305, rfl⟩
abbrev main_v21_2 : Ref sig .tc := ⟨.hbm, 306, rfl⟩
abbrev main_v21_3 : Ref sig .tc := ⟨.hbm, 307, rfl⟩
abbrev main_v21_4 : Ref sig .tc := ⟨.hbm, 308, rfl⟩
abbrev main_v22 : Ref sig .tc := ⟨.hbm, 309, rfl⟩
abbrev main_v23 : Ref sig .tc := ⟨.hbm, 310, rfl⟩
abbrev main_v24 : Ref sig .tc := ⟨.hbm, 311, rfl⟩
abbrev main_v25 : Ref sig .tc := ⟨.hbm, 312, rfl⟩
abbrev main_v26 : Ref sig .tc := ⟨.hbm, 313, rfl⟩
abbrev main_v27_0 : Ref sig .tc := ⟨.hbm, 314, rfl⟩
abbrev main_v27_1 : Ref sig .tc := ⟨.hbm, 315, rfl⟩
abbrev main_v27_2 : Ref sig .tc := ⟨.hbm, 316, rfl⟩
abbrev main_v20_0_scv : Ref sig .scVector := ⟨.hbm, 296, rfl⟩
abbrev main_v20_1_scv : Ref sig .scVector := ⟨.hbm, 297, rfl⟩
abbrev main_v20_2_scv : Ref sig .scVector := ⟨.hbm, 298, rfl⟩
abbrev main_v20_3_scv : Ref sig .scVector := ⟨.hbm, 299, rfl⟩
abbrev main_v20_4_scv : Ref sig .scVector := ⟨.hbm, 300, rfl⟩
abbrev main_v20_5_scv : Ref sig .scVector := ⟨.hbm, 301, rfl⟩
abbrev main_v20_6_scv : Ref sig .scVector := ⟨.hbm, 302, rfl⟩
abbrev main_v20_7_scv : Ref sig .scVector := ⟨.hbm, 303, rfl⟩
abbrev main_v17_scv : Ref sig .scVector := ⟨.hbm, 293, rfl⟩
abbrev main_v21_0_scv : Ref sig .scVector := ⟨.hbm, 304, rfl⟩
abbrev main_v21_1_scv : Ref sig .scVector := ⟨.hbm, 305, rfl⟩
abbrev main_v21_2_scv : Ref sig .scVector := ⟨.hbm, 306, rfl⟩
abbrev main_v21_3_scv : Ref sig .scVector := ⟨.hbm, 307, rfl⟩
abbrev main_v21_4_scv : Ref sig .scVector := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc1_scratch14 : Ref sig .scVector := ⟨.vmem, 14, rfl⟩
abbrev cc1_scratch15 : Ref sig .scVector := ⟨.vmem, 15, rfl⟩
abbrev cc1_scratch16 : Ref sig .scVector := ⟨.vmem, 16, rfl⟩
abbrev cc1_scratch17 : Ref sig .scVector := ⟨.vmem, 17, rfl⟩
abbrev cc1_scratch18 : Ref sig .scVector := ⟨.vmem, 18, rfl⟩
abbrev cc1_scratch19 : Ref sig .scVector := ⟨.vmem, 19, rfl⟩
abbrev cc1_scratch20 : Ref sig .scVector := ⟨.vmem, 20, rfl⟩
abbrev cc1_scratch21 : Ref sig .scVector := ⟨.vmem, 21, rfl⟩
abbrev cc1_scratch22 : Ref sig .scVector := ⟨.vmem, 22, rfl⟩
abbrev cc1_scratch23 : Ref sig .scVector := ⟨.vmem, 23, rfl⟩
abbrev cc1_scratch24 : Ref sig .scVector := ⟨.vmem, 24, rfl⟩
abbrev cc1_scratch25 : Ref sig .scVector := ⟨.vmem, 25, rfl⟩
abbrev cc1_scratch26 : Ref sig .scVector := ⟨.vmem, 26, rfl⟩
abbrev cc1_scratch27 : Ref sig .scVector := ⟨.vmem, 27, rfl⟩
abbrev cc1_scratch28 : Ref sig .scVector := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c48_i32 : BitVec 32 := 48#32
  let v1 : BitVec 32 := Scalar.minsi v0 c48_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

def cc0_transform_10 (i : grid0.Coords) : Fin 1 → Nat :=
  let arg0 : BitVec 32 := BitVec.ofNat 32 (i 0).val
  let c0_i32 : BitVec 32 := 0#32
  ![arg0.toNat]

def cc0_transform_11 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![2, 16], ![false, false]⟩

def k1_off1 (i : grid1.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v3 : BitVec 32 := Scalar.addi c0_i32 v2
  ![v3.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  ![v2.toNat]
@[reducible] def k1_t1_loop : Scf.Loop 32 :=
  let c0_i32_1 : BitVec 32 := 0#32
  let c272_i32 : BitVec 32 := 272#32
  let v22 : BitVec 32 := Scalar.addi c0_i32_1 c272_i32
  let c1_i32 : BitVec 32 := 1#32
  ⟨c0_i32_1, v22, c1_i32⟩
def k1_off3 (k1_t1 : Fin k1_t1_loop.trips) : Fin 1 → Nat :=
  let c0_i32_1 : BitVec 32 := 0#32
  let c1_i32 : BitVec 32 := 1#32
  let arg51 : BitVec 32 := Scf.iv c0_i32_1 c1_i32 k1_t1
  let c16_i32 : BitVec 32 := 16#32
  let v205 : BitVec 32 := Scalar.muli arg51 c16_i32
  let v207 : Index := Scalar.indexCast v205
  ![v207.toNat]
@[reducible] def k1_t2_loop : Scf.Loop 32 :=
  let c0_i32_4 : BitVec 32 := 0#32
  let c200_i32 : BitVec 32 := 200#32
  let v43 : BitVec 32 := Scalar.addi c0_i32_4 c200_i32
  let c1_i32_5 : BitVec 32 := 1#32
  ⟨c0_i32_4, v43, c1_i32_5⟩
def k1_off4 (k1_t2 : Fin k1_t2_loop.trips) : Fin 1 → Nat :=
  let c0_i32_4 : BitVec 32 := 0#32
  let c1_i32_5 : BitVec 32 := 1#32
  let arg51 : BitVec 32 := Scf.iv c0_i32_4 c1_i32_5 k1_t2
  let c16_i32 : BitVec 32 := 16#32
  let v205 : BitVec 32 := Scalar.muli arg51 c16_i32
  let v206 : Index := Scalar.indexCast v205
  ![v206.toNat]
def k1_off5 (k1_t2 : Fin k1_t2_loop.trips) : Fin 1 → Nat :=
  let c0_i32_4 : BitVec 32 := 0#32
  let c1_i32_5 : BitVec 32 := 1#32
  let arg51 : BitVec 32 := Scf.iv c0_i32_4 c1_i32_5 k1_t2
  let c16_i32 : BitVec 32 := 16#32
  let v205 : BitVec 32 := Scalar.muli arg51 c16_i32
  let v223 : Index := Scalar.indexCast v205
  ![v223.toNat]

def k1_chk1 (v210 : IVec S16 32) : Prop :=
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a) ∧
  (∀ a x, ((![v210] : Fin 1 → IVec S16 32) a x).toNat < S4352.size a)
theorem k1_idx1_inb : ∀ (v210 : IVec S16 32) (k1_hw1 : k1_chk1 v210), ∀ a x, ((![v210] : Fin 1 → IVec S16 32) a x).toNat < S4352.size a := fun v210 k1_hw1 => k1_hw1.1
theorem k1_idx2_inb : ∀ (v210 : IVec S16 32) (k1_hw1 : k1_chk1 v210), ∀ a x, ((![v210] : Fin 1 → IVec S16 32) a x).toNat < S4352.size a := fun v210 k1_hw1 => k1_hw1.2.1
theorem k1_idx3_inb : ∀ (v210 : IVec S16 32) (k1_hw1 : k1_chk1 v210), ∀ a x, ((![v210] : Fin 1 → IVec S16 32) a x).toNat < S4352.size a := fun v210 k1_hw1 => k1_hw1.2.2.1
theorem k1_idx4_inb : ∀ (v210 : IVec S16 32) (k1_hw1 : k1_chk1 v210), ∀ a x, ((![v210] : Fin 1 → IVec S16 32) a x).toNat < S4352.size a := fun v210 k1_hw1 => k1_hw1.2.2.2.1
theorem k1_idx5_inb : ∀ (v210 : IVec S16 32) (k1_hw1 : k1_chk1 v210), ∀ a x, ((![v210] : Fin 1 → IVec S16 32) a x).toNat < S4352.size a := fun v210 k1_hw1 => k1_hw1.2.2.2.2.1
theorem k1_idx6_inb : ∀ (v210 : IVec S16 32) (k1_hw1 : k1_chk1 v210), ∀ a x, ((![v210] : Fin 1 → IVec S16 32) a x).toNat < S4352.size a := fun v210 k1_hw1 => k1_hw1.2.2.2.2.2.1
theorem k1_idx7_inb : ∀ (v210 : IVec S16 32) (k1_hw1 : k1_chk1 v210), ∀ a x, ((![v210] : Fin 1 → IVec S16 32) a x).toNat < S4352.size a := fun v210 k1_hw1 => k1_hw1.2.2.2.2.2.2.1
theorem k1_idx8_inb : ∀ (v210 : IVec S16 32) (k1_hw1 : k1_chk1 v210), ∀ a x, ((![v210] : Fin 1 → IVec S16 32) a x).toNat < S4352.size a := fun v210 k1_hw1 => k1_hw1.2.2.2.2.2.2.2.1
theorem k1_idx9_inb : ∀ (v210 : IVec S16 32) (k1_hw1 : k1_chk1 v210), ∀ a x, ((![v210] : Fin 1 → IVec S16 32) a x).toNat < S4352.size a := fun v210 k1_hw1 => k1_hw1.2.2.2.2.2.2.2.2.1
theorem k1_idx10_inb : ∀ (v210 : IVec S16 32) (k1_hw1 : k1_chk1 v210), ∀ a x, ((![v210] : Fin 1 → IVec S16 32) a x).toNat < S4352.size a := fun v210 k1_hw1 => k1_hw1.2.2.2.2.2.2.2.2.2.1
theorem k1_idx11_inb : ∀ (v210 : IVec S16 32) (k1_hw1 : k1_chk1 v210), ∀ a x, ((![v210] : Fin 1 → IVec S16 32) a x).toNat < S4352.size a := fun v210 k1_hw1 => k1_hw1.2.2.2.2.2.2.2.2.2.2.1
theorem k1_idx12_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.1
theorem k1_idx13_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.1
theorem k1_idx14_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.1
theorem k1_idx15_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.1
theorem k1_idx16_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.1
theorem k1_idx17_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.2.1
theorem k1_idx18_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.2.2.1
theorem k1_idx19_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.2.2.2.1
theorem k1_idx20_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.2.2.2.2.1
theorem k1_idx21_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.2.2.2.2.2.1
theorem k1_idx22_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.2.2.2.2.2.2.1
theorem k1_idx23_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.2.2.2.2.2.2.2.1
theorem k1_idx24_inb : ∀ (v210 : IVec S16 32) (k1_hw1 : k1_chk1 v210), ∀ a x, ((![v210] : Fin 1 → IVec S16 32) a x).toNat < S4352.size a := fun v210 k1_hw1 => k1_hw1.2.2.2.2.2.2.2.2.2.2.2.2.2.2.2.2.2.2.2.2.2.2.2
def k1_off6 (i : grid1.Coords) : Fin 3 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8 : BitVec 32 := 0#32
  ![0, v1.toNat, 0]
def k1_off7 (i : grid1.Coords) : Fin 3 → Nat :=
  let c1_i32_22 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_23 : BitVec 32 := 0#32
  ![1, v1.toNat, 0]
def k1_off8 (i : grid1.Coords) : Fin 3 → Nat :=
  let c2_i32_37 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_38 : BitVec 32 := 0#32
  ![2, v1.toNat, 0]
def k1_off9 (i : grid1.Coords) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_52 : BitVec 32 := 0#32
  ![3, v1.toNat, 0]
abbrev grid2 : Pipeline.Grid := .none

abbrev stage2_0 : Fin 1 → Memref sig .tc .vmem S4x512x272 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x512x272 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x512x272 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x512x272 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4x512x272 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4x256 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S4x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S4x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x100000x128 : Shape := ⟨3, ![4, 100000, 128]⟩
abbrev S100000 : Shape := ⟨1, ![100000]⟩
abbrev S128x1 : Shape := ⟨2, ![128, 1]⟩
abbrev S1 : Shape := ⟨1, ![1]⟩
abbrev S_ : Shape := ⟨0, ![]⟩
abbrev S2 : Shape := ⟨1, ![2]⟩
abbrev S1x1 : Shape := ⟨2, ![1, 1]⟩
abbrev S4x100000 : Shape := ⟨2, ![4, 100000]⟩
abbrev S1x100000x1 : Shape := ⟨3, ![1, 100000, 1]⟩
abbrev S256 : Shape := ⟨1, ![256]⟩
abbrev S1x1x256 : Shape := ⟨3, ![1, 1, 256]⟩
abbrev S1x100000x256 : Shape := ⟨3, ![1, 100000, 256]⟩
abbrev S4x100000x1 : Shape := ⟨3, ![4, 100000, 1]⟩
abbrev S1x1x1 : Shape := ⟨3, ![1, 1, 1]⟩
abbrev S4x100000x256 : Shape := ⟨3, ![4, 100000, 256]⟩
abbrev S4x256 : Shape := ⟨2, ![4, 256]⟩
abbrev S100000x1 : Shape := ⟨2, ![100000, 1]⟩
abbrev S1x100000 : Shape := ⟨2, ![1, 100000]⟩
abbrev S4x256x1 : Shape := ⟨3, ![4, 256, 1]⟩

abbrev nBuf : Space → Nat
  | .hbm => 407
  | .vmem => 0
  | .smem => 0
  | _ => 0

abbrev hbmTy0_0 (i : Nat) : BufTy := match i % 128 with
  | 0 => ⟨S4x100000x128, .f32⟩
  | 1 => ⟨S100000, .i32⟩
  | 2 => ⟨S128x1, .f32⟩
  | 3 => ⟨S1, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S4x100000, .i64⟩
  | 25 => ⟨S4x100000, .i64⟩
  | 26 => ⟨S_, .i64⟩
  | 27 => ⟨S4x100000, .i64⟩
  | 28 => ⟨S4x100000, .i64⟩
  | 29 => ⟨S_, .i64⟩
  | 30 => ⟨S4x100000, .i64⟩
  | 31 => ⟨S4x100000, .i64⟩
  | 32 => ⟨S4x100000, .i64⟩
  | 33 => ⟨S_, .i64⟩
  | 34 => ⟨S4x100000, .i64⟩
  | 35 => ⟨S4x100000, .i64⟩
  | 36 => ⟨S4x100000, .i32⟩
  | 37 => ⟨S4x100000, .i32⟩
  | 38 => ⟨S_, .i32⟩
  | 39 => ⟨S_, .i32⟩
  | 40 => ⟨S_, .i32⟩
  | 41 => ⟨S4x100000, .i32⟩
  | 42 => ⟨S4x100000, .i32⟩
  | 43 => ⟨S4x100000, .i32⟩
  | 44 => ⟨S4x100000, .i32⟩
  | 45 => ⟨S4x100000, .i32⟩
  | 46 => ⟨S_, .i32⟩
  | 47 => ⟨S4x100000, .i32⟩
  | 48 => ⟨S4x100000, .i32⟩
  | 49 => ⟨S_, .i32⟩
  | 50 => ⟨S4x100000, .i32⟩
  | 51 => ⟨S4x100000, .i32⟩
  | 52 => ⟨S4x100000, .i32⟩
  | 53 => ⟨S4x100000, .i32⟩
  | 54 => ⟨S4x100000, .i32⟩
  | 55 => ⟨S_, .i32⟩
  | 56 => ⟨S4x100000, .i32⟩
  | 57 => ⟨S4x100000, .i32⟩
  | 58 => ⟨S_, .i32⟩
  | 59 => ⟨S4x100000, .i32⟩
  | 60 => ⟨S4x100000, .i32⟩
  | 61 => ⟨S4x100000, .i32⟩
  | 62 => ⟨S4x100000, .i32⟩
  | 63 => ⟨S4x100000, .i32⟩
  | 64 => ⟨S_, .i32⟩
  | 65 => ⟨S4x100000, .i32⟩
  | 66 => ⟨S4x100000, .i32⟩
  | 67 => ⟨S_, .i32⟩
  | 68 => ⟨S4x100000, .i32⟩
  | 69 => ⟨S4x100000, .i32⟩
  | 70 => ⟨S4x100000, .i32⟩
  | 71 => ⟨S4x100000, .i32⟩
  | 72 => ⟨S4x100000, .i32⟩
  | 73 => ⟨S_, .i32⟩
  | 74 => ⟨S4x100000, .i32⟩
  | 75 => ⟨S4x100000, .i32⟩
  | 76 => ⟨S_, .i32⟩
  | 77 => ⟨S4x100000, .i32⟩
  | 78 => ⟨S4x100000, .i32⟩
  | 79 => ⟨S4x100000, .i32⟩
  | 80 => ⟨S4x100000, .i32⟩
  | 81 => ⟨S4x100000, .i32⟩
  | 82 => ⟨S4x100000, .i32⟩
  | 83 => ⟨S4x100000, .i32⟩
  | 84 => ⟨S4x100000, .i32⟩
  | 85 => ⟨S_, .i32⟩
  | 86 => ⟨S4x100000, .i32⟩
  | 87 => ⟨S4x100000, .i32⟩
  | 88 => ⟨S4x100000, .i32⟩
  | 89 => ⟨S_, .i32⟩
  | 90 => ⟨S4x100000, .i32⟩
  | 91 => ⟨S4x100000, .i32⟩
  | 92 => ⟨S_, .i32⟩
  | 93 => ⟨S4x100000, .i32⟩
  | 94 => ⟨S4x100000, .i32⟩
  | 95 => ⟨S4x100000, .i32⟩
  | 96 => ⟨S4x100000, .i32⟩
  | 97 => ⟨S4x100000, .i32⟩
  | 98 => ⟨S_, .i32⟩
  | 99 => ⟨S4x100000, .i32⟩
  | 100 => ⟨S4x100000, .i32⟩
  | 101 => ⟨S_, .i32⟩
  | 102 => ⟨S4x100000, .i32⟩
  | 103 => ⟨S4x100000, .i32⟩
  | 104 => ⟨S4x100000, .i32⟩
  | 105 => ⟨S4x100000, .i32⟩
  | 106 => ⟨S4x100000, .i32⟩
  | 107 => ⟨S_, .i32⟩
  | 108 => ⟨S4x100000, .i32⟩
  | 109 => ⟨S4x100000, .i32⟩
  | 110 => ⟨S_, .i32⟩
  | 111 => ⟨S4x100000, .i32⟩
  | 112 => ⟨S4x100000, .i32⟩
  | 113 => ⟨S4x100000, .i32⟩
  | 114 => ⟨S4x100000, .i32⟩
  | 115 => ⟨S4x100000, .i32⟩
  | 116 => ⟨S_, .i32⟩
  | 117 => ⟨S4x100000, .i32⟩
  | 118 => ⟨S4x100000, .i32⟩
  | 119 => ⟨S_, .i32⟩
  | 120 => ⟨S4x100000, .i32⟩
  | 121 => ⟨S4x100000, .i32⟩
  | 122 => ⟨S4x100000, .i32⟩
  | 123 => ⟨S4x100000, .i32⟩
  | 124 => ⟨S4x100000, .i32⟩
  | 125 => ⟨S4x100000, .i32⟩
  | 126 => ⟨S4x100000, .i32⟩
  | 127 => ⟨S4x100000, .i32⟩
  | _ => ⟨S4x100000x128, .f32⟩

abbrev hbmTy0_1 (i : Nat) : BufTy := match i % 128 with
  | 0 => ⟨S_, .i32⟩
  | 1 => ⟨S4x100000, .i32⟩
  | 2 => ⟨S4x100000, .i32⟩
  | 3 => ⟨S4x100000, .i32⟩
  | 4 => ⟨S_, .i32⟩
  | 5 => ⟨S4x100000, .i32⟩
  | 6 => ⟨S4x100000, .i32⟩
  | 7 => ⟨S_, .i32⟩
  | 8 => ⟨S4x100000, .i32⟩
  | 9 => ⟨S4x100000, .i32⟩
  | 10 => ⟨S4x100000, .i32⟩
  | 11 => ⟨S4x100000, .i32⟩
  | 12 => ⟨S4x100000, .i32⟩
  | 13 => ⟨S_, .i32⟩
  | 14 => ⟨S4x100000, .i32⟩
  | 15 => ⟨S4x100000, .i32⟩
  | 16 => ⟨S_, .i32⟩
  | 17 => ⟨S4x100000, .i32⟩
  | 18 => ⟨S4x100000, .i32⟩
  | 19 => ⟨S4x100000, .i32⟩
  | 20 => ⟨S4x100000, .i32⟩
  | 21 => ⟨S4x100000, .i32⟩
  | 22 => ⟨S_, .i32⟩
  | 23 => ⟨S4x100000, .i32⟩
  | 24 => ⟨S4x100000, .i32⟩
  | 25 => ⟨S_, .i32⟩
  | 26 => ⟨S4x100000, .i32⟩
  | 27 => ⟨S4x100000, .i32⟩
  | 28 => ⟨S4x100000, .i32⟩
  | 29 => ⟨S4x100000, .i32⟩
  | 30 => ⟨S4x100000, .i32⟩
  | 31 => ⟨S_, .i32⟩
  | 32 => ⟨S4x100000, .i32⟩
  | 33 => ⟨S4x100000, .i32⟩
  | 34 => ⟨S_, .i32⟩
  | 35 => ⟨S4x100000, .i32⟩
  | 36 => ⟨S4x100000, .i32⟩
  | 37 => ⟨S4x100000, .i32⟩
  | 38 => ⟨S4x100000, .i32⟩
  | 39 => ⟨S4x100000, .i32⟩
  | 40 => ⟨S4x100000, .i32⟩
  | 41 => ⟨S4x100000, .i32⟩
  | 42 => ⟨S4x100000, .i32⟩
  | 43 => ⟨S_, .i32⟩
  | 44 => ⟨S4x100000, .i32⟩
  | 45 => ⟨S4x100000, .i32⟩
  | 46 => ⟨S4x100000, .i32⟩
  | 47 => ⟨S_, .i32⟩
  | 48 => ⟨S4x100000, .i32⟩
  | 49 => ⟨S4x100000, .i32⟩
  | 50 => ⟨S_, .i32⟩
  | 51 => ⟨S4x100000, .i32⟩
  | 52 => ⟨S4x100000, .i32⟩
  | 53 => ⟨S4x100000, .i32⟩
  | 54 => ⟨S4x100000, .i32⟩
  | 55 => ⟨S4x100000, .i32⟩
  | 56 => ⟨S_, .i32⟩
  | 57 => ⟨S4x100000, .i32⟩
  | 58 => ⟨S4x100000, .i32⟩
  | 59 => ⟨S_, .i32⟩
  | 60 => ⟨S4x100000, .i32⟩
  | 61 => ⟨S4x100000, .i32⟩
  | 62 => ⟨S4x100000, .i32⟩
  | 63 => ⟨S4x100000, .i32⟩
  | 64 => ⟨S4x100000, .i32⟩
  | 65 => ⟨S_, .i32⟩
  | 66 => ⟨S4x100000, .i32⟩
  | 67 => ⟨S4x100000, .i32⟩
  | 68 => ⟨S_, .i32⟩
  | 69 => ⟨S4x100000, .i32⟩
  | 70 => ⟨S4x100000, .i32⟩
  | 71 => ⟨S4x100000, .i32⟩
  | 72 => ⟨S4x100000, .i32⟩
  | 73 => ⟨S4x100000, .i32⟩
  | 74 => ⟨S_, .i32⟩
  | 75 => ⟨S4x100000, .i32⟩
  | 76 => ⟨S4x100000, .i32⟩
  | 77 => ⟨S_, .i32⟩
  | 78 => ⟨S4x100000, .i32⟩
  | 79 => ⟨S4x100000, .i32⟩
  | 80 => ⟨S4x100000, .i32⟩
  | 81 => ⟨S4x100000, .i32⟩
  | 82 => ⟨S4x100000, .i32⟩
  | 83 => ⟨S4x100000, .i32⟩
  | 84 => ⟨S4x100000, .i32⟩
  | 85 => ⟨S4x100000, .i32⟩
  | 86 => ⟨S_, .i32⟩
  | 87 => ⟨S4x100000, .i32⟩
  | 88 => ⟨S4x100000, .i32⟩
  | 89 => ⟨S4x100000, .i32⟩
  | 90 => ⟨S_, .i32⟩
  | 91 => ⟨S4x100000, .i32⟩
  | 92 => ⟨S4x100000, .i32⟩
  | 93 => ⟨S_, .i32⟩
  | 94 => ⟨S4x100000, .i32⟩
  | 95 => ⟨S4x100000, .i32⟩
  | 96 => ⟨S4x100000, .i32⟩
  | 97 => ⟨S4x100000, .i32⟩
  | 98 => ⟨S4x100000, .i32⟩
  | 99 => ⟨S_, .i32⟩
  | 100 => ⟨S4x100000, .i32⟩
  | 101 => ⟨S4x100000, .i32⟩
  | 102 => ⟨S_, .i32⟩
  | 103 => ⟨S4x100000, .i32⟩
  | 104 => ⟨S4x100000, .i32⟩
  | 105 => ⟨S4x100000, .i32⟩
  | 106 => ⟨S4x100000, .i32⟩
  | 107 => ⟨S4x100000, .i32⟩
  | 108 => ⟨S_, .i32⟩
  | 109 => ⟨S4x100000, .i32⟩
  | 110 => ⟨S4x100000, .i32⟩
  | 111 => ⟨S_, .i32⟩
  | 112 => ⟨S4x100000, .i32⟩
  | 113 => ⟨S4x100000, .i32⟩
  | 114 => ⟨S4x100000, .i32⟩
  | 115 => ⟨S4x100000, .i32⟩
  | 116 => ⟨S4x100000, .i32⟩
  | 117 => ⟨S_, .i32⟩
  | 118 => ⟨S4x100000, .i32⟩
  | 119 => ⟨S4x100000, .i32⟩
  | 120 => ⟨S_, .i32⟩
  | 121 => ⟨S4x100000, .i32⟩
  | 122 => ⟨S4x100000, .i32⟩
  | 123 => ⟨S4x100000, .i32⟩
  | 124 => ⟨S4x100000, .i32⟩
  | 125 => ⟨S4x100000, .i32⟩
  | 126 => ⟨S4x100000, .i32⟩
  | 127 => ⟨S4x100000, .i32⟩
  | _ => ⟨S4x100000x128, .f32⟩

abbrev hbmTy0_2 (i : Nat) : BufTy := match i % 128 with
  | 0 => ⟨S4x100000, .i32⟩
  | 1 => ⟨S_, .i32⟩
  | 2 => ⟨S4x100000, .i32⟩
  | 3 => ⟨S4x100000, .i32⟩
  | 4 => ⟨S4x100000, .i32⟩
  | 5 => ⟨S_, .i32⟩
  | 6 => ⟨S4x100000, .i32⟩
  | 7 => ⟨S4x100000, .i32⟩
  | 8 => ⟨S_, .i32⟩
  | 9 => ⟨S4x100000, .i32⟩
  | 10 => ⟨S4x100000, .i32⟩
  | 11 => ⟨S4x100000, .f32⟩
  | 12 => ⟨S_, .f32⟩
  | 13 => ⟨S4x100000, .f32⟩
  | 14 => ⟨S4x100000, .f32⟩
  | 15 => ⟨S1x1, .f32⟩
  | 16 => ⟨S4x100000, .f32⟩
  | 17 => ⟨S4x100000, .f32⟩
  | 18 => ⟨S4x100000, .f32⟩
  | 19 => ⟨S4x100000, .f32⟩
  | 20 => ⟨S4x100000, .f32⟩
  | 21 => ⟨S4x100000, .f32⟩
  | 22 => ⟨S_, .f32⟩
  | 23 => ⟨S4x100000, .f32⟩
  | 24 => ⟨S4x100000, .f32⟩
  | 25 => ⟨S4x100000, .f32⟩
  | 26 => ⟨S4x100000, .f32⟩
  | 27 => ⟨S_, .f32⟩
  | 28 => ⟨S4x100000, .f32⟩
  | 29 => ⟨S4x100000, .f32⟩
  | 30 => ⟨S4x100000, .f32⟩
  | 31 => ⟨S4x100000, .f32⟩
  | 32 => ⟨S1x100000x1, .i32⟩
  | 33 => ⟨S256, .i32⟩
  | 34 => ⟨S1x1x256, .i32⟩
  | 35 => ⟨S1x100000x256, .i32⟩
  | 36 => ⟨S1x100000x256, .i32⟩
  | 37 => ⟨S1x100000x256, .i1⟩
  | 38 => ⟨S4x100000x1, .f32⟩
  | 39 => ⟨S1x1x1, .f32⟩
  | 40 => ⟨S4x100000x1, .f32⟩
  | 41 => ⟨S4x100000x1, .f32⟩
  | 42 => ⟨S4x100000, .f32⟩
  | 43 => ⟨S4x100000x1, .f32⟩
  | 44 => ⟨S_, .f32⟩
  | 45 => ⟨S_, .f32⟩
  | 46 => ⟨S4x100000x256, .i1⟩
  | 47 => ⟨S4x100000x256, .f32⟩
  | 48 => ⟨S4x100000x256, .f32⟩
  | 49 => ⟨S4x100000x256, .f32⟩
  | 50 => ⟨S_, .f32⟩
  | 51 => ⟨S4x256, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S4x100000, .f32⟩
  | 61 => ⟨S4x100000, .f32⟩
  | 62 => ⟨S4x100000, .f32⟩
  | 63 => ⟨S4x100000x1, .f32⟩
  | 64 => ⟨S_, .f32⟩
  | 65 => ⟨S_, .f32⟩
  | 66 => ⟨S4x100000x256, .i1⟩
  | 67 => ⟨S4x100000x256, .f32⟩
  | 68 => ⟨S4x100000x256, .f32⟩
  | 69 => ⟨S4x100000x256, .f32⟩
  | 70 => ⟨S_, .f32⟩
  | 71 => ⟨S4x256, .f32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S4x100000, .f32⟩
  | 81 => ⟨S4x100000, .f32⟩
  | 82 => ⟨S4x100000, .f32⟩
  | 83 => ⟨S4x100000, .f32⟩
  | 84 => ⟨S4x100000x1, .f32⟩
  | 85 => ⟨S_, .f32⟩
  | 86 => ⟨S_, .f32⟩
  | 87 => ⟨S4x100000x256, .i1⟩
  | 88 => ⟨S4x100000x256, .f32⟩
  | 89 => ⟨S4x100000x256, .f32⟩
  | 90 => ⟨S4x100000x256, .f32⟩
  | 91 => ⟨S_, .f32⟩
  | 92 => ⟨S4x256, .f32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S4x100000, .f32⟩
  | 102 => ⟨S4x100000, .i1⟩
  | 103 => ⟨S100000, .i32⟩
  | 104 => ⟨S1x100000, .i32⟩
  | 105 => ⟨S_, .i32⟩
  | 106 => ⟨S_, .i32⟩
  | 107 => ⟨S4x100000, .i32⟩
  | 108 => ⟨S4x100000, .i32⟩
  | 109 => ⟨S4x100000, .i32⟩
  | 110 => ⟨S4x100000x1, .i32⟩
  | 111 => ⟨S_, .i32⟩
  | 112 => ⟨S_, .i32⟩
  | 113 => ⟨S4x100000x256, .i1⟩
  | 114 => ⟨S4x100000x256, .i32⟩
  | 115 => ⟨S4x100000x256, .i32⟩
  | 116 => ⟨S4x100000x256, .i32⟩
  | 117 => ⟨S_, .i32⟩
  | 118 => ⟨S4x256, .i32⟩
  | 119 => ⟨S_, .i32⟩
  | 120 => ⟨S4x256, .i32⟩
  | 121 => ⟨S4x256, .i1⟩
  | 122 => ⟨S_, .i32⟩
  | 123 => ⟨S4x256, .i32⟩
  | 124 => ⟨S4x256, .i32⟩
  | 125 => ⟨S4x256, .i32⟩
  | 126 => ⟨S4x256x1, .i32⟩
  | 127 => ⟨S1, .i32⟩
  | _ => ⟨S4x100000x128, .f32⟩

abbrev hbmTy0_3 (i : Nat) : BufTy := match i % 128 with
  | 0 => ⟨S_, .i32⟩
  | 1 => ⟨S4x256x1, .i32⟩
  | 2 => ⟨S4x256x1, .i1⟩
  | 3 => ⟨S1x1x1, .i32⟩
  | 4 => ⟨S4x256x1, .i32⟩
  | 5 => ⟨S4x256x1, .i1⟩
  | 6 => ⟨S4x256x1, .i1⟩
  | 7 => ⟨S_, .i1⟩
  | 8 => ⟨S4x256, .i1⟩
  | 9 => ⟨S4x256, .f32⟩
  | 10 => ⟨S_, .f32⟩
  | 11 => ⟨S4x256, .f32⟩
  | 12 => ⟨S4x256, .f32⟩
  | 13 => ⟨S4x100000, .f32⟩
  | 14 => ⟨S4x100000x1, .f32⟩
  | 15 => ⟨S_, .f32⟩
  | 16 => ⟨S_, .f32⟩
  | 17 => ⟨S4x100000x256, .i1⟩
  | 18 => ⟨S4x100000x256, .f32⟩
  | 19 => ⟨S4x100000x256, .f32⟩
  | 20 => ⟨S4x100000x256, .f32⟩
  | 21 => ⟨S_, .f32⟩
  | 22 => ⟨S4x256, .f32⟩
  | _ => ⟨S4x100000x128, .f32⟩

abbrev hbmTy (i : Nat) : BufTy := match i / 128 with
  | 0 => hbmTy0_0 i
  | 1 => hbmTy0_1 i
  | 2 => hbmTy0_2 i
  | 3 => hbmTy0_3 i
  | _ => ⟨S4x100000x128, .f32⟩

abbrev bufTy : (tb : Table) → Fin (tcTables nBuf tb) → BufTy
  | .hbm, ⟨i, _⟩ => hbmTy i
  | _, _ => ⟨S4x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_1 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_call0_v0 : Ref sig .tc := ⟨.hbm, 38, rfl⟩
abbrev main_call0_call0_c : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_c_0 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_c_1 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_c_2 : Ref sig .tc := ⟨.hbm, 55, rfl⟩
abbrev main_call0_call0_v14 : Ref sig .tc := ⟨.hbm, 56, rfl⟩
abbrev main_call0_call0_v15 : Ref sig .tc := ⟨.hbm, 57, rfl⟩
abbrev main_call0_call0_c_3 : Ref sig .tc := ⟨.hbm, 58, rfl⟩
abbrev main_call0_call0_v16 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_v19 : Ref sig .tc := ⟨.hbm, 62, rfl⟩
abbrev main_call0_call0_v20 : Ref sig .tc := ⟨.hbm, 63, rfl⟩
abbrev main_call0_call0_c_4 : Ref sig .tc := ⟨.hbm, 64, rfl⟩
abbrev main_call0_call0_v21 : Ref sig .tc := ⟨.hbm, 65, rfl⟩
abbrev main_call0_call0_v22 : Ref sig .tc := ⟨.hbm, 66, rfl⟩
abbrev main_call0_call0_c_5 : Ref sig .tc := ⟨.hbm, 67, rfl⟩
abbrev main_call0_call0_v23 : Ref sig .tc := ⟨.hbm, 68, rfl⟩
abbrev main_call0_call0_v24 : Ref sig .tc := ⟨.hbm, 69, rfl⟩
abbrev main_call0_call0_v25 : Ref sig .tc := ⟨.hbm, 70, rfl⟩
abbrev main_call0_call0_v26 : Ref sig .tc := ⟨.hbm, 71, rfl⟩
abbrev main_call0_call0_v27 : Ref sig .tc := ⟨.hbm, 72, rfl⟩
abbrev main_call0_call0_c_6 : Ref sig .tc := ⟨.hbm, 73, rfl⟩
abbrev main_call0_call0_v28 : Ref sig .tc := ⟨.hbm, 74, rfl⟩
abbrev main_call0_call0_v29 : Ref sig .tc := ⟨.hbm, 75, rfl⟩
abbrev main_call0_call0_c_7 : Ref sig .tc := ⟨.hbm, 76, rfl⟩
abbrev main_call0_call0_v30 : Ref sig .tc := ⟨.hbm, 77, rfl⟩
abbrev main_call0_call0_v31 : Ref sig .tc := ⟨.hbm, 78, rfl⟩
abbrev main_call0_call0_v32 : Ref sig .tc := ⟨.hbm, 79, rfl⟩
abbrev main_call0_call0_v33 : Ref sig .tc := ⟨.hbm, 80, rfl⟩
abbrev main_call0_call0_v34 : Ref sig .tc := ⟨.hbm, 81, rfl⟩
abbrev main_call0_call0_v35 : Ref sig .tc := ⟨.hbm, 82, rfl⟩
abbrev main_call0_call0_v36 : Ref sig .tc := ⟨.hbm, 83, rfl⟩
abbrev main_call0_call0_v37 : Ref sig .tc := ⟨.hbm, 84, rfl⟩
abbrev main_call0_call0_c_8 : Ref sig .tc := ⟨.hbm, 85, rfl⟩
abbrev main_call0_call0_v38 : Ref sig .tc := ⟨.hbm, 86, rfl⟩
abbrev main_call0_call0_v39 : Ref sig .tc := ⟨.hbm, 87, rfl⟩
abbrev main_call0_call0_v40 : Ref sig .tc := ⟨.hbm, 88, rfl⟩
abbrev main_call0_call0_c_9 : Ref sig .tc := ⟨.hbm, 89, rfl⟩
abbrev main_call0_call0_v41 : Ref sig .tc := ⟨.hbm, 90, rfl⟩
abbrev main_call0_call0_v42 : Ref sig .tc := ⟨.hbm, 91, rfl⟩
abbrev main_call0_call0_c_10 : Ref sig .tc := ⟨.hbm, 92, rfl⟩
abbrev main_call0_call0_v43 : Ref sig .tc := ⟨.hbm, 93, rfl⟩
abbrev main_call0_call0_v44 : Ref sig .tc := ⟨.hbm, 94, rfl⟩
abbrev main_call0_call0_v45 : Ref sig .tc := ⟨.hbm, 95, rfl⟩
abbrev main_call0_call0_v46 : Ref sig .tc := ⟨.hbm, 96, rfl⟩
abbrev main_call0_call0_v47 : Ref sig .tc := ⟨.hbm, 97, rfl⟩
abbrev main_call0_call0_c_11 : Ref sig .tc := ⟨.hbm, 98, rfl⟩
abbrev main_call0_call0_v48 : Ref sig .tc := ⟨.hbm, 99, rfl⟩
abbrev main_call0_call0_v49 : Ref sig .tc := ⟨.hbm, 100, rfl⟩
abbrev main_call0_call0_c_12 : Ref sig .tc := ⟨.hbm, 101, rfl⟩
abbrev main_call0_call0_v50 : Ref sig .tc := ⟨.hbm, 102, rfl⟩
abbrev main_call0_call0_v51 : Ref sig .tc := ⟨.hbm, 103, rfl⟩
abbrev main_call0_call0_v52 : Ref sig .tc := ⟨.hbm, 104, rfl⟩
abbrev main_call0_call0_v53 : Ref sig .tc := ⟨.hbm, 105, rfl⟩
abbrev main_call0_call0_v54 : Ref sig .tc := ⟨.hbm, 106, rfl⟩
abbrev main_call0_call0_c_13 : Ref sig .tc := ⟨.hbm, 107, rfl⟩
abbrev main_call0_call0_v55 : Ref sig .tc := ⟨.hbm, 108, rfl⟩
abbrev main_call0_call0_v56 : Ref sig .tc := ⟨.hbm, 109, rfl⟩
abbrev main_call0_call0_c_14 : Ref sig .tc := ⟨.hbm, 110, rfl⟩
abbrev main_call0_call0_v57 : Ref sig .tc := ⟨.hbm, 111, rfl⟩
abbrev main_call0_call0_v58 : Ref sig .tc := ⟨.hbm, 112, rfl⟩
abbrev main_call0_call0_v59 : Ref sig .tc := ⟨.hbm, 113, rfl⟩
abbrev main_call0_call0_v60 : Ref sig .tc := ⟨.hbm, 114, rfl⟩
abbrev main_call0_call0_v61 : Ref sig .tc := ⟨.hbm, 115, rfl⟩
abbrev main_call0_call0_c_15 : Ref sig .tc := ⟨.hbm, 116, rfl⟩
abbrev main_call0_call0_v62 : Ref sig .tc := ⟨.hbm, 117, rfl⟩
abbrev main_call0_call0_v63 : Ref sig .tc := ⟨.hbm, 118, rfl⟩
abbrev main_call0_call0_c_16 : Ref sig .tc := ⟨.hbm, 119, rfl⟩
abbrev main_call0_call0_v64 : Ref sig .tc := ⟨.hbm, 120, rfl⟩
abbrev main_call0_call0_v65 : Ref sig .tc := ⟨.hbm, 121, rfl⟩
abbrev main_call0_call0_v66 : Ref sig .tc := ⟨.hbm, 122, rfl⟩
abbrev main_call0_call0_v67 : Ref sig .tc := ⟨.hbm, 123, rfl⟩
abbrev main_call0_call0_v68 : Ref sig .tc := ⟨.hbm, 124, rfl⟩
abbrev main_call0_call0_v69 : Ref sig .tc := ⟨.hbm, 125, rfl⟩
abbrev main_call0_call0_v70 : Ref sig .tc := ⟨.hbm, 126, rfl⟩
abbrev main_call0_call0_v71 : Ref sig .tc := ⟨.hbm, 127, rfl⟩
abbrev main_call0_call0_c_17 : Ref sig .tc := ⟨.hbm, 128, rfl⟩
abbrev main_call0_call0_v72 : Ref sig .tc := ⟨.hbm, 129, rfl⟩
abbrev main_call0_call0_v73 : Ref sig .tc := ⟨.hbm, 130, rfl⟩
abbrev main_call0_call0_v74 : Ref sig .tc := ⟨.hbm, 131, rfl⟩
abbrev main_call0_call0_c_18 : Ref sig .tc := ⟨.hbm, 132, rfl⟩
abbrev main_call0_call0_v75 : Ref sig .tc := ⟨.hbm, 133, rfl⟩
abbrev main_call0_call0_v76 : Ref sig .tc := ⟨.hbm, 134, rfl⟩
abbrev main_call0_call0_c_19 : Ref sig .tc := ⟨.hbm, 135, rfl⟩
abbrev main_call0_call0_v77 : Ref sig .tc := ⟨.hbm, 136, rfl⟩
abbrev main_call0_call0_v78 : Ref sig .tc := ⟨.hbm, 137, rfl⟩
abbrev main_call0_call0_v79 : Ref sig .tc := ⟨.hbm, 138, rfl⟩
abbrev main_call0_call0_v80 : Ref sig .tc := ⟨.hbm, 139, rfl⟩
abbrev main_call0_call0_v81 : Ref sig .tc := ⟨.hbm, 140, rfl⟩
abbrev main_call0_call0_c_20 : Ref sig .tc := ⟨.hbm, 141, rfl⟩
abbrev main_call0_call0_v82 : Ref sig .tc := ⟨.hbm, 142, rfl⟩
abbrev main_call0_call0_v83 : Ref sig .tc := ⟨.hbm, 143, rfl⟩
abbrev main_call0_call0_c_21 : Ref sig .tc := ⟨.hbm, 144, rfl⟩
abbrev main_call0_call0_v84 : Ref sig .tc := ⟨.hbm, 145, rfl⟩
abbrev main_call0_call0_v85 : Ref sig .tc := ⟨.hbm, 146, rfl⟩
abbrev main_call0_call0_v86 : Ref sig .tc := ⟨.hbm, 147, rfl⟩
abbrev main_call0_call0_v87 : Ref sig .tc := ⟨.hbm, 148, rfl⟩
abbrev main_call0_call0_v88 : Ref sig .tc := ⟨.hbm, 149, rfl⟩
abbrev main_call0_call0_c_22 : Ref sig .tc := ⟨.hbm, 150, rfl⟩
abbrev main_call0_call0_v89 : Ref sig .tc := ⟨.hbm, 151, rfl⟩
abbrev main_call0_call0_v90 : Ref sig .tc := ⟨.hbm, 152, rfl⟩
abbrev main_call0_call0_c_23 : Ref sig .tc := ⟨.hbm, 153, rfl⟩
abbrev main_call0_call0_v91 : Ref sig .tc := ⟨.hbm, 154, rfl⟩
abbrev main_call0_call0_v92 : Ref sig .tc := ⟨.hbm, 155, rfl⟩
abbrev main_call0_call0_v93 : Ref sig .tc := ⟨.hbm, 156, rfl⟩
abbrev main_call0_call0_v94 : Ref sig .tc := ⟨.hbm, 157, rfl⟩
abbrev main_call0_call0_v95 : Ref sig .tc := ⟨.hbm, 158, rfl⟩
abbrev main_call0_call0_c_24 : Ref sig .tc := ⟨.hbm, 159, rfl⟩
abbrev main_call0_call0_v96 : Ref sig .tc := ⟨.hbm, 160, rfl⟩
abbrev main_call0_call0_v97 : Ref sig .tc := ⟨.hbm, 161, rfl⟩
abbrev main_call0_call0_c_25 : Ref sig .tc := ⟨.hbm, 162, rfl⟩
abbrev main_call0_call0_v98 : Ref sig .tc := ⟨.hbm, 163, rfl⟩
abbrev main_call0_call0_v99 : Ref sig .tc := ⟨.hbm, 164, rfl⟩
abbrev main_call0_call0_v100 : Ref sig .tc := ⟨.hbm, 165, rfl⟩
abbrev main_call0_call0_v101 : Ref sig .tc := ⟨.hbm, 166, rfl⟩
abbrev main_call0_call0_v102 : Ref sig .tc := ⟨.hbm, 167, rfl⟩
abbrev main_call0_call0_v103 : Ref sig .tc := ⟨.hbm, 168, rfl⟩
abbrev main_call0_call0_v104 : Ref sig .tc := ⟨.hbm, 169, rfl⟩
abbrev main_call0_call0_v105 : Ref sig .tc := ⟨.hbm, 170, rfl⟩
abbrev main_call0_call0_c_26 : Ref sig .tc := ⟨.hbm, 171, rfl⟩
abbrev main_call0_call0_v106 : Ref sig .tc := ⟨.hbm, 172, rfl⟩
abbrev main_call0_call0_v107 : Ref sig .tc := ⟨.hbm, 173, rfl⟩
abbrev main_call0_call0_v108 : Ref sig .tc := ⟨.hbm, 174, rfl⟩
abbrev main_call0_call0_c_27 : Ref sig .tc := ⟨.hbm, 175, rfl⟩
abbrev main_call0_call0_v109 : Ref sig .tc := ⟨.hbm, 176, rfl⟩
abbrev main_call0_call0_v110 : Ref sig .tc := ⟨.hbm, 177, rfl⟩
abbrev main_call0_call0_c_28 : Ref sig .tc := ⟨.hbm, 178, rfl⟩
abbrev main_call0_call0_v111 : Ref sig .tc := ⟨.hbm, 179, rfl⟩
abbrev main_call0_call0_v112 : Ref sig .tc := ⟨.hbm, 180, rfl⟩
abbrev main_call0_call0_v113 : Ref sig .tc := ⟨.hbm, 181, rfl⟩
abbrev main_call0_call0_v114 : Ref sig .tc := ⟨.hbm, 182, rfl⟩
abbrev main_call0_call0_v115 : Ref sig .tc := ⟨.hbm, 183, rfl⟩
abbrev main_call0_call0_c_29 : Ref sig .tc := ⟨.hbm, 184, rfl⟩
abbrev main_call0_call0_v116 : Ref sig .tc := ⟨.hbm, 185, rfl⟩
abbrev main_call0_call0_v117 : Ref sig .tc := ⟨.hbm, 186, rfl⟩
abbrev main_call0_call0_c_30 : Ref sig .tc := ⟨.hbm, 187, rfl⟩
abbrev main_call0_call0_v118 : Ref sig .tc := ⟨.hbm, 188, rfl⟩
abbrev main_call0_call0_v119 : Ref sig .tc := ⟨.hbm, 189, rfl⟩
abbrev main_call0_call0_v120 : Ref sig .tc := ⟨.hbm, 190, rfl⟩
abbrev main_call0_call0_v121 : Ref sig .tc := ⟨.hbm, 191, rfl⟩
abbrev main_call0_call0_v122 : Ref sig .tc := ⟨.hbm, 192, rfl⟩
abbrev main_call0_call0_c_31 : Ref sig .tc := ⟨.hbm, 193, rfl⟩
abbrev main_call0_call0_v123 : Ref sig .tc := ⟨.hbm, 194, rfl⟩
abbrev main_call0_call0_v124 : Ref sig .tc := ⟨.hbm, 195, rfl⟩
abbrev main_call0_call0_c_32 : Ref sig .tc := ⟨.hbm, 196, rfl⟩
abbrev main_call0_call0_v125 : Ref sig .tc := ⟨.hbm, 197, rfl⟩
abbrev main_call0_call0_v126 : Ref sig .tc := ⟨.hbm, 198, rfl⟩
abbrev main_call0_call0_v127 : Ref sig .tc := ⟨.hbm, 199, rfl⟩
abbrev main_call0_call0_v128 : Ref sig .tc := ⟨.hbm, 200, rfl⟩
abbrev main_call0_call0_v129 : Ref sig .tc := ⟨.hbm, 201, rfl⟩
abbrev main_call0_call0_c_33 : Ref sig .tc := ⟨.hbm, 202, rfl⟩
abbrev main_call0_call0_v130 : Ref sig .tc := ⟨.hbm, 203, rfl⟩
abbrev main_call0_call0_v131 : Ref sig .tc := ⟨.hbm, 204, rfl⟩
abbrev main_call0_call0_c_34 : Ref sig .tc := ⟨.hbm, 205, rfl⟩
abbrev main_call0_call0_v132 : Ref sig .tc := ⟨.hbm, 206, rfl⟩
abbrev main_call0_call0_v133 : Ref sig .tc := ⟨.hbm, 207, rfl⟩
abbrev main_call0_call0_v134 : Ref sig .tc := ⟨.hbm, 208, rfl⟩
abbrev main_call0_call0_v135 : Ref sig .tc := ⟨.hbm, 209, rfl⟩
abbrev main_call0_call0_v136 : Ref sig .tc := ⟨.hbm, 210, rfl⟩
abbrev main_call0_call0_v137 : Ref sig .tc := ⟨.hbm, 211, rfl⟩
abbrev main_call0_call0_v138 : Ref sig .tc := ⟨.hbm, 212, rfl⟩
abbrev main_call0_call0_v139 : Ref sig .tc := ⟨.hbm, 213, rfl⟩
abbrev main_call0_call0_c_35 : Ref sig .tc := ⟨.hbm, 214, rfl⟩
abbrev main_call0_call0_v140 : Ref sig .tc := ⟨.hbm, 215, rfl⟩
abbrev main_call0_call0_v141 : Ref sig .tc := ⟨.hbm, 216, rfl⟩
abbrev main_call0_call0_v142 : Ref sig .tc := ⟨.hbm, 217, rfl⟩
abbrev main_call0_call0_c_36 : Ref sig .tc := ⟨.hbm, 218, rfl⟩
abbrev main_call0_call0_v143 : Ref sig .tc := ⟨.hbm, 219, rfl⟩
abbrev main_call0_call0_v144 : Ref sig .tc := ⟨.hbm, 220, rfl⟩
abbrev main_call0_call0_c_37 : Ref sig .tc := ⟨.hbm, 221, rfl⟩
abbrev main_call0_call0_v145 : Ref sig .tc := ⟨.hbm, 222, rfl⟩
abbrev main_call0_call0_v146 : Ref sig .tc := ⟨.hbm, 223, rfl⟩
abbrev main_call0_call0_v147 : Ref sig .tc := ⟨.hbm, 224, rfl⟩
abbrev main_call0_call0_v148 : Ref sig .tc := ⟨.hbm, 225, rfl⟩
abbrev main_call0_call0_v149 : Ref sig .tc := ⟨.hbm, 226, rfl⟩
abbrev main_call0_call0_c_38 : Ref sig .tc := ⟨.hbm, 227, rfl⟩
abbrev main_call0_call0_v150 : Ref sig .tc := ⟨.hbm, 228, rfl⟩
abbrev main_call0_call0_v151 : Ref sig .tc := ⟨.hbm, 229, rfl⟩
abbrev main_call0_call0_c_39 : Ref sig .tc := ⟨.hbm, 230, rfl⟩
abbrev main_call0_call0_v152 : Ref sig .tc := ⟨.hbm, 231, rfl⟩
abbrev main_call0_call0_v153 : Ref sig .tc := ⟨.hbm, 232, rfl⟩
abbrev main_call0_call0_v154 : Ref sig .tc := ⟨.hbm, 233, rfl⟩
abbrev main_call0_call0_v155 : Ref sig .tc := ⟨.hbm, 234, rfl⟩
abbrev main_call0_call0_v156 : Ref sig .tc := ⟨.hbm, 235, rfl⟩
abbrev main_call0_call0_c_40 : Ref sig .tc := ⟨.hbm, 236, rfl⟩
abbrev main_call0_call0_v157 : Ref sig .tc := ⟨.hbm, 237, rfl⟩
abbrev main_call0_call0_v158 : Ref sig .tc := ⟨.hbm, 238, rfl⟩
abbrev main_call0_call0_c_41 : Ref sig .tc := ⟨.hbm, 239, rfl⟩
abbrev main_call0_call0_v159 : Ref sig .tc := ⟨.hbm, 240, rfl⟩
abbrev main_call0_call0_v160 : Ref sig .tc := ⟨.hbm, 241, rfl⟩
abbrev main_call0_call0_v161 : Ref sig .tc := ⟨.hbm, 242, rfl⟩
abbrev main_call0_call0_v162 : Ref sig .tc := ⟨.hbm, 243, rfl⟩
abbrev main_call0_call0_v163 : Ref sig .tc := ⟨.hbm, 244, rfl⟩
abbrev main_call0_call0_c_42 : Ref sig .tc := ⟨.hbm, 245, rfl⟩
abbrev main_call0_call0_v164 : Ref sig .tc := ⟨.hbm, 246, rfl⟩
abbrev main_call0_call0_v165 : Ref sig .tc := ⟨.hbm, 247, rfl⟩
abbrev main_call0_call0_c_43 : Ref sig .tc := ⟨.hbm, 248, rfl⟩
abbrev main_call0_call0_v166 : Ref sig .tc := ⟨.hbm, 249, rfl⟩
abbrev main_call0_call0_v167 : Ref sig .tc := ⟨.hbm, 250, rfl⟩
abbrev main_call0_call0_v168 : Ref sig .tc := ⟨.hbm, 251, rfl⟩
abbrev main_call0_call0_v169 : Ref sig .tc := ⟨.hbm, 252, rfl⟩
abbrev main_call0_call0_v170 : Ref sig .tc := ⟨.hbm, 253, rfl⟩
abbrev main_call0_v19_0 : Ref sig .tc := ⟨.hbm, 254, rfl⟩
abbrev main_call0_call0_v172 : Ref sig .tc := ⟨.hbm, 255, rfl⟩
abbrev main_call0_call0_v173 : Ref sig .tc := ⟨.hbm, 256, rfl⟩
abbrev main_call0_call0_c_44 : Ref sig .tc := ⟨.hbm, 257, rfl⟩
abbrev main_call0_call0_v174 : Ref sig .tc := ⟨.hbm, 258, rfl⟩
abbrev main_call0_v19_1 : Ref sig .tc := ⟨.hbm, 259, rfl⟩
abbrev main_call0_v20 : Ref sig .tc := ⟨.hbm, 260, rfl⟩
abbrev main_call0_c_2 : Ref sig .tc := ⟨.hbm, 261, rfl⟩
abbrev main_call0_v21 : Ref sig .tc := ⟨.hbm, 262, rfl⟩
abbrev main_call0_v22 : Ref sig .tc := ⟨.hbm, 263, rfl⟩
abbrev main_call0_c_3 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_cst : Ref sig .tc := ⟨.hbm, 268, rfl⟩
abbrev main_call0_v26 : Ref sig .tc := ⟨.hbm, 269, rfl⟩
abbrev main_call0_v27 : Ref sig .tc := ⟨.hbm, 270, rfl⟩
abbrev main_call0_v28 : Ref sig .tc := ⟨.hbm, 271, rfl⟩
abbrev main_call0_v29 : Ref sig .tc := ⟨.hbm, 272, rfl⟩
abbrev main_call0_v30 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_v7 : Ref sig .tc := ⟨.hbm, 277, rfl⟩
abbrev main_cst_3 : Ref sig .tc := ⟨.hbm, 278, rfl⟩
abbrev main_v8 : Ref sig .tc := ⟨.hbm, 279, rfl⟩
abbrev main_v9 : Ref sig .tc := ⟨.hbm, 280, rfl⟩
abbrev main_v10 : Ref sig .tc := ⟨.hbm, 281, rfl⟩
abbrev main_v11 : Ref sig .tc := ⟨.hbm, 282, rfl⟩
abbrev main_cst_4 : Ref sig .tc := ⟨.hbm, 283, rfl⟩
abbrev main_v12 : Ref sig .tc := ⟨.hbm, 284, rfl⟩
abbrev main_v13 : Ref sig .tc := ⟨.hbm, 285, rfl⟩
abbrev main_v14 : Ref sig .tc := ⟨.hbm, 286, rfl⟩
abbrev main_v15 : Ref sig .tc := ⟨.hbm, 287, rfl⟩
abbrev main_v16 : Ref sig .tc := ⟨.hbm, 288, rfl⟩
abbrev main_v17 : Ref sig .tc := ⟨.hbm, 289, rfl⟩
abbrev main_v18 : Ref sig .tc := ⟨.hbm, 290, rfl⟩
abbrev main_v19 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_v26 : Ref sig .tc := ⟨.hbm, 298, rfl⟩
abbrev main_v27 : Ref sig .tc := ⟨.hbm, 299, rfl⟩
abbrev main_cst_5 : Ref sig .tc := ⟨.hbm, 300, rfl⟩
abbrev main_call1_v0 : Ref sig .tc := ⟨.hbm, 301, rfl⟩
abbrev main_call1_v1 : Ref sig .tc := ⟨.hbm, 302, rfl⟩
abbrev main_call1_v2 : Ref sig .tc := ⟨.hbm, 303, rfl⟩
abbrev main_call1_v3 : Ref sig .tc := ⟨.hbm, 304, rfl⟩
abbrev main_v28 : Ref sig .tc := ⟨.hbm, 305, rfl⟩
abbrev main_cst_6 : Ref sig .tc := ⟨.hbm, 306, rfl⟩
abbrev main_v29 : Ref sig .tc := ⟨.hbm, 307, rfl⟩
abbrev main_c_7 : Ref sig .tc := ⟨.hbm, 308, rfl⟩
abbrev main_v30 : Ref sig .tc := ⟨.hbm, 309, rfl⟩
abbrev main_v31 : Ref sig .tc := ⟨.hbm, 310, rfl⟩
abbrev main_c_8 : Ref sig .tc := ⟨.hbm, 311, rfl⟩
abbrev main_v32 : Ref sig .tc := ⟨.hbm, 312, rfl⟩
abbrev main_v33 : Ref sig .tc := ⟨.hbm, 313, rfl⟩
abbrev main_v34 : Ref sig .tc := ⟨.hbm, 314, rfl⟩
abbrev main_v35 : Ref sig .tc := ⟨.hbm, 315, rfl⟩
abbrev main_v36 : Ref sig .tc := ⟨.hbm, 316, rfl⟩
abbrev main_v37 : Ref sig .tc := ⟨.hbm, 317, rfl⟩
abbrev main_v38 : Ref sig .tc := ⟨.hbm, 318, rfl⟩
abbrev main_v39 : Ref sig .tc := ⟨.hbm, 319, rfl⟩
abbrev main_cst_9 : Ref sig .tc := ⟨.hbm, 320, rfl⟩
abbrev main_call2_v0 : Ref sig .tc := ⟨.hbm, 321, rfl⟩
abbrev main_call2_v1 : Ref sig .tc := ⟨.hbm, 322, rfl⟩
abbrev main_call2_v2 : Ref sig .tc := ⟨.hbm, 323, rfl⟩
abbrev main_call2_v3 : Ref sig .tc := ⟨.hbm, 324, rfl⟩
abbrev main_v40 : Ref sig .tc := ⟨.hbm, 325, rfl⟩
abbrev main_cst_10 : Ref sig .tc := ⟨.hbm, 326, rfl⟩
abbrev main_v41 : Ref sig .tc := ⟨.hbm, 327, rfl⟩
abbrev main_c_11 : Ref sig .tc := ⟨.hbm, 328, rfl⟩
abbrev main_v42 : Ref sig .tc := ⟨.hbm, 329, rfl⟩
abbrev main_v43 : Ref sig .tc := ⟨.hbm, 330, rfl⟩
abbrev main_c_12 : Ref sig .tc := ⟨.hbm, 331, rfl⟩
abbrev main_v44 : Ref sig .tc := ⟨.hbm, 332, rfl⟩
abbrev main_v45 : Ref sig .tc := ⟨.hbm, 333, rfl⟩
abbrev main_v46 : Ref sig .tc := ⟨.hbm, 334, rfl⟩
abbrev main_v47 : Ref sig .tc := ⟨.hbm, 335, rfl⟩
abbrev main_v48 : Ref sig .tc := ⟨.hbm, 336, rfl⟩
abbrev main_v49 : Ref sig .tc := ⟨.hbm, 337, rfl⟩
abbrev main_v50 : Ref sig .tc := ⟨.hbm, 338, rfl⟩
abbrev main_v51 : Ref sig .tc := ⟨.hbm, 339, rfl⟩
abbrev main_v52 : Ref sig .tc := ⟨.hbm, 340, rfl⟩
abbrev main_cst_13 : Ref sig .tc := ⟨.hbm, 341, rfl⟩
abbrev main_call3_v0 : Ref sig .tc := ⟨.hbm, 342, rfl⟩
abbrev main_call3_v1 : Ref sig .tc := ⟨.hbm, 343, rfl⟩
abbrev main_call3_v2 : Ref sig .tc := ⟨.hbm, 344, rfl⟩
abbrev main_call3_v3 : Ref sig .tc := ⟨.hbm, 345, rfl⟩
abbrev main_v53 : Ref sig .tc := ⟨.hbm, 346, rfl⟩
abbrev main_cst_14 : Ref sig .tc := ⟨.hbm, 347, rfl⟩
abbrev main_v54 : Ref sig .tc := ⟨.hbm, 348, rfl⟩
abbrev main_c_15 : Ref sig .tc := ⟨.hbm, 349, rfl⟩
abbrev main_v55 : Ref sig .tc := ⟨.hbm, 350, rfl⟩
abbrev main_v56 : Ref sig .tc := ⟨.hbm, 351, rfl⟩
abbrev main_c_16 : Ref sig .tc := ⟨.hbm, 352, rfl⟩
abbrev main_v57 : Ref sig .tc := ⟨.hbm, 353, rfl⟩
abbrev main_v58 : Ref sig .tc := ⟨.hbm, 354, rfl⟩
abbrev main_v59 : Ref sig .tc := ⟨.hbm, 355, rfl⟩
abbrev main_v60 : Ref sig .tc := ⟨.hbm, 356, rfl⟩
abbrev main_v61 : Ref sig .tc := ⟨.hbm, 357, rfl⟩
abbrev main_v62 : Ref sig .tc := ⟨.hbm, 358, rfl⟩
abbrev main_v63 : Ref sig .tc := ⟨.hbm, 359, rfl⟩
abbrev main_v64 : Ref sig .tc := ⟨.hbm, 360, rfl⟩
abbrev main_c_17 : Ref sig .tc := ⟨.hbm, 361, rfl⟩
abbrev main_call4_v0 : Ref sig .tc := ⟨.hbm, 362, rfl⟩
abbrev main_call4_v1 : Ref sig .tc := ⟨.hbm, 363, rfl⟩
abbrev main_call4_v2 : Ref sig .tc := ⟨.hbm, 364, rfl⟩
abbrev main_v65 : Ref sig .tc := ⟨.hbm, 365, rfl⟩
abbrev main_v66 : Ref sig .tc := ⟨.hbm, 366, rfl⟩
abbrev main_c_18 : Ref sig .tc := ⟨.hbm, 367, rfl⟩
abbrev main_call5_v0 : Ref sig .tc := ⟨.hbm, 368, rfl⟩
abbrev main_call5_v1 : Ref sig .tc := ⟨.hbm, 369, rfl⟩
abbrev main_call5_v2 : Ref sig .tc := ⟨.hbm, 370, rfl⟩
abbrev main_call5_v3 : Ref sig .tc := ⟨.hbm, 371, rfl⟩
abbrev main_v67 : Ref sig .tc := ⟨.hbm, 372, rfl⟩
abbrev main_c_19 : Ref sig .tc := ⟨.hbm, 373, rfl⟩
abbrev main_v68 : Ref sig .tc := ⟨.hbm, 374, rfl⟩
abbrev main_call6_c : Ref sig .tc := ⟨.hbm, 375, rfl⟩
abbrev main_call6_v0 : Ref sig .tc := ⟨.hbm, 376, rfl⟩
abbrev main_call6_v1 : Ref sig .tc := ⟨.hbm, 377, rfl⟩
abbrev main_call6_c_0 : Ref sig .tc := ⟨.hbm, 378, rfl⟩
abbrev main_call6_v2 : Ref sig .tc := ⟨.hbm, 379, rfl⟩
abbrev main_call6_v3 : Ref sig .tc := ⟨.hbm, 380, rfl⟩
abbrev main_call6_v4 : Ref sig .tc := ⟨.hbm, 381, rfl⟩
abbrev main_call6_v5 : Ref sig .tc := ⟨.hbm, 382, rfl⟩
abbrev main_call6_c_1 : Ref sig .tc := ⟨.hbm, 383, rfl⟩
abbrev main_call6_c_2 : Ref sig .tc := ⟨.hbm, 384, rfl⟩
abbrev main_call6_v6 : Ref sig .tc := ⟨.hbm, 385, rfl⟩
abbrev main_call6_v7 : Ref sig .tc := ⟨.hbm, 386, rfl⟩
abbrev main_call6_v8 : Ref sig .tc := ⟨.hbm, 387, rfl⟩
abbrev main_call6_v9 : Ref sig .tc := ⟨.hbm, 388, rfl⟩
abbrev main_call6_v10 : Ref sig .tc := ⟨.hbm, 389, rfl⟩
abbrev main_call6_v11 : Ref sig .tc := ⟨.hbm, 390, rfl⟩
abbrev main_call6_c_3 : Ref sig .tc := ⟨.hbm, 391, rfl⟩
abbrev main_call6_v12 : Ref sig .tc := ⟨.hbm, 392, rfl⟩
abbrev main_call6_v13 : Ref sig .tc := ⟨.hbm, 393, rfl⟩
abbrev main_call6_cst : Ref sig .tc := ⟨.hbm, 394, rfl⟩
abbrev main_call6_v14 : Ref sig .tc := ⟨.hbm, 395, rfl⟩
abbrev main_v69 : Ref sig .tc := ⟨.hbm, 396, rfl⟩
abbrev main_v70 : Ref sig .tc := ⟨.hbm, 397, rfl⟩
abbrev main_v71 : Ref sig .tc := ⟨.hbm, 398, rfl⟩
abbrev main_cst_20 : Ref sig .tc := ⟨.hbm, 399, rfl⟩
abbrev main_call7_v0 : Ref sig .tc := ⟨.hbm, 400, rfl⟩
abbrev main_call7_v1 : Ref sig .tc := ⟨.hbm, 401, rfl⟩
abbrev main_call7_v2 : Ref sig .tc := ⟨.hbm, 402, rfl⟩
abbrev main_call7_v3 : Ref sig .tc := ⟨.hbm, 403, rfl⟩
abbrev main_v72 : Ref sig .tc := ⟨.hbm, 404, rfl⟩
abbrev main_cst_21 : Ref sig .tc := ⟨.hbm, 405, rfl⟩
abbrev main_v73 : Ref sig .tc := ⟨.hbm, 406, rfl⟩

abbrev nD : Nat := 1
abbrev τ : Topo := Topo.v7x

variable {F : FTy → Type} [FloatOps F]
-- ==== Proof.Tile.lean ====
/-
  Whole vector-memory buffers of a subcore, held by what they READ: the rules for the loads, stores, indexed loads and
  indexed stores of the binning kernel over `owns` (a memref held with its contents named through its own view), and the
  bound the initialisation loop establishes entry by entry (`Filled`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Memref
public import Idealize.ShloMosaic.Lib.Batch
public import proofs.«01_k».proof.Proof.Gen.KernelIdeal
public import proofs.«01_k».proof.Proof.Gen.KernelIdeal.Skeleton

@[expose] public section

noncomputable section

namespace Cert.Proof.Tile

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s t : Shape} {e : EltTy} {α : Type} {Q : α → sProp (MT nD τ sig Ix (Elt F) Name U Lvl)}

local notation "𝕄" => MT nD τ sig Ix (Elt F) Name U Lvl

section Views

variable {κ : Kind} {sp : Space}

omit [FloatOps F] in
theorem emb_access (m : Memref sig κ sp s e) (x : s.Idx) : (m.access (.whole s)).emb x = m.view.emb x := by
  show m.view.emb ((Rect.whole s).emb x) = _
  rw [Rect.emb_whole_apply]

omit [FloatOps F] in
theorem set_access (m : Memref sig κ sp s e) : (m.access (.whole s)).set = m.view.set := by
  ext i
  simp only [View.set, Finset.mem_map, Finset.mem_univ, true_and]
  exact exists_congr fun x => by rw [emb_access]

omit [FloatOps F] in
theorem read_access (m : Memref sig κ sp s e) (f : m.view.ty.Contents (Elt F)) :
    (m.access (.whole s)).read (Elt F) f = m.view.read (Elt F) f := by
  funext x
  rw [View.read_apply, View.read_apply, emb_access]

omit [FloatOps F] in
theorem read_write_access (m : Memref sig κ sp s e) (f : m.view.ty.Contents (Elt F)) (w : s.Idx → Elt F e) :
    m.view.read (Elt F) ((m.access (.whole s)).write (Elt F) f w Finset.univ) = w := by
  rw [← read_access]; exact View.read_write_univ (v := m.access (.whole s)) f w

end Views

/-! ## The rules -/

omit [FloatOps F] in
/-- A load through a rectangle reads the owned contents there. -/
theorem owns_load {m : Memref sig c.2.kind .vmem s e} {r : LoadRect s} {hl : m.view.LoadsAt r}
    {k : (r.shape.Idx → Elt F e) → Prog (TpuEff nD τ sig (Elt F) Λ c.2) α} {q : PosShare TreeShare} {x : s.Idx → Elt F e} :
    (owns c m q x) ⊢ iprop(((owns c m q x) -∗ wp frame (wpE defs 𝒱 c bd) E (k fun y => x (r.idx y)) Q)
        -∗ wp frame (wpE defs 𝒱 c bd) E (.op (.load m r hl) k) Q) := by
  unfold owns
  iintro ⟨%f, %hf, H⟩ Hk
  iapply (wp_load 𝒱 c bd E (m := m) (r := r) (hl := hl) (k := k) (S := m.view.set) (q := q) (f := f) (m.view.setOn_subset_set _)) $$ H
  iintro H
  have e : m.view.readAt (Elt F) r f = fun y => x (r.idx y) := by
    funext y; rw [View.readAt_apply, hf]
  rw [e]
  iapply Hk
  iexists f; isplitr; · ipureintro; exact hf
  iexact H

/-- An indexed load gathers the owned contents. -/
theorem owns_gather {m : Memref sig c.2.kind .vmem s e} {idxs : Fin s.rank → IVec t 32} {h : ∀ a x, (idxs a x).toNat < s.size a}
    {hl : m.view.Loads} {k : Vec F t e → Prog (TpuEff nD τ sig (Elt F) Λ c.2) α} {q : PosShare TreeShare} {x : s.Idx → Elt F e} :
    (owns c m q x) ⊢ iprop(((owns c m q x) -∗ wp frame (wpE defs 𝒱 c bd) E (k (loadIdx x idxs h)) Q)
        -∗ wp frame (wpE defs 𝒱 c bd) E (SparseCore.vectorLoadIdx m idxs h hl >>= k) Q) := by
  unfold owns
  iintro ⟨%f, %hf, H⟩ Hk
  iapply (SparseCore.wp_vectorLoadIdx 𝒱 c bd E (base := m) (idxs := idxs) (h := h) (hl := hl) (k := k) (S := m.view.set) (q := q) (f := f)
    (set_access m).subset) $$ H
  iintro H
  rw [show (m.access (.whole s)).read (Elt F) f = x from (read_access m f).trans hf]
  iapply Hk
  iexists f; isplitr; · ipureintro; exact hf
  iexact H

/-- An indexed store scatters into the owned contents. -/
theorem owns_scatter {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} {x : s.Idx → Elt F e} :
    (owns c m fullShare x) ⊢ iprop(((owns c m fullShare (storeIdx x idxs v mask add h)) -∗ wp frame (wpE defs 𝒱 c bd) E (k ⟨⟩) Q)
        -∗ wp frame (wpE defs 𝒱 c bd) E (SparseCore.vectorStoreIdx m idxs v mask add h hs >>= k) Q) := by
  unfold owns
  iintro ⟨%f, %hf, H⟩ Hk
  ihave H := (Entails.of_eq (congrArg (fun S => (m.view.loc c ↦[S]{fullShare} f : sProp 𝕄)) (set_access m).symm)) $$ H
  iapply (SparseCore.wp_vectorStoreIdx 𝒱 c bd E (base := m) (idxs := idxs) (v := v) (mask := mask) (add := add) (h := h) (hs := hs) (k := k) (f := f)) $$ H
  iintro H
  iapply Hk
  iexists ((m.access (.whole s)).write (Elt F) f (storeIdx ((m.access (.whole s)).read (Elt F) f) idxs v mask add h) Finset.univ); isplitr
  · ipureintro
    exact (read_write_access m f _).trans (by rw [read_access, hf])
  ihave H := (Entails.of_eq (congrArg (fun S => (m.view.loc c ↦[S]{fullShare}
    ((m.access (.whole s)).write (Elt F) f (storeIdx ((m.access (.whole s)).read (Elt F) f) idxs v mask add h) Finset.univ) : sProp 𝕄)) (set_access m))) $$ H
  iexact H

/-! ## Filling a buffer sixteen entries at a time -/

variable {n : ℕ}

/-- The first `16 k` entries of a vector buffer hold the constant `v`. -/
def Filled (c : Thread nD τ) (m : Memref sig c.2.kind .vmem ⟨1, ![n]⟩ e) (v : Elt F e) (k : ℕ) : sProp 𝕄 :=
  iprop(∃ x, ⌜∀ j : (⟨1, ![n]⟩ : Shape).Idx, (j 0).val < 16 * k → x j = v⌝ ∗ owns c m fullShare x)

omit [FloatOps F] in
theorem filled_intro (m : Memref sig c.2.kind .vmem ⟨1, ![n]⟩ e) (v : Elt F e) (x : (⟨1, ![n]⟩ : Shape).Idx → Elt F e) :
    (owns c m fullShare x : sProp 𝕄) ⊢ Filled c m v 0 := by
  unfold Filled
  iintro H
  iexists x; isplitr
  · ipureintro; intro j hj; omega
  iexact H

omit [FloatOps F] in
theorem filled_elim (m : Memref sig c.2.kind .vmem ⟨1, ![n]⟩ e) (v : Elt F e) {k : ℕ} (hk : n ≤ 16 * k) :
    (Filled c m v k : sProp 𝕄) ⊢ owns c m fullShare fun _ => v := by
  unfold Filled
  iintro ⟨%x, %hx, H⟩
  have e : x = fun _ => v := funext fun j => hx j (lt_of_lt_of_le (j 0).isLt hk)
  rw [e]; iexact H

/-- One load and store of sixteen entries at the constant. -/
theorem filled_step {m : Memref sig c.2.kind .vmem ⟨1, ![n]⟩ e} {off : Fin 1 → ℕ} {inb : ∀ a, off a + (![16] : Fin 1 → ℕ) a ≤ (⟨1, ![n]⟩ : Shape).size a}
    {w : (Rect.unit (s := ⟨1, ![n]⟩) off ![16] inb).shape.Idx → Elt F e} {k : ℕ} {v : Elt F e}
    {hl : m.view.LoadsAt (Rect.unit (s := ⟨1, ![n]⟩) off ![16] inb).toLoadRect}
    {hx : (m.access (Rect.unit (s := ⟨1, ![n]⟩) off ![16] inb)).Stores Finset.univ}
    {hm : (Finset.univ : Finset (Rect.unit (s := ⟨1, ![n]⟩) off ![16] inb).shape.Idx) = Finset.univ ∨ ∀ a, (Rect.unit (s := ⟨1, ![n]⟩) off ![16] inb).stride a = 1}
    {K : PUnit → Prog (TpuEff nD τ sig (Elt F) Λ c.2) α}
    (hoff : off 0 = 16 * k) (hw : ∀ y, w y = v) :
    (Filled c m v k) ⊢ iprop(((Filled c m v (k + 1)) -∗ wp frame (wpE defs 𝒱 c bd) E (K ⟨⟩) Q)
        -∗ wp frame (wpE defs 𝒱 c bd) E
          (.op (.load m (Rect.unit (s := ⟨1, ![n]⟩) off ![16] inb).toLoadRect hl) fun _ =>
            .op (.store m (Rect.unit (s := ⟨1, ![n]⟩) off ![16] inb) w Finset.univ hx hm) K) Q) := by
  unfold Filled
  iintro ⟨%x, %hx', H⟩ Hk
  iapply (owns_load 𝒱 c bd E (m := m) (hl := hl) (x := x) (q := fullShare)) $$ H
  unfold owns
  iintro ⟨%f, %hf, H⟩
  iapply (wp_store 𝒱 c bd E (m := m) (r := Rect.unit (s := ⟨1, ![n]⟩) off ![16] inb) (Mk := Finset.univ) (hx := hx) (hm := hm) (S := m.view.set)
    (View.set_slice_subset (v := m.view) _)) $$ H
  iintro H
  iapply Hk
  iexists (m.view.read (Elt F) ((m.access (Rect.unit (s := ⟨1, ![n]⟩) off ![16] inb)).write (Elt F) f w Finset.univ)); isplitr; rotate_left
  · iexists ((m.access (Rect.unit (s := ⟨1, ![n]⟩) off ![16] inb)).write (Elt F) f w Finset.univ); isplitr; rotate_left
    · iexact H
    · ipureintro; rfl
  · ipureintro
    intro j hj
    by_cases hmem : j ∈ (Rect.unit (s := ⟨1, ![n]⟩) off ![16] inb).set
    · obtain ⟨y, rfl⟩ := (Rect.unit (s := ⟨1, ![n]⟩) off ![16] inb).exists_idx_of_mem hmem
      exact (View.read_slice_write_emb (v := m.view) _ f w (Finset.mem_univ y)).trans (hw y)
    · refine (View.read_slice_write_of_not_mem (v := m.view) _ f w Finset.univ (by rw [Rect.map_emb_univ]; exact hmem)).trans ?_
      rw [hf]
      refine hx' j ?_
      by_contra hlt
      refine hmem (Rect.mem_set_unit.mpr fun a => ?_)
      obtain rfl : a = 0 := Subsingleton.elim _ _
      rw [hoff]
      exact ⟨by omega, by show (j 0).val < 16 * k + 16; omega⟩

end Cert.Proof.Tile
-- ==== Proof.TcBody.lean ====
/-
  The two TensorCore kernels' bodies, run over their staging buffers held by value.
-/
module

public import proofs.«01_k».proof.Proof.Tile
public import proofs.«01_k».proof.Proof.Gen.KernelIdeal
public import proofs.«01_k».proof.Proof.Gen.KernelIdeal.Skeleton
public import Idealize.ShloMosaic.Lib.VecWindow

@[expose] public section

set_option pp.maxSteps 400

noncomputable section

namespace Cert.Proof.Tc

open Cert.KernelIdeal Cert.KernelIdeal.Gen Cert.Proof.Tile

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Name : Type} [DecidableEq Name] {U : Type} [URA U] {Lvl : Type} [Preorder Lvl] {Ix : Type} [DecidableEq Ix]

local notation "𝕄" => MT nD τ sig Ix (Elt F) Name U Lvl

section Store

variable {Λ : Labels} {defs : Defs nD τ sig (Elt F) Λ} (𝒱 : Variants) (c : Thread nD τ) (bd : Option 𝒱.V) (E : Set Name)
variable {s : Shape} {e : EltTy} {α : Type}

omit [Named F] in
/-- A store through a rectangle writes the owned contents there and nowhere else. -/
theorem owns_store {m : Memref sig c.2.kind .vmem s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {Q : α → sProp 𝕄} {x : s.Idx → Elt F e} :
    (owns c m fullShare x : sProp 𝕄) ⊢ iprop(((∃ x', ⌜(∀ y, x' (r.emb y) = w y) ∧ ∀ j, j ∉ r.set → x' j = x j⌝ ∗ owns c m fullShare x')
          -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (Mk := Finset.univ) (hx := hx) (hm := hm) (S := m.view.set)
    (View.set_slice_subset (v := m.view) _)) $$ H
  iintro H
  iapply Hk
  iexists (m.view.read (Elt F) ((m.access r).write (Elt F) f w Finset.univ)); isplitr; rotate_left
  · iexists ((m.access r).write (Elt F) f w Finset.univ); isplitr; rotate_left
    · iexact H
    · ipureintro; rfl
  · ipureintro
    refine ⟨fun y => View.read_slice_write_emb (v := m.view) _ f w (Finset.mem_univ y), fun j hj => ?_⟩
    refine (View.read_slice_write_of_not_mem (v := m.view) _ f w Finset.univ (by rw [Rect.map_emb_univ]; exact hj)).trans ?_
    rw [hf]

omit [Named F] in
/-- A store over a whole buffer leaves what it stores. -/
theorem owns_store_whole {m : Memref sig c.2.kind .vmem s e} {off : Fin s.rank → ℕ} {inb : ∀ a, off a + s.size a ≤ s.size a}
    {w : (Rect.unit (s := s) off s.size inb).shape.Idx → Elt F e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ c.2) α} {Q : α → sProp 𝕄} {x : s.Idx → Elt F e} :
    (owns c m fullShare x : sProp 𝕄) ⊢ iprop((owns c m fullShare w -∗ wp frame (wpE defs 𝒱 c bd) E (k ⟨⟩) Q)
        -∗ wp frame (wpE defs 𝒱 c bd) E (.op (.store m (Rect.unit (s := s) off s.size inb) w Finset.univ hx hm) k) Q) := by
  iintro H Hk
  iapply (owns_store 𝒱 c bd E (m := m) (r := Rect.unit (s := s) off s.size inb) (hx := hx) (hm := hm) (x := x)) $$ H
  iintro ⟨%x', %hx', H⟩
  iapply Hk
  have e : x' = w := funext fun j => by
    have := hx'.1 j
    rwa [Rect.emb_unit_full] at this
  rw [← e]; iexact H

end Store

/-! ## The first kernel -/

/-- Member `m`'s slab of a block of rows. -/
def slabH (m : Fin 4) (h : S4x2048x128.Idx → Elt F .f32) : Vec F S1x2048x128 .f32 :=
  match m with
  | 0 => fun y => h ((Rect.unit (s := S4x2048x128) ![0, 0, 0] S1x2048x128.size inb_S4x2048x128_S1x2048x128_0_0_0).toLoadRect.idx y)
  | 1 => fun y => h ((Rect.unit (s := S4x2048x128) ![1, 0, 0] S1x2048x128.size inb_S4x2048x128_S1x2048x128_1_0_0).toLoadRect.idx y)
  | 2 => fun y => h ((Rect.unit (s := S4x2048x128) ![2, 0, 0] S1x2048x128.size inb_S4x2048x128_S1x2048x128_2_0_0).toLoadRect.idx y)
  | 3 => fun y => h ((Rect.unit (s := S4x2048x128) ![3, 0, 0] S1x2048x128.size inb_S4x2048x128_S1x2048x128_3_0_0).toLoadRect.idx y)

/-- Member `m`'s row of a block of draws. -/
def slabG (m : Fin 4) (g : S4x2048.Idx → Elt F .f32) : Vec F S1x2048 .f32 :=
  match m with
  | 0 => fun y => g ((Rect.unit (s := S4x2048) ![0, 0] S1x2048.size inb_S4x2048_S1x2048_0_0).toLoadRect.idx y)
  | 1 => fun y => g ((Rect.unit (s := S4x2048) ![1, 0] S1x2048.size inb_S4x2048_S1x2048_1_0).toLoadRect.idx y)
  | 2 => fun y => g ((Rect.unit (s := S4x2048) ![2, 0] S1x2048.size inb_S4x2048_S1x2048_2_0).toLoadRect.idx y)
  | 3 => fun y => g ((Rect.unit (s := S4x2048) ![3, 0] S1x2048.size inb_S4x2048_S1x2048_3_0).toLoadRect.idx y)

/-- A member's predictions on a block of rows. -/
def predOf (m : Fin 4) (h : S4x2048x128.Idx → Elt F .f32) (w : S1x128.Idx → Elt F .f32) (b : S1x1.Idx → Elt F .f32) : FVec F S2048 .f32 :=
  k0_pay9 (fun y => w ((Rect.unit (s := S1x128) ![0, 0] S1x128.size inb_S1x128_S1x128_0_0).toLoadRect.idx y)) (slabH m h)
    (fun y => b ((Rect.unit (s := S1x1) ![0, 0] S1x1.size inb_S1x1_S1x1_0_0).toLoadRect.idx y))

/-- A member's keys on a block of rows. -/
def keyOf (m : Fin 4) (h : S4x2048x128.Idx → Elt F .f32) (g : S4x2048.Idx → Elt F .f32) (w : S1x128.Idx → Elt F .f32) (b : S1x1.Idx → Elt F .f32) :
    FVec F S2048 .f32 :=
  k0_pay10 (fun y => w ((Rect.unit (s := S1x128) ![0, 0] S1x128.size inb_S1x128_S1x128_0_0).toLoadRect.idx y)) (slabH m h)
    (fun y => b ((Rect.unit (s := S1x1) ![0, 0] S1x1.size inb_S1x1_S1x1_0_0).toLoadRect.idx y)) (slabG m g)

variable {defs : Defs nD τ sig (Elt F) Λ₀} (𝒱 : Variants) (bd : Option 𝒱.V)

theorem stage1_body (d : Dev nD) (i : grid0.Coords)
    (mH : Memref sig .tc .vmem S4x2048x128 .f32) (hH : mH.IsWhole)
    (mG : Memref sig .tc .vmem S4x2048 .f32) (hG : mG.IsWhole)
    (mW : Memref sig .tc .vmem S1x128 .f32) (hW : mW.IsWhole)
    (mB : Memref sig .tc .vmem S1x1 .f32) (hB : mB.IsWhole)
    (mP0 : Memref sig .tc .vmem S2048 .f32) (hP0 : mP0.IsWhole)
    (mP1 : Memref sig .tc .vmem S2048 .f32) (hP1 : mP1.IsWhole)
    (mP2 : Memref sig .tc .vmem S2048 .f32) (hP2 : mP2.IsWhole)
    (mP3 : Memref sig .tc .vmem S2048 .f32) (hP3 : mP3.IsWhole)
    (mK0 : Memref sig .tc .vmem S2048 .f32) (hK0 : mK0.IsWhole)
    (mK1 : Memref sig .tc .vmem S2048 .f32) (hK1 : mK1.IsWhole)
    (mK2 : Memref sig .tc .vmem S2048 .f32) (hK2 : mK2.IsWhole)
    (mK3 : Memref sig .tc .vmem S2048 .f32) (hK3 : mK3.IsWhole)
    (h : S4x2048x128.Idx → Elt F .f32) (g : S4x2048.Idx → Elt F .f32) (w : S1x128.Idx → Elt F .f32) (b : S1x1.Idx → Elt F .f32)
    (x0 x1 x2 x3 y0 y1 y2 y3 : S2048.Idx → Elt F .f32) (E : Set Name) (Q : PUnit → sProp 𝕄) :
    iprop(owns d.tc mH fullShare h
        ∗ owns d.tc mG fullShare g
        ∗ owns d.tc mW fullShare w
        ∗ owns d.tc mB fullShare b
        ∗ owns d.tc mP0 fullShare x0
        ∗ owns d.tc mP1 fullShare x1
        ∗ owns d.tc mP2 fullShare x2
        ∗ owns d.tc mP3 fullShare x3
        ∗ owns d.tc mK0 fullShare y0
        ∗ owns d.tc mK1 fullShare y1
        ∗ owns d.tc mK2 fullShare y2
        ∗ owns d.tc mK3 fullShare y3
        ∗ (iprop(owns d.tc mH fullShare h
          ∗ owns d.tc mG fullShare g
          ∗ owns d.tc mW fullShare w
          ∗ owns d.tc mB fullShare b
          ∗ owns d.tc mP0 fullShare (predOf 0 h w b)
          ∗ owns d.tc mP1 fullShare (predOf 1 h w b)
          ∗ owns d.tc mP2 fullShare (predOf 2 h w b)
          ∗ owns d.tc mP3 fullShare (predOf 3 h w b)
          ∗ owns d.tc mK0 fullShare (keyOf 0 h g w b)
          ∗ owns d.tc mK1 fullShare (keyOf 1 h g w b)
          ∗ owns d.tc mK2 fullShare (keyOf 2 h g w b)
          ∗ owns d.tc mK3 fullShare (keyOf 3 h g w b)) -∗ Q ⟨⟩))
      ⊢ wp frame (wpE defs 𝒱 d.tc bd) E (cc0__stage1_body i mH hH mG hG mW hW mB hB mP0 hP0 mP1 hP1 mP2 hP2 mP3 hP3 mK0 hK0 mK1 hK1 mK2 hK2 mK3 hK3) Q := by
  rw [cc0__stage1_body_eq_skeleton]; unfold cc0__stage1_body_skel
  rw [k0_part1_eq_skeleton]; unfold k0_part1_skel
  simp only [Prog.lift, Prog.bind_op, Prog.bind_ret, Prog.pure_eq_ret]
  iintro ⟨HH, HG, HW, HB, HP0, HP1, HP2, HP3, HK0, HK1, HK2, HK3, Hk⟩
  iapply (owns_load 𝒱 d.tc bd E) $$ HW; iintro HW
  iapply (owns_load 𝒱 d.tc bd E) $$ HH; iintro HH
  iapply (owns_load 𝒱 d.tc bd E) $$ HB; iintro HB
  iapply (owns_load 𝒱 d.tc bd E) $$ HP0; iintro HP0
  iapply (owns_store_whole 𝒱 d.tc bd E) $$ HP0; iintro HP0
  iapply (owns_load 𝒱 d.tc bd E) $$ HG; iintro HG
  iapply (owns_load 𝒱 d.tc bd E) $$ HK0; iintro HK0
  iapply (owns_store_whole 𝒱 d.tc bd E) $$ HK0; iintro HK0
  iapply (owns_load 𝒱 d.tc bd E) $$ HH; iintro HH
  iapply (owns_load 𝒱 d.tc bd E) $$ HB; iintro HB
  iapply (owns_load 𝒱 d.tc bd E) $$ HP1; iintro HP1
  iapply (owns_store_whole 𝒱 d.tc bd E) $$ HP1; iintro HP1
  iapply (owns_load 𝒱 d.tc bd E) $$ HG; iintro HG
  iapply (owns_load 𝒱 d.tc bd E) $$ HK1; iintro HK1
  iapply (owns_store_whole 𝒱 d.tc bd E) $$ HK1; iintro HK1
  iapply (owns_load 𝒱 d.tc bd E) $$ HH; iintro HH
  iapply (owns_load 𝒱 d.tc bd E) $$ HB; iintro HB
  iapply (owns_load 𝒱 d.tc bd E) $$ HP2; iintro HP2
  iapply (owns_store_whole 𝒱 d.tc bd E) $$ HP2; iintro HP2
  iapply (owns_load 𝒱 d.tc bd E) $$ HG; iintro HG
  iapply (owns_load 𝒱 d.tc bd E) $$ HK2; iintro HK2
  iapply (owns_store_whole 𝒱 d.tc bd E) $$ HK2; iintro HK2
  iapply (owns_load 𝒱 d.tc bd E) $$ HH; iintro HH
  iapply (owns_load 𝒱 d.tc bd E) $$ HB; iintro HB
  iapply (owns_load 𝒱 d.tc bd E) $$ HP3; iintro HP3
  iapply (owns_store_whole 𝒱 d.tc bd E) $$ HP3; iintro HP3
  iapply (owns_load 𝒱 d.tc bd E) $$ HG; iintro HG
  iapply (owns_load 𝒱 d.tc bd E) $$ HK3; iintro HK3
  iapply (owns_store_whole 𝒱 d.tc bd E) $$ HK3; iintro HK3
  rw [wp_ret]; imodintro
  iapply Hk
  isplitl [HH]; · iexact HH
  isplitl [HG]; · iexact HG
  isplitl [HW]; · iexact HW
  isplitl [HB]; · iexact HB
  isplitl [HP0]; · iexact HP0
  isplitl [HP1]; · iexact HP1
  isplitl [HP2]; · iexact HP2
  isplitl [HP3]; · iexact HP3
  isplitl [HK0]; · iexact HK0
  isplitl [HK1]; · iexact HK1
  isplitl [HK2]; · iexact HK2
  iexact HK3

/-! ## The second kernel -/

/-- Member `m`'s slab of the bins. -/
def slabB {e : EltTy} (m : Fin 4) (x : S4x512x272.Idx → Elt F e) : Vec F S1x512x272 e :=
  match m with
  | 0 => fun y => x ((Rect.unit (s := S4x512x272) ![0, 0, 0] S1x512x272.size inb_S4x512x272_S1x512x272_0_0_0).toLoadRect.idx y)
  | 1 => fun y => x ((Rect.unit (s := S4x512x272) ![1, 0, 0] S1x512x272.size inb_S4x512x272_S1x512x272_1_0_0).toLoadRect.idx y)
  | 2 => fun y => x ((Rect.unit (s := S4x512x272) ![2, 0, 0] S1x512x272.size inb_S4x512x272_S1x512x272_2_0_0).toLoadRect.idx y)
  | 3 => fun y => x ((Rect.unit (s := S4x512x272) ![3, 0, 0] S1x512x272.size inb_S4x512x272_S1x512x272_3_0_0).toLoadRect.idx y)

/-- The only row's index at a column. -/
def rowIx (q : Fin 256) : S1x256.Idx := fun | 0 => ⟨0, Nat.zero_lt_one⟩ | 1 => q | ⟨_ + 2, h⟩ => absurd h (Nat.not_lt.2 (Nat.le_add_left _ _))

/-- An array of four rows, row by row. -/
def rowsOf {e : EltTy} (w : Fin 4 → Vec F S1x256 e) : S4x256.Idx → Elt F e := fun j => w (j 0) (rowIx (j 1))

/-- The rectangles of the four rows. -/
def rowRect (m : Fin 4) : Rect S4x256 :=
  match m with
  | 0 => Rect.unit (s := S4x256) ![0, 0] S1x256.size inb_S4x256_S1x256_0_0
  | 1 => Rect.unit (s := S4x256) ![1, 0] S1x256.size inb_S4x256_S1x256_1_0
  | 2 => Rect.unit (s := S4x256) ![2, 0] S1x256.size inb_S4x256_S1x256_2_0
  | 3 => Rect.unit (s := S4x256) ![3, 0] S1x256.size inb_S4x256_S1x256_3_0

omit [FloatOps F] [Named F] in
/-- Four row stores, one after the other, leave the four rows. -/
theorem rowsOf_of_stores {e : EltTy} {w : Fin 4 → Vec F S1x256 e} {x0 x1 x2 x3 x4 : S4x256.Idx → Elt F e}
    (h0 : (∀ y, x1 ((Rect.unit (s := S4x256) ![0, 0] S1x256.size inb_S4x256_S1x256_0_0).emb y) = w 0 y) ∧ ∀ j, j ∉ (Rect.unit (s := S4x256) ![0, 0] S1x256.size inb_S4x256_S1x256_0_0).set → x1 j = x0 j)
    (h1 : (∀ y, x2 ((Rect.unit (s := S4x256) ![1, 0] S1x256.size inb_S4x256_S1x256_1_0).emb y) = w 1 y) ∧ ∀ j, j ∉ (Rect.unit (s := S4x256) ![1, 0] S1x256.size inb_S4x256_S1x256_1_0).set → x2 j = x1 j)
    (h2 : (∀ y, x3 ((Rect.unit (s := S4x256) ![2, 0] S1x256.size inb_S4x256_S1x256_2_0).emb y) = w 2 y) ∧ ∀ j, j ∉ (Rect.unit (s := S4x256) ![2, 0] S1x256.size inb_S4x256_S1x256_2_0).set → x3 j = x2 j)
    (h3 : (∀ y, x4 ((Rect.unit (s := S4x256) ![3, 0] S1x256.size inb_S4x256_S1x256_3_0).emb y) = w 3 y) ∧ ∀ j, j ∉ (Rect.unit (s := S4x256) ![3, 0] S1x256.size inb_S4x256_S1x256_3_0).set → x4 j = x3 j) :
    x4 = rowsOf w := by
  funext j
  have hm : ∀ (m : ℕ) (inb : ∀ a, (![m, 0] : Fin 2 → ℕ) a + S1x256.size a ≤ S4x256.size a), (j 0).val ≠ m → j ∉ (Rect.unit (s := S4x256) ![m, 0] S1x256.size inb).set := by
    intro m inb hne hmem
    have := Rect.mem_set_unit.mp hmem 0
    have h1 : m ≤ (j 0).val := this.1
    have h2 : (j 0).val < m + 1 := this.2
    omega
  have he : ∀ (m : ℕ) (inb : ∀ a, (![m, 0] : Fin 2 → ℕ) a + S1x256.size a ≤ S4x256.size a), (j 0).val = m →
      (Rect.unit (s := S4x256) ![m, 0] S1x256.size inb).emb (rowIx (j 1)) = j := by
    intro m inb h
    funext a
    apply Fin.ext
    match a with
    | 0 => show m + 1 * 0 = (j 0).val; omega
    | 1 => show 0 + 1 * (j 1).val = (j 1).val; omega
  have hj : (j 0).val < 4 := (j 0).isLt
  have hc : (j 0).val = 0 ∨ (j 0).val = 1 ∨ (j 0).val = 2 ∨ (j 0).val = 3 := by omega
  unfold rowsOf
  rcases hc with hc | hc | hc | hc
  · rw [h3.2 j (hm 3 _ (by omega))]
    rw [h2.2 j (hm 2 _ (by omega))]
    rw [h1.2 j (hm 1 _ (by omega))]
    rw [show j 0 = ((0 : Fin 4) : S4x256.Coord 0) from Fin.ext hc, ← h0.1]
    exact congrArg x1 (he 0 _ hc).symm
  · rw [h3.2 j (hm 3 _ (by omega))]
    rw [h2.2 j (hm 2 _ (by omega))]
    rw [show j 0 = ((1 : Fin 4) : S4x256.Coord 0) from Fin.ext hc, ← h1.1]
    exact congrArg x2 (he 1 _ hc).symm
  · rw [h3.2 j (hm 3 _ (by omega))]
    rw [show j 0 = ((2 : Fin 4) : S4x256.Coord 0) from Fin.ext hc, ← h2.1]
    exact congrArg x3 (he 2 _ hc).symm
  · rw [show j 0 = ((3 : Fin 4) : S4x256.Coord 0) from Fin.ext hc, ← h3.1]
    exact congrArg x4 (he 3 _ hc).symm

/-- The sampled row, the gathered score and the entropy of one member, from its bins. -/
def combI (k : Vec F S1x512x272 .f32) (a : Vec F S1x512x272 .i32) : Vec F S1x256 .i32 := k2_pay11 (k2_pay6 k a)
def combG (k : Vec F S1x512x272 .f32) (a : Vec F S1x512x272 .i32) (p s2 : Vec F S1x512x272 .f32) : Vec F S1x256 .f32 := k2_pay12 (k2_pay7 k a p) (k2_pay10 s2)
def combE (s2 s3 : Vec F S1x512x272 .f32) : Vec F S1x256 .f32 := k2_pay13 (k2_pay8 s2) (k2_pay9 s3) (k2_pay10 s2)

/-- The three results, from the bins of all members. -/
def resI (k : S4x512x272.Idx → Elt F .f32) (a : S4x512x272.Idx → Elt F .i32) : S4x256.Idx → Elt F .i32 := rowsOf fun m => combI (slabB m k) (slabB m a)
def resG (k : S4x512x272.Idx → Elt F .f32) (a : S4x512x272.Idx → Elt F .i32) (p s2 : S4x512x272.Idx → Elt F .f32) : S4x256.Idx → Elt F .f32 :=
  rowsOf fun m => combG (slabB m k) (slabB m a) (slabB m p) (slabB m s2)
def resE (s2 s3 : S4x512x272.Idx → Elt F .f32) : S4x256.Idx → Elt F .f32 := rowsOf fun m => combE (slabB m s2) (slabB m s3)

theorem comb_body (d : Dev nD)
    (mK : Memref sig .tc .vmem S4x512x272 .f32) (hK : mK.IsWhole)
    (mA : Memref sig .tc .vmem S4x512x272 .i32) (hA : mA.IsWhole)
    (mP : Memref sig .tc .vmem S4x512x272 .f32) (hP : mP.IsWhole)
    (mS : Memref sig .tc .vmem S4x512x272 .f32) (hS : mS.IsWhole)
    (mT : Memref sig .tc .vmem S4x512x272 .f32) (hT : mT.IsWhole)
    (mI : Memref sig .tc .vmem S4x256 .i32) (hI : mI.IsWhole)
    (mG : Memref sig .tc .vmem S4x256 .f32) (hG : mG.IsWhole)
    (mE : Memref sig .tc .vmem S4x256 .f32) (hE : mE.IsWhole)
    (k : S4x512x272.Idx → Elt F .f32) (a : S4x512x272.Idx → Elt F .i32) (p s2 s3 : S4x512x272.Idx → Elt F .f32)
    (xI : S4x256.Idx → Elt F .i32) (xG xE : S4x256.Idx → Elt F .f32) (E : Set Name) (Q : PUnit → sProp 𝕄) :
    iprop(owns d.tc mK fullShare k
        ∗ owns d.tc mA fullShare a
        ∗ owns d.tc mP fullShare p
        ∗ owns d.tc mS fullShare s2
        ∗ owns d.tc mT fullShare s3
        ∗ owns d.tc mI fullShare xI
        ∗ owns d.tc mG fullShare xG
        ∗ owns d.tc mE fullShare xE
        ∗ (iprop(owns d.tc mK fullShare k
          ∗ owns d.tc mA fullShare a
          ∗ owns d.tc mP fullShare p
          ∗ owns d.tc mS fullShare s2
          ∗ owns d.tc mT fullShare s3
          ∗ owns d.tc mI fullShare (resI k a)
          ∗ owns d.tc mG fullShare (resG k a p s2)
          ∗ owns d.tc mE fullShare (resE s2 s3)) -∗ Q ⟨⟩))
      ⊢ wp frame (wpE defs 𝒱 d.tc bd) E (cc2__combine_body mK hK mA hA mP hP mS hS mT hT mI hI mG hG mE hE) Q := by
  rw [cc2__combine_body_eq_skeleton]; unfold cc2__combine_body_skel
  rw [k2_part1_eq_skeleton]; unfold k2_part1_skel
  rw [k2_part2_eq_skeleton]; unfold k2_part2_skel
  rw [k2_part3_eq_skeleton]; unfold k2_part3_skel
  rw [k2_part4_eq_skeleton]; unfold k2_part4_skel
  rw [k2_part5_eq_skeleton]; unfold k2_part5_skel
  simp only [Prog.lift, Prog.bind_op, Prog.bind_ret, Prog.pure_eq_ret]
  iintro ⟨HK, HA, HP, HS, HT, HI, HG, HE, Hk⟩
  iapply (owns_load 𝒱 d.tc bd E) $$ HK; iintro HK
  iapply (owns_load 𝒱 d.tc bd E) $$ HA; iintro HA
  iapply (owns_load 𝒱 d.tc bd E) $$ HP; iintro HP
  iapply (owns_load 𝒱 d.tc bd E) $$ HS; iintro HS
  iapply (owns_load 𝒱 d.tc bd E) $$ HT; iintro HT
  iapply (owns_load 𝒱 d.tc bd E) $$ HI; iintro HI
  iapply (owns_store 𝒱 d.tc bd E) $$ HI; iintro ⟨%xI0, %hI0, HI⟩
  iapply (owns_load 𝒱 d.tc bd E) $$ HG; iintro HG
  iapply (owns_store 𝒱 d.tc bd E) $$ HG; iintro ⟨%xG0, %hG0, HG⟩
  iapply (owns_load 𝒱 d.tc bd E) $$ HE; iintro HE
  iapply (owns_store 𝒱 d.tc bd E) $$ HE; iintro ⟨%xE0, %hE0, HE⟩
  iapply (owns_load 𝒱 d.tc bd E) $$ HK; iintro HK
  iapply (owns_load 𝒱 d.tc bd E) $$ HA; iintro HA
  iapply (owns_load 𝒱 d.tc bd E) $$ HP; iintro HP
  iapply (owns_load 𝒱 d.tc bd E) $$ HS; iintro HS
  iapply (owns_load 𝒱 d.tc bd E) $$ HT; iintro HT
  iapply (owns_load 𝒱 d.tc bd E) $$ HI; iintro HI
  iapply (owns_store 𝒱 d.tc bd E) $$ HI; iintro ⟨%xI1, %hI1, HI⟩
  iapply (owns_load 𝒱 d.tc bd E) $$ HG; iintro HG
  iapply (owns_store 𝒱 d.tc bd E) $$ HG; iintro ⟨%xG1, %hG1, HG⟩
  iapply (owns_load 𝒱 d.tc bd E) $$ HE; iintro HE
  iapply (owns_store 𝒱 d.tc bd E) $$ HE; iintro ⟨%xE1, %hE1, HE⟩
  iapply (owns_load 𝒱 d.tc bd E) $$ HK; iintro HK
  iapply (owns_load 𝒱 d.tc bd E) $$ HA; iintro HA
  iapply (owns_load 𝒱 d.tc bd E) $$ HP; iintro HP
  iapply (owns_load 𝒱 d.tc bd E) $$ HS; iintro HS
  iapply (owns_load 𝒱 d.tc bd E) $$ HT; iintro HT
  iapply (owns_load 𝒱 d.tc bd E) $$ HI; iintro HI
  iapply (owns_store 𝒱 d.tc bd E) $$ HI; iintro ⟨%xI2, %hI2, HI⟩
  iapply (owns_load 𝒱 d.tc bd E) $$ HG; iintro HG
  iapply (owns_store 𝒱 d.tc bd E) $$ HG; iintro ⟨%xG2, %hG2, HG⟩
  iapply (owns_load 𝒱 d.tc bd E) $$ HE; iintro HE
  iapply (owns_store 𝒱 d.tc bd E) $$ HE; iintro ⟨%xE2, %hE2, HE⟩
  iapply (owns_load 𝒱 d.tc bd E) $$ HK; iintro HK
  iapply (owns_load 𝒱 d.tc bd E) $$ HA; iintro HA
  iapply (owns_load 𝒱 d.tc bd E) $$ HP; iintro HP
  iapply (owns_load 𝒱 d.tc bd E) $$ HS; iintro HS
  iapply (owns_load 𝒱 d.tc bd E) $$ HT; iintro HT
  iapply (owns_load 𝒱 d.tc bd E) $$ HI; iintro HI
  iapply (owns_store 𝒱 d.tc bd E) $$ HI; iintro ⟨%xI3, %hI3, HI⟩
  iapply (owns_load 𝒱 d.tc bd E) $$ HG; iintro HG
  iapply (owns_store 𝒱 d.tc bd E) $$ HG; iintro ⟨%xG3, %hG3, HG⟩
  iapply (owns_load 𝒱 d.tc bd E) $$ HE; iintro HE
  iapply (owns_store 𝒱 d.tc bd E) $$ HE; iintro ⟨%xE3, %hE3, HE⟩
  rw [wp_ret]; imodintro
  iapply Hk
  have eI : xI3 = resI k a := rowsOf_of_stores (w := fun m => combI (slabB m k) (slabB m a)) hI0 hI1 hI2 hI3
  have eG : xG3 = resG k a p s2 := rowsOf_of_stores (w := fun m => combG (slabB m k) (slabB m a) (slabB m p) (slabB m s2)) hG0 hG1 hG2 hG3
  have eE : xE3 = resE s2 s3 := rowsOf_of_stores (w := fun m => combE (slabB m s2) (slabB m s3)) hE0 hE1 hE2 hE3
  rw [← eI, ← eG, ← eE]
  isplitl [HK]; · iexact HK
  isplitl [HA]; · iexact HA
  isplitl [HP]; · iexact HP
  isplitl [HS]; · iexact HS
  isplitl [HT]; · iexact HT
  isplitl [HI]; · iexact HI
  isplitl [HG]; · iexact HG
  iexact HE

end Cert.Proof.Tc

end
-- ==== Proof.Bins.lean ====
/-
  The two counted loops of the binning kernel, one trip each, over what the subcore's buffers read: the initialisation
  (every accumulator's entry at its neutral value) and the pass over the tile's rows, sixteen at a time, which adds and
  compares into the bins (`stepAcc`, `accs`).
-/
module

public import proofs.«01_k».proof.Proof.Tile

@[expose] public section

set_option pp.maxSteps 400

noncomputable section

namespace Cert.Proof.Sc

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## What the bins hold -/

/-- One member's five accumulators of a tile: the greatest key of a bin, the first row attaining it, the prediction of
    that row, the sum of the exponentials, the sum of the exponentials times the predictions. -/
structure Acc (F : FTy → Type) where
  aK : S4352.Idx → Elt F .f32
  aA : S4352.Idx → Elt F .i32
  aP : S4352.Idx → Elt F .f32
  s2 : S4352.Idx → Elt F .f32
  s3 : S4352.Idx → Elt F .f32

/-- The neutral accumulators. -/
def Acc.init : Acc F :=
  ⟨fun _ => Named.named κ "mask" 0xFF61B1E6#32, fun _ => 2147483647#32, fun _ => Scalar.ofBits .f32 0x00000000#32,
    fun _ => Scalar.ofBits .f32 0x00000000#32, fun _ => Scalar.ofBits .f32 0x00000000#32⟩

/-- The lane numbers. -/
def lanes : IVec S16 32 := iota .scVector S16 32 [0] iota_S16_d0_w32_scVector

/-- The rows of a tile trip `t` reads. -/
def rows (t : Fin k1_t2_loop.trips) : S16.Idx → S3200.Idx :=
  (Rect.unit (s := S3200) (k1_off4 t) S16.size (k1_off4_inb t)).toLoadRect.idx

theorem rows_off5 (t : Fin k1_t2_loop.trips) :
    (Rect.unit (s := S3200) (k1_off5 t) S16.size (k1_off5_inb t)).toLoadRect.idx = rows t := rfl

/-- The bins trip `t` touches, of the rows' identifiers. -/
def bins (ids : S3200.Idx → Elt F .i32) (t : Fin k1_t2_loop.trips) : IVec S16 32 := k1_pay13 (F := F) lanes fun y => ids (rows t y)

/-- Trip `t` on one member's accumulators. -/
def stepAcc (v2 : BitVec 32) (ids : S3200.Idx → Elt F .i32) (p k : S3200.Idx → Elt F .f32) (t : Fin k1_t2_loop.trips) (a : Acc F) : Acc F :=
  open Classical in
  if h : k1_chk1 (bins (F := F) ids t) then
    { aK := storeIdx a.aK ![bins (F := F) ids t] (fun y => k (rows t y))
        (k1_pay17 (fun y => k (rows t y)) (loadIdx a.aK ![bins (F := F) ids t] (k1_idx3_inb _ h))) false (k1_idx3_inb _ h)
      aA := storeIdx a.aA ![bins (F := F) ids t] (k1_pay14 v2 lanes 0#32 1#32 t)
        (k1_pay17 (fun y => k (rows t y)) (loadIdx a.aK ![bins (F := F) ids t] (k1_idx3_inb _ h))) false (k1_idx3_inb _ h)
      aP := storeIdx a.aP ![bins (F := F) ids t] (fun y => p (rows t y))
        (k1_pay17 (fun y => k (rows t y)) (loadIdx a.aK ![bins (F := F) ids t] (k1_idx3_inb _ h))) false (k1_idx3_inb _ h)
      s2 := storeIdx a.s2 ![bins (F := F) ids t] (k1_pay15 fun y => p (rows t y)) (fun _ => 1#1) true (k1_idx3_inb _ h)
      s3 := storeIdx a.s3 ![bins (F := F) ids t] (k1_pay16 fun y => p (rows t y)) (fun _ => 1#1) true (k1_idx3_inb _ h) }
  else a

/-- The accumulators before trip `n`. -/
def accs (v2 : BitVec 32) (ids : S3200.Idx → Elt F .i32) (p k : S3200.Idx → Elt F .f32) : ℕ → Acc F
  | 0 => Acc.init
  | n + 1 => if h : n < k1_t2_loop.trips then stepAcc v2 ids p k ⟨n, h⟩ (accs v2 ids p k n) else accs v2 ids p k n

/-- Every identifier of the tile names a bin of its lane. -/
def IdsOK (ids : S3200.Idx → Elt F .i32) : Prop := ∀ t, k1_chk1 (bins (F := F) ids t)

/-! ## The kernel's two loops, at its own buffers -/

abbrev t1At (L : grid1.Coords) : Fin k1_t1_loop.trips → BitVec 32 → Prog (TpuEff nD τ sig (Elt F) Λ₀ (.scVector ((L 0).castLE hcore1) ((L 1).castLE hsub1))) (BitVec 32) :=
  k1_t1_body L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34

abbrev t2At (L : grid1.Coords) (v2 : BitVec 32) : Fin k1_t2_loop.trips → BitVec 32 → Prog (TpuEff nD τ sig (Elt F) Λ₀ (.scVector ((L 0).castLE hcore1) ((L 1).castLE hsub1))) (BitVec 32) :=
  k1_t2_body L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34 v2 lanes

variable {Name : Type} [DecidableEq Name] {U : Type} [URA U] {Lvl : Type} [Preorder Lvl] {Ix : Type} [DecidableEq Ix]

local notation "𝕄" => MT nD τ sig Ix (Elt F) Name U Lvl

/-- The thread of the tile at grid coordinates `L`. -/
abbrev thr (d : Fin nD) (L : grid1.Coords) : Thread nD τ := V d ((L 0).castLE hcore1) ((L 1).castLE hsub1)

/-- The five accumulator buffers of a member, by value. -/
def AccOwn (c : Thread nD τ) (mK : Memref sig c.2.kind .vmem S4352 .f32) (mA : Memref sig c.2.kind .vmem S4352 .i32)
    (mP m2 m3 : Memref sig c.2.kind .vmem S4352 .f32) (a : Acc F) : sProp 𝕄 :=
  iprop(owns c mK fullShare a.aK ∗ owns c mA fullShare a.aA ∗ owns c mP fullShare a.aP ∗ owns c m2 fullShare a.s2 ∗ owns c m3 fullShare a.s3)

/-- What the twenty accumulator buffers hold. -/
def AllAcc (d : Fin nD) (L : grid1.Coords) (A : Fin 4 → Acc F) : sProp 𝕄 :=
  iprop(AccOwn (thr d L) (Memref.whole cc1_scratch9) (Memref.whole cc1_scratch13) (Memref.whole cc1_scratch17) (Memref.whole cc1_scratch21) (Memref.whole cc1_scratch25) (A 0) ∗ AccOwn (thr d L) (Memref.whole cc1_scratch10) (Memref.whole cc1_scratch14) (Memref.whole cc1_scratch18) (Memref.whole cc1_scratch22) (Memref.whole cc1_scratch26) (A 1) ∗ AccOwn (thr d L) (Memref.whole cc1_scratch11) (Memref.whole cc1_scratch15) (Memref.whole cc1_scratch19) (Memref.whole cc1_scratch23) (Memref.whole cc1_scratch27) (A 2) ∗ AccOwn (thr d L) (Memref.whole cc1_scratch12) (Memref.whole cc1_scratch16) (Memref.whole cc1_scratch20) (Memref.whole cc1_scratch24) (Memref.whole cc1_scratch28) (A 3))

/-- What the nine input buffers hold. -/
def Ins (d : Fin nD) (L : grid1.Coords) (ids : S3200.Idx → Elt F .i32) (p k : Fin 4 → S3200.Idx → Elt F .f32) : sProp 𝕄 :=
  iprop(owns (thr d L) (Memref.whole cc1_scratch0) fullShare ids ∗ owns (thr d L) (Memref.whole cc1_scratch1) fullShare (p 0) ∗ owns (thr d L) (Memref.whole cc1_scratch5) fullShare (k 0) ∗ owns (thr d L) (Memref.whole cc1_scratch2) fullShare (p 1) ∗ owns (thr d L) (Memref.whole cc1_scratch6) fullShare (k 1) ∗ owns (thr d L) (Memref.whole cc1_scratch3) fullShare (p 2) ∗ owns (thr d L) (Memref.whole cc1_scratch7) fullShare (k 2) ∗ owns (thr d L) (Memref.whole cc1_scratch4) fullShare (p 3) ∗ owns (thr d L) (Memref.whole cc1_scratch8) fullShare (k 3))

/-- The first entry. -/
def zi : S4352.Idx := fun a => ⟨0, by fin_cases a; decide⟩

/-- What the twenty accumulator buffers hold during initialisation: the first `16 n` entries are neutral. -/
def Init (d : Fin nD) (L : grid1.Coords) (n : ℕ) : sProp 𝕄 :=
  iprop(Filled (thr d L) (Memref.whole cc1_scratch9) ((Acc.init (F := F)).aK zi) n ∗ Filled (thr d L) (Memref.whole cc1_scratch13) ((Acc.init (F := F)).aA zi) n ∗ Filled (thr d L) (Memref.whole cc1_scratch17) ((Acc.init (F := F)).aP zi) n ∗ Filled (thr d L) (Memref.whole cc1_scratch21) ((Acc.init (F := F)).s2 zi) n ∗ Filled (thr d L) (Memref.whole cc1_scratch25) ((Acc.init (F := F)).s3 zi) n ∗ Filled (thr d L) (Memref.whole cc1_scratch10) ((Acc.init (F := F)).aK zi) n ∗ Filled (thr d L) (Memref.whole cc1_scratch14) ((Acc.init (F := F)).aA zi) n ∗ Filled (thr d L) (Memref.whole cc1_scratch18) ((Acc.init (F := F)).aP zi) n ∗ Filled (thr d L) (Memref.whole cc1_scratch22) ((Acc.init (F := F)).s2 zi) n ∗ Filled (thr d L) (Memref.whole cc1_scratch26) ((Acc.init (F := F)).s3 zi) n ∗ Filled (thr d L) (Memref.whole cc1_scratch11) ((Acc.init (F := F)).aK zi) n ∗ Filled (thr d L) (Memref.whole cc1_scratch15) ((Acc.init (F := F)).aA zi) n ∗ Filled (thr d L) (Memref.whole cc1_scratch19) ((Acc.init (F := F)).aP zi) n ∗ Filled (thr d L) (Memref.whole cc1_scratch23) ((Acc.init (F := F)).s2 zi) n ∗ Filled (thr d L) (Memref.whole cc1_scratch27) ((Acc.init (F := F)).s3 zi) n ∗ Filled (thr d L) (Memref.whole cc1_scratch12) ((Acc.init (F := F)).aK zi) n ∗ Filled (thr d L) (Memref.whole cc1_scratch16) ((Acc.init (F := F)).aA zi) n ∗ Filled (thr d L) (Memref.whole cc1_scratch20) ((Acc.init (F := F)).aP zi) n ∗ Filled (thr d L) (Memref.whole cc1_scratch24) ((Acc.init (F := F)).s2 zi) n ∗ Filled (thr d L) (Memref.whole cc1_scratch28) ((Acc.init (F := F)).s3 zi) n)

variable {defs : Defs nD τ sig (Elt F) Λ₀} (𝒱 : Variants) (bd : Option 𝒱.V) (E : Set Name)

set_option maxHeartbeats 4000000 in
/-- One trip of the initialisation. -/
theorem t1_step (d : Fin nD) (L : grid1.Coords) (t : Fin k1_t1_loop.trips) (x : BitVec 32) :
    (Init d L t.val : sProp 𝕄) ⊢ wp frame (wpE defs 𝒱 (thr d L) bd) E (t1At (F := F) L t x) (fun _ => Init d L (t.val + 1)) := by
  unfold t1At k1_t1_body
  rw [k1_part1_eq_skeleton]
  unfold k1_part1_skel
  simp only [Prog.lift, Prog.bind_op, Prog.bind_ret, Prog.pure_eq_ret]
  unfold Init
  iintro ⟨H00, H01, H02, H03, H04, H10, H11, H12, H13, H14, H20, H21, H22, H23, H24, H30, H31, H32, H33, H34⟩
  iapply (filled_step 𝒱 (thr d L) bd E (by rw [k1_off3_eq]; rfl) (fun _ => rfl)) $$ H00
  iintro H00
  iapply (filled_step 𝒱 (thr d L) bd E (by rw [k1_off3_eq]; rfl) (fun _ => rfl)) $$ H01
  iintro H01
  iapply (filled_step 𝒱 (thr d L) bd E (by rw [k1_off3_eq]; rfl) (fun _ => rfl)) $$ H02
  iintro H02
  iapply (filled_step 𝒱 (thr d L) bd E (by rw [k1_off3_eq]; rfl) (fun _ => rfl)) $$ H03
  iintro H03
  iapply (filled_step 𝒱 (thr d L) bd E (by rw [k1_off3_eq]; rfl) (fun _ => rfl)) $$ H04
  iintro H04
  iapply (filled_step 𝒱 (thr d L) bd E (by rw [k1_off3_eq]; rfl) (fun _ => rfl)) $$ H10
  iintro H10
  iapply (filled_step 𝒱 (thr d L) bd E (by rw [k1_off3_eq]; rfl) (fun _ => rfl)) $$ H11
  iintro H11
  iapply (filled_step 𝒱 (thr d L) bd E (by rw [k1_off3_eq]; rfl) (fun _ => rfl)) $$ H12
  iintro H12
  iapply (filled_step 𝒱 (thr d L) bd E (by rw [k1_off3_eq]; rfl) (fun _ => rfl)) $$ H13
  iintro H13
  iapply (filled_step 𝒱 (thr d L) bd E (by rw [k1_off3_eq]; rfl) (fun _ => rfl)) $$ H14
  iintro H14
  iapply (filled_step 𝒱 (thr d L) bd E (by rw [k1_off3_eq]; rfl) (fun _ => rfl)) $$ H20
  iintro H20
  iapply (filled_step 𝒱 (thr d L) bd E (by rw [k1_off3_eq]; rfl) (fun _ => rfl)) $$ H21
  iintro H21
  iapply (filled_step 𝒱 (thr d L) bd E (by rw [k1_off3_eq]; rfl) (fun _ => rfl)) $$ H22
  iintro H22
  iapply (filled_step 𝒱 (thr d L) bd E (by rw [k1_off3_eq]; rfl) (fun _ => rfl)) $$ H23
  iintro H23
  iapply (filled_step 𝒱 (thr d L) bd E (by rw [k1_off3_eq]; rfl) (fun _ => rfl)) $$ H24
  iintro H24
  iapply (filled_step 𝒱 (thr d L) bd E (by rw [k1_off3_eq]; rfl) (fun _ => rfl)) $$ H30
  iintro H30
  iapply (filled_step 𝒱 (thr d L) bd E (by rw [k1_off3_eq]; rfl) (fun _ => rfl)) $$ H31
  iintro H31
  iapply (filled_step 𝒱 (thr d L) bd E (by rw [k1_off3_eq]; rfl) (fun _ => rfl)) $$ H32
  iintro H32
  iapply (filled_step 𝒱 (thr d L) bd E (by rw [k1_off3_eq]; rfl) (fun _ => rfl)) $$ H33
  iintro H33
  iapply (filled_step 𝒱 (thr d L) bd E (by rw [k1_off3_eq]; rfl) (fun _ => rfl)) $$ H34
  iintro H34
  rw [wp_ret]
  imodintro
  isplitl [H00]; · iexact H00
  isplitl [H01]; · iexact H01
  isplitl [H02]; · iexact H02
  isplitl [H03]; · iexact H03
  isplitl [H04]; · iexact H04
  isplitl [H10]; · iexact H10
  isplitl [H11]; · iexact H11
  isplitl [H12]; · iexact H12
  isplitl [H13]; · iexact H13
  isplitl [H14]; · iexact H14
  isplitl [H20]; · iexact H20
  isplitl [H21]; · iexact H21
  isplitl [H22]; · iexact H22
  isplitl [H23]; · iexact H23
  isplitl [H24]; · iexact H24
  isplitl [H30]; · iexact H30
  isplitl [H31]; · iexact H31
  isplitl [H32]; · iexact H32
  isplitl [H33]; · iexact H33
  iexact H34

set_option maxHeartbeats 4000000 in
/-- One trip over the rows. -/
theorem t2_step (d : Fin nD) (L : grid1.Coords) (v2 : BitVec 32) (ids : S3200.Idx → Elt F .i32) (p k : Fin 4 → S3200.Idx → Elt F .f32)
    (hok : IdsOK ids) (A : Fin 4 → Acc F) (t : Fin k1_t2_loop.trips) (x : BitVec 32) :
    iprop(Ins d L ids p k ∗ AllAcc d L A : sProp 𝕄) ⊢ wp frame (wpE defs 𝒱 (thr d L) bd) E (t2At (F := F) L v2 t x)
      (fun _ => iprop(Ins d L ids p k ∗ AllAcc d L fun m => stepAcc v2 ids (p m) (k m) t (A m))) := by
  have hs : ∀ m, stepAcc v2 ids (p m) (k m) t (A m) = _ := fun m => dif_pos (hok t)
  generalize hB : (fun m => stepAcc v2 ids (p m) (k m) t (A m)) = B
  have hB' : ∀ m, B m = _ := fun m => (congrFun hB m).symm.trans (hs m)
  unfold t2At k1_t2_body
  rw [k1_part2_eq_skeleton]
  unfold k1_part2_skel
  simp only [Prog.lift, Prog.bind_op, Prog.bind_ret, Prog.pure_eq_ret, Prog.bind_assoc]
  unfold Ins AllAcc AccOwn
  iintro ⟨⟨HI, P0, K0, P1, K1, P2, K2, P3, K3⟩, ⟨H00, H01, H02, H03, H04⟩, ⟨H10, H11, H12, H13, H14⟩, ⟨H20, H21, H22, H23, H24⟩, ⟨H30, H31, H32, H33, H34⟩⟩
  iapply (owns_load 𝒱 (thr d L) bd E) $$ HI
  iintro HI
  iapply (wp_assume 𝒱 (thr d L) bd E (hok t))
  iapply (owns_load 𝒱 (thr d L) bd E) $$ P0
  iintro P0
  iapply (owns_load 𝒱 (thr d L) bd E) $$ K0
  iintro K0
  iapply (owns_scatter 𝒱 (thr d L) bd E) $$ H03
  iintro H03
  iapply (owns_scatter 𝒱 (thr d L) bd E) $$ H04
  iintro H04
  iapply (owns_gather 𝒱 (thr d L) bd E) $$ H00
  iintro H00
  iapply (owns_scatter 𝒱 (thr d L) bd E) $$ H00
  iintro H00
  iapply (owns_scatter 𝒱 (thr d L) bd E) $$ H01
  iintro H01
  iapply (owns_scatter 𝒱 (thr d L) bd E) $$ H02
  iintro H02
  iapply (owns_load 𝒱 (thr d L) bd E) $$ P1
  iintro P1
  iapply (owns_load 𝒱 (thr d L) bd E) $$ K1
  iintro K1
  iapply (owns_scatter 𝒱 (thr d L) bd E) $$ H13
  iintro H13
  iapply (owns_scatter 𝒱 (thr d L) bd E) $$ H14
  iintro H14
  iapply (owns_gather 𝒱 (thr d L) bd E) $$ H10
  iintro H10
  iapply (owns_scatter 𝒱 (thr d L) bd E) $$ H10
  iintro H10
  iapply (owns_scatter 𝒱 (thr d L) bd E) $$ H11
  iintro H11
  iapply (owns_scatter 𝒱 (thr d L) bd E) $$ H12
  iintro H12
  iapply (owns_load 𝒱 (thr d L) bd E) $$ P2
  iintro P2
  iapply (owns_load 𝒱 (thr d L) bd E) $$ K2
  iintro K2
  iapply (owns_scatter 𝒱 (thr d L) bd E) $$ H23
  iintro H23
  iapply (owns_scatter 𝒱 (thr d L) bd E) $$ H24
  iintro H24
  iapply (owns_gather 𝒱 (thr d L) bd E) $$ H20
  iintro H20
  iapply (owns_scatter 𝒱 (thr d L) bd E) $$ H20
  iintro H20
  iapply (owns_scatter 𝒱 (thr d L) bd E) $$ H21
  iintro H21
  iapply (owns_scatter 𝒱 (thr d L) bd E) $$ H22
  iintro H22
  iapply (owns_load 𝒱 (thr d L) bd E) $$ P3
  iintro P3
  iapply (owns_load 𝒱 (thr d L) bd E) $$ K3
  iintro K3
  iapply (owns_scatter 𝒱 (thr d L) bd E) $$ H33
  iintro H33
  iapply (owns_scatter 𝒱 (thr d L) bd E) $$ H34
  iintro H34
  iapply (owns_gather 𝒱 (thr d L) bd E) $$ H30
  iintro H30
  iapply (owns_scatter 𝒱 (thr d L) bd E) $$ H30
  iintro H30
  iapply (owns_scatter 𝒱 (thr d L) bd E) $$ H31
  iintro H31
  iapply (owns_scatter 𝒱 (thr d L) bd E) $$ H32
  iintro H32
  rw [wp_ret]
  imodintro
  simp only [hB']
  isplitl [HI P0 K0 P1 K1 P2 K2 P3 K3]
  · isplitl [HI]; · iexact HI
    isplitl [P0]; · iexact P0
    isplitl [K0]; · iexact K0
    isplitl [P1]; · iexact P1
    isplitl [K1]; · iexact K1
    isplitl [P2]; · iexact P2
    isplitl [K2]; · iexact K2
    isplitl [P3]; · iexact P3
    iexact K3
  isplitl [H00 H01 H02 H03 H04]
  · isplitl [H00]; · iexact H00
    isplitl [H01]; · iexact H01
    isplitl [H02]; · iexact H02
    isplitl [H03]; · iexact H03
    iexact H04
  isplitl [H10 H11 H12 H13 H14]
  · isplitl [H10]; · iexact H10
    isplitl [H11]; · iexact H11
    isplitl [H12]; · iexact H12
    isplitl [H13]; · iexact H13
    iexact H14
  isplitl [H20 H21 H22 H23 H24]
  · isplitl [H20]; · iexact H20
    isplitl [H21]; · iexact H21
    isplitl [H22]; · iexact H22
    isplitl [H23]; · iexact H23
    iexact H24
  isplitl [H30]; · iexact H30
  isplitl [H31]; · iexact H31
  isplitl [H32]; · iexact H32
  isplitl [H33]; · iexact H33
  iexact H34

end Cert.Proof.Sc
-- ==== Proof.Dma.lean ====
/-
  A subcore's batches of local copies over what the memrefs READ: starting a copy hands its source's and its
  destination's `owns` to the batch, a wait short of the last consumes one copy's credit, the last hands every
  delivery back.
-/
module

public import proofs.«01_k».proof.Proof.Tile

@[expose] public section

noncomputable section

namespace Cert.Proof.Tile

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name] [Infinite Name]
variable {U : Type} [URA U] {Lvl : Type} [Preorder Lvl] {Λ : Labels}

local notation "𝕄" => MT nD τ sig Ix (Elt F) Name U Lvl

variable (EC : UEmb Counters (MT nD τ sig Ix (Elt F) Name U Lvl)) [EC.LandsIn (upEmb : UEmb _ (MT nD τ sig Ix (Elt F) Name U Lvl))]
variable {defs : Defs nD τ sig (Elt F) Λ} (𝒱 : Variants) (c : Thread nD τ) (bd : Option 𝒱.V)
variable {s : Shape} {e : EltTy} {sp sp' : Space} {α : Type} {Q : α → sProp (MT nD τ sig Ix (Elt F) Name U Lvl)} {n : ℕ}

omit [FloatOps F] [Infinite Name] [EC.LandsIn (upEmb : UEmb _ (MT nD τ sig Ix (Elt F) Name U Lvl))] in
/-- What a copy delivers, by value. -/
theorem landed_owns {src : Memref sig c.2.kind sp s e} {dst : Memref sig c.2.kind sp' s e} {q : PosShare TreeShare} {x : s.Idx → Elt F e}
    {f : Buf (Elt F) (src.view.loc c)} (hf : src.view.read (Elt F) f = x) (g : Buf (Elt F) (dst.view.loc c)) :
    (iprop((dst.view.loc c ↦[dst.view.set]{fullShare} (dst.view.write (Elt F) g (ReadAs.same.apply (src.view.read (Elt F) f)) Finset.univ))
      ∗ (src.view.loc c ↦[src.view.set]{q} f)) : sProp 𝕄) ⊢ iprop(owns c dst fullShare x ∗ owns c src q x) := by
  unfold owns
  iintro ⟨Hd, Hs⟩
  isplitl [Hd]
  · iexists (dst.view.write (Elt F) g (ReadAs.same.apply (src.view.read (Elt F) f)) Finset.univ); isplitr
    · ipureintro; rw [View.read_write_univ]; exact hf
    iexact Hd
  · iexists f; isplitr
    · ipureintro; exact hf
    iexact Hs

/-- Starting the next copy of a batch: the source's contents land in the destination, and both come back at the drain. -/
theorem owns_issue {src : Memref sig c.2.kind sp s e} {dst : Memref sig c.2.kind sp' s e} {sm : SemLoc sig}
    {hsrc : src.view.WordExact} {hdst : dst.view.WordExact} {hsem : DmaTarget.Typed (nD := nD) sp sm (.here dst)}
    {K : PUnit → Prog (TpuEff nD τ sig (Elt F) Λ c.2) α} {q : PosShare TreeShare} {x y : s.Idx → Elt F e}
    {D : Fin n → sProp 𝕄} {j u N : ℕ} (ι : Ix) (hN : dst.view.amount sm = N) (hj : j < n) (hu : u ≤ j * N)
    (hD : (iprop(owns c dst fullShare x ∗ owns c src q x) : sProp 𝕄) ⊢ D ⟨j, hj⟩) :
    iprop(owns c src q x ∗ owns c dst fullShare y ∗ Transfers.Batch EC c sm ι N D j u)
      ⊢ iprop((Transfers.Batch EC c sm ι N D (j + 1) u -∗ wp frame (wpE defs 𝒱 c bd) Set.univ (K ⟨⟩) Q)
          -∗ wp frame (wpE defs 𝒱 c bd) Set.univ (.op (.enqueueDma src (.here dst) sm hsrc hdst hsem) K) Q) := by
  unfold owns
  iintro ⟨⟨%f, %hf, Hs⟩, ⟨%g, %hg, Hd⟩, HB⟩ Hk
  iapply (Transfers.wp_dmaBatch EC 𝒱 c bd (src := src) (dst := dst) (via := ReadAs.same) (fs := f) (fd := g) (q := q) (D := D) ι N hN subset_rfl hj hu
    ((landed_owns c hf g).trans hD)) $$ [Hs Hd HB] [Hk]
  · isplitl [Hs]; · iexact Hs
    isplitl [Hd]; · iexact Hd
    iexact HB
  · iexact Hk

/-- What a thread owes after waits at no index beyond those it had recorded. -/
def OwesFrom (c : Thread nD τ) (ι : Ix) (O : CellTallies nD τ sig Ix) (W : Waits sig Ix) : sProp 𝕄 :=
  iprop(∃ W', ⌜∀ p ∈ W', p ∈ W ∨ p.2 = ι⌝ ∗ owes c O W')

theorem OwesFrom.intro (c : Thread nD τ) (ι : Ix) (O : CellTallies nD τ sig Ix) (W : Waits sig Ix) : (owes c O W : sProp 𝕄) ⊢ OwesFrom c ι O W := by
  unfold OwesFrom
  iintro H
  iexists W; isplitr
  · ipureintro; exact fun p hp => .inl hp
  iexact H

/-- A wait short of a batch's last. -/
theorem owns_wait {s' : Shape} {e' : EltTy} {κ' : Kind} {sem : DmaSem sig}
    {srcw : Memref sig c.2.kind sp' s' e'} {dstw : Memref sig κ' sp s e} {hsrc : srcw.view.WordExact} {hdst : dstw.view.WordExact}
    {K : PUnit → Prog (TpuEff nD τ sig (Elt F) Λ c.2) α} (ι : Ix) {N : ℕ} (hN : dstw.view.dmaCredit = N)
    {D : Fin n → sProp 𝕄} {u : ℕ} (hu : u + N < N * n) {O : CellTallies nD τ sig Ix} {W : Waits sig Ix} :
    iprop(Transfers.Batch EC c (.dma sem) ι N D n u ∗ OwesFrom c ι O W ∗ Transfers.MayWaits c ι O)
      ⊢ iprop((iprop(Transfers.Batch EC c (.dma sem) ι N D n (u + N) ∗ OwesFrom c ι O W) -∗ wp frame (wpE defs 𝒱 c bd) Set.univ (K ⟨⟩) Q)
          -∗ wp frame (wpE defs 𝒱 c bd) Set.univ (.op (.waitDma2 sem srcw dstw hsrc hdst) K) Q) := by
  unfold OwesFrom
  iintro ⟨HB, ⟨%W', %hW', HO⟩, Hmw⟩ Hk
  ihave Hm := (Transfers.MayWaits.elim (SemLoc.dma sem)) $$ Hmw
  iapply (Transfers.wp_waitBatchO EC 𝒱 c bd (srcw := srcw) (dstw := dstw) ι hN hu) $$ [HB HO Hm]
  · isplitl [HB]; · iexact HB
    isplitl [HO]; · iexact HO
    iexact Hm
  iintro ⟨HB, HO⟩
  iapply Hk
  isplitl [HB]; · iexact HB
  iexists (insert (SemLoc.dma sem, ι) W'); isplitr
  · ipureintro; intro p hp
    rcases Finset.mem_insert.mp hp with hp | hp
    · exact .inr (hp ▸ rfl)
    · exact hW' p hp
  iexact HO

/-- A batch's last wait: every delivery, and the counter at zero. -/
theorem owns_drain {s' : Shape} {e' : EltTy} {κ' : Kind} {sem : DmaSem sig}
    {srcw : Memref sig c.2.kind sp' s' e'} {dstw : Memref sig κ' sp s e} {hsrc : srcw.view.WordExact} {hdst : dstw.view.WordExact}
    {K : PUnit → Prog (TpuEff nD τ sig (Elt F) Λ c.2) α} (ι : Ix) {N : ℕ} (hN : dstw.view.dmaCredit = N) (hN0 : 0 < N)
    {D : Fin n → sProp 𝕄} {u : ℕ} (hu : u + N = N * n) {O : CellTallies nD τ sig Ix} {W : Waits sig Ix} :
    iprop(Transfers.Batch EC c (.dma sem) ι N D n u ∗ OwesFrom c ι O W ∗ Transfers.MayWaits c ι O)
      ⊢ iprop((iprop(bigSep Finset.univ D ∗ semVal (c, .dma sem) 0 ∗ OwesFrom c ι O W) -∗ wp frame (wpE defs 𝒱 c bd) Set.univ (K ⟨⟩) Q)
          -∗ wp frame (wpE defs 𝒱 c bd) Set.univ (.op (.waitDma2 sem srcw dstw hsrc hdst) K) Q) := by
  unfold OwesFrom
  iintro ⟨HB, ⟨%W', %hW', HO⟩, Hmw⟩ Hk
  ihave Hm := (Transfers.MayWaits.elim (SemLoc.dma sem)) $$ Hmw
  iapply (Transfers.wp_waitBatchLastO EC 𝒱 c bd (srcw := srcw) (dstw := dstw) ι hN hN0 hu) $$ [HB HO Hm]
  · isplitl [HB]; · iexact HB
    isplitl [HO]; · iexact HO
    iexact Hm
  iintro ⟨HD, HS, HO⟩
  iapply Hk
  isplitl [HD]; · iexact HD
  isplitl [HS]; · iexact HS
  iexists (insert (SemLoc.dma sem, ι) W'); isplitr
  · ipureintro; intro p hp
    rcases Finset.mem_insert.mp hp with hp | hp
    · exact .inr (hp ▸ rfl)
    · exact hW' p hp
  iexact HO

end Cert.Proof.Tile
-- ==== Proof.BodyDefs.lean ====
/-
  What a tile of the binning kernel holds, and the batches of its copies.
-/
module

public import proofs.«01_k».proof.Proof.Bins
public import proofs.«01_k».proof.Proof.Dma

@[expose] public section

set_option pp.maxSteps 400

noncomputable section

namespace Cert.Proof.Sc

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {Name : Type} [DecidableEq Name] [Infinite Name] {U : Type} [URA U] [CountersIn U] {Lvl : Type} [Preorder Lvl] {Ix : Type} [DecidableEq Ix]

local notation "𝕄" => MT nD τ sig Ix (Elt F) Name U Lvl

/-- The transfers' counters. -/
abbrev EC : UEmb Counters (MT nD τ sig Ix (Elt F) Name U Lvl) := countersEmb (U := U)

/-! ## The arrays' slices of a tile, as the kernel spells them -/

/-- A tile's rows of one of the flat arrays. -/
abbrev in1 (L : grid1.Coords) {e : EltTy} (m : Memref sig .scVector .hbm S102400 e) : Memref sig .scVector .hbm S3200 e :=
  m.slice (Rect.unit (s := S102400) (k1_off1 L) S3200.size (k1_off1_inb L)) (fun _ => rfl)

/-- A tile's rows of one of the flat arrays. -/
abbrev in2 (L : grid1.Coords) {e : EltTy} (m : Memref sig .scVector .hbm S102400 e) : Memref sig .scVector .hbm S3200 e :=
  m.slice (Rect.unit (s := S102400) (k1_off2 L) S3200.size (k1_off2_inb L)) (fun _ => rfl)

/-- A tile's bins of one of the outputs, member 0. -/
abbrev out0 (L : grid1.Coords) {e : EltTy} (m : Memref sig .scVector .hbm S4x32x4352 e) : Memref sig .scVector .hbm S4352 e :=
  (m.slice (Rect.unit (s := S4x32x4352) (k1_off6 L) S1x1x4352.size (k1_off6_inb L)) (fun _ => rfl)).squeeze S4352 squeezes_S1x1x4352_S4352

/-- A tile's bins of one of the outputs, member 1. -/
abbrev out1 (L : grid1.Coords) {e : EltTy} (m : Memref sig .scVector .hbm S4x32x4352 e) : Memref sig .scVector .hbm S4352 e :=
  (m.slice (Rect.unit (s := S4x32x4352) (k1_off7 L) S1x1x4352.size (k1_off7_inb L)) (fun _ => rfl)).squeeze S4352 squeezes_S1x1x4352_S4352

/-- A tile's bins of one of the outputs, member 2. -/
abbrev out2 (L : grid1.Coords) {e : EltTy} (m : Memref sig .scVector .hbm S4x32x4352 e) : Memref sig .scVector .hbm S4352 e :=
  (m.slice (Rect.unit (s := S4x32x4352) (k1_off8 L) S1x1x4352.size (k1_off8_inb L)) (fun _ => rfl)).squeeze S4352 squeezes_S1x1x4352_S4352

/-- A tile's bins of one of the outputs, member 3. -/
abbrev out3 (L : grid1.Coords) {e : EltTy} (m : Memref sig .scVector .hbm S4x32x4352 e) : Memref sig .scVector .hbm S4352 e :=
  (m.slice (Rect.unit (s := S4x32x4352) (k1_off9 L) S1x1x4352.size (k1_off9_inb L)) (fun _ => rfl)).squeeze S4352 squeezes_S1x1x4352_S4352

/-- The tile's rows of the nine inputs, read shares of them. -/
def Inp (d : Fin nD) (L : grid1.Coords) (q : PosShare TreeShare) (ids : S3200.Idx → Elt F .i32) (p k : Fin 4 → S3200.Idx → Elt F .f32) : sProp 𝕄 :=
  iprop(owns (thr d L) (in1 L (Memref.whole main_v17_scv)) q ids
    ∗ owns (thr d L) (in2 L (Memref.whole main_v20_0_scv)) q (p 0) ∗ owns (thr d L) (in2 L (Memref.whole main_v20_4_scv)) q (k 0)
    ∗ owns (thr d L) (in2 L (Memref.whole main_v20_1_scv)) q (p 1) ∗ owns (thr d L) (in2 L (Memref.whole main_v20_5_scv)) q (k 1)
    ∗ owns (thr d L) (in2 L (Memref.whole main_v20_2_scv)) q (p 2) ∗ owns (thr d L) (in2 L (Memref.whole main_v20_6_scv)) q (k 2)
    ∗ owns (thr d L) (in2 L (Memref.whole main_v20_3_scv)) q (p 3) ∗ owns (thr d L) (in2 L (Memref.whole main_v20_7_scv)) q (k 3))

/-- The tile's bins of the five outputs, by member. -/
def Outp (d : Fin nD) (L : grid1.Coords) (A : Fin 4 → Acc F) : sProp 𝕄 :=
  iprop((owns (thr d L) (out0 L (Memref.whole main_v21_0_scv)) fullShare (A 0).aK ∗ owns (thr d L) (out0 L (Memref.whole main_v21_1_scv)) fullShare (A 0).aA ∗ owns (thr d L) (out0 L (Memref.whole main_v21_2_scv)) fullShare (A 0).aP
      ∗ owns (thr d L) (out0 L (Memref.whole main_v21_3_scv)) fullShare (A 0).s2 ∗ owns (thr d L) (out0 L (Memref.whole main_v21_4_scv)) fullShare (A 0).s3)
    ∗ (owns (thr d L) (out1 L (Memref.whole main_v21_0_scv)) fullShare (A 1).aK ∗ owns (thr d L) (out1 L (Memref.whole main_v21_1_scv)) fullShare (A 1).aA ∗ owns (thr d L) (out1 L (Memref.whole main_v21_2_scv)) fullShare (A 1).aP
      ∗ owns (thr d L) (out1 L (Memref.whole main_v21_3_scv)) fullShare (A 1).s2 ∗ owns (thr d L) (out1 L (Memref.whole main_v21_4_scv)) fullShare (A 1).s3)
    ∗ (owns (thr d L) (out2 L (Memref.whole main_v21_0_scv)) fullShare (A 2).aK ∗ owns (thr d L) (out2 L (Memref.whole main_v21_1_scv)) fullShare (A 2).aA ∗ owns (thr d L) (out2 L (Memref.whole main_v21_2_scv)) fullShare (A 2).aP
      ∗ owns (thr d L) (out2 L (Memref.whole main_v21_3_scv)) fullShare (A 2).s2 ∗ owns (thr d L) (out2 L (Memref.whole main_v21_4_scv)) fullShare (A 2).s3)
    ∗ (owns (thr d L) (out3 L (Memref.whole main_v21_0_scv)) fullShare (A 3).aK ∗ owns (thr d L) (out3 L (Memref.whole main_v21_1_scv)) fullShare (A 3).aA ∗ owns (thr d L) (out3 L (Memref.whole main_v21_2_scv)) fullShare (A 3).aP
      ∗ owns (thr d L) (out3 L (Memref.whole main_v21_3_scv)) fullShare (A 3).s2 ∗ owns (thr d L) (out3 L (Memref.whole main_v21_4_scv)) fullShare (A 3).s3))

/-- The six semaphores at zero. -/
def Sems (d : Fin nD) (L : grid1.Coords) : sProp 𝕄 :=
  iprop(semVal (thr d L, SemLoc.dma cc1_scratch29.sem) 0 ∗ semVal (thr d L, SemLoc.dma cc1_scratch30.sem) 0 ∗ semVal (thr d L, SemLoc.dma cc1_scratch31.sem) 0 ∗ semVal (thr d L, SemLoc.dma cc1_scratch32.sem) 0 ∗ semVal (thr d L, SemLoc.dma cc1_scratch33.sem) 0 ∗ semVal (thr d L, SemLoc.dma cc1_scratch34.sem) 0)

/-- The tile's first row. -/
abbrev base (L : grid1.Coords) : BitVec 32 :=
  Scalar.muli (Scalar.addi (Scalar.muli (BitVec.ofNat 32 (L 1).val) 2#32) (BitVec.ofNat 32 (L 0).val)) 3200#32

/-! ## The batches -/

/-- The identifiers' copy. -/
def DI (d : Fin nD) (L : grid1.Coords) (q : PosShare TreeShare) (ids : S3200.Idx → Elt F .i32) : Fin 1 → sProp 𝕄
  | 0 => iprop(owns (thr d L) (Memref.whole cc1_scratch0) fullShare ids ∗ owns (thr d L) (in1 L (Memref.whole main_v17_scv)) q ids)

instance DI_storable (d : Fin nD) (L : grid1.Coords) (q : PosShare TreeShare) (ids : S3200.Idx → Elt F .i32) (t : Fin 1) :
    Storable (upEmb : UEmb _ 𝕄) (DI d L q ids t) := by
  unfold DI; split; infer_instance

/-- Member 0's two copies in. -/
def DP0 (d : Fin nD) (L : grid1.Coords) (q : PosShare TreeShare) (p k : S3200.Idx → Elt F .f32) : Fin 2 → sProp 𝕄
  | 0 => iprop(owns (thr d L) (Memref.whole cc1_scratch1) fullShare p ∗ owns (thr d L) (in2 L (Memref.whole main_v20_0_scv)) q p)
  | 1 => iprop(owns (thr d L) (Memref.whole cc1_scratch5) fullShare k ∗ owns (thr d L) (in2 L (Memref.whole main_v20_4_scv)) q k)

instance DP0_storable (d : Fin nD) (L : grid1.Coords) (q : PosShare TreeShare) (p k : S3200.Idx → Elt F .f32) (t : Fin 2) :
    Storable (upEmb : UEmb _ 𝕄) (DP0 d L q p k t) := by
  unfold DP0; split <;> infer_instance

/-- Member 1's two copies in. -/
def DP1 (d : Fin nD) (L : grid1.Coords) (q : PosShare TreeShare) (p k : S3200.Idx → Elt F .f32) : Fin 2 → sProp 𝕄
  | 0 => iprop(owns (thr d L) (Memref.whole cc1_scratch2) fullShare p ∗ owns (thr d L) (in2 L (Memref.whole main_v20_1_scv)) q p)
  | 1 => iprop(owns (thr d L) (Memref.whole cc1_scratch6) fullShare k ∗ owns (thr d L) (in2 L (Memref.whole main_v20_5_scv)) q k)

instance DP1_storable (d : Fin nD) (L : grid1.Coords) (q : PosShare TreeShare) (p k : S3200.Idx → Elt F .f32) (t : Fin 2) :
    Storable (upEmb : UEmb _ 𝕄) (DP1 d L q p k t) := by
  unfold DP1; split <;> infer_instance

/-- Member 2's two copies in. -/
def DP2 (d : Fin nD) (L : grid1.Coords) (q : PosShare TreeShare) (p k : S3200.Idx → Elt F .f32) : Fin 2 → sProp 𝕄
  | 0 => iprop(owns (thr d L) (Memref.whole cc1_scratch3) fullShare p ∗ owns (thr d L) (in2 L (Memref.whole main_v20_2_scv)) q p)
  | 1 => iprop(owns (thr d L) (Memref.whole cc1_scratch7) fullShare k ∗ owns (thr d L) (in2 L (Memref.whole main_v20_6_scv)) q k)

instance DP2_storable (d : Fin nD) (L : grid1.Coords) (q : PosShare TreeShare) (p k : S3200.Idx → Elt F .f32) (t : Fin 2) :
    Storable (upEmb : UEmb _ 𝕄) (DP2 d L q p k t) := by
  unfold DP2; split <;> infer_instance

/-- Member 3's two copies in. -/
def DP3 (d : Fin nD) (L : grid1.Coords) (q : PosShare TreeShare) (p k : S3200.Idx → Elt F .f32) : Fin 2 → sProp 𝕄
  | 0 => iprop(owns (thr d L) (Memref.whole cc1_scratch4) fullShare p ∗ owns (thr d L) (in2 L (Memref.whole main_v20_3_scv)) q p)
  | 1 => iprop(owns (thr d L) (Memref.whole cc1_scratch8) fullShare k ∗ owns (thr d L) (in2 L (Memref.whole main_v20_7_scv)) q k)

instance DP3_storable (d : Fin nD) (L : grid1.Coords) (q : PosShare TreeShare) (p k : S3200.Idx → Elt F .f32) (t : Fin 2) :
    Storable (upEmb : UEmb _ 𝕄) (DP3 d L q p k t) := by
  unfold DP3; split <;> infer_instance

/-- The twenty copies out. -/
def DO (d : Fin nD) (L : grid1.Coords) (A : Fin 4 → Acc F) : Fin 20 → sProp 𝕄
  | 0 => iprop(owns (thr d L) (out0 L (Memref.whole main_v21_0_scv)) fullShare (A 0).aK ∗ owns (thr d L) (Memref.whole cc1_scratch9) fullShare (A 0).aK)
  | 1 => iprop(owns (thr d L) (out0 L (Memref.whole main_v21_1_scv)) fullShare (A 0).aA ∗ owns (thr d L) (Memref.whole cc1_scratch13) fullShare (A 0).aA)
  | 2 => iprop(owns (thr d L) (out0 L (Memref.whole main_v21_2_scv)) fullShare (A 0).aP ∗ owns (thr d L) (Memref.whole cc1_scratch17) fullShare (A 0).aP)
  | 3 => iprop(owns (thr d L) (out0 L (Memref.whole main_v21_3_scv)) fullShare (A 0).s2 ∗ owns (thr d L) (Memref.whole cc1_scratch21) fullShare (A 0).s2)
  | 4 => iprop(owns (thr d L) (out0 L (Memref.whole main_v21_4_scv)) fullShare (A 0).s3 ∗ owns (thr d L) (Memref.whole cc1_scratch25) fullShare (A 0).s3)
  | 5 => iprop(owns (thr d L) (out1 L (Memref.whole main_v21_0_scv)) fullShare (A 1).aK ∗ owns (thr d L) (Memref.whole cc1_scratch10) fullShare (A 1).aK)
  | 6 => iprop(owns (thr d L) (out1 L (Memref.whole main_v21_1_scv)) fullShare (A 1).aA ∗ owns (thr d L) (Memref.whole cc1_scratch14) fullShare (A 1).aA)
  | 7 => iprop(owns (thr d L) (out1 L (Memref.whole main_v21_2_scv)) fullShare (A 1).aP ∗ owns (thr d L) (Memref.whole cc1_scratch18) fullShare (A 1).aP)
  | 8 => iprop(owns (thr d L) (out1 L (Memref.whole main_v21_3_scv)) fullShare (A 1).s2 ∗ owns (thr d L) (Memref.whole cc1_scratch22) fullShare (A 1).s2)
  | 9 => iprop(owns (thr d L) (out1 L (Memref.whole main_v21_4_scv)) fullShare (A 1).s3 ∗ owns (thr d L) (Memref.whole cc1_scratch26) fullShare (A 1).s3)
  | 10 => iprop(owns (thr d L) (out2 L (Memref.whole main_v21_0_scv)) fullShare (A 2).aK ∗ owns (thr d L) (Memref.whole cc1_scratch11) fullShare (A 2).aK)
  | 11 => iprop(owns (thr d L) (out2 L (Memref.whole main_v21_1_scv)) fullShare (A 2).aA ∗ owns (thr d L) (Memref.whole cc1_scratch15) fullShare (A 2).aA)
  | 12 => iprop(owns (thr d L) (out2 L (Memref.whole main_v21_2_scv)) fullShare (A 2).aP ∗ owns (thr d L) (Memref.whole cc1_scratch19) fullShare (A 2).aP)
  | 13 => iprop(owns (thr d L) (out2 L (Memref.whole main_v21_3_scv)) fullShare (A 2).s2 ∗ owns (thr d L) (Memref.whole cc1_scratch23) fullShare (A 2).s2)
  | 14 => iprop(owns (thr d L) (out2 L (Memref.whole main_v21_4_scv)) fullShare (A 2).s3 ∗ owns (thr d L) (Memref.whole cc1_scratch27) fullShare (A 2).s3)
  | 15 => iprop(owns (thr d L) (out3 L (Memref.whole main_v21_0_scv)) fullShare (A 3).aK ∗ owns (thr d L) (Memref.whole cc1_scratch12) fullShare (A 3).aK)
  | 16 => iprop(owns (thr d L) (out3 L (Memref.whole main_v21_1_scv)) fullShare (A 3).aA ∗ owns (thr d L) (Memref.whole cc1_scratch16) fullShare (A 3).aA)
  | 17 => iprop(owns (thr d L) (out3 L (Memref.whole main_v21_2_scv)) fullShare (A 3).aP ∗ owns (thr d L) (Memref.whole cc1_scratch20) fullShare (A 3).aP)
  | 18 => iprop(owns (thr d L) (out3 L (Memref.whole main_v21_3_scv)) fullShare (A 3).s2 ∗ owns (thr d L) (Memref.whole cc1_scratch24) fullShare (A 3).s2)
  | _ => iprop(owns (thr d L) (out3 L (Memref.whole main_v21_4_scv)) fullShare (A 3).s3 ∗ owns (thr d L) (Memref.whole cc1_scratch28) fullShare (A 3).s3)

instance DO_storable (d : Fin nD) (L : grid1.Coords) (A : Fin 4 → Acc F) (t : Fin 20) : Storable (upEmb : UEmb _ 𝕄) (DO d L A t) := by
  unfold DO; split <;> infer_instance

/-- Every input buffer and accumulator, whatever it holds. -/
def Scr (d : Fin nD) (L : grid1.Coords) : sProp 𝕄 :=
  iprop(∃ ids p k A, Ins d L ids p k ∗ AllAcc d L A)

/-- One tile's credit for a copy in, for a copy out. -/
abbrev NI : ℕ := sig.dmaCredit .scVector (Kind.scVector.table .vmem) (cc1_scratch0 : Ref sig .scVector).idx S3200 .i32
abbrev NO : ℕ := sig.dmaCredit .scVector (Kind.scVector.table .hbm) (main_v21_0_scv : Ref sig .scVector).idx S4352 .f32

omit [Infinite Name] in
theorem DI_all (d : Fin nD) (L : grid1.Coords) (q : PosShare TreeShare) (ids : S3200.Idx → Elt F .i32) :
    (bigSep Finset.univ (DI d L q ids) : sProp 𝕄)
      = iprop((owns (thr d L) (Memref.whole cc1_scratch0) fullShare ids ∗ owns (thr d L) (in1 L (Memref.whole main_v17_scv)) q ids)) := by
  rw [Transfers.bigSep_pending_zero, Transfers.bigSep_pending_last _ 0 (by decide) rfl]
  rfl

omit [Infinite Name] in
theorem DP0_all (d : Fin nD) (L : grid1.Coords) (q : PosShare TreeShare) (p k : S3200.Idx → Elt F .f32) :
    (bigSep Finset.univ (DP0 d L q p k) : sProp 𝕄)
      = iprop((owns (thr d L) (Memref.whole cc1_scratch1) fullShare p ∗ owns (thr d L) (in2 L (Memref.whole main_v20_0_scv)) q p)
        ∗ (owns (thr d L) (Memref.whole cc1_scratch5) fullShare k ∗ owns (thr d L) (in2 L (Memref.whole main_v20_4_scv)) q k)) := by
  rw [Transfers.bigSep_pending_zero, Transfers.bigSep_pending_step _ 0 (by decide), Transfers.bigSep_pending_last _ 1 (by decide) rfl]
  rfl

omit [Infinite Name] in
theorem DP1_all (d : Fin nD) (L : grid1.Coords) (q : PosShare TreeShare) (p k : S3200.Idx → Elt F .f32) :
    (bigSep Finset.univ (DP1 d L q p k) : sProp 𝕄)
      = iprop((owns (thr d L) (Memref.whole cc1_scratch2) fullShare p ∗ owns (thr d L) (in2 L (Memref.whole main_v20_1_scv)) q p)
        ∗ (owns (thr d L) (Memref.whole cc1_scratch6) fullShare k ∗ owns (thr d L) (in2 L (Memref.whole main_v20_5_scv)) q k)) := by
  rw [Transfers.bigSep_pending_zero, Transfers.bigSep_pending_step _ 0 (by decide), Transfers.bigSep_pending_last _ 1 (by decide) rfl]
  rfl

omit [Infinite Name] in
theorem DP2_all (d : Fin nD) (L : grid1.Coords) (q : PosShare TreeShare) (p k : S3200.Idx → Elt F .f32) :
    (bigSep Finset.univ (DP2 d L q p k) : sProp 𝕄)
      = iprop((owns (thr d L) (Memref.whole cc1_scratch3) fullShare p ∗ owns (thr d L) (in2 L (Memref.whole main_v20_2_scv)) q p)
        ∗ (owns (thr d L) (Memref.whole cc1_scratch7) fullShare k ∗ owns (thr d L) (in2 L (Memref.whole main_v20_6_scv)) q k)) := by
  rw [Transfers.bigSep_pending_zero, Transfers.bigSep_pending_step _ 0 (by decide), Transfers.bigSep_pending_last _ 1 (by decide) rfl]
  rfl

omit [Infinite Name] in
theorem DP3_all (d : Fin nD) (L : grid1.Coords) (q : PosShare TreeShare) (p k : S3200.Idx → Elt F .f32) :
    (bigSep Finset.univ (DP3 d L q p k) : sProp 𝕄)
      = iprop((owns (thr d L) (Memref.whole cc1_scratch4) fullShare p ∗ owns (thr d L) (in2 L (Memref.whole main_v20_3_scv)) q p)
        ∗ (owns (thr d L) (Memref.whole cc1_scratch8) fullShare k ∗ owns (thr d L) (in2 L (Memref.whole main_v20_7_scv)) q k)) := by
  rw [Transfers.bigSep_pending_zero, Transfers.bigSep_pending_step _ 0 (by decide), Transfers.bigSep_pending_last _ 1 (by decide) rfl]
  rfl

omit [Infinite Name] in
theorem DO_all (d : Fin nD) (L : grid1.Coords) (A : Fin 4 → Acc F) :
    (bigSep Finset.univ (DO d L A) : sProp 𝕄)
      = iprop((owns (thr d L) (out0 L (Memref.whole main_v21_0_scv)) fullShare (A 0).aK ∗ owns (thr d L) (Memref.whole cc1_scratch9) fullShare (A 0).aK)
        ∗ (owns (thr d L) (out0 L (Memref.whole main_v21_1_scv)) fullShare (A 0).aA ∗ owns (thr d L) (Memref.whole cc1_scratch13) fullShare (A 0).aA)
        ∗ (owns (thr d L) (out0 L (Memref.whole main_v21_2_scv)) fullShare (A 0).aP ∗ owns (thr d L) (Memref.whole cc1_scratch17) fullShare (A 0).aP)
        ∗ (owns (thr d L) (out0 L (Memref.whole main_v21_3_scv)) fullShare (A 0).s2 ∗ owns (thr d L) (Memref.whole cc1_scratch21) fullShare (A 0).s2)
        ∗ (owns (thr d L) (out0 L (Memref.whole main_v21_4_scv)) fullShare (A 0).s3 ∗ owns (thr d L) (Memref.whole cc1_scratch25) fullShare (A 0).s3)
        ∗ (owns (thr d L) (out1 L (Memref.whole main_v21_0_scv)) fullShare (A 1).aK ∗ owns (thr d L) (Memref.whole cc1_scratch10) fullShare (A 1).aK)
        ∗ (owns (thr d L) (out1 L (Memref.whole main_v21_1_scv)) fullShare (A 1).aA ∗ owns (thr d L) (Memref.whole cc1_scratch14) fullShare (A 1).aA)
        ∗ (owns (thr d L) (out1 L (Memref.whole main_v21_2_scv)) fullShare (A 1).aP ∗ owns (thr d L) (Memref.whole cc1_scratch18) fullShare (A 1).aP)
        ∗ (owns (thr d L) (out1 L (Memref.whole main_v21_3_scv)) fullShare (A 1).s2 ∗ owns (thr d L) (Memref.whole cc1_scratch22) fullShare (A 1).s2)
        ∗ (owns (thr d L) (out1 L (Memref.whole main_v21_4_scv)) fullShare (A 1).s3 ∗ owns (thr d L) (Memref.whole cc1_scratch26) fullShare (A 1).s3)
        ∗ (owns (thr d L) (out2 L (Memref.whole main_v21_0_scv)) fullShare (A 2).aK ∗ owns (thr d L) (Memref.whole cc1_scratch11) fullShare (A 2).aK)
        ∗ (owns (thr d L) (out2 L (Memref.whole main_v21_1_scv)) fullShare (A 2).aA ∗ owns (thr d L) (Memref.whole cc1_scratch15) fullShare (A 2).aA)
        ∗ (owns (thr d L) (out2 L (Memref.whole main_v21_2_scv)) fullShare (A 2).aP ∗ owns (thr d L) (Memref.whole cc1_scratch19) fullShare (A 2).aP)
        ∗ (owns (thr d L) (out2 L (Memref.whole main_v21_3_scv)) fullShare (A 2).s2 ∗ owns (thr d L) (Memref.whole cc1_scratch23) fullShare (A 2).s2)
        ∗ (owns (thr d L) (out2 L (Memref.whole main_v21_4_scv)) fullShare (A 2).s3 ∗ owns (thr d L) (Memref.whole cc1_scratch27) fullShare (A 2).s3)
        ∗ (owns (thr d L) (out3 L (Memref.whole main_v21_0_scv)) fullShare (A 3).aK ∗ owns (thr d L) (Memref.whole cc1_scratch12) fullShare (A 3).aK)
        ∗ (owns (thr d L) (out3 L (Memref.whole main_v21_1_scv)) fullShare (A 3).aA ∗ owns (thr d L) (Memref.whole cc1_scratch16) fullShare (A 3).aA)
        ∗ (owns (thr d L) (out3 L (Memref.whole main_v21_2_scv)) fullShare (A 3).aP ∗ owns (thr d L) (Memref.whole cc1_scratch20) fullShare (A 3).aP)
        ∗ (owns (thr d L) (out3 L (Memref.whole main_v21_3_scv)) fullShare (A 3).s2 ∗ owns (thr d L) (Memref.whole cc1_scratch24) fullShare (A 3).s2)
        ∗ (owns (thr d L) (out3 L (Memref.whole main_v21_4_scv)) fullShare (A 3).s3 ∗ owns (thr d L) (Memref.whole cc1_scratch28) fullShare (A 3).s3)) := by
  rw [Transfers.bigSep_pending_zero, Transfers.bigSep_pending_step _ 0 (by decide), Transfers.bigSep_pending_step _ 1 (by decide), Transfers.bigSep_pending_step _ 2 (by decide), Transfers.bigSep_pending_step _ 3 (by decide), Transfers.bigSep_pending_step _ 4 (by decide), Transfers.bigSep_pending_step _ 5 (by decide), Transfers.bigSep_pending_step _ 6 (by decide), Transfers.bigSep_pending_step _ 7 (by decide), Transfers.bigSep_pending_step _ 8 (by decide), Transfers.bigSep_pending_step _ 9 (by decide), Transfers.bigSep_pending_step _ 10 (by decide), Transfers.bigSep_pending_step _ 11 (by decide), Transfers.bigSep_pending_step _ 12 (by decide), Transfers.bigSep_pending_step _ 13 (by decide), Transfers.bigSep_pending_step _ 14 (by decide), Transfers.bigSep_pending_step _ 15 (by decide), Transfers.bigSep_pending_step _ 16 (by decide), Transfers.bigSep_pending_step _ 17 (by decide), Transfers.bigSep_pending_step _ 18 (by decide), Transfers.bigSep_pending_last _ 19 (by decide) rfl]
  rfl

omit [Infinite Name] [CountersIn U] in
/-- The pass over the rows takes one more trip. -/
theorem accs_all (d : Fin nD) (L : grid1.Coords) (v2 : BitVec 32) (ids : S3200.Idx → Elt F .i32) (p k : Fin 4 → S3200.Idx → Elt F .f32) (t : Fin k1_t2_loop.trips) :
    (iprop(Ins d L ids p k ∗ AllAcc d L fun m => stepAcc (v2) ids (p m) (k m) t (accs (v2) ids (p m) (k m) t.val)) : sProp 𝕄)
      = iprop(Ins d L ids p k ∗ AllAcc d L fun m => accs (v2) ids (p m) (k m) (t.val + 1)) := by
  have h : ∀ m, accs (v2) ids (p m) (k m) (t.val + 1) = stepAcc (v2) ids (p m) (k m) t (accs (v2) ids (p m) (k m) t.val) :=
    fun m => by rw [accs, dif_pos t.isLt]
  simp only [h]

/-- Nothing initialised yet. -/
theorem init_zero (d : Fin nD) (L : grid1.Coords) (A : Fin 4 → Acc F) : (AllAcc d L A : sProp 𝕄) ⊢ Init d L 0 := by
  unfold AllAcc AccOwn Init
  iintro ⟨⟨H00, H01, H02, H03, H04⟩, ⟨H10, H11, H12, H13, H14⟩, ⟨H20, H21, H22, H23, H24⟩, ⟨H30, H31, H32, H33, H34⟩⟩
  ihave H00 := (filled_intro (c := thr d L) (Memref.whole cc1_scratch9) ((Acc.init (F := F)).aK zi) (A 0).aK) $$ H00
  ihave H01 := (filled_intro (c := thr d L) (Memref.whole cc1_scratch13) ((Acc.init (F := F)).aA zi) (A 0).aA) $$ H01
  ihave H02 := (filled_intro (c := thr d L) (Memref.whole cc1_scratch17) ((Acc.init (F := F)).aP zi) (A 0).aP) $$ H02
  ihave H03 := (filled_intro (c := thr d L) (Memref.whole cc1_scratch21) ((Acc.init (F := F)).s2 zi) (A 0).s2) $$ H03
  ihave H04 := (filled_intro (c := thr d L) (Memref.whole cc1_scratch25) ((Acc.init (F := F)).s3 zi) (A 0).s3) $$ H04
  ihave H10 := (filled_intro (c := thr d L) (Memref.whole cc1_scratch10) ((Acc.init (F := F)).aK zi) (A 1).aK) $$ H10
  ihave H11 := (filled_intro (c := thr d L) (Memref.whole cc1_scratch14) ((Acc.init (F := F)).aA zi) (A 1).aA) $$ H11
  ihave H12 := (filled_intro (c := thr d L) (Memref.whole cc1_scratch18) ((Acc.init (F := F)).aP zi) (A 1).aP) $$ H12
  ihave H13 := (filled_intro (c := thr d L) (Memref.whole cc1_scratch22) ((Acc.init (F := F)).s2 zi) (A 1).s2) $$ H13
  ihave H14 := (filled_intro (c := thr d L) (Memref.whole cc1_scratch26) ((Acc.init (F := F)).s3 zi) (A 1).s3) $$ H14
  ihave H20 := (filled_intro (c := thr d L) (Memref.whole cc1_scratch11) ((Acc.init (F := F)).aK zi) (A 2).aK) $$ H20
  ihave H21 := (filled_intro (c := thr d L) (Memref.whole cc1_scratch15) ((Acc.init (F := F)).aA zi) (A 2).aA) $$ H21
  ihave H22 := (filled_intro (c := thr d L) (Memref.whole cc1_scratch19) ((Acc.init (F := F)).aP zi) (A 2).aP) $$ H22
  ihave H23 := (filled_intro (c := thr d L) (Memref.whole cc1_scratch23) ((Acc.init (F := F)).s2 zi) (A 2).s2) $$ H23
  ihave H24 := (filled_intro (c := thr d L) (Memref.whole cc1_scratch27) ((Acc.init (F := F)).s3 zi) (A 2).s3) $$ H24
  ihave H30 := (filled_intro (c := thr d L) (Memref.whole cc1_scratch12) ((Acc.init (F := F)).aK zi) (A 3).aK) $$ H30
  ihave H31 := (filled_intro (c := thr d L) (Memref.whole cc1_scratch16) ((Acc.init (F := F)).aA zi) (A 3).aA) $$ H31
  ihave H32 := (filled_intro (c := thr d L) (Memref.whole cc1_scratch20) ((Acc.init (F := F)).aP zi) (A 3).aP) $$ H32
  ihave H33 := (filled_intro (c := thr d L) (Memref.whole cc1_scratch24) ((Acc.init (F := F)).s2 zi) (A 3).s2) $$ H33
  ihave H34 := (filled_intro (c := thr d L) (Memref.whole cc1_scratch28) ((Acc.init (F := F)).s3 zi) (A 3).s3) $$ H34
  isplitl [H00]; · iexact H00
  isplitl [H01]; · iexact H01
  isplitl [H02]; · iexact H02
  isplitl [H03]; · iexact H03
  isplitl [H04]; · iexact H04
  isplitl [H10]; · iexact H10
  isplitl [H11]; · iexact H11
  isplitl [H12]; · iexact H12
  isplitl [H13]; · iexact H13
  isplitl [H14]; · iexact H14
  isplitl [H20]; · iexact H20
  isplitl [H21]; · iexact H21
  isplitl [H22]; · iexact H22
  isplitl [H23]; · iexact H23
  isplitl [H24]; · iexact H24
  isplitl [H30]; · iexact H30
  isplitl [H31]; · iexact H31
  isplitl [H32]; · iexact H32
  isplitl [H33]; · iexact H33
  iexact H34

/-- Everything initialised. -/
theorem init_last (d : Fin nD) (L : grid1.Coords) : (Init d L k1_t1_loop.trips : sProp 𝕄) ⊢ AllAcc d L (fun _ => Acc.init) := by
  unfold AllAcc AccOwn Init
  iintro ⟨H00, H01, H02, H03, H04, H10, H11, H12, H13, H14, H20, H21, H22, H23, H24, H30, H31, H32, H33, H34⟩
  ihave H00 := (filled_elim (c := thr d L) (Memref.whole cc1_scratch9) ((Acc.init (F := F)).aK zi) (by decide)) $$ H00
  ihave H01 := (filled_elim (c := thr d L) (Memref.whole cc1_scratch13) ((Acc.init (F := F)).aA zi) (by decide)) $$ H01
  ihave H02 := (filled_elim (c := thr d L) (Memref.whole cc1_scratch17) ((Acc.init (F := F)).aP zi) (by decide)) $$ H02
  ihave H03 := (filled_elim (c := thr d L) (Memref.whole cc1_scratch21) ((Acc.init (F := F)).s2 zi) (by decide)) $$ H03
  ihave H04 := (filled_elim (c := thr d L) (Memref.whole cc1_scratch25) ((Acc.init (F := F)).s3 zi) (by decide)) $$ H04
  ihave H10 := (filled_elim (c := thr d L) (Memref.whole cc1_scratch10) ((Acc.init (F := F)).aK zi) (by decide)) $$ H10
  ihave H11 := (filled_elim (c := thr d L) (Memref.whole cc1_scratch14) ((Acc.init (F := F)).aA zi) (by decide)) $$ H11
  ihave H12 := (filled_elim (c := thr d L) (Memref.whole cc1_scratch18) ((Acc.init (F := F)).aP zi) (by decide)) $$ H12
  ihave H13 := (filled_elim (c := thr d L) (Memref.whole cc1_scratch22) ((Acc.init (F := F)).s2 zi) (by decide)) $$ H13
  ihave H14 := (filled_elim (c := thr d L) (Memref.whole cc1_scratch26) ((Acc.init (F := F)).s3 zi) (by decide)) $$ H14
  ihave H20 := (filled_elim (c := thr d L) (Memref.whole cc1_scratch11) ((Acc.init (F := F)).aK zi) (by decide)) $$ H20
  ihave H21 := (filled_elim (c := thr d L) (Memref.whole cc1_scratch15) ((Acc.init (F := F)).aA zi) (by decide)) $$ H21
  ihave H22 := (filled_elim (c := thr d L) (Memref.whole cc1_scratch19) ((Acc.init (F := F)).aP zi) (by decide)) $$ H22
  ihave H23 := (filled_elim (c := thr d L) (Memref.whole cc1_scratch23) ((Acc.init (F := F)).s2 zi) (by decide)) $$ H23
  ihave H24 := (filled_elim (c := thr d L) (Memref.whole cc1_scratch27) ((Acc.init (F := F)).s3 zi) (by decide)) $$ H24
  ihave H30 := (filled_elim (c := thr d L) (Memref.whole cc1_scratch12) ((Acc.init (F := F)).aK zi) (by decide)) $$ H30
  ihave H31 := (filled_elim (c := thr d L) (Memref.whole cc1_scratch16) ((Acc.init (F := F)).aA zi) (by decide)) $$ H31
  ihave H32 := (filled_elim (c := thr d L) (Memref.whole cc1_scratch20) ((Acc.init (F := F)).aP zi) (by decide)) $$ H32
  ihave H33 := (filled_elim (c := thr d L) (Memref.whole cc1_scratch24) ((Acc.init (F := F)).s2 zi) (by decide)) $$ H33
  ihave H34 := (filled_elim (c := thr d L) (Memref.whole cc1_scratch28) ((Acc.init (F := F)).s3 zi) (by decide)) $$ H34
  isplitl [H00 H01 H02 H03 H04]
  · skip
    isplitl [H00]; · iexact H00
    isplitl [H01]; · iexact H01
    isplitl [H02]; · iexact H02
    isplitl [H03]; · iexact H03
    iexact H04
  isplitl [H10 H11 H12 H13 H14]
  · skip
    isplitl [H10]; · iexact H10
    isplitl [H11]; · iexact H11
    isplitl [H12]; · iexact H12
    isplitl [H13]; · iexact H13
    iexact H14
  isplitl [H20 H21 H22 H23 H24]
  · skip
    isplitl [H20]; · iexact H20
    isplitl [H21]; · iexact H21
    isplitl [H22]; · iexact H22
    isplitl [H23]; · iexact H23
    iexact H24
  isplitl [H30]; · iexact H30
  isplitl [H31]; · iexact H31
  isplitl [H32]; · iexact H32
  isplitl [H33]; · iexact H33
  iexact H34

end Cert.Proof.Sc
-- ==== Proof.Part3.lean ====
/-
  The tile's first stretch: copies in, and the accumulators' initialisation.
-/
module

public import proofs.«01_k».proof.Proof.BodyDefs

@[expose] public section

set_option pp.maxSteps 400

noncomputable section

namespace Cert.Proof.Sc

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {Name : Type} [DecidableEq Name] [Infinite Name] {U : Type} [URA U] [CountersIn U] {Lvl : Type} [Preorder Lvl] {Ix : Type} [DecidableEq Ix]

local notation "𝕄" => MT nD τ sig Ix (Elt F) Name U Lvl

variable {defs : Defs nD τ sig (Elt F) Λ₀} (𝒱 : Variants) (bd : Option 𝒱.V)

set_option maxHeartbeats 16000000 in
/-- The copies in begun, the accumulators initialised, the first copies waited for. -/
theorem part3 (d : Fin nD) (L : grid1.Coords) (ι : Ix) (O : CellTallies nD τ sig Ix) (W : Waits sig Ix) (q : PosShare TreeShare)
    (ids : S3200.Idx → Elt F .i32) (p k : Fin 4 → S3200.Idx → Elt F .f32) (ids0 : S3200.Idx → Elt F .i32) (p0 k0 : Fin 4 → S3200.Idx → Elt F .f32) (A : Fin 4 → Acc F) (Q : BitVec 32 → sProp 𝕄) :
    iprop(Transfers.MayWaits (thr d L) ι O
      ∗ owns (thr d L) (in1 L (Memref.whole main_v17_scv)) q ids
      ∗ owns (thr d L) (in2 L (Memref.whole main_v20_0_scv)) q (p 0)
      ∗ owns (thr d L) (in2 L (Memref.whole main_v20_4_scv)) q (k 0)
      ∗ owns (thr d L) (in2 L (Memref.whole main_v20_1_scv)) q (p 1)
      ∗ owns (thr d L) (in2 L (Memref.whole main_v20_5_scv)) q (k 1)
      ∗ owns (thr d L) (in2 L (Memref.whole main_v20_2_scv)) q (p 2)
      ∗ owns (thr d L) (in2 L (Memref.whole main_v20_6_scv)) q (k 2)
      ∗ owns (thr d L) (in2 L (Memref.whole main_v20_3_scv)) q (p 3)
      ∗ owns (thr d L) (in2 L (Memref.whole main_v20_7_scv)) q (k 3)
      ∗ owns (thr d L) (Memref.whole cc1_scratch0) fullShare ids0
      ∗ owns (thr d L) (Memref.whole cc1_scratch1) fullShare (p0 0)
      ∗ owns (thr d L) (Memref.whole cc1_scratch5) fullShare (k0 0)
      ∗ owns (thr d L) (Memref.whole cc1_scratch2) fullShare (p0 1)
      ∗ owns (thr d L) (Memref.whole cc1_scratch6) fullShare (k0 1)
      ∗ owns (thr d L) (Memref.whole cc1_scratch3) fullShare (p0 2)
      ∗ owns (thr d L) (Memref.whole cc1_scratch7) fullShare (k0 2)
      ∗ owns (thr d L) (Memref.whole cc1_scratch4) fullShare (p0 3)
      ∗ owns (thr d L) (Memref.whole cc1_scratch8) fullShare (k0 3)
      ∗ AllAcc d L A
      ∗ semVal (thr d L, SemLoc.dma cc1_scratch33.sem) 0
      ∗ semVal (thr d L, SemLoc.dma cc1_scratch29.sem) 0
      ∗ semVal (thr d L, SemLoc.dma cc1_scratch30.sem) 0
      ∗ semVal (thr d L, SemLoc.dma cc1_scratch31.sem) 0
      ∗ semVal (thr d L, SemLoc.dma cc1_scratch32.sem) 0
      ∗ OwesFrom (thr d L) ι O W : sProp 𝕄)
    ⊢ iprop((iprop(owns (thr d L) (in1 L (Memref.whole main_v17_scv)) q ids
      ∗ owns (thr d L) (Memref.whole cc1_scratch0) fullShare ids
      ∗ semVal (thr d L, SemLoc.dma cc1_scratch33.sem) 0
      ∗ owns (thr d L) (in2 L (Memref.whole main_v20_0_scv)) q (p 0)
      ∗ owns (thr d L) (in2 L (Memref.whole main_v20_4_scv)) q (k 0)
      ∗ owns (thr d L) (Memref.whole cc1_scratch1) fullShare (p 0)
      ∗ owns (thr d L) (Memref.whole cc1_scratch5) fullShare (k 0)
      ∗ semVal (thr d L, SemLoc.dma cc1_scratch29.sem) 0
      ∗ owns (thr d L) (in2 L (Memref.whole main_v20_1_scv)) q (p 1)
      ∗ owns (thr d L) (in2 L (Memref.whole main_v20_5_scv)) q (k 1)
      ∗ owns (thr d L) (Memref.whole cc1_scratch2) fullShare (p 1)
      ∗ owns (thr d L) (Memref.whole cc1_scratch6) fullShare (k 1)
      ∗ semVal (thr d L, SemLoc.dma cc1_scratch30.sem) 0
      ∗ Transfers.Batch (EC (U := U)) (thr d L) (.dma cc1_scratch31.sem) ι NI (DP2 d L q (p 2) (k 2)) 2 (0)
      ∗ Transfers.Batch (EC (U := U)) (thr d L) (.dma cc1_scratch32.sem) ι NI (DP3 d L q (p 3) (k 3)) 2 (0)
      ∗ AllAcc d L (fun _ => Acc.init)
      ∗ OwesFrom (thr d L) ι O W)
      -∗ Q (base L)) -∗ wp frame (wpE defs 𝒱 (thr d L) bd) Set.univ (k1_part3 (F := F) L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34) Q) := by
  rw [k1_part3_eq_skeleton]
  unfold k1_part3_skel
  simp only [Prog.lift, Prog.bind_op, Prog.bind_ret, Prog.pure_eq_ret, Prog.bind_assoc]
  iintro ⟨#Hmw, GI, GP0, GK0, GP1, GK1, GP2, GK2, GP3, GK3, HI, P0, K0, P1, K1, P2, K2, P3, K3, HA, SI, S0, S1, S2, S3, HO⟩ Hk
  imod (Transfers.batch_alloc' EC (thr d L) ι NI (DI d L q ids) (sm := .dma cc1_scratch33.sem) (E := Set.univ)) $$ SI with BI
  imod (Transfers.batch_alloc' EC (thr d L) ι NI (DP0 d L q (p 0) (k 0)) (sm := .dma cc1_scratch29.sem) (E := Set.univ)) $$ S0 with B0
  imod (Transfers.batch_alloc' EC (thr d L) ι NI (DP1 d L q (p 1) (k 1)) (sm := .dma cc1_scratch30.sem) (E := Set.univ)) $$ S1 with B1
  imod (Transfers.batch_alloc' EC (thr d L) ι NI (DP2 d L q (p 2) (k 2)) (sm := .dma cc1_scratch31.sem) (E := Set.univ)) $$ S2 with B2
  imod (Transfers.batch_alloc' EC (thr d L) ι NI (DP3 d L q (p 3) (k 3)) (sm := .dma cc1_scratch32.sem) (E := Set.univ)) $$ S3 with B3
  iapply (owns_issue EC 𝒱 (thr d L) bd (n := 1) (j := 0) (u := 0) (N := NI) (D := DI d L q ids) ι rfl (by decide) (Nat.zero_le _) .rfl) $$ [GI HI BI]
  · isplitl [GI]; · iexact GI
    isplitl [HI]; · iexact HI
    iexact BI
  iintro BI
  iapply (owns_issue EC 𝒱 (thr d L) bd (n := 2) (j := 0) (u := 0) (N := NI) (D := DP0 d L q (p 0) (k 0)) ι rfl (by decide) (Nat.zero_le _) .rfl) $$ [GP0 P0 B0]
  · isplitl [GP0]; · iexact GP0
    isplitl [P0]; · iexact P0
    iexact B0
  iintro B0
  iapply (owns_issue EC 𝒱 (thr d L) bd (n := 2) (j := 1) (u := 0) (N := NI) (D := DP0 d L q (p 0) (k 0)) ι rfl (by decide) (Nat.zero_le _) .rfl) $$ [GK0 K0 B0]
  · isplitl [GK0]; · iexact GK0
    isplitl [K0]; · iexact K0
    iexact B0
  iintro B0
  iapply (owns_issue EC 𝒱 (thr d L) bd (n := 2) (j := 0) (u := 0) (N := NI) (D := DP1 d L q (p 1) (k 1)) ι rfl (by decide) (Nat.zero_le _) .rfl) $$ [GP1 P1 B1]
  · isplitl [GP1]; · iexact GP1
    isplitl [P1]; · iexact P1
    iexact B1
  iintro B1
  iapply (owns_issue EC 𝒱 (thr d L) bd (n := 2) (j := 1) (u := 0) (N := NI) (D := DP1 d L q (p 1) (k 1)) ι rfl (by decide) (Nat.zero_le _) .rfl) $$ [GK1 K1 B1]
  · isplitl [GK1]; · iexact GK1
    isplitl [K1]; · iexact K1
    iexact B1
  iintro B1
  iapply (owns_issue EC 𝒱 (thr d L) bd (n := 2) (j := 0) (u := 0) (N := NI) (D := DP2 d L q (p 2) (k 2)) ι rfl (by decide) (Nat.zero_le _) .rfl) $$ [GP2 P2 B2]
  · isplitl [GP2]; · iexact GP2
    isplitl [P2]; · iexact P2
    iexact B2
  iintro B2
  iapply (owns_issue EC 𝒱 (thr d L) bd (n := 2) (j := 1) (u := 0) (N := NI) (D := DP2 d L q (p 2) (k 2)) ι rfl (by decide) (Nat.zero_le _) .rfl) $$ [GK2 K2 B2]
  · isplitl [GK2]; · iexact GK2
    isplitl [K2]; · iexact K2
    iexact B2
  iintro B2
  iapply (owns_issue EC 𝒱 (thr d L) bd (n := 2) (j := 0) (u := 0) (N := NI) (D := DP3 d L q (p 3) (k 3)) ι rfl (by decide) (Nat.zero_le _) .rfl) $$ [GP3 P3 B3]
  · isplitl [GP3]; · iexact GP3
    isplitl [P3]; · iexact P3
    iexact B3
  iintro B3
  iapply (owns_issue EC 𝒱 (thr d L) bd (n := 2) (j := 1) (u := 0) (N := NI) (D := DP3 d L q (p 3) (k 3)) ι rfl (by decide) (Nat.zero_le _) .rfl) $$ [GK3 K3 B3]
  · isplitl [GK3]; · iexact GK3
    isplitl [K3]; · iexact K3
    iexact B3
  iintro B3
  iapply (Scf.wp_for_bind frame (wpE defs 𝒱 (thr d L) bd) Set.univ _ _ _ k1_t1_ok 0#32 _ (fun n _ => Init d L n) (fun t x => t1_step 𝒱 bd Set.univ d L t x)) $$ [HA]
  · iapply (init_zero d L A) $$ HA
  iintro %_ HA
  ihave HA := (init_last d L) $$ HA
  iapply (owns_drain EC 𝒱 (thr d L) bd (dstw := (Memref.whole cc1_scratch0)) (n := 1) (u := 0) (N := NI) ι rfl (by decide) (by decide)) $$ [BI HO]
  · isplitl [BI]; · iexact BI
    isplitl [HO]; · iexact HO
    iexact Hmw
  iintro ⟨BI, SI, HO⟩
  ihave BI := (Entails.of_eq (DI_all d L q ids)) $$ BI
  icases BI with ⟨HI, GI⟩
  iapply (owns_wait EC 𝒱 (thr d L) bd (dstw := (Memref.whole cc1_scratch1)) (n := 2) (u := 0) (N := NI) ι rfl (by decide)) $$ [B0 HO]
  · isplitl [B0]; · iexact B0
    isplitl [HO]; · iexact HO
    iexact Hmw
  iintro ⟨B0, HO⟩
  iapply (owns_drain EC 𝒱 (thr d L) bd (dstw := (Memref.whole cc1_scratch5)) (n := 2) (u := 0 + NI) (N := NI) ι rfl (by decide) (by decide)) $$ [B0 HO]
  · isplitl [B0]; · iexact B0
    isplitl [HO]; · iexact HO
    iexact Hmw
  iintro ⟨B0, S0, HO⟩
  ihave B0 := (Entails.of_eq (DP0_all d L q (p 0) (k 0))) $$ B0
  icases B0 with ⟨⟨P0, GP0⟩, ⟨K0, GK0⟩⟩
  iapply (owns_wait EC 𝒱 (thr d L) bd (dstw := (Memref.whole cc1_scratch2)) (n := 2) (u := 0) (N := NI) ι rfl (by decide)) $$ [B1 HO]
  · isplitl [B1]; · iexact B1
    isplitl [HO]; · iexact HO
    iexact Hmw
  iintro ⟨B1, HO⟩
  iapply (owns_drain EC 𝒱 (thr d L) bd (dstw := (Memref.whole cc1_scratch6)) (n := 2) (u := 0 + NI) (N := NI) ι rfl (by decide) (by decide)) $$ [B1 HO]
  · isplitl [B1]; · iexact B1
    isplitl [HO]; · iexact HO
    iexact Hmw
  iintro ⟨B1, S1, HO⟩
  ihave B1 := (Entails.of_eq (DP1_all d L q (p 1) (k 1))) $$ B1
  icases B1 with ⟨⟨P1, GP1⟩, ⟨K1, GK1⟩⟩
  try rw [wp_ret]
  try imodintro
  iapply Hk
  isplitl [GI]; · iexact GI
  isplitl [HI]; · iexact HI
  isplitl [SI]; · iexact SI
  isplitl [GP0]; · iexact GP0
  isplitl [GK0]; · iexact GK0
  isplitl [P0]; · iexact P0
  isplitl [K0]; · iexact K0
  isplitl [S0]; · iexact S0
  isplitl [GP1]; · iexact GP1
  isplitl [GK1]; · iexact GK1
  isplitl [P1]; · iexact P1
  isplitl [K1]; · iexact K1
  isplitl [S1]; · iexact S1
  isplitl [B2]; · iexact B2
  isplitl [B3]; · iexact B3
  isplitl [HA]; · iexact HA
  iexact HO

end Cert.Proof.Sc
-- ==== Proof.Part4.lean ====
/-
  The tile's second stretch: the pass over the rows.
-/
module

public import proofs.«01_k».proof.Proof.BodyDefs

@[expose] public section

set_option pp.maxSteps 400

noncomputable section

namespace Cert.Proof.Sc

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {Name : Type} [DecidableEq Name] [Infinite Name] {U : Type} [URA U] [CountersIn U] {Lvl : Type} [Preorder Lvl] {Ix : Type} [DecidableEq Ix]

local notation "𝕄" => MT nD τ sig Ix (Elt F) Name U Lvl

variable {defs : Defs nD τ sig (Elt F) Λ₀} (𝒱 : Variants) (bd : Option 𝒱.V)

set_option maxHeartbeats 16000000 in
/-- The last copies in waited for, the rows binned, the first copies out begun. -/
theorem part4 (d : Fin nD) (L : grid1.Coords) (ι : Ix) (O : CellTallies nD τ sig Ix) (W : Waits sig Ix) (q : PosShare TreeShare)
    (ids : S3200.Idx → Elt F .i32) (p k : Fin 4 → S3200.Idx → Elt F .f32) (hok : IdsOK ids) (v2 : BitVec 32) (A A₀ : Fin 4 → Acc F)
    (hA : (fun m => accs v2 ids (p m) (k m) k1_t2_loop.trips) = A) (Q : PUnit → sProp 𝕄) :
    iprop(Transfers.MayWaits (thr d L) ι O
      ∗ owns (thr d L) (Memref.whole cc1_scratch0) fullShare ids
      ∗ owns (thr d L) (Memref.whole cc1_scratch1) fullShare (p 0)
      ∗ owns (thr d L) (Memref.whole cc1_scratch5) fullShare (k 0)
      ∗ owns (thr d L) (Memref.whole cc1_scratch2) fullShare (p 1)
      ∗ owns (thr d L) (Memref.whole cc1_scratch6) fullShare (k 1)
      ∗ Transfers.Batch (EC (U := U)) (thr d L) (.dma cc1_scratch31.sem) ι NI (DP2 d L q (p 2) (k 2)) 2 (0)
      ∗ Transfers.Batch (EC (U := U)) (thr d L) (.dma cc1_scratch32.sem) ι NI (DP3 d L q (p 3) (k 3)) 2 (0)
      ∗ AllAcc d L (fun _ => Acc.init)
      ∗ owns (thr d L) (out0 L (Memref.whole main_v21_0_scv)) fullShare (A₀ 0).aK
      ∗ owns (thr d L) (out0 L (Memref.whole main_v21_1_scv)) fullShare (A₀ 0).aA
      ∗ owns (thr d L) (out0 L (Memref.whole main_v21_2_scv)) fullShare (A₀ 0).aP
      ∗ owns (thr d L) (out0 L (Memref.whole main_v21_3_scv)) fullShare (A₀ 0).s2
      ∗ owns (thr d L) (out0 L (Memref.whole main_v21_4_scv)) fullShare (A₀ 0).s3
      ∗ semVal (thr d L, SemLoc.dma cc1_scratch34.sem) 0
      ∗ OwesFrom (thr d L) ι O W : sProp 𝕄)
    ⊢ iprop((iprop(owns (thr d L) (in2 L (Memref.whole main_v20_2_scv)) q (p 2)
      ∗ owns (thr d L) (in2 L (Memref.whole main_v20_6_scv)) q (k 2)
      ∗ semVal (thr d L, SemLoc.dma cc1_scratch31.sem) 0
      ∗ owns (thr d L) (in2 L (Memref.whole main_v20_3_scv)) q (p 3)
      ∗ owns (thr d L) (in2 L (Memref.whole main_v20_7_scv)) q (k 3)
      ∗ semVal (thr d L, SemLoc.dma cc1_scratch32.sem) 0
      ∗ Ins d L ids p k
      ∗ owns (thr d L) (Memref.whole cc1_scratch10) fullShare (A 1).aK
      ∗ owns (thr d L) (Memref.whole cc1_scratch14) fullShare (A 1).aA
      ∗ owns (thr d L) (Memref.whole cc1_scratch18) fullShare (A 1).aP
      ∗ owns (thr d L) (Memref.whole cc1_scratch22) fullShare (A 1).s2
      ∗ owns (thr d L) (Memref.whole cc1_scratch26) fullShare (A 1).s3
      ∗ owns (thr d L) (Memref.whole cc1_scratch11) fullShare (A 2).aK
      ∗ owns (thr d L) (Memref.whole cc1_scratch15) fullShare (A 2).aA
      ∗ owns (thr d L) (Memref.whole cc1_scratch19) fullShare (A 2).aP
      ∗ owns (thr d L) (Memref.whole cc1_scratch23) fullShare (A 2).s2
      ∗ owns (thr d L) (Memref.whole cc1_scratch27) fullShare (A 2).s3
      ∗ owns (thr d L) (Memref.whole cc1_scratch12) fullShare (A 3).aK
      ∗ owns (thr d L) (Memref.whole cc1_scratch16) fullShare (A 3).aA
      ∗ owns (thr d L) (Memref.whole cc1_scratch20) fullShare (A 3).aP
      ∗ owns (thr d L) (Memref.whole cc1_scratch24) fullShare (A 3).s2
      ∗ owns (thr d L) (Memref.whole cc1_scratch28) fullShare (A 3).s3
      ∗ Transfers.Batch (EC (U := U)) (thr d L) (.dma cc1_scratch34.sem) ι NO (DO d L A) 5 (0)
      ∗ OwesFrom (thr d L) ι O W)
      -∗ Q ⟨⟩) -∗ wp frame (wpE defs 𝒱 (thr d L) bd) Set.univ (k1_part4 (F := F) L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34 v2) Q) := by
  rw [k1_part4_eq_skeleton]
  unfold k1_part4_skel
  simp only [Prog.lift, Prog.bind_op, Prog.bind_ret, Prog.pure_eq_ret, Prog.bind_assoc]
  iintro ⟨#Hmw, HI, P0, K0, P1, K1, B2, B3, HA, O00, O01, O02, O03, O04, SO, HO⟩ Hk
  iapply (owns_wait EC 𝒱 (thr d L) bd (dstw := (Memref.whole cc1_scratch3)) (n := 2) (u := 0) (N := NI) ι rfl (by decide)) $$ [B2 HO]
  · isplitl [B2]; · iexact B2
    isplitl [HO]; · iexact HO
    iexact Hmw
  iintro ⟨B2, HO⟩
  iapply (owns_drain EC 𝒱 (thr d L) bd (dstw := (Memref.whole cc1_scratch7)) (n := 2) (u := 0 + NI) (N := NI) ι rfl (by decide) (by decide)) $$ [B2 HO]
  · isplitl [B2]; · iexact B2
    isplitl [HO]; · iexact HO
    iexact Hmw
  iintro ⟨B2, S2, HO⟩
  ihave B2 := (Entails.of_eq (DP2_all d L q (p 2) (k 2))) $$ B2
  icases B2 with ⟨⟨P2, GP2⟩, ⟨K2, GK2⟩⟩
  iapply (owns_wait EC 𝒱 (thr d L) bd (dstw := (Memref.whole cc1_scratch4)) (n := 2) (u := 0) (N := NI) ι rfl (by decide)) $$ [B3 HO]
  · isplitl [B3]; · iexact B3
    isplitl [HO]; · iexact HO
    iexact Hmw
  iintro ⟨B3, HO⟩
  iapply (owns_drain EC 𝒱 (thr d L) bd (dstw := (Memref.whole cc1_scratch8)) (n := 2) (u := 0 + NI) (N := NI) ι rfl (by decide) (by decide)) $$ [B3 HO]
  · isplitl [B3]; · iexact B3
    isplitl [HO]; · iexact HO
    iexact Hmw
  iintro ⟨B3, S3, HO⟩
  ihave B3 := (Entails.of_eq (DP3_all d L q (p 3) (k 3))) $$ B3
  icases B3 with ⟨⟨P3, GP3⟩, ⟨K3, GK3⟩⟩
  iapply (Scf.wp_for_bind frame (wpE defs 𝒱 (thr d L) bd) Set.univ _ _ _ k1_t2_ok 0#32 _
    (fun n _ => iprop(Ins d L ids p k ∗ AllAcc d L fun m => accs v2 ids (p m) (k m) n))
    (fun t x => (t2_step 𝒱 bd Set.univ d L v2 ids p k hok _ t x).trans (wp_mono _ _ _ (fun _ => Entails.of_eq (accs_all d L v2 ids p k t))))) $$ [HI P0 K0 P1 K1 P2 K2 P3 K3 HA]
  · isplitl [HI P0 K0 P1 K1 P2 K2 P3 K3]
    · unfold Ins
      isplitl [HI]; · iexact HI
      isplitl [P0]; · iexact P0
      isplitl [K0]; · iexact K0
      isplitl [P1]; · iexact P1
      isplitl [K1]; · iexact K1
      isplitl [P2]; · iexact P2
      isplitl [K2]; · iexact K2
      isplitl [P3]; · iexact P3
      iexact K3
    iexact HA
  iintro %_ ⟨HIns, HA⟩
  ihave HA := (Entails.of_eq (congrArg (AllAcc d L) hA)) $$ HA
  imod (Transfers.batch_alloc' EC (thr d L) ι NO (DO d L A) (sm := .dma cc1_scratch34.sem) (E := Set.univ)) $$ SO with BO
  unfold AllAcc AccOwn
  icases HA with ⟨⟨H00, H01, H02, H03, H04⟩, ⟨H10, H11, H12, H13, H14⟩, ⟨H20, H21, H22, H23, H24⟩, ⟨H30, H31, H32, H33, H34⟩⟩
  iapply (owns_issue EC 𝒱 (thr d L) bd (n := 20) (j := 0) (u := 0) (N := NO) (D := DO d L A) ι rfl (by decide) (Nat.zero_le _) .rfl) $$ [H00 O00 BO]
  · isplitl [H00]; · iexact H00
    isplitl [O00]; · iexact O00
    iexact BO
  iintro BO
  iapply (owns_issue EC 𝒱 (thr d L) bd (n := 20) (j := 1) (u := 0) (N := NO) (D := DO d L A) ι rfl (by decide) (Nat.zero_le _) .rfl) $$ [H01 O01 BO]
  · isplitl [H01]; · iexact H01
    isplitl [O01]; · iexact O01
    iexact BO
  iintro BO
  iapply (owns_issue EC 𝒱 (thr d L) bd (n := 20) (j := 2) (u := 0) (N := NO) (D := DO d L A) ι rfl (by decide) (Nat.zero_le _) .rfl) $$ [H02 O02 BO]
  · isplitl [H02]; · iexact H02
    isplitl [O02]; · iexact O02
    iexact BO
  iintro BO
  iapply (owns_issue EC 𝒱 (thr d L) bd (n := 20) (j := 3) (u := 0) (N := NO) (D := DO d L A) ι rfl (by decide) (Nat.zero_le _) .rfl) $$ [H03 O03 BO]
  · isplitl [H03]; · iexact H03
    isplitl [O03]; · iexact O03
    iexact BO
  iintro BO
  iapply (owns_issue EC 𝒱 (thr d L) bd (n := 20) (j := 4) (u := 0) (N := NO) (D := DO d L A) ι rfl (by decide) (Nat.zero_le _) .rfl) $$ [H04 O04 BO]
  · isplitl [H04]; · iexact H04
    isplitl [O04]; · iexact O04
    iexact BO
  iintro BO
  try rw [wp_ret]
  try imodintro
  iapply Hk
  isplitl [GP2]; · iexact GP2
  isplitl [GK2]; · iexact GK2
  isplitl [S2]; · iexact S2
  isplitl [GP3]; · iexact GP3
  isplitl [GK3]; · iexact GK3
  isplitl [S3]; · iexact S3
  isplitl [HIns]; · iexact HIns
  isplitl [H10]; · iexact H10
  isplitl [H11]; · iexact H11
  isplitl [H12]; · iexact H12
  isplitl [H13]; · iexact H13
  isplitl [H14]; · iexact H14
  isplitl [H20]; · iexact H20
  isplitl [H21]; · iexact H21
  isplitl [H22]; · iexact H22
  isplitl [H23]; · iexact H23
  isplitl [H24]; · iexact H24
  isplitl [H30]; · iexact H30
  isplitl [H31]; · iexact H31
  isplitl [H32]; · iexact H32
  isplitl [H33]; · iexact H33
  isplitl [H34]; · iexact H34
  isplitl [BO]; · iexact BO
  iexact HO

end Cert.Proof.Sc
-- ==== Proof.Part5.lean ====
/-
  The copies out, and the waits for them.
-/
module

public import proofs.«01_k».proof.Proof.BodyDefs

@[expose] public section

set_option pp.maxSteps 400

noncomputable section

namespace Cert.Proof.Sc

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {Name : Type} [DecidableEq Name] [Infinite Name] {U : Type} [URA U] [CountersIn U] {Lvl : Type} [Preorder Lvl] {Ix : Type} [DecidableEq Ix]

local notation "𝕄" => MT nD τ sig Ix (Elt F) Name U Lvl

variable {defs : Defs nD τ sig (Elt F) Λ₀} (𝒱 : Variants) (bd : Option 𝒱.V)

set_option maxHeartbeats 16000000 in
/-- More copies out begun. -/
theorem part5 (d : Fin nD) (L : grid1.Coords) (ι : Ix)
    (A A₀ : Fin 4 → Acc F) (Q : PUnit → sProp 𝕄) :
    iprop(owns (thr d L) (Memref.whole cc1_scratch10) fullShare (A 1).aK
      ∗ owns (thr d L) (out1 L (Memref.whole main_v21_0_scv)) fullShare (A₀ 1).aK
      ∗ owns (thr d L) (Memref.whole cc1_scratch14) fullShare (A 1).aA
      ∗ owns (thr d L) (out1 L (Memref.whole main_v21_1_scv)) fullShare (A₀ 1).aA
      ∗ owns (thr d L) (Memref.whole cc1_scratch18) fullShare (A 1).aP
      ∗ owns (thr d L) (out1 L (Memref.whole main_v21_2_scv)) fullShare (A₀ 1).aP
      ∗ owns (thr d L) (Memref.whole cc1_scratch22) fullShare (A 1).s2
      ∗ owns (thr d L) (out1 L (Memref.whole main_v21_3_scv)) fullShare (A₀ 1).s2
      ∗ owns (thr d L) (Memref.whole cc1_scratch26) fullShare (A 1).s3
      ∗ owns (thr d L) (out1 L (Memref.whole main_v21_4_scv)) fullShare (A₀ 1).s3
      ∗ owns (thr d L) (Memref.whole cc1_scratch11) fullShare (A 2).aK
      ∗ owns (thr d L) (out2 L (Memref.whole main_v21_0_scv)) fullShare (A₀ 2).aK
      ∗ owns (thr d L) (Memref.whole cc1_scratch15) fullShare (A 2).aA
      ∗ owns (thr d L) (out2 L (Memref.whole main_v21_1_scv)) fullShare (A₀ 2).aA
      ∗ Transfers.Batch (EC (U := U)) (thr d L) (.dma cc1_scratch34.sem) ι NO (DO d L A) 5 (0) : sProp 𝕄)
    ⊢ iprop((iprop(Transfers.Batch (EC (U := U)) (thr d L) (.dma cc1_scratch34.sem) ι NO (DO d L A) 12 (0))
      -∗ Q ⟨⟩) -∗ wp frame (wpE defs 𝒱 (thr d L) bd) Set.univ (k1_part5 (F := F) L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34) Q) := by
  rw [k1_part5_eq_skeleton]
  unfold k1_part5_skel
  simp only [Prog.lift, Prog.bind_op, Prog.bind_ret, Prog.pure_eq_ret, Prog.bind_assoc]
  iintro ⟨H10, O10, H11, O11, H12, O12, H13, O13, H14, O14, H20, O20, H21, O21, BO⟩ Hk
  iapply (owns_issue EC 𝒱 (thr d L) bd (n := 20) (j := 5) (u := 0) (N := NO) (D := DO d L A) ι rfl (by decide) (Nat.zero_le _) .rfl) $$ [H10 O10 BO]
  · isplitl [H10]; · iexact H10
    isplitl [O10]; · iexact O10
    iexact BO
  iintro BO
  iapply (owns_issue EC 𝒱 (thr d L) bd (n := 20) (j := 6) (u := 0) (N := NO) (D := DO d L A) ι rfl (by decide) (Nat.zero_le _) .rfl) $$ [H11 O11 BO]
  · isplitl [H11]; · iexact H11
    isplitl [O11]; · iexact O11
    iexact BO
  iintro BO
  iapply (owns_issue EC 𝒱 (thr d L) bd (n := 20) (j := 7) (u := 0) (N := NO) (D := DO d L A) ι rfl (by decide) (Nat.zero_le _) .rfl) $$ [H12 O12 BO]
  · isplitl [H12]; · iexact H12
    isplitl [O12]; · iexact O12
    iexact BO
  iintro BO
  iapply (owns_issue EC 𝒱 (thr d L) bd (n := 20) (j := 8) (u := 0) (N := NO) (D := DO d L A) ι rfl (by decide) (Nat.zero_le _) .rfl) $$ [H13 O13 BO]
  · isplitl [H13]; · iexact H13
    isplitl [O13]; · iexact O13
    iexact BO
  iintro BO
  iapply (owns_issue EC 𝒱 (thr d L) bd (n := 20) (j := 9) (u := 0) (N := NO) (D := DO d L A) ι rfl (by decide) (Nat.zero_le _) .rfl) $$ [H14 O14 BO]
  · isplitl [H14]; · iexact H14
    isplitl [O14]; · iexact O14
    iexact BO
  iintro BO
  iapply (owns_issue EC 𝒱 (thr d L) bd (n := 20) (j := 10) (u := 0) (N := NO) (D := DO d L A) ι rfl (by decide) (Nat.zero_le _) .rfl) $$ [H20 O20 BO]
  · isplitl [H20]; · iexact H20
    isplitl [O20]; · iexact O20
    iexact BO
  iintro BO
  iapply (owns_issue EC 𝒱 (thr d L) bd (n := 20) (j := 11) (u := 0) (N := NO) (D := DO d L A) ι rfl (by decide) (Nat.zero_le _) .rfl) $$ [H21 O21 BO]
  · isplitl [H21]; · iexact H21
    isplitl [O21]; · iexact O21
    iexact BO
  iintro BO
  try rw [wp_ret]
  try imodintro
  iapply Hk
  iexact BO

set_option maxHeartbeats 16000000 in
/-- The last copies out begun; the first waited for. -/
theorem part6 (d : Fin nD) (L : grid1.Coords) (ι : Ix)
    (A A₀ : Fin 4 → Acc F) (Q : PUnit → sProp 𝕄) :
    iprop(owns (thr d L) (Memref.whole cc1_scratch19) fullShare (A 2).aP
      ∗ owns (thr d L) (out2 L (Memref.whole main_v21_2_scv)) fullShare (A₀ 2).aP
      ∗ owns (thr d L) (Memref.whole cc1_scratch23) fullShare (A 2).s2
      ∗ owns (thr d L) (out2 L (Memref.whole main_v21_3_scv)) fullShare (A₀ 2).s2
      ∗ owns (thr d L) (Memref.whole cc1_scratch27) fullShare (A 2).s3
      ∗ owns (thr d L) (out2 L (Memref.whole main_v21_4_scv)) fullShare (A₀ 2).s3
      ∗ owns (thr d L) (Memref.whole cc1_scratch12) fullShare (A 3).aK
      ∗ owns (thr d L) (out3 L (Memref.whole main_v21_0_scv)) fullShare (A₀ 3).aK
      ∗ owns (thr d L) (Memref.whole cc1_scratch16) fullShare (A 3).aA
      ∗ owns (thr d L) (out3 L (Memref.whole main_v21_1_scv)) fullShare (A₀ 3).aA
      ∗ owns (thr d L) (Memref.whole cc1_scratch20) fullShare (A 3).aP
      ∗ owns (thr d L) (out3 L (Memref.whole main_v21_2_scv)) fullShare (A₀ 3).aP
      ∗ owns (thr d L) (Memref.whole cc1_scratch24) fullShare (A 3).s2
      ∗ owns (thr d L) (out3 L (Memref.whole main_v21_3_scv)) fullShare (A₀ 3).s2
      ∗ owns (thr d L) (Memref.whole cc1_scratch28) fullShare (A 3).s3
      ∗ owns (thr d L) (out3 L (Memref.whole main_v21_4_scv)) fullShare (A₀ 3).s3
      ∗ Transfers.Batch (EC (U := U)) (thr d L) (.dma cc1_scratch34.sem) ι NO (DO d L A) 12 (0) : sProp 𝕄)
    ⊢ iprop((iprop(Transfers.Batch (EC (U := U)) (thr d L) (.dma cc1_scratch34.sem) ι NO (DO d L A) 20 (0))
      -∗ Q ⟨⟩) -∗ wp frame (wpE defs 𝒱 (thr d L) bd) Set.univ (k1_part6 (F := F) L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34) Q) := by
  rw [k1_part6_eq_skeleton]
  unfold k1_part6_skel
  simp only [Prog.lift, Prog.bind_op, Prog.bind_ret, Prog.pure_eq_ret, Prog.bind_assoc]
  iintro ⟨H22, O22, H23, O23, H24, O24, H30, O30, H31, O31, H32, O32, H33, O33, H34, O34, BO⟩ Hk
  iapply (owns_issue EC 𝒱 (thr d L) bd (n := 20) (j := 12) (u := 0) (N := NO) (D := DO d L A) ι rfl (by decide) (Nat.zero_le _) .rfl) $$ [H22 O22 BO]
  · isplitl [H22]; · iexact H22
    isplitl [O22]; · iexact O22
    iexact BO
  iintro BO
  iapply (owns_issue EC 𝒱 (thr d L) bd (n := 20) (j := 13) (u := 0) (N := NO) (D := DO d L A) ι rfl (by decide) (Nat.zero_le _) .rfl) $$ [H23 O23 BO]
  · isplitl [H23]; · iexact H23
    isplitl [O23]; · iexact O23
    iexact BO
  iintro BO
  iapply (owns_issue EC 𝒱 (thr d L) bd (n := 20) (j := 14) (u := 0) (N := NO) (D := DO d L A) ι rfl (by decide) (Nat.zero_le _) .rfl) $$ [H24 O24 BO]
  · isplitl [H24]; · iexact H24
    isplitl [O24]; · iexact O24
    iexact BO
  iintro BO
  iapply (owns_issue EC 𝒱 (thr d L) bd (n := 20) (j := 15) (u := 0) (N := NO) (D := DO d L A) ι rfl (by decide) (Nat.zero_le _) .rfl) $$ [H30 O30 BO]
  · isplitl [H30]; · iexact H30
    isplitl [O30]; · iexact O30
    iexact BO
  iintro BO
  iapply (owns_issue EC 𝒱 (thr d L) bd (n := 20) (j := 16) (u := 0) (N := NO) (D := DO d L A) ι rfl (by decide) (Nat.zero_le _) .rfl) $$ [H31 O31 BO]
  · isplitl [H31]; · iexact H31
    isplitl [O31]; · iexact O31
    iexact BO
  iintro BO
  iapply (owns_issue EC 𝒱 (thr d L) bd (n := 20) (j := 17) (u := 0) (N := NO) (D := DO d L A) ι rfl (by decide) (Nat.zero_le _) .rfl) $$ [H32 O32 BO]
  · isplitl [H32]; · iexact H32
    isplitl [O32]; · iexact O32
    iexact BO
  iintro BO
  iapply (owns_issue EC 𝒱 (thr d L) bd (n := 20) (j := 18) (u := 0) (N := NO) (D := DO d L A) ι rfl (by decide) (Nat.zero_le _) .rfl) $$ [H33 O33 BO]
  · isplitl [H33]; · iexact H33
    isplitl [O33]; · iexact O33
    iexact BO
  iintro BO
  iapply (owns_issue EC 𝒱 (thr d L) bd (n := 20) (j := 19) (u := 0) (N := NO) (D := DO d L A) ι rfl (by decide) (Nat.zero_le _) .rfl) $$ [H34 O34 BO]
  · isplitl [H34]; · iexact H34
    isplitl [O34]; · iexact O34
    iexact BO
  iintro BO
  try rw [wp_ret]
  try imodintro
  iapply Hk
  iexact BO

set_option maxHeartbeats 16000000 in
/-- Copies out waited for. -/
theorem part7 (d : Fin nD) (L : grid1.Coords) (ι : Ix) (O : CellTallies nD τ sig Ix) (W : Waits sig Ix)
    (A : Fin 4 → Acc F) (Q : PUnit → sProp 𝕄) :
    iprop(Transfers.MayWaits (thr d L) ι O
      ∗ Transfers.Batch (EC (U := U)) (thr d L) (.dma cc1_scratch34.sem) ι NO (DO d L A) 20 (0)
      ∗ OwesFrom (thr d L) ι O W : sProp 𝕄)
    ⊢ iprop((iprop(Transfers.Batch (EC (U := U)) (thr d L) (.dma cc1_scratch34.sem) ι NO (DO d L A) 20 (0 + NO + NO + NO + NO + NO + NO + NO)
      ∗ OwesFrom (thr d L) ι O W)
      -∗ Q ⟨⟩) -∗ wp frame (wpE defs 𝒱 (thr d L) bd) Set.univ (k1_part7 (F := F) L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34) Q) := by
  rw [k1_part7_eq_skeleton]
  unfold k1_part7_skel
  simp only [Prog.lift, Prog.bind_op, Prog.bind_ret, Prog.pure_eq_ret, Prog.bind_assoc]
  iintro ⟨#Hmw, BO, HO⟩ Hk
  iapply (owns_wait EC 𝒱 (thr d L) bd (dstw := (out0 L (Memref.whole main_v21_0_scv))) (n := 20) (u := 0) (N := NO) ι rfl (by decide)) $$ [BO HO]
  · isplitl [BO]; · iexact BO
    isplitl [HO]; · iexact HO
    iexact Hmw
  iintro ⟨BO, HO⟩
  iapply (owns_wait EC 𝒱 (thr d L) bd (dstw := (out0 L (Memref.whole main_v21_1_scv))) (n := 20) (u := 0 + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out0 L (Memref.whole main_v21_2_scv))) (n := 20) (u := 0 + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out0 L (Memref.whole main_v21_3_scv))) (n := 20) (u := 0 + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out0 L (Memref.whole main_v21_4_scv))) (n := 20) (u := 0 + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out1 L (Memref.whole main_v21_0_scv))) (n := 20) (u := 0 + NO + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out1 L (Memref.whole main_v21_1_scv))) (n := 20) (u := 0 + NO + NO + NO + NO + NO + NO) (N := NO) ι rfl (by decide)) $$ [BO HO]
  · isplitl [BO]; · iexact BO
    isplitl [HO]; · iexact HO
    iexact Hmw
  iintro ⟨BO, HO⟩
  try rw [wp_ret]
  try imodintro
  iapply Hk
  isplitl [BO]; · iexact BO
  iexact HO

set_option maxHeartbeats 16000000 in
/-- More copies out waited for. -/
theorem part8 (d : Fin nD) (L : grid1.Coords) (ι : Ix) (O : CellTallies nD τ sig Ix) (W : Waits sig Ix)
    (A : Fin 4 → Acc F) (Q : PUnit → sProp 𝕄) :
    iprop(Transfers.MayWaits (thr d L) ι O
      ∗ Transfers.Batch (EC (U := U)) (thr d L) (.dma cc1_scratch34.sem) ι NO (DO d L A) 20 (0 + NO + NO + NO + NO + NO + NO + NO)
      ∗ OwesFrom (thr d L) ι O W : sProp 𝕄)
    ⊢ iprop((iprop(Transfers.Batch (EC (U := U)) (thr d L) (.dma cc1_scratch34.sem) ι NO (DO d L A) 20 (0 + NO + NO + NO + NO + NO + NO + NO + NO + NO + NO + NO + NO + NO + NO + NO)
      ∗ OwesFrom (thr d L) ι O W)
      -∗ Q ⟨⟩) -∗ wp frame (wpE defs 𝒱 (thr d L) bd) Set.univ (k1_part8 (F := F) L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34) Q) := by
  rw [k1_part8_eq_skeleton]
  unfold k1_part8_skel
  simp only [Prog.lift, Prog.bind_op, Prog.bind_ret, Prog.pure_eq_ret, Prog.bind_assoc]
  iintro ⟨#Hmw, BO, HO⟩ Hk
  iapply (owns_wait EC 𝒱 (thr d L) bd (dstw := (out1 L (Memref.whole main_v21_2_scv))) (n := 20) (u := 0 + NO + NO + NO + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out1 L (Memref.whole main_v21_3_scv))) (n := 20) (u := 0 + NO + NO + NO + NO + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out1 L (Memref.whole main_v21_4_scv))) (n := 20) (u := 0 + NO + NO + NO + NO + NO + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out2 L (Memref.whole main_v21_0_scv))) (n := 20) (u := 0 + NO + NO + NO + NO + NO + NO + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out2 L (Memref.whole main_v21_1_scv))) (n := 20) (u := 0 + NO + NO + NO + NO + NO + NO + NO + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out2 L (Memref.whole main_v21_2_scv))) (n := 20) (u := 0 + NO + NO + NO + NO + NO + NO + NO + NO + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out2 L (Memref.whole main_v21_3_scv))) (n := 20) (u := 0 + NO + NO + NO + NO + NO + NO + NO + NO + NO + NO + NO + NO + NO) (N := NO) ι rfl (by decide)) $$ [BO HO]
  · isplitl [BO]; · iexact BO
    isplitl [HO]; · iexact HO
    iexact Hmw
  iintro ⟨BO, HO⟩
  iapply (owns_wait EC 𝒱 (thr d L) bd (dstw := (out2 L (Memref.whole main_v21_4_scv))) (n := 20) (u := 0 + NO + NO + NO + NO + NO + NO + NO + NO + NO + NO + NO + NO + NO + NO) (N := NO) ι rfl (by decide)) $$ [BO HO]
  · isplitl [BO]; · iexact BO
    isplitl [HO]; · iexact HO
    iexact Hmw
  iintro ⟨BO, HO⟩
  try rw [wp_ret]
  try imodintro
  iapply Hk
  isplitl [BO]; · iexact BO
  iexact HO

end Cert.Proof.Sc
-- ==== Proof.Body.lean ====
/-
  One tile of the binning kernel: nine copies in, the initialisation, the pass over the rows, twenty copies out on one
  semaphore. The body is proved once, at any tile and over any float values, with what every buffer reads.
-/
module

public import proofs.«01_k».proof.Proof.Part3
public import proofs.«01_k».proof.Proof.Part4
public import proofs.«01_k».proof.Proof.Part5

@[expose] public section

set_option pp.maxSteps 400

noncomputable section

namespace Cert.Proof.Sc

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {Name : Type} [DecidableEq Name] [Infinite Name] {U : Type} [URA U] [CountersIn U] {Lvl : Type} [Preorder Lvl] {Ix : Type} [DecidableEq Ix]

local notation "𝕄" => MT nD τ sig Ix (Elt F) Name U Lvl

variable {defs : Defs nD τ sig (Elt F) Λ₀} (𝒱 : Variants) (bd : Option 𝒱.V)

set_option maxHeartbeats 16000000 in
/-- The kernel on one tile. -/
theorem body (d : Fin nD) (L : grid1.Coords) (ι : Ix) (O : CellTallies nD τ sig Ix) (W : Waits sig Ix) (q : PosShare TreeShare)
    (ids : S3200.Idx → Elt F .i32) (p k : Fin 4 → S3200.Idx → Elt F .f32) (hok : IdsOK ids) (A₀ : Fin 4 → Acc F) :
    iprop(Transfers.MayWaits (thr d L) ι O ∗ Inp d L q ids p k ∗ Outp d L A₀ ∗ Scr d L ∗ Sems d L ∗ owes (thr d L) O W : sProp 𝕄)
      ⊢ wp frame (wpE defs 𝒱 (thr d L) bd) Set.univ (cc1_sc_partials (F := F) L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34)
        (fun _ => iprop(Inp d L q ids p k ∗ Outp d L (fun m => accs (base L) ids (p m) (k m) k1_t2_loop.trips) ∗ Scr d L ∗ Sems d L
          ∗ OwesFrom (thr d L) ι O W)) := by
  rw [cc1_sc_partials_eq_skeleton]
  unfold cc1_sc_partials_skel
  simp only [wp_bind]
  generalize hA : (fun m => accs (base L) ids (p m) (k m) k1_t2_loop.trips) = A
  unfold Inp Scr Sems
  iintro ⟨#Hmw, ⟨GI, GP0, GK0, GP1, GK1, GP2, GK2, GP3, GK3⟩, HOut, ⟨%ids0, %p0, %k0, %A0, HIns, HA⟩, ⟨S0, S1, S2, S3, SI, SO⟩, HO⟩
  ihave HO := (OwesFrom.intro (thr d L) ι O W) $$ HO
  unfold Ins Outp
  icases HIns with ⟨HI, P0, K0, P1, K1, P2, K2, P3, K3⟩
  icases HOut with ⟨⟨O00, O01, O02, O03, O04⟩, ⟨O10, O11, O12, O13, O14⟩, ⟨O20, O21, O22, O23, O24⟩, ⟨O30, O31, O32, O33, O34⟩⟩
  iapply (part3 𝒱 bd d L ι O W q ids p k ids0 p0 k0 A0) $$ [GI GP0 GK0 GP1 GK1 GP2 GK2 GP3 GK3 HI P0 K0 P1 K1 P2 K2 P3 K3 HA SI S0 S1 S2 S3 HO]
  · isplitl [Hmw]; · iexact Hmw
    isplitl [GI]; · iexact GI
    isplitl [GP0]; · iexact GP0
    isplitl [GK0]; · iexact GK0
    isplitl [GP1]; · iexact GP1
    isplitl [GK1]; · iexact GK1
    isplitl [GP2]; · iexact GP2
    isplitl [GK2]; · iexact GK2
    isplitl [GP3]; · iexact GP3
    isplitl [GK3]; · iexact GK3
    isplitl [HI]; · iexact HI
    isplitl [P0]; · iexact P0
    isplitl [K0]; · iexact K0
    isplitl [P1]; · iexact P1
    isplitl [K1]; · iexact K1
    isplitl [P2]; · iexact P2
    isplitl [K2]; · iexact K2
    isplitl [P3]; · iexact P3
    isplitl [K3]; · iexact K3
    isplitl [HA]; · iexact HA
    isplitl [SI]; · iexact SI
    isplitl [S0]; · iexact S0
    isplitl [S1]; · iexact S1
    isplitl [S2]; · iexact S2
    isplitl [S3]; · iexact S3
    iexact HO
  iintro ⟨GI, HI, SI, GP0, GK0, P0, K0, S0, GP1, GK1, P1, K1, S1, B2, B3, HA, HO⟩
  iapply (part4 𝒱 bd d L ι O W q ids p k hok (base L) A A₀ hA) $$ [HI P0 K0 P1 K1 B2 B3 HA O00 O01 O02 O03 O04 SO HO]
  · isplitl [Hmw]; · iexact Hmw
    isplitl [HI]; · iexact HI
    isplitl [P0]; · iexact P0
    isplitl [K0]; · iexact K0
    isplitl [P1]; · iexact P1
    isplitl [K1]; · iexact K1
    isplitl [B2]; · iexact B2
    isplitl [B3]; · iexact B3
    isplitl [HA]; · iexact HA
    isplitl [O00]; · iexact O00
    isplitl [O01]; · iexact O01
    isplitl [O02]; · iexact O02
    isplitl [O03]; · iexact O03
    isplitl [O04]; · iexact O04
    isplitl [SO]; · iexact SO
    iexact HO
  iintro ⟨GP2, GK2, S2, GP3, GK3, S3, HIns, H10, H11, H12, H13, H14, H20, H21, H22, H23, H24, H30, H31, H32, H33, H34, BO, HO⟩
  iapply (part5 𝒱 bd d L ι A A₀) $$ [H10 O10 H11 O11 H12 O12 H13 O13 H14 O14 H20 O20 H21 O21 BO]
  · isplitl [H10]; · iexact H10
    isplitl [O10]; · iexact O10
    isplitl [H11]; · iexact H11
    isplitl [O11]; · iexact O11
    isplitl [H12]; · iexact H12
    isplitl [O12]; · iexact O12
    isplitl [H13]; · iexact H13
    isplitl [O13]; · iexact O13
    isplitl [H14]; · iexact H14
    isplitl [O14]; · iexact O14
    isplitl [H20]; · iexact H20
    isplitl [O20]; · iexact O20
    isplitl [H21]; · iexact H21
    isplitl [O21]; · iexact O21
    iexact BO
  iintro BO
  iapply (part6 𝒱 bd d L ι A A₀) $$ [H22 O22 H23 O23 H24 O24 H30 O30 H31 O31 H32 O32 H33 O33 H34 O34 BO]
  · isplitl [H22]; · iexact H22
    isplitl [O22]; · iexact O22
    isplitl [H23]; · iexact H23
    isplitl [O23]; · iexact O23
    isplitl [H24]; · iexact H24
    isplitl [O24]; · iexact O24
    isplitl [H30]; · iexact H30
    isplitl [O30]; · iexact O30
    isplitl [H31]; · iexact H31
    isplitl [O31]; · iexact O31
    isplitl [H32]; · iexact H32
    isplitl [O32]; · iexact O32
    isplitl [H33]; · iexact H33
    isplitl [O33]; · iexact O33
    isplitl [H34]; · iexact H34
    isplitl [O34]; · iexact O34
    iexact BO
  iintro BO
  iapply (part7 𝒱 bd d L ι O W A) $$ [BO HO]
  · isplitl [Hmw]; · iexact Hmw
    isplitl [BO]; · iexact BO
    iexact HO
  iintro ⟨BO, HO⟩
  iapply (part8 𝒱 bd d L ι O W A) $$ [BO HO]
  · isplitl [Hmw]; · iexact Hmw
    isplitl [BO]; · iexact BO
    iexact HO
  iintro ⟨BO, HO⟩
  simp only [Prog.lift, Prog.bind_op, Prog.bind_ret, Prog.pure_eq_ret, Prog.bind_assoc]
  iapply (owns_wait EC 𝒱 (thr d L) bd (dstw := (out3 L (Memref.whole main_v21_0_scv))) (n := 20) (u := 0 + NO + NO + NO + NO + NO + NO + NO + NO + NO + NO + NO + NO + NO + NO + NO) (N := NO) ι rfl (by decide)) $$ [BO HO]
  · isplitl [BO]; · iexact BO
    isplitl [HO]; · iexact HO
    iexact Hmw
  iintro ⟨BO, HO⟩
  rw [wp_ret]
  imodintro
  iapply (owns_wait EC 𝒱 (thr d L) bd (dstw := (out3 L (Memref.whole main_v21_1_scv))) (n := 20) (u := 0 + NO + NO + NO + NO + NO + NO + NO + NO + NO + NO + NO + NO + NO + NO + NO + NO) (N := NO) ι rfl (by decide)) $$ [BO HO]
  · isplitl [BO]; · iexact BO
    isplitl [HO]; · iexact HO
    iexact Hmw
  iintro ⟨BO, HO⟩
  rw [wp_ret]
  imodintro
  iapply (owns_wait EC 𝒱 (thr d L) bd (dstw := (out3 L (Memref.whole main_v21_2_scv))) (n := 20) (u := 0 + NO + NO + NO + NO + NO + NO + NO + NO + NO + NO + NO + NO + NO + NO + NO + NO + NO) (N := NO) ι rfl (by decide)) $$ [BO HO]
  · isplitl [BO]; · iexact BO
    isplitl [HO]; · iexact HO
    iexact Hmw
  iintro ⟨BO, HO⟩
  rw [wp_ret]
  imodintro
  iapply (owns_wait EC 𝒱 (thr d L) bd (dstw := (out3 L (Memref.whole main_v21_3_scv))) (n := 20) (u := 0 + NO + NO + NO + NO + NO + NO + NO + NO + NO + NO + NO + NO + NO + NO + NO + NO + NO + NO) (N := NO) ι rfl (by decide)) $$ [BO HO]
  · isplitl [BO]; · iexact BO
    isplitl [HO]; · iexact HO
    iexact Hmw
  iintro ⟨BO, HO⟩
  rw [wp_ret]
  imodintro
  iapply (owns_drain EC 𝒱 (thr d L) bd (dstw := (out3 L (Memref.whole main_v21_4_scv))) (n := 20) (u := 0 + NO + NO + NO + NO + NO + NO + NO + NO + NO + NO + NO + NO + NO + NO + NO + NO + NO + NO + NO) (N := NO) ι rfl (by decide) (by decide)) $$ [BO HO]
  · isplitl [BO]; · iexact BO
    isplitl [HO]; · iexact HO
    iexact Hmw
  iintro ⟨BO, SO, HO⟩
  rw [wp_ret]
  imodintro
  ihave BO := (Entails.of_eq (DO_all d L A)) $$ BO
  icases BO with ⟨⟨O00, H00⟩, ⟨O01, H01⟩, ⟨O02, H02⟩, ⟨O03, H03⟩, ⟨O04, H04⟩, ⟨O10, H10⟩, ⟨O11, H11⟩, ⟨O12, H12⟩, ⟨O13, H13⟩, ⟨O14, H14⟩, ⟨O20, H20⟩, ⟨O21, H21⟩, ⟨O22, H22⟩, ⟨O23, H23⟩, ⟨O24, H24⟩, ⟨O30, H30⟩, ⟨O31, H31⟩, ⟨O32, H32⟩, ⟨O33, H33⟩, ⟨O34, H34⟩⟩
  rw [wp_ret]
  imodintro
  isplitl [GI GP0 GK0 GP1 GK1 GP2 GK2 GP3 GK3]
  · skip
    isplitl [GI]; · iexact GI
    isplitl [GP0]; · iexact GP0
    isplitl [GK0]; · iexact GK0
    isplitl [GP1]; · iexact GP1
    isplitl [GK1]; · iexact GK1
    isplitl [GP2]; · iexact GP2
    isplitl [GK2]; · iexact GK2
    isplitl [GP3]; · iexact GP3
    iexact GK3
  isplitl [O00 O01 O02 O03 O04 O10 O11 O12 O13 O14 O20 O21 O22 O23 O24 O30 O31 O32 O33 O34]
  · skip
    isplitl [O00 O01 O02 O03 O04]
    · skip
      isplitl [O00]; · iexact O00
      isplitl [O01]; · iexact O01
      isplitl [O02]; · iexact O02
      isplitl [O03]; · iexact O03
      iexact O04
    isplitl [O10 O11 O12 O13 O14]
    · skip
      isplitl [O10]; · iexact O10
      isplitl [O11]; · iexact O11
      isplitl [O12]; · iexact O12
      isplitl [O13]; · iexact O13
      iexact O14
    isplitl [O20 O21 O22 O23 O24]
    · skip
      isplitl [O20]; · iexact O20
      isplitl [O21]; · iexact O21
      isplitl [O22]; · iexact O22
      isplitl [O23]; · iexact O23
      iexact O24
    isplitl [O30]; · iexact O30
    isplitl [O31]; · iexact O31
    isplitl [O32]; · iexact O32
    isplitl [O33]; · iexact O33
    iexact O34
  isplitl [HIns H00 H01 H02 H03 H04 H10 H11 H12 H13 H14 H20 H21 H22 H23 H24 H30 H31 H32 H33 H34]
  · iexists ids, p, k, A
    isplitl [HIns]; · unfold Ins; iexact HIns
    unfold AllAcc AccOwn
    isplitl [H00 H01 H02 H03 H04]
    · skip
      isplitl [H00]; · iexact H00
      isplitl [H01]; · iexact H01
      isplitl [H02]; · iexact H02
      isplitl [H03]; · iexact H03
      iexact H04
    isplitl [H10 H11 H12 H13 H14]
    · skip
      isplitl [H10]; · iexact H10
      isplitl [H11]; · iexact H11
      isplitl [H12]; · iexact H12
      isplitl [H13]; · iexact H13
      iexact H14
    isplitl [H20 H21 H22 H23 H24]
    · skip
      isplitl [H20]; · iexact H20
      isplitl [H21]; · iexact H21
      isplitl [H22]; · iexact H22
      isplitl [H23]; · iexact H23
      iexact H24
    isplitl [H30]; · iexact H30
    isplitl [H31]; · iexact H31
    isplitl [H32]; · iexact H32
    isplitl [H33]; · iexact H33
    iexact H34
  isplitl [S0 S1 S2 S3 SI SO]
  · skip
    isplitl [S0]; · iexact S0
    isplitl [S1]; · iexact S1
    isplitl [S2]; · iexact S2
    isplitl [S3]; · iexact S3
    isplitl [SI]; · iexact SI
    iexact SO
  iexact HO
end Cert.Proof.Sc
-- ==== Proof.Setup.lean ====
/-
  The launch as the library's theorem sees it: the program's labels and body tables, the algebra its
  protocols live in, and a TensorCore kernel's region entered between two SparseCore calls.
-/
module

public import proofs.«01_k».proof.Proof.TcBody
public import proofs.«01_k».proof.Proof.Body
public import proofs.«01_k».proof.Proof.Gen.KernelIdeal.Launch
public import proofs.«01_k».proof.Proof.Gen.KernelIdeal.Points
public import Idealize.ShloMosaic.Lib.SparseCore.Quiescent
public import Idealize.ShloMosaic.Lib.Pipeline.Regions
public import Idealize.ShloMosaic.Lib.Pipeline.Kit

@[expose] public section

set_option pp.maxSteps 400

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type}

/-! ## The program's labels and tables -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The pipelines prefetch nothing, so their tables are admissible as they are. -/
abbrev adm : (p : Fin 2) → (pcfgs (F := F) p).Adm := fun p => (cfgs p).toPCfg_adm

set_option maxRecDepth 20000 in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the pipelines' rounds, the transfers' counters -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL
/-- The pipelines' rounds. -/
def EP : Emb UPipe (MT nD τ sig (HIx 1) (Elt F) ℕ UU ℕ) := (Emb.inl : Emb UPipe (UPipe × Counters)).trans embR

instance EP_landsIn : (EP (F := F)).LandsIn (upEmb : UEmb _ 𝕄) := by unfold EP embR; infer_instance

/-- What the launch holds of the algebra. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- A condition on the predictions and one on the keys: per member, per row, of the value. -/
abbrev RowOK (F : FTy → Type) : Type := Fin 4 → ℕ → Elt F .f32 → Prop

/-! ## A TensorCore kernel's region -/

section Region

variable [FloatOps F] [Named F]

/-- What the TensorCore owes the SparseCores before call `n`, all that it has waited on so far below that call. -/
def owing (d : Dev nD) (n : ℕ) : sProp 𝕄 :=
  iprop(∃ W, ⌜(K (F := F)).WBelow (T d) W (8 * n)⌝ ∗ owes (T d) ((K (F := F)).Otc d n) W)

/-- The pairs a TensorCore may have waited on before call `n`. -/
def past (d : Dev nD) (n : ℕ) : Set (SemLoc sig × HIx 1) := {p | (K (F := F)).lev (T d, p.1) p.2 ≤ 8 * n}

omit [FloatOps F] [Named F] in
theorem Otc_none (d : Dev nD) (n : ℕ) (g : GSem nD τ sig) : (K (F := F)).Otc (N := 1) d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun c _ => ?_
    rw [tallyAt_apply, if_neg fun h => nomatch h.2]
  · rfl

variable (p : Fin 2) (n : ℕ) (rd : (c : Dev nD) → RDat τ (Elt F) (HIx 1) ℕ UU ℕ (cfgs p) c)

/-- The data of a region entered before call `n`: the invariant is the scoped buffers that no window stages, every array is
    held whole, and nothing is paid or taken on inside. -/
structure Plain : Prop where
  Φ : ∀ c t, (rd c).Φ t = Pipeline.scopedRest (cfgs p).spec c
  q : ∀ c w, (rd c).q w = fullShare
  owed : ∀ c t, (rd c).owed t = (K (F := F)).Otc c n
  recorded : ∀ c t, (rd c).recorded t = past (F := F) c n

/-- The arrays of a region on core `c`, at `A`. -/
def arrs (c : Dev nD) (A : (w : Fin (cfgs p).W) → Buf (Elt F) (((cfgs p).win w).arr.view.loc (c.tc : Thread nD τ))) : sProp 𝕄 :=
  bigSep Finset.univ fun w => (((c.tc : Thread nD τ).loc (Pipeline.arrRef (cfgs p).spec w)) ↦{fullShare} A w)

/-- The arrays after the region, each at contents its write-backs may have left. -/
def arrsEnd (c : Dev nD) : sProp 𝕄 :=
  bigSep Finset.univ fun w => iprop(∃ G, ⌜(rd c).ArrAt w (cfgs p).N G⌝ ∗ (((c.tc : Thread nD τ).loc (Pipeline.arrRef (cfgs p).spec w)) ↦{fullShare} G))

variable {p n rd}

theorem Plain.share (h : Plain p n rd) (c : Dev nD) (w : Fin (cfgs p).W) : (rd c).share w = fullShare := by
  unfold RDat.share; split
  · rfl
  · exact h.q c w

variable [∀ e, Nonempty (Elt F e)]

set_option backward.isDefEq.respectTransparency.types false in
/-- The region's record, from its layout, its data and the body's obligation. -/
def region (kit : Pipeline.LaunchFacts (nD := nD) (τ := τ) cfgs p) (h : Plain p n rd)
    (hbody : ∀ c, (rd c).BodyObligation (defs₀ (F := F)) 𝒱₀ none Set.univ) :
    RDat.RegionSeg (pcfgs (F := F)) adm (RDat.familyOf (pcfgs (F := F)) adm p rd) none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := by rw [RDat.familyOf_self]; exact hbody c
  hwaits c := RDat.cellsWaits_intro (Pipeline.pin (pcfgs (F := F)) adm) _ none p c fun w s t => by
    rw [RDat.familyOf_self, h.owed c t]
    exact (K (F := F)).mayWait_none _ (Otc_none (F := F) c n)
  pre c := iprop(arrs p c (rd c).A ∗ owing c n)
  post c := iprop(arrsEnd p rd c ∗ owing c n)
  X _ := BI.emp
  Y _ := BI.emp
  Z _ := BI.emp
  hentry c := by
    rw [Pipeline.ownSems0_none, RDat.familyOf_self]
    have ha : (arrs p c (rd c).A : sProp 𝕄) = (rd c).arrays (rd c).A := by
      have := RDat.arrays_eq (pcfgs (F := F)) adm (RDat.familyOf (pcfgs (F := F)) adm p rd) p c kit.arr_whole
        (fun w => by rw [RDat.familyOf_self]; exact h.share c w) (rd c).A
      rw [RDat.familyOf_self] at this
      exact this.symm
    rw [← ha]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin RDat.bound owing
      rw [h.owed c, h.recorded c]
      icases HO with ⟨%W, %hW, HO⟩; iexists W; isplitr
      · ipureintro; exact fun q hq => Or.inl (hW q hq)
      iexact HO
    isplitr <;> iempintro
  hin c := by
    rw [RDat.familyOf_self, h.Φ c]
    iintro ⟨-, -, Hr⟩; iexact Hr
  hout c := by
    rw [Pipeline.ownSems0_none, RDat.familyOf_self, h.Φ c]
    iintro Hr
    isplitr; · iempintro
    isplitr; · iempintro
    iexact Hr
  hexit c := by
    rw [RDat.familyOf_self]
    have ha : (arrsEnd p rd c : sProp 𝕄) = (rd c).arraysAt (cfgs p).N := by
      have := RDat.arraysAt_eq (pcfgs (F := F)) adm (RDat.familyOf (pcfgs (F := F)) adm p rd) p c kit.arr_whole
        (fun w => by rw [RDat.familyOf_self]; exact h.share c w) (cfgs p).N
      rw [RDat.familyOf_self] at this
      exact this.symm
    rw [ha]
    iintro ⟨Ha, HO, -, -⟩
    imodintro
    isplitl [Ha]; · iexact Ha
    unfold RDat.owesAt Pipeline.owesWithin RDat.bound owing
    rw [h.owed c, h.recorded c]
    icases HO with ⟨%W, %hW, HO⟩; iexists W; isplitr
    · ipureintro
      intro q hq
      rcases hW hq with hq | ⟨w, s, rfl⟩
      · exact hq
      · exact Nat.zero_le _
    iexact HO

theorem arrsEnd_elim (c : Dev nD) : arrsEnd p rd c ⊢
    (iprop(∃ G : (w : Fin (cfgs p).W) → Buf (Elt F) (((cfgs p).win w).arr.view.loc (c.tc : Thread nD τ)),
      ⌜∀ w, (rd c).ArrAt w (cfgs p).N (G w)⌝ ∗ arrs p c G) : sProp 𝕄) := by
  refine (BI.bigSep_exists_pi Finset.univ _).trans ?_
  iintro ⟨%G, H⟩
  iexists G
  have h : (bigSep Finset.univ fun w => iprop(⌜(rd c).ArrAt w (cfgs p).N (G w)⌝ ∗ (((c.tc : Thread nD τ).loc (Pipeline.arrRef (cfgs p).spec w)) ↦{fullShare} G w)) : sProp 𝕄)
      ⊢ iprop(⌜∀ w ∈ Finset.univ, (rd c).ArrAt w (cfgs p).N (G w)⌝ ∗ arrs p c G) := BI.bigSep_pure_sep Finset.univ _ _
  icases h $$ H with ⟨%h', H⟩
  isplitr
  · ipureintro; exact fun w => h' w (Finset.mem_univ w)
  iexact H

/-- What the launch funds for pipeline `p` on core `c`. -/
abbrev fund (p : Fin 2) (c : Dev nD) : sProp 𝕄 :=
  iprop(Pipeline.cellsGhost (cfgs) (EP (F := F)) p c ∗ Pipeline.toksInit (cfgs) (EP (F := F)) p c)

set_option backward.isDefEq.respectTransparency.types false in
/-- A region's call inside the whole program: from its arrays at entry contents to its arrays after every write-back. -/
theorem region_wp (kit : Pipeline.LaunchFacts (nD := nD) (τ := τ) cfgs p) (h : Plain p n rd)
    (hbody : ∀ c, (rd c).BodyObligation (defs₀ (F := F)) 𝒱₀ none Set.univ) (c : Dev nD) (Q : PUnit → sProp 𝕄) :
    iprop(boundary (T c) ∗ arrs p c (rd c).A ∗ owing c n ∗ levAts (K (F := F)).L (K (F := F)).lev ∗ fund p c
        ∗ ((boundary (T c) ∗ arrsEnd p rd c ∗ owing c n) -∗ Q ⟨⟩))
      ⊢ wp frame (wpE ((K (F := F)).defs (D (F := F))) 𝒱 (T c) none) Set.univ
          (Prog.lift (.customCall (SparseCore.inner (Pipeline.entry p)) ())) Q := by
  refine BI.Entails.trans ?_ ((K (F := F)).wp_liftProg (D (F := F)) 𝒱 (T c) Set.univ none (Prog.lift (.customCall (Pipeline.entry p) ())) Q)
  have hpre : (region kit h hbody).pre c = iprop(arrs p c (rd c).A ∗ owing c n) := rfl
  have hpost : (region kit h hbody).post c = iprop(arrsEnd p rd c ∗ owing c n) := rfl
  show _ ⊢ wp frame (wpE (D (F := F)) 𝒱 (T c) none) Set.univ (.op (.customCall (Pipeline.entry p) ()) fun x => .ret x) Q
  iintro ⟨Hb, Ha, HO, Hl, ⟨Hg, Ht⟩, Hk⟩
  iapply (RDat.RegionSeg.wp (pcfgs (F := F)) adm _ none cellOf_inj EP defs₀ 𝒱₀ (K (F := F)).L (K (F := F)).lev (region kit h hbody) c none
    (fun u hu => nomatch hu) (fun x => .ret x) Q)
  rw [hpre, hpost]
  isplitl [Hk]
  · iintro ⟨Hb, Ha, HO⟩
    rw [wp_ret]; imodintro
    iapply Hk
    isplitl [Hb]; · iexact Hb
    isplitl [Ha] <;> iassumption
  isplitl [Hb]; · iexact Hb
  isplitl [Ha HO]
  · isplitl [Ha] <;> iassumption
  isplitl [Hl]; · iexact Hl
  isplitl [Hg] <;> iassumption

end Region

end Cert.Proof

end
-- ==== Proof.Tiles.lean ====
/-
  A tile's own buffers and semaphores as the launch hands them over, and the obligation of a tile's task.
-/
module

public import proofs.«01_k».proof.Proof.Setup

@[expose] public section

set_option pp.maxSteps 400

noncomputable section

namespace Cert.Proof

open Cert.KernelIdeal Cert.KernelIdeal.Gen Cert.Proof.Tile Cert.Proof.Sc

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## A family's members apart from the rest -/

theorem bigSep_take {M : Type} [URA M] {I J : Type} [DecidableEq I] [DecidableEq J] [Fintype J] (e : J → I) (he : Function.Injective e) (s : Finset I) (h : ∀ j, e j ∈ s)
    (Φ : I → sProp M) : bigSep s Φ = iprop((bigSep Finset.univ fun j => Φ (e j)) ∗ bigSep (s \ Finset.univ.image e) Φ) := by
  have hs : Finset.univ.image e ⊆ s := fun i hi => by obtain ⟨j, -, rfl⟩ := Finset.mem_image.mp hi; exact h j
  rw [BI.bigSep_sdiff_split hs, SparseCore.bigSep_image_of_injOn he.injOn]
  rfl

/-- A tile's buffers. -/
def scr : Fin 29 → Ref sig .scVector :=
  ![cc1_scratch0, cc1_scratch1, cc1_scratch2, cc1_scratch3, cc1_scratch4, cc1_scratch5, cc1_scratch6, cc1_scratch7, cc1_scratch8, cc1_scratch9, cc1_scratch10, cc1_scratch11, cc1_scratch12, cc1_scratch13, cc1_scratch14, cc1_scratch15, cc1_scratch16, cc1_scratch17, cc1_scratch18, cc1_scratch19, cc1_scratch20, cc1_scratch21, cc1_scratch22, cc1_scratch23, cc1_scratch24, cc1_scratch25, cc1_scratch26, cc1_scratch27, cc1_scratch28]

/-- A tile's semaphores. -/
def scrSem : Fin 6 → SemLoc sig :=
  ![SemLoc.dma cc1_scratch29.sem, SemLoc.dma cc1_scratch30.sem, SemLoc.dma cc1_scratch31.sem, SemLoc.dma cc1_scratch32.sem, SemLoc.dma cc1_scratch33.sem, SemLoc.dma cc1_scratch34.sem]

theorem scr_inj : Function.Injective scr := by decide
theorem scrSem_inj : Function.Injective scrSem := by decide
theorem scrSem_scoped : ∀ n, (scrSem n).isScoped Kind.scVector = true := by decide

variable (d : Fin nD) (L : grid1.Coords)

/-- What is left of a tile's own buffers. -/
def bufsRest : sProp 𝕄 :=
  bigSep (ownRefs (τ := τ) (thr d L).2 \ Finset.univ.image fun n => (thr d L).2.devRef (scr n)) fun b => iprop(∃ f, ((d, b) : Loc nD τ sig) ↦{fullShare} f)

/-- What is left of a tile's own semaphores. -/
def semsRest : sProp 𝕄 :=
  bigSep (ownCells (thr d L) \ Finset.univ.image fun n => (thr d L, scrSem n)) fun g => semVal g 0

theorem ownBufs_eq : (ownBufs (thr d L) : sProp 𝕄)
    = iprop((bigSep Finset.univ fun n : Fin 29 => iprop(∃ f, (thr d L).loc (scr n) ↦{fullShare} f)) ∗ bufsRest d L) := by
  unfold SparseCore.Cfg.ownBufs bufsRest
  exact bigSep_take (fun n => (thr d L).2.devRef (scr n)) (fun a b e => scr_inj (Proc.devRef_injective _ e)) _
    (fun n => SparseCore.Cfg.mem_ownRefs_of_owner (by fin_cases n <;> rfl)) _

theorem ownSems0_eq : (ownSems0 (thr d L) : sProp 𝕄)
    = iprop((bigSep Finset.univ fun n : Fin 6 => semVal (thr d L, scrSem n) 0) ∗ semsRest d L) := by
  unfold SparseCore.Cfg.ownSems0 semsRest
  exact bigSep_take (fun n => ((thr d L, scrSem n) : GSem nD τ sig)) (fun a b e => scrSem_inj (Prod.mk.inj e).2) _
    (fun n => mem_ownCells.mpr ⟨rfl, scrSem_scoped n⟩) _

theorem owns_mk (c : Thread nD τ) (b : Ref sig c.2.kind) (f : Buf (Elt F) (c.loc b)) :
    (c.loc b ↦{fullShare} f) ⊢ (owns c (Memref.whole b) fullShare f : sProp 𝕄) := by
  rw [owns_whole_eq]
  iintro H; iexists f
  isplitr
  · ipureintro; rfl
  iexact H

theorem owns_unmk (c : Thread nD τ) (b : Ref sig c.2.kind) (X) :
    (owns c (Memref.whole b) fullShare X : sProp 𝕄) ⊢ iprop(∃ f, c.loc b ↦{fullShare} f) := by
  rw [owns_whole_eq]
  iintro ⟨%f, -, H⟩
  iexists f; iexact H

theorem bigSep_29 {M : Type} [URA M] (Φ : Fin 29 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28) :=
  bigSep_univ_eq_bigSepL [0, 1, 2, 3, 4, 5, 6, 7, 8, 9, 10, 11, 12, 13, 14, 15, 16, 17, 18, 19, 20, 21, 22, 23, 24, 25, 26, 27, 28] (by decide) (by decide) Φ

theorem bigSep_6 {M : Type} [URA M] (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

variable [FloatOps F] [Named F]

theorem scr_intro : (bigSep Finset.univ fun n : Fin 29 => iprop(∃ f, (thr d L).loc (scr n) ↦{fullShare} f)) ⊢ (Scr d L : sProp 𝕄) := by
  rw [bigSep_29]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  unfold Scr
  iexists f0, ![f1, f2, f3, f4], ![f5, f6, f7, f8], ![⟨f9, f13, f17, f21, f25⟩, ⟨f10, f14, f18, f22, f26⟩, ⟨f11, f15, f19, f23, f27⟩, ⟨f12, f16, f20, f24, f28⟩]
  unfold Ins AllAcc AccOwn
  isplitl [H0 H1 H2 H3 H4 H5 H6 H7 H8]
  · isplitl [H0]; · iapply (owns_mk (thr d L) cc1_scratch0 f0); iexact H0
    isplitl [H1]; · iapply (owns_mk (thr d L) cc1_scratch1 f1); iexact H1
    isplitl [H5]; · iapply (owns_mk (thr d L) cc1_scratch5 f5); iexact H5
    isplitl [H2]; · iapply (owns_mk (thr d L) cc1_scratch2 f2); iexact H2
    isplitl [H6]; · iapply (owns_mk (thr d L) cc1_scratch6 f6); iexact H6
    isplitl [H3]; · iapply (owns_mk (thr d L) cc1_scratch3 f3); iexact H3
    isplitl [H7]; · iapply (owns_mk (thr d L) cc1_scratch7 f7); iexact H7
    isplitl [H4]; · iapply (owns_mk (thr d L) cc1_scratch4 f4); iexact H4
    iapply (owns_mk (thr d L) cc1_scratch8 f8); iexact H8
  · isplitl [H9 H13 H17 H21 H25]
    · isplitl [H9]; · iapply (owns_mk (thr d L) cc1_scratch9 f9); iexact H9
      isplitl [H13]; · iapply (owns_mk (thr d L) cc1_scratch13 f13); iexact H13
      isplitl [H17]; · iapply (owns_mk (thr d L) cc1_scratch17 f17); iexact H17
      isplitl [H21]; · iapply (owns_mk (thr d L) cc1_scratch21 f21); iexact H21
      iapply (owns_mk (thr d L) cc1_scratch25 f25); iexact H25
    isplitl [H10 H14 H18 H22 H26]
    · isplitl [H10]; · iapply (owns_mk (thr d L) cc1_scratch10 f10); iexact H10
      isplitl [H14]; · iapply (owns_mk (thr d L) cc1_scratch14 f14); iexact H14
      isplitl [H18]; · iapply (owns_mk (thr d L) cc1_scratch18 f18); iexact H18
      isplitl [H22]; · iapply (owns_mk (thr d L) cc1_scratch22 f22); iexact H22
      iapply (owns_mk (thr d L) cc1_scratch26 f26); iexact H26
    isplitl [H11 H15 H19 H23 H27]
    · isplitl [H11]; · iapply (owns_mk (thr d L) cc1_scratch11 f11); iexact H11
      isplitl [H15]; · iapply (owns_mk (thr d L) cc1_scratch15 f15); iexact H15
      isplitl [H19]; · iapply (owns_mk (thr d L) cc1_scratch19 f19); iexact H19
      isplitl [H23]; · iapply (owns_mk (thr d L) cc1_scratch23 f23); iexact H23
      iapply (owns_mk (thr d L) cc1_scratch27 f27); iexact H27
    isplitl [H12]; · iapply (owns_mk (thr d L) cc1_scratch12 f12); iexact H12
    isplitl [H16]; · iapply (owns_mk (thr d L) cc1_scratch16 f16); iexact H16
    isplitl [H20]; · iapply (owns_mk (thr d L) cc1_scratch20 f20); iexact H20
    isplitl [H24]; · iapply (owns_mk (thr d L) cc1_scratch24 f24); iexact H24
    iapply (owns_mk (thr d L) cc1_scratch28 f28); iexact H28

theorem scr_elim : (Scr d L : sProp 𝕄) ⊢ bigSep Finset.univ fun n : Fin 29 => iprop(∃ f, (thr d L).loc (scr n) ↦{fullShare} f) := by
  rw [bigSep_29]
  unfold Scr Ins AllAcc AccOwn
  iintro ⟨%ids, %p, %k, %A, ⟨H0, H1, H5, H2, H6, H3, H7, H4, H8⟩, ⟨⟨H9, H13, H17, H21, H25⟩, ⟨H10, H14, H18, H22, H26⟩, ⟨H11, H15, H19, H23, H27⟩, ⟨H12, H16, H20, H24, H28⟩⟩⟩
  isplitl [H0]; · iapply (owns_unmk (thr d L) cc1_scratch0 _); iexact H0
  isplitl [H1]; · iapply (owns_unmk (thr d L) cc1_scratch1 _); iexact H1
  isplitl [H2]; · iapply (owns_unmk (thr d L) cc1_scratch2 _); iexact H2
  isplitl [H3]; · iapply (owns_unmk (thr d L) cc1_scratch3 _); iexact H3
  isplitl [H4]; · iapply (owns_unmk (thr d L) cc1_scratch4 _); iexact H4
  isplitl [H5]; · iapply (owns_unmk (thr d L) cc1_scratch5 _); iexact H5
  isplitl [H6]; · iapply (owns_unmk (thr d L) cc1_scratch6 _); iexact H6
  isplitl [H7]; · iapply (owns_unmk (thr d L) cc1_scratch7 _); iexact H7
  isplitl [H8]; · iapply (owns_unmk (thr d L) cc1_scratch8 _); iexact H8
  isplitl [H9]; · iapply (owns_unmk (thr d L) cc1_scratch9 _); iexact H9
  isplitl [H10]; · iapply (owns_unmk (thr d L) cc1_scratch10 _); iexact H10
  isplitl [H11]; · iapply (owns_unmk (thr d L) cc1_scratch11 _); iexact H11
  isplitl [H12]; · iapply (owns_unmk (thr d L) cc1_scratch12 _); iexact H12
  isplitl [H13]; · iapply (owns_unmk (thr d L) cc1_scratch13 _); iexact H13
  isplitl [H14]; · iapply (owns_unmk (thr d L) cc1_scratch14 _); iexact H14
  isplitl [H15]; · iapply (owns_unmk (thr d L) cc1_scratch15 _); iexact H15
  isplitl [H16]; · iapply (owns_unmk (thr d L) cc1_scratch16 _); iexact H16
  isplitl [H17]; · iapply (owns_unmk (thr d L) cc1_scratch17 _); iexact H17
  isplitl [H18]; · iapply (owns_unmk (thr d L) cc1_scratch18 _); iexact H18
  isplitl [H19]; · iapply (owns_unmk (thr d L) cc1_scratch19 _); iexact H19
  isplitl [H20]; · iapply (owns_unmk (thr d L) cc1_scratch20 _); iexact H20
  isplitl [H21]; · iapply (owns_unmk (thr d L) cc1_scratch21 _); iexact H21
  isplitl [H22]; · iapply (owns_unmk (thr d L) cc1_scratch22 _); iexact H22
  isplitl [H23]; · iapply (owns_unmk (thr d L) cc1_scratch23 _); iexact H23
  isplitl [H24]; · iapply (owns_unmk (thr d L) cc1_scratch24 _); iexact H24
  isplitl [H25]; · iapply (owns_unmk (thr d L) cc1_scratch25 _); iexact H25
  isplitl [H26]; · iapply (owns_unmk (thr d L) cc1_scratch26 _); iexact H26
  isplitl [H27]; · iapply (owns_unmk (thr d L) cc1_scratch27 _); iexact H27
  iapply (owns_unmk (thr d L) cc1_scratch28 _); iexact H28

theorem sems_eq : (bigSep Finset.univ fun n : Fin 6 => semVal (thr d L, scrSem n) 0) = (Sems d L : sProp 𝕄) := by
  rw [bigSep_6]; rfl

/-! ## What a tile is handed and gives back -/

/-- The row of a tile's entry. -/
def rowAt (j : S3200.Idx) : ℕ := 6400 * (L 1).val + 3200 * (L 0).val + (j 0).val

/-- A tile's rows: its identifiers are those of the array, its values meet their conditions. -/
structure TileRows (idsA : S102400.Idx → Elt F .i32) (okP okK : RowOK F) (ids : S3200.Idx → Elt F .i32) (p k : Fin 4 → S3200.Idx → Elt F .f32) : Prop where
  ids : ids = (in1 L (Memref.whole main_v17_scv)).view.read (Elt F) idsA
  p : ∀ m j, okP m (rowAt L j) (p m j)
  k : ∀ m j, okK m (rowAt L j) (k m j)

variable (idsA : Dev nD → S102400.Idx → Elt F .i32) (okP okK : RowOK F)

def tileIn : sProp 𝕄 := iprop(∃ ids p k A, ⌜TileRows L (idsA d) okP okK ids p k⌝ ∗ Inp d L fullShare ids p k ∗ Outp d L A)

def tileOut : sProp 𝕄 := iprop(∃ ids p k, ⌜TileRows L (idsA d) okP okK ids p k⌝ ∗ Inp d L fullShare ids p k
  ∗ Outp d L (fun m => accs (base L) ids (p m) (k m) k1_t2_loop.trips))

instance Inp_storable (q) (ids : S3200.Idx → Elt F .i32) (p k) : BI.Storable (upEmb : UEmb _ 𝕄) (Inp d L q ids p k) := by
  unfold Inp; infer_instance
instance Outp_storable (A : Fin 4 → Acc F) : BI.Storable (upEmb : UEmb _ 𝕄) (Outp d L A) := by
  unfold Outp; infer_instance
instance tileIn_storable : BI.Storable (upEmb : UEmb _ 𝕄) (tileIn d L idsA okP okK) := by
  unfold tileIn; infer_instance
instance tileOut_storable : BI.Storable (upEmb : UEmb _ 𝕄) (tileOut d L idsA okP okK) := by
  unfold tileOut; infer_instance

/-- The grid's coordinates. -/
def coordsV (c : Fin (grid1.bound 0)) (s : Fin (grid1.bound 1)) : grid1.Coords :=
  fun | 0 => c | 1 => s | ⟨_ + 2, h⟩ => absurd h (Nat.not_lt.2 (Nat.le_add_left _ _))

/-- The call's payloads: a core is handed its tiles' rows and bins. -/
def P : (K (F := F)).Pay (nD := nD) (Val := Elt F) (Name := ℕ) (U := UU) where
  st := fun q d c => match q with | 0 => bigSep Finset.univ fun i => tileIn d (coordsV c i) idsA okP okK
  dn := fun q d c => match q with | 0 => bigSep Finset.univ fun i => tileOut d (coordsV c i) idsA okP okK
  go := fun q d c i => match q with | 0 => tileIn d (coordsV c i) idsA okP okK
  td := fun q d c i => match q with | 0 => tileOut d (coordsV c i) idsA okP okK
  x := fun _ _ => iprop(emp)

instance P_storable : (P idsA okP okK).IsStorable where
  st q d c := by match q with | 0 => unfold P; infer_instance
  dn q d c := by match q with | 0 => unfold P; infer_instance
  go q d c i := by match q with | 0 => unfold P; infer_instance
  td q d c i := by match q with | 0 => unfold P; infer_instance

theorem vecSplit : (K (F := F)).VecSplit' (P idsA okP okK) 0 := by
  intro d c
  show (bigSep Finset.univ fun i => tileIn d (coordsV c i) idsA okP okK) ⊢ |={Set.univ}=> iprop(
    (bigSep Finset.univ fun i => tileIn d (coordsV c i) idsA okP okK)
      ∗ ((bigSep Finset.univ fun i => tileOut d (coordsV c i) idsA okP okK) -∗ bigSep Finset.univ fun i => tileOut d (coordsV c i) idsA okP okK))
  iintro H; imodintro
  isplitl [H]; · iexact H
  iintro H; iexact H

omit [FloatOps F] [Named F] in
theorem obl_post {thr : Thread nD τ} {A B C : sProp 𝕄} {O : CellTallies nD τ sig (HIx 1)} {W : Waits sig (HIx 1)} {q : Fin 1} :
    iprop(A ∗ B ∗ C ∗ OwesFrom thr none O W)
      ⊢ iprop(A ∗ B ∗ C ∗ ∃ W', ⌜∀ p ∈ W', p ∈ W ∨ p.2 = none ∨ p.2 = some q⌝ ∗ owes thr O W') := by
  unfold OwesFrom
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_body (hF : (K (F := F)).Facts) (hids : ∀ d L, IdsOK ((in1 L (Memref.whole main_v17_scv)).view.read (Elt F) (idsA d)))
    (O : CellTallies nD τ sig (HIx 1)) (W : Waits sig (HIx 1)) (hO : ∀ g, O g none = 0) :
    iprop(levAts (K (F := F)).L (K (F := F)).lev ∗ emp ∗ tileIn d L idsA okP okK ∗ scopedBufs (thr d L) ∗ scopedSems0 (thr d L) ∗ owes (thr d L) O W)
      ⊢ wp frame (wpE (defs₀ (F := F)) 𝒱₀ (thr d L) none) Set.univ
          (cc1_sc_partials (F := F) L (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34)
          fun _ => iprop(tileOut d L idsA okP okK ∗ scopedBufs (thr d L) ∗ scopedSems0 (thr d L) ∗ OwesFrom (thr d L) none O W) := by
  rw [show (scopedBufs (thr d L) : sProp 𝕄) = ownBufs (thr d L) from (K (F := F)).scopedBufs_V hF d _ _,
    show (scopedSems0 (thr d L) : sProp 𝕄) = ownSems0 (thr d L) from SparseCore.Cfg.scopedSems0_V d _ _, ownBufs_eq, ownSems0_eq, sems_eq]
  unfold tileIn tileOut
  iintro ⟨Hl, -, ⟨%ids, %p, %k, %A, %h, HI, HP⟩, ⟨Hb, Hbr⟩, ⟨Hs, Hsr⟩, HO⟩
  ihave Hw := ((K (F := F)).mayWaits_none (thr := thr d L) hO) $$ Hl
  ihave Hb := (scr_intro d L) $$ Hb
  have hids' : IdsOK ids := by rw [h.ids]; exact hids d L
  iapply (wp_wand_r frame (wpE (defs₀ (F := F)) 𝒱₀ (thr d L) none))
  isplitl [Hw HI HP Hb Hs HO]
  · iapply (Sc.body 𝒱₀ none d L none O W fullShare ids p k hids' A)
    isplitl [Hw]; · iexact Hw
    isplitl [HI]; · iexact HI
    isplitl [HP]; · iexact HP
    isplitl [Hb]; · iexact Hb
    isplitl [Hs]; · iexact Hs
    iexact HO
  iintro %_ ⟨HI, HP, Hb, Hs, HO⟩
  ihave Hb := (scr_elim d L) $$ Hb
  isplitl [HI HP]
  · iexists ids, p, k
    isplitr
    · ipureintro; exact h
    isplitl [HI] <;> iassumption
  isplitl [Hb Hbr]
  · isplitl [Hb] <;> iassumption
  isplitl [Hs Hsr]
  · isplitl [Hs] <;> iassumption
  iexact HO

theorem defs₀_vector (c : Fin τ.nSC) (s : Fin τ.nSub) :
    defs₀ (F := F) (.scVector c s) 1 ()
      = SparseCore.onTile hcore1 hsub1 (fun c s => cc1_sc_partials (F := F) (coordsV c s) (Memref.whole main_v20_0_scv) (Memref.isWhole_whole _) (Memref.whole main_v20_1_scv) (Memref.isWhole_whole _) (Memref.whole main_v20_2_scv) (Memref.isWhole_whole _) (Memref.whole main_v20_3_scv) (Memref.isWhole_whole _) (Memref.whole main_v20_4_scv) (Memref.isWhole_whole _) (Memref.whole main_v20_5_scv) (Memref.isWhole_whole _) (Memref.whole main_v20_6_scv) (Memref.isWhole_whole _) (Memref.whole main_v20_7_scv) (Memref.isWhole_whole _) (Memref.whole main_v17_scv) (Memref.isWhole_whole _) (Memref.whole main_v21_0_scv) (Memref.isWhole_whole _) (Memref.whole main_v21_1_scv) (Memref.isWhole_whole _) (Memref.whole main_v21_2_scv) (Memref.isWhole_whole _) (Memref.whole main_v21_3_scv) (Memref.isWhole_whole _) (Memref.whole main_v21_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) (Memref.whole cc1_scratch22) (Memref.isWhole_whole _) (Memref.whole cc1_scratch23) (Memref.isWhole_whole _) (Memref.whole cc1_scratch24) (Memref.isWhole_whole _) (Memref.whole cc1_scratch25) (Memref.isWhole_whole _) (Memref.whole cc1_scratch26) (Memref.isWhole_whole _) (Memref.whole cc1_scratch27) (Memref.isWhole_whole _) (Memref.whole cc1_scratch28) (Memref.isWhole_whole _) cc1_scratch29 cc1_scratch30 cc1_scratch31 cc1_scratch32 cc1_scratch33 cc1_scratch34) ⟨⟩ c s := rfl

theorem tileObl (hF : (K (F := F)).Facts) (hids : ∀ d L, IdsOK ((in1 L (Memref.whole main_v17_scv)).view.read (Elt F) (idsA d))) :
    (K (F := F)).TileObl (D (F := F)) 𝒱 (P idsA okP okK) v₀ 0 := by
  intro d c i O W hO _ _
  simp only [show (P idsA okP okK).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) idsA okP okK hF hids O W hO).trans (wp_mono frame _ _ fun _ => obl_post)

end Cert.Proof

end
-- ==== Proof.Split.lean ====
/-
  The arrays of the binning kernel cut into its tiles' rows and bins, and put together again.
-/
module

public import proofs.«01_k».proof.Proof.Tiles

@[expose] public section

set_option pp.maxSteps 400

noncomputable section

namespace Cert.Proof

open Cert.KernelIdeal Cert.KernelIdeal.Gen Cert.Proof.Tile Cert.Proof.Sc

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## An array in pieces -/

section Pieces

variable {ℓ : Loc nD τ sig} {I : Type} [Fintype I] [DecidableEq I] {β : Type} (Φ : I → β → sProp (MT nD τ sig (HIx 1) (Elt F) ℕ UU ℕ)) (set : I → Finset (Idx ℓ))
  (rd : I → Buf (Elt F) ℓ → β) (key : Idx ℓ → I) (hkey : ∀ t i, i ∈ set t ↔ key i = t)
  (hΦ : ∀ t X, Φ t X = iprop(∃ f, ⌜rd t f = X⌝ ∗ (ℓ ↦[set t]{fullShare} f)))

include hkey in
theorem pieces_disjoint : ∀ t ∈ (Finset.univ : Finset I), ∀ t' ∈ (Finset.univ : Finset I), t ≠ t' → Disjoint (set t) (set t') := fun t _ t' _ h =>
  Finset.disjoint_left.mpr fun i hi hi' => h (((hkey t i).mp hi).symm.trans ((hkey t' i).mp hi'))

include hkey in
theorem pieces_cover : (Finset.univ : Finset I).biUnion set = Finset.univ :=
  Finset.eq_univ_iff_forall.mpr fun i => Finset.mem_biUnion.mpr ⟨key i, Finset.mem_univ _, (hkey _ i).mpr rfl⟩

include hkey hΦ in
theorem split_pieces (f : Buf (Elt F) ℓ) : (ℓ ↦{fullShare} f : sProp 𝕄) ⊢ bigSep Finset.univ fun t => Φ t (rd t f) := by
  have h : (ℓ ↦{fullShare} f : sProp 𝕄) = bigSep Finset.univ fun t => (ℓ ↦[set t]{fullShare} f) := by
    rw [← pointsTo_biUnion Finset.univ set (pieces_disjoint set key hkey), pieces_cover set key hkey]
  rw [h]
  refine bigSep_mono fun t _ => ?_
  have hk : (ℓ ↦[set t]{fullShare} f : sProp 𝕄) ⊢ (iprop(∃ g, ⌜rd t g = rd t f⌝ ∗ (ℓ ↦[set t]{fullShare} g)) : sProp 𝕄) := by
    iintro H; iexists f
    isplitr
    · ipureintro; rfl
    iexact H
  exact hk.trans (le_of_eq (hΦ t _).symm)

include hkey hΦ in
theorem join_pieces (hrd : ∀ t f g, (∀ i ∈ set t, f i = g i) → rd t f = rd t g) (hn : Nonempty (Buf (Elt F) ℓ)) (X : I → β) :
    (bigSep Finset.univ fun t => Φ t (X t)) ⊢ (iprop(∃ f, ⌜∀ t, rd t f = X t⌝ ∗ (ℓ ↦{fullShare} f)) : sProp 𝕄) := by
  simp only [hΦ]
  refine (BI.bigSep_exists_pi Finset.univ (fun t (f : Buf (Elt F) ℓ) => iprop(⌜rd t f = X t⌝ ∗ (ℓ ↦[set t]{fullShare} f)))).trans ?_
  iintro ⟨%fs, H⟩
  icases (BI.bigSep_pure_sep Finset.univ (fun t => rd t (fs t) = X t) fun t => (ℓ ↦[set t]{fullShare} fs t)) $$ H with ⟨%h, H⟩
  icases (pointsTo_biUnion_join Finset.univ set fs (Classical.arbitrary _) (pieces_disjoint set key hkey)) $$ H with ⟨%g, %hg, H⟩
  rw [pieces_cover set key hkey]
  iexists g
  isplitr
  · ipureintro; exact fun t => (hrd t _ _ (hg t (Finset.mem_univ t))).trans (h t (Finset.mem_univ t))
  iexact H

end Pieces

/-! ## The tiles -/

/-- The tiles: a core and a subcore. -/
abbrev Tl : Type := Fin 2 × Fin 16

/-- A tile's coordinates. -/
abbrev at' (t : Tl) : grid1.Coords := coordsV t.1 t.2

/-- The tile whose rows hold a row. -/
def inKey (i : S102400.Idx) : Tl :=
  (⟨(i 0).val / 3200 % 2, Nat.mod_lt _ (by decide)⟩, ⟨(i 0).val / 6400, by
    have : (i 0).val < 102400 := (i 0).isLt
    show _ < 16
    omega⟩)

/-- The tile and the member whose bins hold an entry. -/
def outKey (i : S4x32x4352.Idx) : Tl × Fin 4 :=
  ((⟨(i 1).val % 2, Nat.mod_lt _ (by decide)⟩, ⟨(i 1).val / 2, by
    have : (i 1).val < 32 := (i 1).isLt
    show _ < 16
    omega⟩), i 0)

theorem mem_in {off : Fin 1 → ℕ} {inb} (t : Tl) (h : off = ![6400 * t.2.val + 3200 * t.1.val]) (i : S102400.Idx) :
    i ∈ (Rect.unit (s := S102400) off S3200.size inb).set ↔ inKey i = t := by
  subst h
  obtain ⟨⟨c, hc⟩, ⟨s, hs⟩⟩ := t
  have hc' : c < 2 := hc
  rw [Rect.mem_set_unit]
  unfold inKey
  simp only [Prod.mk.injEq, Fin.mk.injEq]
  constructor
  · intro h
    have h0 := h 0
    simp only [Matrix.cons_val_zero, show S3200.size 0 = 3200 from rfl] at h0
    omega
  · rintro ⟨h1, h2⟩ a
    fin_cases a
    show 6400 * s + 3200 * c ≤ (i 0).val ∧ (i 0).val < 6400 * s + 3200 * c + 3200
    omega

theorem mem_out {off : Fin 3 → ℕ} {inb} (t : Tl) (m : Fin 4) (h : off = ![m.val, 2 * t.2.val + t.1.val, 0]) (i : S4x32x4352.Idx) :
    i ∈ (Rect.unit (s := S4x32x4352) off S1x1x4352.size inb).set ↔ outKey i = (t, m) := by
  subst h
  obtain ⟨⟨c, hc⟩, ⟨s, hs⟩⟩ := t
  have hc' : c < 2 := hc
  rw [Rect.mem_set_unit]
  have e : outKey i = ((⟨c, hc⟩, ⟨s, hs⟩), m) ↔ ((i 1).val % 2 = c ∧ (i 1).val / 2 = s) ∧ (i 0).val = m.val := by
    constructor
    · intro h
      exact ⟨⟨congrArg (fun x => x.1.1.val) h, congrArg (fun x => x.1.2.val) h⟩, congrArg (fun x => x.2.val) h⟩
    · rintro ⟨⟨h1, h2⟩, h3⟩
      exact Prod.ext (Prod.ext (Fin.ext h1) (Fin.ext h2)) (Fin.ext h3)
  rw [e]
  have h2 : (i 2).val < 4352 := (i 2).isLt
  constructor
  · intro h
    have h0 := h 0
    have h1 := h 1
    simp only [Matrix.cons_val_zero, Matrix.cons_val_one, show S1x1x4352.size 0 = 1 from rfl, show S1x1x4352.size 1 = 1 from rfl] at h0 h1
    exact ⟨⟨by omega, by omega⟩, by omega⟩
  · rintro ⟨⟨h1, h3⟩, h4⟩ a
    match a with
    | 0 =>
      show m.val ≤ (i 0).val ∧ (i 0).val < m.val + 1
      omega
    | 1 =>
      show 2 * s + c ≤ (i 1).val ∧ (i 1).val < 2 * s + c + 1
      omega
    | 2 =>
      show 0 ≤ (i 2).val ∧ (i 2).val < 0 + 4352
      omega

/-! A tile's bins of one of the outputs, of a member: the places, what is read there, and their possession. -/

section Out

variable (L : grid1.Coords) (m : Fin 4) {e : EltTy} (M : Memref sig .scVector .hbm S4x32x4352 e)

def outSet : Finset M.view.ty.Idx := match m with
  | 0 => (out0 L M).view.set
  | 1 => (out1 L M).view.set
  | 2 => (out2 L M).view.set
  | 3 => (out3 L M).view.set

def outRd (f : M.view.ty.Contents (Elt F)) : S4352.Idx → Elt F e := match m with
  | 0 => (out0 L M).view.read (Elt F) f
  | 1 => (out1 L M).view.read (Elt F) f
  | 2 => (out2 L M).view.read (Elt F) f
  | 3 => (out3 L M).view.read (Elt F) f

def outOwn (d : Dev nD) (X : S4352.Idx → Elt F e) : sProp 𝕄 := match m with
  | 0 => owns (thr d L) (out0 L M) fullShare X
  | 1 => owns (thr d L) (out1 L M) fullShare X
  | 2 => owns (thr d L) (out2 L M) fullShare X
  | 3 => owns (thr d L) (out3 L M) fullShare X

theorem outRd_congr (f g : M.view.ty.Contents (Elt F)) (h : ∀ i ∈ outSet L m M, f i = g i) : outRd L m M f = outRd L m M g := by
  match m with
  | 0 => exact View.read_congr h
  | 1 => exact View.read_congr h
  | 2 => exact View.read_congr h
  | 3 => exact View.read_congr h

end Out

theorem set_in1 (t : Tl) {e : EltTy} (M : Memref sig .scVector .hbm S102400 e) (y : S102400.Idx) :
    M.view.emb y ∈ (in1 (at' t) M).view.set ↔ inKey y = t := by
  rw [show (in1 (at' t) M).view.set = (Rect.unit (s := S102400) (k1_off1 (at' t)) S3200.size (k1_off1_inb (at' t))).set.map M.view.emb from View.set_slice _ _,
    Finset.mem_map']
  exact mem_in t (k1_off1_eq _) y

theorem set_in2 (t : Tl) {e : EltTy} (M : Memref sig .scVector .hbm S102400 e) (y : S102400.Idx) :
    M.view.emb y ∈ (in2 (at' t) M).view.set ↔ inKey y = t := by
  rw [show (in2 (at' t) M).view.set = (Rect.unit (s := S102400) (k1_off2 (at' t)) S3200.size (k1_off2_inb (at' t))).set.map M.view.emb from View.set_slice _ _,
    Finset.mem_map']
  exact mem_in t (k1_off2_eq _) y

theorem set_out (x : Tl × Fin 4) {e : EltTy} (M : Memref sig .scVector .hbm S4x32x4352 e) (y : S4x32x4352.Idx) :
    M.view.emb y ∈ outSet (at' x.1) x.2 M ↔ outKey y = x := by
  obtain ⟨t, m⟩ := x
  match m with
  | 0 =>
    rw [show outSet (at' t) 0 M = (Rect.unit (s := S4x32x4352) (k1_off6 (at' t)) S1x1x4352.size (k1_off6_inb (at' t))).set.map M.view.emb from
      (View.set_reshape _ _).trans (View.set_slice _ _), Finset.mem_map']
    exact mem_out t 0 (k1_off6_eq _) y
  | 1 =>
    rw [show outSet (at' t) 1 M = (Rect.unit (s := S4x32x4352) (k1_off7 (at' t)) S1x1x4352.size (k1_off7_inb (at' t))).set.map M.view.emb from
      (View.set_reshape _ _).trans (View.set_slice _ _), Finset.mem_map']
    exact mem_out t 1 (k1_off7_eq _) y
  | 2 =>
    rw [show outSet (at' t) 2 M = (Rect.unit (s := S4x32x4352) (k1_off8 (at' t)) S1x1x4352.size (k1_off8_inb (at' t))).set.map M.view.emb from
      (View.set_reshape _ _).trans (View.set_slice _ _), Finset.mem_map']
    exact mem_out t 2 (k1_off8_eq _) y
  | 3 =>
    rw [show outSet (at' t) 3 M = (Rect.unit (s := S4x32x4352) (k1_off9 (at' t)) S1x1x4352.size (k1_off9_inb (at' t))).set.map M.view.emb from
      (View.set_reshape _ _).trans (View.set_slice _ _), Finset.mem_map']
    exact mem_out t 3 (k1_off9_eq _) y

variable (d : Dev nD)

/-! The inputs in the tiles' pieces. -/

theorem split_v9 (f : Buf (Elt F) ((SparseCore.T d).loc main_v17)) : ((SparseCore.T d).loc main_v17 ↦{fullShare} f : sProp 𝕄)
    ⊢ bigSep Finset.univ fun t : Tl => owns (thr d (at' t)) (in1 (at' t) (Memref.whole main_v17_scv)) fullShare ((in1 (at' t) (Memref.whole main_v17_scv)).view.read (Elt F) f) :=
  split_pieces (ℓ := (SparseCore.T d).loc main_v17) (fun t X => owns (thr d (at' t)) (in1 (at' t) (Memref.whole main_v17_scv)) fullShare X)
    (fun t => (in1 (at' t) (Memref.whole main_v17_scv)).view.set) (fun t f => (in1 (at' t) (Memref.whole main_v17_scv)).view.read (Elt F) f) inKey
    (fun t i => set_in1 t (Memref.whole main_v17_scv) i) (fun t X => rfl) f

theorem split_v12_0 (f : Buf (Elt F) ((SparseCore.T d).loc main_v20_0)) : ((SparseCore.T d).loc main_v20_0 ↦{fullShare} f : sProp 𝕄)
    ⊢ bigSep Finset.univ fun t : Tl => owns (thr d (at' t)) (in2 (at' t) (Memref.whole main_v20_0_scv)) fullShare ((in2 (at' t) (Memref.whole main_v20_0_scv)).view.read (Elt F) f) :=
  split_pieces (ℓ := (SparseCore.T d).loc main_v20_0) (fun t X => owns (thr d (at' t)) (in2 (at' t) (Memref.whole main_v20_0_scv)) fullShare X)
    (fun t => (in2 (at' t) (Memref.whole main_v20_0_scv)).view.set) (fun t f => (in2 (at' t) (Memref.whole main_v20_0_scv)).view.read (Elt F) f) inKey
    (fun t i => set_in2 t (Memref.whole main_v20_0_scv) i) (fun t X => rfl) f

theorem split_v12_1 (f : Buf (Elt F) ((SparseCore.T d).loc main_v20_1)) : ((SparseCore.T d).loc main_v20_1 ↦{fullShare} f : sProp 𝕄)
    ⊢ bigSep Finset.univ fun t : Tl => owns (thr d (at' t)) (in2 (at' t) (Memref.whole main_v20_1_scv)) fullShare ((in2 (at' t) (Memref.whole main_v20_1_scv)).view.read (Elt F) f) :=
  split_pieces (ℓ := (SparseCore.T d).loc main_v20_1) (fun t X => owns (thr d (at' t)) (in2 (at' t) (Memref.whole main_v20_1_scv)) fullShare X)
    (fun t => (in2 (at' t) (Memref.whole main_v20_1_scv)).view.set) (fun t f => (in2 (at' t) (Memref.whole main_v20_1_scv)).view.read (Elt F) f) inKey
    (fun t i => set_in2 t (Memref.whole main_v20_1_scv) i) (fun t X => rfl) f

theorem split_v12_2 (f : Buf (Elt F) ((SparseCore.T d).loc main_v20_2)) : ((SparseCore.T d).loc main_v20_2 ↦{fullShare} f : sProp 𝕄)
    ⊢ bigSep Finset.univ fun t : Tl => owns (thr d (at' t)) (in2 (at' t) (Memref.whole main_v20_2_scv)) fullShare ((in2 (at' t) (Memref.whole main_v20_2_scv)).view.read (Elt F) f) :=
  split_pieces (ℓ := (SparseCore.T d).loc main_v20_2) (fun t X => owns (thr d (at' t)) (in2 (at' t) (Memref.whole main_v20_2_scv)) fullShare X)
    (fun t => (in2 (at' t) (Memref.whole main_v20_2_scv)).view.set) (fun t f => (in2 (at' t) (Memref.whole main_v20_2_scv)).view.read (Elt F) f) inKey
    (fun t i => set_in2 t (Memref.whole main_v20_2_scv) i) (fun t X => rfl) f

theorem split_v12_3 (f : Buf (Elt F) ((SparseCore.T d).loc main_v20_3)) : ((SparseCore.T d).loc main_v20_3 ↦{fullShare} f : sProp 𝕄)
    ⊢ bigSep Finset.univ fun t : Tl => owns (thr d (at' t)) (in2 (at' t) (Memref.whole main_v20_3_scv)) fullShare ((in2 (at' t) (Memref.whole main_v20_3_scv)).view.read (Elt F) f) :=
  split_pieces (ℓ := (SparseCore.T d).loc main_v20_3) (fun t X => owns (thr d (at' t)) (in2 (at' t) (Memref.whole main_v20_3_scv)) fullShare X)
    (fun t => (in2 (at' t) (Memref.whole main_v20_3_scv)).view.set) (fun t f => (in2 (at' t) (Memref.whole main_v20_3_scv)).view.read (Elt F) f) inKey
    (fun t i => set_in2 t (Memref.whole main_v20_3_scv) i) (fun t X => rfl) f

theorem split_v12_4 (f : Buf (Elt F) ((SparseCore.T d).loc main_v20_4)) : ((SparseCore.T d).loc main_v20_4 ↦{fullShare} f : sProp 𝕄)
    ⊢ bigSep Finset.univ fun t : Tl => owns (thr d (at' t)) (in2 (at' t) (Memref.whole main_v20_4_scv)) fullShare ((in2 (at' t) (Memref.whole main_v20_4_scv)).view.read (Elt F) f) :=
  split_pieces (ℓ := (SparseCore.T d).loc main_v20_4) (fun t X => owns (thr d (at' t)) (in2 (at' t) (Memref.whole main_v20_4_scv)) fullShare X)
    (fun t => (in2 (at' t) (Memref.whole main_v20_4_scv)).view.set) (fun t f => (in2 (at' t) (Memref.whole main_v20_4_scv)).view.read (Elt F) f) inKey
    (fun t i => set_in2 t (Memref.whole main_v20_4_scv) i) (fun t X => rfl) f

theorem split_v12_5 (f : Buf (Elt F) ((SparseCore.T d).loc main_v20_5)) : ((SparseCore.T d).loc main_v20_5 ↦{fullShare} f : sProp 𝕄)
    ⊢ bigSep Finset.univ fun t : Tl => owns (thr d (at' t)) (in2 (at' t) (Memref.whole main_v20_5_scv)) fullShare ((in2 (at' t) (Memref.whole main_v20_5_scv)).view.read (Elt F) f) :=
  split_pieces (ℓ := (SparseCore.T d).loc main_v20_5) (fun t X => owns (thr d (at' t)) (in2 (at' t) (Memref.whole main_v20_5_scv)) fullShare X)
    (fun t => (in2 (at' t) (Memref.whole main_v20_5_scv)).view.set) (fun t f => (in2 (at' t) (Memref.whole main_v20_5_scv)).view.read (Elt F) f) inKey
    (fun t i => set_in2 t (Memref.whole main_v20_5_scv) i) (fun t X => rfl) f

theorem split_v12_6 (f : Buf (Elt F) ((SparseCore.T d).loc main_v20_6)) : ((SparseCore.T d).loc main_v20_6 ↦{fullShare} f : sProp 𝕄)
    ⊢ bigSep Finset.univ fun t : Tl => owns (thr d (at' t)) (in2 (at' t) (Memref.whole main_v20_6_scv)) fullShare ((in2 (at' t) (Memref.whole main_v20_6_scv)).view.read (Elt F) f) :=
  split_pieces (ℓ := (SparseCore.T d).loc main_v20_6) (fun t X => owns (thr d (at' t)) (in2 (at' t) (Memref.whole main_v20_6_scv)) fullShare X)
    (fun t => (in2 (at' t) (Memref.whole main_v20_6_scv)).view.set) (fun t f => (in2 (at' t) (Memref.whole main_v20_6_scv)).view.read (Elt F) f) inKey
    (fun t i => set_in2 t (Memref.whole main_v20_6_scv) i) (fun t X => rfl) f

theorem split_v12_7 (f : Buf (Elt F) ((SparseCore.T d).loc main_v20_7)) : ((SparseCore.T d).loc main_v20_7 ↦{fullShare} f : sProp 𝕄)
    ⊢ bigSep Finset.univ fun t : Tl => owns (thr d (at' t)) (in2 (at' t) (Memref.whole main_v20_7_scv)) fullShare ((in2 (at' t) (Memref.whole main_v20_7_scv)).view.read (Elt F) f) :=
  split_pieces (ℓ := (SparseCore.T d).loc main_v20_7) (fun t X => owns (thr d (at' t)) (in2 (at' t) (Memref.whole main_v20_7_scv)) fullShare X)
    (fun t => (in2 (at' t) (Memref.whole main_v20_7_scv)).view.set) (fun t f => (in2 (at' t) (Memref.whole main_v20_7_scv)).view.read (Elt F) f) inKey
    (fun t i => set_in2 t (Memref.whole main_v20_7_scv) i) (fun t X => rfl) f

/-! The outputs in the tiles' pieces, and of them. -/

theorem split_v13_0 (f : Buf (Elt F) ((SparseCore.T d).loc main_v21_0)) : ((SparseCore.T d).loc main_v21_0 ↦{fullShare} f : sProp 𝕄)
    ⊢ bigSep Finset.univ fun x : Tl × Fin 4 => outOwn (at' x.1) x.2 (Memref.whole main_v21_0_scv) d (outRd (at' x.1) x.2 (Memref.whole main_v21_0_scv) f) :=
  split_pieces (ℓ := (SparseCore.T d).loc main_v21_0) (fun x X => outOwn (at' x.1) x.2 (Memref.whole main_v21_0_scv) d X)
    (fun x => outSet (at' x.1) x.2 (Memref.whole main_v21_0_scv)) (fun x f => outRd (at' x.1) x.2 (Memref.whole main_v21_0_scv) f) outKey
    (fun x i => set_out x (Memref.whole main_v21_0_scv) i) (fun x X => by obtain ⟨t, m⟩ := x; match m with | 0 | 1 | 2 | 3 => rfl) f

theorem join_v13_0 [∀ e, Nonempty (Elt F e)] (X : Tl × Fin 4 → S4352.Idx → Elt F .f32) :
    (bigSep Finset.univ fun x : Tl × Fin 4 => outOwn (at' x.1) x.2 (Memref.whole main_v21_0_scv) d (X x))
    ⊢ (iprop(∃ f : Buf (Elt F) ((SparseCore.T d).loc main_v21_0), ⌜∀ x : Tl × Fin 4, outRd (at' x.1) x.2 (Memref.whole main_v21_0_scv) f = X x⌝ ∗ ((SparseCore.T d).loc main_v21_0 ↦{fullShare} f)) : sProp 𝕄) :=
  join_pieces (ℓ := (SparseCore.T d).loc main_v21_0) (fun x X => outOwn (at' x.1) x.2 (Memref.whole main_v21_0_scv) d X)
    (fun x => outSet (at' x.1) x.2 (Memref.whole main_v21_0_scv)) (fun x f => outRd (at' x.1) x.2 (Memref.whole main_v21_0_scv) f) outKey
    (fun x i => set_out x (Memref.whole main_v21_0_scv) i) (fun x X => by obtain ⟨t, m⟩ := x; match m with | 0 | 1 | 2 | 3 => rfl)
    (fun x f g h => outRd_congr (at' x.1) x.2 (Memref.whole main_v21_0_scv) f g h) ⟨fun _ => (Classical.arbitrary (Elt F .f32) : Elt F .f32)⟩ X

theorem split_v13_1 (f : Buf (Elt F) ((SparseCore.T d).loc main_v21_1)) : ((SparseCore.T d).loc main_v21_1 ↦{fullShare} f : sProp 𝕄)
    ⊢ bigSep Finset.univ fun x : Tl × Fin 4 => outOwn (at' x.1) x.2 (Memref.whole main_v21_1_scv) d (outRd (at' x.1) x.2 (Memref.whole main_v21_1_scv) f) :=
  split_pieces (ℓ := (SparseCore.T d).loc main_v21_1) (fun x X => outOwn (at' x.1) x.2 (Memref.whole main_v21_1_scv) d X)
    (fun x => outSet (at' x.1) x.2 (Memref.whole main_v21_1_scv)) (fun x f => outRd (at' x.1) x.2 (Memref.whole main_v21_1_scv) f) outKey
    (fun x i => set_out x (Memref.whole main_v21_1_scv) i) (fun x X => by obtain ⟨t, m⟩ := x; match m with | 0 | 1 | 2 | 3 => rfl) f

theorem join_v13_1 [∀ e, Nonempty (Elt F e)] (X : Tl × Fin 4 → S4352.Idx → Elt F .i32) :
    (bigSep Finset.univ fun x : Tl × Fin 4 => outOwn (at' x.1) x.2 (Memref.whole main_v21_1_scv) d (X x))
    ⊢ (iprop(∃ f : Buf (Elt F) ((SparseCore.T d).loc main_v21_1), ⌜∀ x : Tl × Fin 4, outRd (at' x.1) x.2 (Memref.whole main_v21_1_scv) f = X x⌝ ∗ ((SparseCore.T d).loc main_v21_1 ↦{fullShare} f)) : sProp 𝕄) :=
  join_pieces (ℓ := (SparseCore.T d).loc main_v21_1) (fun x X => outOwn (at' x.1) x.2 (Memref.whole main_v21_1_scv) d X)
    (fun x => outSet (at' x.1) x.2 (Memref.whole main_v21_1_scv)) (fun x f => outRd (at' x.1) x.2 (Memref.whole main_v21_1_scv) f) outKey
    (fun x i => set_out x (Memref.whole main_v21_1_scv) i) (fun x X => by obtain ⟨t, m⟩ := x; match m with | 0 | 1 | 2 | 3 => rfl)
    (fun x f g h => outRd_congr (at' x.1) x.2 (Memref.whole main_v21_1_scv) f g h) ⟨fun _ => (Classical.arbitrary (Elt F .i32) : Elt F .i32)⟩ X

theorem split_v13_2 (f : Buf (Elt F) ((SparseCore.T d).loc main_v21_2)) : ((SparseCore.T d).loc main_v21_2 ↦{fullShare} f : sProp 𝕄)
    ⊢ bigSep Finset.univ fun x : Tl × Fin 4 => outOwn (at' x.1) x.2 (Memref.whole main_v21_2_scv) d (outRd (at' x.1) x.2 (Memref.whole main_v21_2_scv) f) :=
  split_pieces (ℓ := (SparseCore.T d).loc main_v21_2) (fun x X => outOwn (at' x.1) x.2 (Memref.whole main_v21_2_scv) d X)
    (fun x => outSet (at' x.1) x.2 (Memref.whole main_v21_2_scv)) (fun x f => outRd (at' x.1) x.2 (Memref.whole main_v21_2_scv) f) outKey
    (fun x i => set_out x (Memref.whole main_v21_2_scv) i) (fun x X => by obtain ⟨t, m⟩ := x; match m with | 0 | 1 | 2 | 3 => rfl) f

theorem join_v13_2 [∀ e, Nonempty (Elt F e)] (X : Tl × Fin 4 → S4352.Idx → Elt F .f32) :
    (bigSep Finset.univ fun x : Tl × Fin 4 => outOwn (at' x.1) x.2 (Memref.whole main_v21_2_scv) d (X x))
    ⊢ (iprop(∃ f : Buf (Elt F) ((SparseCore.T d).loc main_v21_2), ⌜∀ x : Tl × Fin 4, outRd (at' x.1) x.2 (Memref.whole main_v21_2_scv) f = X x⌝ ∗ ((SparseCore.T d).loc main_v21_2 ↦{fullShare} f)) : sProp 𝕄) :=
  join_pieces (ℓ := (SparseCore.T d).loc main_v21_2) (fun x X => outOwn (at' x.1) x.2 (Memref.whole main_v21_2_scv) d X)
    (fun x => outSet (at' x.1) x.2 (Memref.whole main_v21_2_scv)) (fun x f => outRd (at' x.1) x.2 (Memref.whole main_v21_2_scv) f) outKey
    (fun x i => set_out x (Memref.whole main_v21_2_scv) i) (fun x X => by obtain ⟨t, m⟩ := x; match m with | 0 | 1 | 2 | 3 => rfl)
    (fun x f g h => outRd_congr (at' x.1) x.2 (Memref.whole main_v21_2_scv) f g h) ⟨fun _ => (Classical.arbitrary (Elt F .f32) : Elt F .f32)⟩ X

theorem split_v13_3 (f : Buf (Elt F) ((SparseCore.T d).loc main_v21_3)) : ((SparseCore.T d).loc main_v21_3 ↦{fullShare} f : sProp 𝕄)
    ⊢ bigSep Finset.univ fun x : Tl × Fin 4 => outOwn (at' x.1) x.2 (Memref.whole main_v21_3_scv) d (outRd (at' x.1) x.2 (Memref.whole main_v21_3_scv) f) :=
  split_pieces (ℓ := (SparseCore.T d).loc main_v21_3) (fun x X => outOwn (at' x.1) x.2 (Memref.whole main_v21_3_scv) d X)
    (fun x => outSet (at' x.1) x.2 (Memref.whole main_v21_3_scv)) (fun x f => outRd (at' x.1) x.2 (Memref.whole main_v21_3_scv) f) outKey
    (fun x i => set_out x (Memref.whole main_v21_3_scv) i) (fun x X => by obtain ⟨t, m⟩ := x; match m with | 0 | 1 | 2 | 3 => rfl) f

theorem join_v13_3 [∀ e, Nonempty (Elt F e)] (X : Tl × Fin 4 → S4352.Idx → Elt F .f32) :
    (bigSep Finset.univ fun x : Tl × Fin 4 => outOwn (at' x.1) x.2 (Memref.whole main_v21_3_scv) d (X x))
    ⊢ (iprop(∃ f : Buf (Elt F) ((SparseCore.T d).loc main_v21_3), ⌜∀ x : Tl × Fin 4, outRd (at' x.1) x.2 (Memref.whole main_v21_3_scv) f = X x⌝ ∗ ((SparseCore.T d).loc main_v21_3 ↦{fullShare} f)) : sProp 𝕄) :=
  join_pieces (ℓ := (SparseCore.T d).loc main_v21_3) (fun x X => outOwn (at' x.1) x.2 (Memref.whole main_v21_3_scv) d X)
    (fun x => outSet (at' x.1) x.2 (Memref.whole main_v21_3_scv)) (fun x f => outRd (at' x.1) x.2 (Memref.whole main_v21_3_scv) f) outKey
    (fun x i => set_out x (Memref.whole main_v21_3_scv) i) (fun x X => by obtain ⟨t, m⟩ := x; match m with | 0 | 1 | 2 | 3 => rfl)
    (fun x f g h => outRd_congr (at' x.1) x.2 (Memref.whole main_v21_3_scv) f g h) ⟨fun _ => (Classical.arbitrary (Elt F .f32) : Elt F .f32)⟩ X

theorem split_v13_4 (f : Buf (Elt F) ((SparseCore.T d).loc main_v21_4)) : ((SparseCore.T d).loc main_v21_4 ↦{fullShare} f : sProp 𝕄)
    ⊢ bigSep Finset.univ fun x : Tl × Fin 4 => outOwn (at' x.1) x.2 (Memref.whole main_v21_4_scv) d (outRd (at' x.1) x.2 (Memref.whole main_v21_4_scv) f) :=
  split_pieces (ℓ := (SparseCore.T d).loc main_v21_4) (fun x X => outOwn (at' x.1) x.2 (Memref.whole main_v21_4_scv) d X)
    (fun x => outSet (at' x.1) x.2 (Memref.whole main_v21_4_scv)) (fun x f => outRd (at' x.1) x.2 (Memref.whole main_v21_4_scv) f) outKey
    (fun x i => set_out x (Memref.whole main_v21_4_scv) i) (fun x X => by obtain ⟨t, m⟩ := x; match m with | 0 | 1 | 2 | 3 => rfl) f

theorem join_v13_4 [∀ e, Nonempty (Elt F e)] (X : Tl × Fin 4 → S4352.Idx → Elt F .f32) :
    (bigSep Finset.univ fun x : Tl × Fin 4 => outOwn (at' x.1) x.2 (Memref.whole main_v21_4_scv) d (X x))
    ⊢ (iprop(∃ f : Buf (Elt F) ((SparseCore.T d).loc main_v21_4), ⌜∀ x : Tl × Fin 4, outRd (at' x.1) x.2 (Memref.whole main_v21_4_scv) f = X x⌝ ∗ ((SparseCore.T d).loc main_v21_4 ↦{fullShare} f)) : sProp 𝕄) :=
  join_pieces (ℓ := (SparseCore.T d).loc main_v21_4) (fun x X => outOwn (at' x.1) x.2 (Memref.whole main_v21_4_scv) d X)
    (fun x => outSet (at' x.1) x.2 (Memref.whole main_v21_4_scv)) (fun x f => outRd (at' x.1) x.2 (Memref.whole main_v21_4_scv) f) outKey
    (fun x i => set_out x (Memref.whole main_v21_4_scv) i) (fun x X => by obtain ⟨t, m⟩ := x; match m with | 0 | 1 | 2 | 3 => rfl)
    (fun x f g h => outRd_congr (at' x.1) x.2 (Memref.whole main_v21_4_scv) f g h) ⟨fun _ => (Classical.arbitrary (Elt F .f32) : Elt F .f32)⟩ X

end Cert.Proof

end
-- ==== Proof.Deal.lean ====
/-
  The arrays of the binning kernel handed to its tiles, and taken back from them.
-/
module

public import proofs.«01_k».proof.Proof.Split
public import Idealize.ShloMosaic.Lib.Pipeline.ValueKit.Geometry

@[expose] public section

set_option pp.maxSteps 400

noncomputable section

namespace Cert.Proof

open Cert.KernelIdeal Cert.KernelIdeal.Gen Cert.Proof.Tile Cert.Proof.Sc

open Idealize.ShloMosaic
open Idealize.ShloMosaic.SparseCore (S V)
open Idealize.ShloMosaic.SparseCore.Cfg (HIx)
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

theorem bigSep_4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

theorem bigSep_tl {M : Type} [URA M] {I J : Type} [Fintype I] [Fintype J] [DecidableEq I] [DecidableEq J] (Φ : I × J → sProp M) :
    bigSep Finset.univ Φ = bigSep Finset.univ fun a => bigSep Finset.univ fun b => Φ (a, b) := by
  rw [← Finset.univ_product_univ, SparseCore.bigSep_product]

variable (d : Dev nD) (idsA : Dev nD → S102400.Idx → Elt F .i32) (okP okK : RowOK F)

/-! ## To the tiles -/

theorem in1_at (t : Tl) (j : S3200.Idx) : (((in1 (at' t) (Memref.whole main_v17_scv)).view.emb j (0 : Fin 1) : Fin _) : ℕ) = rowAt (at' t) j :=
  (ValueKit.view_emb_slice_whole_unit_val main_v17_scv (k1_off1 (at' t)) S3200.size _ j 0).trans
    (congrArg (· + (j 0).val) (congrFun (k1_off1_eq (at' t)) 0))

theorem in2_at_0 (t : Tl) (j : S3200.Idx) : (((in2 (at' t) (Memref.whole main_v20_0_scv)).view.emb j (0 : Fin 1) : Fin _) : ℕ) = rowAt (at' t) j :=
  (ValueKit.view_emb_slice_whole_unit_val main_v20_0_scv (k1_off2 (at' t)) S3200.size _ j 0).trans
    (congrArg (· + (j 0).val) (congrFun (k1_off2_eq (at' t)) 0))

theorem in2_at_1 (t : Tl) (j : S3200.Idx) : (((in2 (at' t) (Memref.whole main_v20_1_scv)).view.emb j (0 : Fin 1) : Fin _) : ℕ) = rowAt (at' t) j :=
  (ValueKit.view_emb_slice_whole_unit_val main_v20_1_scv (k1_off2 (at' t)) S3200.size _ j 0).trans
    (congrArg (· + (j 0).val) (congrFun (k1_off2_eq (at' t)) 0))

theorem in2_at_2 (t : Tl) (j : S3200.Idx) : (((in2 (at' t) (Memref.whole main_v20_2_scv)).view.emb j (0 : Fin 1) : Fin _) : ℕ) = rowAt (at' t) j :=
  (ValueKit.view_emb_slice_whole_unit_val main_v20_2_scv (k1_off2 (at' t)) S3200.size _ j 0).trans
    (congrArg (· + (j 0).val) (congrFun (k1_off2_eq (at' t)) 0))

theorem in2_at_3 (t : Tl) (j : S3200.Idx) : (((in2 (at' t) (Memref.whole main_v20_3_scv)).view.emb j (0 : Fin 1) : Fin _) : ℕ) = rowAt (at' t) j :=
  (ValueKit.view_emb_slice_whole_unit_val main_v20_3_scv (k1_off2 (at' t)) S3200.size _ j 0).trans
    (congrArg (· + (j 0).val) (congrFun (k1_off2_eq (at' t)) 0))

theorem in2_at_4 (t : Tl) (j : S3200.Idx) : (((in2 (at' t) (Memref.whole main_v20_4_scv)).view.emb j (0 : Fin 1) : Fin _) : ℕ) = rowAt (at' t) j :=
  (ValueKit.view_emb_slice_whole_unit_val main_v20_4_scv (k1_off2 (at' t)) S3200.size _ j 0).trans
    (congrArg (· + (j 0).val) (congrFun (k1_off2_eq (at' t)) 0))

theorem in2_at_5 (t : Tl) (j : S3200.Idx) : (((in2 (at' t) (Memref.whole main_v20_5_scv)).view.emb j (0 : Fin 1) : Fin _) : ℕ) = rowAt (at' t) j :=
  (ValueKit.view_emb_slice_whole_unit_val main_v20_5_scv (k1_off2 (at' t)) S3200.size _ j 0).trans
    (congrArg (· + (j 0).val) (congrFun (k1_off2_eq (at' t)) 0))

theorem in2_at_6 (t : Tl) (j : S3200.Idx) : (((in2 (at' t) (Memref.whole main_v20_6_scv)).view.emb j (0 : Fin 1) : Fin _) : ℕ) = rowAt (at' t) j :=
  (ValueKit.view_emb_slice_whole_unit_val main_v20_6_scv (k1_off2 (at' t)) S3200.size _ j 0).trans
    (congrArg (· + (j 0).val) (congrFun (k1_off2_eq (at' t)) 0))

theorem in2_at_7 (t : Tl) (j : S3200.Idx) : (((in2 (at' t) (Memref.whole main_v20_7_scv)).view.emb j (0 : Fin 1) : Fin _) : ℕ) = rowAt (at' t) j :=
  (ValueKit.view_emb_slice_whole_unit_val main_v20_7_scv (k1_off2 (at' t)) S3200.size _ j 0).trans
    (congrArg (· + (j 0).val) (congrFun (k1_off2_eq (at' t)) 0))

/-- The arrays of stage 1, with the condition each entry meets. -/
structure Rows (p k : Fin 4 → S102400.Idx → Elt F .f32) : Prop where
  p : ∀ m i, okP m (i 0).val (p m i)
  k : ∀ m i, okK m (i 0).val (k m i)

/-- The bins of one output at a tile, of the four members. -/
theorem outs_eq (t : Tl) (B0 : S4x32x4352.Idx → Elt F .f32) (B1 : S4x32x4352.Idx → Elt F .i32) (B2 B3 B4 : S4x32x4352.Idx → Elt F .f32) :
    iprop((bigSep Finset.univ fun m : Fin 4 => outOwn (at' t) m (Memref.whole main_v21_0_scv) d (outRd (at' t) m (Memref.whole main_v21_0_scv) B0))
      ∗ (bigSep Finset.univ fun m : Fin 4 => outOwn (at' t) m (Memref.whole main_v21_1_scv) d (outRd (at' t) m (Memref.whole main_v21_1_scv) B1))
      ∗ (bigSep Finset.univ fun m : Fin 4 => outOwn (at' t) m (Memref.whole main_v21_2_scv) d (outRd (at' t) m (Memref.whole main_v21_2_scv) B2))
      ∗ (bigSep Finset.univ fun m : Fin 4 => outOwn (at' t) m (Memref.whole main_v21_3_scv) d (outRd (at' t) m (Memref.whole main_v21_3_scv) B3))
      ∗ (bigSep Finset.univ fun m : Fin 4 => outOwn (at' t) m (Memref.whole main_v21_4_scv) d (outRd (at' t) m (Memref.whole main_v21_4_scv) B4)))
    ⊢ (Outp d (at' t) (fun m => ⟨outRd (at' t) m (Memref.whole main_v21_0_scv) B0, outRd (at' t) m (Memref.whole main_v21_1_scv) B1,
        outRd (at' t) m (Memref.whole main_v21_2_scv) B2, outRd (at' t) m (Memref.whole main_v21_3_scv) B3, outRd (at' t) m (Memref.whole main_v21_4_scv) B4⟩) : sProp 𝕄) := by
  simp only [bigSep_4]
  unfold Outp
  simp only [outOwn]
  iintro ⟨⟨A0, A1, A2, A3⟩, ⟨B0, B1, B2, B3⟩, ⟨C0, C1, C2, C3⟩, ⟨D0, D1, D2, D3⟩, ⟨E0, E1, E2, E3⟩⟩
  isplitl [A0 B0 C0 D0 E0]
  · isplitl [A0]; · iexact A0
    isplitl [B0]; · iexact B0
    isplitl [C0]; · iexact C0
    isplitl [D0]; · iexact D0
    iexact E0
  isplitl [A1 B1 C1 D1 E1]
  · isplitl [A1]; · iexact A1
    isplitl [B1]; · iexact B1
    isplitl [C1]; · iexact C1
    isplitl [D1]; · iexact D1
    iexact E1
  isplitl [A2 B2 C2 D2 E2]
  · isplitl [A2]; · iexact A2
    isplitl [B2]; · iexact B2
    isplitl [C2]; · iexact C2
    isplitl [D2]; · iexact D2
    iexact E2
  isplitl [A3]; · iexact A3
  isplitl [B3]; · iexact B3
  isplitl [C3]; · iexact C3
  isplitl [D3]; · iexact D3
  iexact E3

theorem outs_elim (t : Tl) (A : Fin 4 → Acc F) : (Outp d (at' t) A : sProp 𝕄)
    ⊢ iprop((bigSep Finset.univ fun m : Fin 4 => outOwn (at' t) m (Memref.whole main_v21_0_scv) d (A m).aK)
      ∗ (bigSep Finset.univ fun m : Fin 4 => outOwn (at' t) m (Memref.whole main_v21_1_scv) d (A m).aA)
      ∗ (bigSep Finset.univ fun m : Fin 4 => outOwn (at' t) m (Memref.whole main_v21_2_scv) d (A m).aP)
      ∗ (bigSep Finset.univ fun m : Fin 4 => outOwn (at' t) m (Memref.whole main_v21_3_scv) d (A m).s2)
      ∗ (bigSep Finset.univ fun m : Fin 4 => outOwn (at' t) m (Memref.whole main_v21_4_scv) d (A m).s3)) := by
  simp only [bigSep_4]
  unfold Outp
  simp only [outOwn]
  iintro ⟨⟨A0, B0, C0, D0, E0⟩, ⟨A1, B1, C1, D1, E1⟩, ⟨A2, B2, C2, D2, E2⟩, ⟨A3, B3, C3, D3, E3⟩⟩
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [C0 C1 C2 C3]
  · isplitl [C0]; · iexact C0
    isplitl [C1]; · iexact C1
    isplitl [C2]; · iexact C2
    iexact C3
  isplitl [D0 D1 D2 D3]
  · isplitl [D0]; · iexact D0
    isplitl [D1]; · iexact D1
    isplitl [D2]; · iexact D2
    iexact D3
  isplitl [E0]; · iexact E0
  isplitl [E1]; · iexact E1
  isplitl [E2]; · iexact E2
  iexact E3

/-- The call's starts, out of the whole arrays. -/
theorem tiles_in (p k : Fin 4 → S102400.Idx → Elt F .f32) (h : Rows okP okK p k)
    (B0 : S4x32x4352.Idx → Elt F .f32) (B1 : S4x32x4352.Idx → Elt F .i32) (B2 B3 B4 : S4x32x4352.Idx → Elt F .f32) :
    iprop(((SparseCore.T d).loc main_v17 ↦{fullShare} (idsA d))
      ∗ ((SparseCore.T d).loc main_v20_0 ↦{fullShare} (p 0)) ∗ ((SparseCore.T d).loc main_v20_1 ↦{fullShare} (p 1))
      ∗ ((SparseCore.T d).loc main_v20_2 ↦{fullShare} (p 2)) ∗ ((SparseCore.T d).loc main_v20_3 ↦{fullShare} (p 3))
      ∗ ((SparseCore.T d).loc main_v20_4 ↦{fullShare} (k 0)) ∗ ((SparseCore.T d).loc main_v20_5 ↦{fullShare} (k 1))
      ∗ ((SparseCore.T d).loc main_v20_6 ↦{fullShare} (k 2)) ∗ ((SparseCore.T d).loc main_v20_7 ↦{fullShare} (k 3))
      ∗ ((SparseCore.T d).loc main_v21_0 ↦{fullShare} B0) ∗ ((SparseCore.T d).loc main_v21_1 ↦{fullShare} B1)
      ∗ ((SparseCore.T d).loc main_v21_2 ↦{fullShare} B2) ∗ ((SparseCore.T d).loc main_v21_3 ↦{fullShare} B3)
      ∗ ((SparseCore.T d).loc main_v21_4 ↦{fullShare} B4))
    ⊢ (bigSep Finset.univ fun c => (P idsA okP okK).st 0 d c : sProp 𝕄) := by
  refine BI.Entails.trans ?_ (show (bigSep Finset.univ fun t : Tl => (tileIn d (at' t) idsA okP okK : sProp 𝕄)) ⊢ _ from
    Entails.of_eq (bigSep_tl (I := Fin 2) (J := Fin 16) _))
  refine BI.Entails.trans ?_ (bigSep_mono fun t _ => show iprop(
      owns (thr d (at' t)) (in1 (at' t) (Memref.whole main_v17_scv)) fullShare ((in1 (at' t) (Memref.whole main_v17_scv)).view.read (Elt F) (idsA d))
      ∗ owns (thr d (at' t)) (in2 (at' t) (Memref.whole main_v20_0_scv)) fullShare ((in2 (at' t) (Memref.whole main_v20_0_scv)).view.read (Elt F) (p 0))
      ∗ owns (thr d (at' t)) (in2 (at' t) (Memref.whole main_v20_1_scv)) fullShare ((in2 (at' t) (Memref.whole main_v20_1_scv)).view.read (Elt F) (p 1))
      ∗ owns (thr d (at' t)) (in2 (at' t) (Memref.whole main_v20_2_scv)) fullShare ((in2 (at' t) (Memref.whole main_v20_2_scv)).view.read (Elt F) (p 2))
      ∗ owns (thr d (at' t)) (in2 (at' t) (Memref.whole main_v20_3_scv)) fullShare ((in2 (at' t) (Memref.whole main_v20_3_scv)).view.read (Elt F) (p 3))
      ∗ owns (thr d (at' t)) (in2 (at' t) (Memref.whole main_v20_4_scv)) fullShare ((in2 (at' t) (Memref.whole main_v20_4_scv)).view.read (Elt F) (k 0))
      ∗ owns (thr d (at' t)) (in2 (at' t) (Memref.whole main_v20_5_scv)) fullShare ((in2 (at' t) (Memref.whole main_v20_5_scv)).view.read (Elt F) (k 1))
      ∗ owns (thr d (at' t)) (in2 (at' t) (Memref.whole main_v20_6_scv)) fullShare ((in2 (at' t) (Memref.whole main_v20_6_scv)).view.read (Elt F) (k 2))
      ∗ owns (thr d (at' t)) (in2 (at' t) (Memref.whole main_v20_7_scv)) fullShare ((in2 (at' t) (Memref.whole main_v20_7_scv)).view.read (Elt F) (k 3))
      ∗ (bigSep Finset.univ fun m : Fin 4 => outOwn (at' t) m (Memref.whole main_v21_0_scv) d (outRd (at' t) m (Memref.whole main_v21_0_scv) B0))
      ∗ (bigSep Finset.univ fun m : Fin 4 => outOwn (at' t) m (Memref.whole main_v21_1_scv) d (outRd (at' t) m (Memref.whole main_v21_1_scv) B1))
      ∗ (bigSep Finset.univ fun m : Fin 4 => outOwn (at' t) m (Memref.whole main_v21_2_scv) d (outRd (at' t) m (Memref.whole main_v21_2_scv) B2))
      ∗ (bigSep Finset.univ fun m : Fin 4 => outOwn (at' t) m (Memref.whole main_v21_3_scv) d (outRd (at' t) m (Memref.whole main_v21_3_scv) B3))
      ∗ (bigSep Finset.univ fun m : Fin 4 => outOwn (at' t) m (Memref.whole main_v21_4_scv) d (outRd (at' t) m (Memref.whole main_v21_4_scv) B4)))
      ⊢ (tileIn d (at' t) idsA okP okK : sProp 𝕄) from ?_)
  · refine BIBase.Entails.trans (BIClass.sep_mono (split_v9 d _) ?_) (Entails.of_eq (bigSep_sep' _ _ _).symm)
    refine BIBase.Entails.trans (BIClass.sep_mono (split_v12_0 d _) ?_) (Entails.of_eq (bigSep_sep' _ _ _).symm)
    refine BIBase.Entails.trans (BIClass.sep_mono (split_v12_1 d _) ?_) (Entails.of_eq (bigSep_sep' _ _ _).symm)
    refine BIBase.Entails.trans (BIClass.sep_mono (split_v12_2 d _) ?_) (Entails.of_eq (bigSep_sep' _ _ _).symm)
    refine BIBase.Entails.trans (BIClass.sep_mono (split_v12_3 d _) ?_) (Entails.of_eq (bigSep_sep' _ _ _).symm)
    refine BIBase.Entails.trans (BIClass.sep_mono (split_v12_4 d _) ?_) (Entails.of_eq (bigSep_sep' _ _ _).symm)
    refine BIBase.Entails.trans (BIClass.sep_mono (split_v12_5 d _) ?_) (Entails.of_eq (bigSep_sep' _ _ _).symm)
    refine BIBase.Entails.trans (BIClass.sep_mono (split_v12_6 d _) ?_) (Entails.of_eq (bigSep_sep' _ _ _).symm)
    refine BIBase.Entails.trans (BIClass.sep_mono (split_v12_7 d _) ?_) (Entails.of_eq (bigSep_sep' _ _ _).symm)
    refine BIBase.Entails.trans (BIClass.sep_mono ((split_v13_0 d _).trans (Entails.of_eq (bigSep_tl _))) ?_) (Entails.of_eq (bigSep_sep' _ _ _).symm)
    refine BIBase.Entails.trans (BIClass.sep_mono ((split_v13_1 d _).trans (Entails.of_eq (bigSep_tl _))) ?_) (Entails.of_eq (bigSep_sep' _ _ _).symm)
    refine BIBase.Entails.trans (BIClass.sep_mono ((split_v13_2 d _).trans (Entails.of_eq (bigSep_tl _))) ?_) (Entails.of_eq (bigSep_sep' _ _ _).symm)
    refine BIBase.Entails.trans (BIClass.sep_mono ((split_v13_3 d _).trans (Entails.of_eq (bigSep_tl _))) ?_) (Entails.of_eq (bigSep_sep' _ _ _).symm)
    exact (split_v13_4 d _).trans (Entails.of_eq (bigSep_tl _))
  · unfold tileIn Inp
    iintro ⟨H9, P0, P1, P2, P3, K0, K1, K2, K3, HO⟩
    ihave HO := (outs_eq d t B0 B1 B2 B3 B4) $$ HO
    iexists _, ![(in2 (at' t) (Memref.whole main_v20_0_scv)).view.read (Elt F) (p 0), (in2 (at' t) (Memref.whole main_v20_1_scv)).view.read (Elt F) (p 1),
        (in2 (at' t) (Memref.whole main_v20_2_scv)).view.read (Elt F) (p 2), (in2 (at' t) (Memref.whole main_v20_3_scv)).view.read (Elt F) (p 3)],
      ![(in2 (at' t) (Memref.whole main_v20_4_scv)).view.read (Elt F) (k 0), (in2 (at' t) (Memref.whole main_v20_5_scv)).view.read (Elt F) (k 1),
        (in2 (at' t) (Memref.whole main_v20_6_scv)).view.read (Elt F) (k 2), (in2 (at' t) (Memref.whole main_v20_7_scv)).view.read (Elt F) (k 3)], _
    isplitr
    · ipureintro
      refine ⟨rfl, fun m j => ?_, fun m j => ?_⟩
      · match m with
        | 0 => rw [← in2_at_0]; exact h.p 0 _
        | 1 => rw [← in2_at_1]; exact h.p 1 _
        | 2 => rw [← in2_at_2]; exact h.p 2 _
        | 3 => rw [← in2_at_3]; exact h.p 3 _
      · match m with
        | 0 => rw [← in2_at_4]; exact h.k 0 _
        | 1 => rw [← in2_at_5]; exact h.k 1 _
        | 2 => rw [← in2_at_6]; exact h.k 2 _
        | 3 => rw [← in2_at_7]; exact h.k 3 _
    isplitr [HO]
    · isplitl [H9]; · iexact H9
      isplitl [P0]; · iexact P0
      isplitl [K0]; · iexact K0
      isplitl [P1]; · iexact P1
      isplitl [K1]; · iexact K1
      isplitl [P2]; · iexact P2
      isplitl [K2]; · iexact K2
      isplitl [P3]; · iexact P3
      iexact K3
    iexact HO

/-! ## From the tiles -/

/-- The bins of a tile and a member, read off the five arrays. -/
def accAt (t : Tl) (m : Fin 4) (B0 : S4x32x4352.Idx → Elt F .f32) (B1 : S4x32x4352.Idx → Elt F .i32) (B2 B3 B4 : S4x32x4352.Idx → Elt F .f32) : Acc F :=
  ⟨outRd (at' t) m (Memref.whole main_v21_0_scv) B0, outRd (at' t) m (Memref.whole main_v21_1_scv) B1,
    outRd (at' t) m (Memref.whole main_v21_2_scv) B2, outRd (at' t) m (Memref.whole main_v21_3_scv) B3, outRd (at' t) m (Memref.whole main_v21_4_scv) B4⟩

/-- The five arrays hold the bins of rows that meet their conditions. -/
def BinsOf (B0 : S4x32x4352.Idx → Elt F .f32) (B1 : S4x32x4352.Idx → Elt F .i32) (B2 B3 B4 : S4x32x4352.Idx → Elt F .f32) : Prop :=
  ∀ t : Tl, ∃ ids p k, TileRows (at' t) (idsA d) okP okK ids p k
    ∧ ∀ m, accAt t m B0 B1 B2 B3 B4 = accs (base (at' t)) ids (p m) (k m) k1_t2_loop.trips

theorem tileOut_elim (t : Tl) : (tileOut d (at' t) idsA okP okK : sProp 𝕄)
    ⊢ iprop(∃ x : (S3200.Idx → Elt F .i32) × (Fin 4 → S3200.Idx → Elt F .f32) × (Fin 4 → S3200.Idx → Elt F .f32),
          ⌜TileRows (at' t) (idsA d) okP okK x.1 x.2.1 x.2.2⌝
          ∗ Outp d (at' t) (fun m => accs (base (at' t)) x.1 (x.2.1 m) (x.2.2 m) k1_t2_loop.trips)) := by
  unfold tileOut
  iintro ⟨%ids, %p, %k, %h, -, HO⟩
  iexists (ids, p, k)
  isplitr
  · ipureintro; exact h
  iexact HO

theorem outs_all (A : Tl × Fin 4 → Acc F) : (bigSep Finset.univ fun t : Tl => (Outp d (at' t) (fun m => A (t, m)) : sProp 𝕄))
    ⊢ iprop((bigSep Finset.univ fun x : Tl × Fin 4 => outOwn (at' x.1) x.2 (Memref.whole main_v21_0_scv) d (A x).aK)
      ∗ (bigSep Finset.univ fun x : Tl × Fin 4 => outOwn (at' x.1) x.2 (Memref.whole main_v21_1_scv) d (A x).aA)
      ∗ (bigSep Finset.univ fun x : Tl × Fin 4 => outOwn (at' x.1) x.2 (Memref.whole main_v21_2_scv) d (A x).aP)
      ∗ (bigSep Finset.univ fun x : Tl × Fin 4 => outOwn (at' x.1) x.2 (Memref.whole main_v21_3_scv) d (A x).s2)
      ∗ (bigSep Finset.univ fun x : Tl × Fin 4 => outOwn (at' x.1) x.2 (Memref.whole main_v21_4_scv) d (A x).s3)) := by
  rw [← bigSep_sep', ← bigSep_sep', ← bigSep_sep', ← bigSep_sep', bigSep_tl (I := Tl) (J := Fin 4)]
  refine bigSep_mono fun t _ => (outs_elim d t _).trans (Entails.of_eq ?_)
  rw [bigSep_sep', bigSep_sep', bigSep_sep', bigSep_sep']

/-- The whole arrays of bins, out of the call's ends. -/
theorem tiles_out [∀ e, Nonempty (Elt F e)] :
    (bigSep Finset.univ fun c => (P idsA okP okK).dn 0 d c : sProp 𝕄)
    ⊢ (iprop(∃ B0 B1 B2 B3 B4, ⌜BinsOf d idsA okP okK B0 B1 B2 B3 B4⌝
      ∗ ((SparseCore.T d).loc main_v21_0 ↦{fullShare} B0) ∗ ((SparseCore.T d).loc main_v21_1 ↦{fullShare} B1)
      ∗ ((SparseCore.T d).loc main_v21_2 ↦{fullShare} B2) ∗ ((SparseCore.T d).loc main_v21_3 ↦{fullShare} B3)
      ∗ ((SparseCore.T d).loc main_v21_4 ↦{fullShare} B4)) : sProp 𝕄) := by
  refine BI.Entails.trans (show _ ⊢ (bigSep Finset.univ fun t : Tl => (tileOut d (at' t) idsA okP okK : sProp 𝕄)) from
    Entails.of_eq (bigSep_tl (I := Fin 2) (J := Fin 16) (fun t => (tileOut d (at' t) idsA okP okK : sProp 𝕄))).symm) ?_
  let A (X : Tl → (S3200.Idx → Elt F .i32) × (Fin 4 → S3200.Idx → Elt F .f32) × (Fin 4 → S3200.Idx → Elt F .f32)) (x : Tl × Fin 4) : Acc F :=
    accs (base (at' x.1)) (X x.1).1 ((X x.1).2.1 x.2) ((X x.1).2.2 x.2) k1_t2_loop.trips
  have h1 : (bigSep Finset.univ fun t : Tl => (tileOut d (at' t) idsA okP okK : sProp 𝕄))
      ⊢ bigSep Finset.univ fun t : Tl => iprop(∃ x : (S3200.Idx → Elt F .i32) × (Fin 4 → S3200.Idx → Elt F .f32) × (Fin 4 → S3200.Idx → Elt F .f32),
          ⌜TileRows (at' t) (idsA d) okP okK x.1 x.2.1 x.2.2⌝
          ∗ Outp d (at' t) (fun m => accs (base (at' t)) x.1 (x.2.1 m) (x.2.2 m) k1_t2_loop.trips)) := by
    exact bigSep_mono fun t _ => tileOut_elim d idsA okP okK t
  refine h1.trans ((BI.bigSep_exists_pi Finset.univ (fun t (x : (S3200.Idx → Elt F .i32) × (Fin 4 → S3200.Idx → Elt F .f32) × (Fin 4 → S3200.Idx → Elt F .f32)) =>
    iprop(⌜TileRows (at' t) (idsA d) okP okK x.1 x.2.1 x.2.2⌝
          ∗ Outp d (at' t) (fun m => accs (base (at' t)) x.1 (x.2.1 m) (x.2.2 m) k1_t2_loop.trips)))).trans ?_)
  iintro ⟨%X, H⟩
  icases (BI.bigSep_pure_sep Finset.univ (fun t => TileRows (at' t) (idsA d) okP okK (X t).1 (X t).2.1 (X t).2.2) _) $$ H with ⟨%h, H⟩
  icases (outs_all d (A X)) $$ H with ⟨H0, H1, H2, H3, H4⟩
  icases (join_v13_0 d fun x => (A X x).aK) $$ H0 with ⟨%B0, %h0, H0⟩
  icases (join_v13_1 d fun x => (A X x).aA) $$ H1 with ⟨%B1, %h1, H1⟩
  icases (join_v13_2 d fun x => (A X x).aP) $$ H2 with ⟨%B2, %h2, H2⟩
  icases (join_v13_3 d fun x => (A X x).s2) $$ H3 with ⟨%B3, %h3, H3⟩
  icases (join_v13_4 d fun x => (A X x).s3) $$ H4 with ⟨%B4, %h4, H4⟩
  iexists B0, B1, B2, B3, B4
  isplitr
  · ipureintro
    intro t
    refine ⟨(X t).1, (X t).2.1, (X t).2.2, h t (Finset.mem_univ t), fun m => ?_⟩
    show (⟨_, _, _, _, _⟩ : Acc F) = A X (t, m)
    rw [h0 (t, m), h1 (t, m), h2 (t, m), h3 (t, m), h4 (t, m)]
  isplitl [H0]; · iexact H0
  isplitl [H1]; · iexact H1
  isplitl [H2]; · iexact H2
  isplitl [H3]; · iexact H3
  iexact H4

end Cert.Proof

end
-- ==== Proof.Stage1.lean ====
/-
  The first TensorCore kernel's region: fifty points, each reading a block of the nodes and of the noise and writing a
  block of the four members' predictions and keys.  The last block of the nodes overhangs their end, so what is known of
  an output is a condition on each row, not its value.
-/
module

public import proofs.«01_k».proof.Proof.Setup
public import Idealize.ShloMosaic.Lib.Pipeline.ArrRel
public import Idealize.ShloMosaic.Lib.Pipeline.FrameBody
public import Idealize.ShloMosaic.Lib.Pipeline.ValueKit.Geometry
public import Idealize.ShloMosaic.Lib.Pipeline.ValueKit.Basic

@[expose] public section

set_option pp.maxSteps 400

noncomputable section

namespace Cert.Proof

open Cert.KernelIdeal Cert.KernelIdeal.Gen Cert.Proof.Tc

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat Window)

variable {F : FTy → Type}

local notation "𝕄" => MT nD τ sig (HIx 1) (Elt F) ℕ UU ℕ

/-- A property of every element that the body may leave in a block holds of every element of an output array the blocks
    cover. -/
theorem arrAt_forall [∀ e, Nonempty (Elt F e)] {cfg : Pipeline.Cfg sig Λ₀} {c : Dev nD} (rd : RDat τ (Elt F) (HIx 1) ℕ UU ℕ cfg c) (w : Fin cfg.W)
    (P : ((cfg.win w).arr.view.loc (c.tc : Thread nD τ)).2.ty.Idx → Elt F ((cfg.win w).arr.view.loc (c.tc : Thread nD τ)).2.ty.elt → Prop)
    (hcov : (cfg.win w).Covers) (harr : (cfg.win w).arr.IsWhole)
    (hP : ∀ t Y X, rd.after w t Y X → ∀ y : ((cfg.win w).xblock (cfg.grid.coords t)).Idx,
      P (((cfg.win w).blk t).view.emb y)
        (_root_.cast (congrArg (Elt F) ((cfg.win w).blk t).view.elt_eq.symm) (X ((cfg.win w).xinj (cfg.grid.coords t) y))))
    {G : Buf (Elt F) ((cfg.win w).arr.view.loc (c.tc : Thread nD τ))} (hG : rd.ArrAt w cfg.N G)
    (i : ((cfg.win w).arr.view.loc (c.tc : Thread nD τ)).2.ty.Idx) : P i (G i) := by
  obtain ⟨X, hX, hA⟩ := hG.exists_exact
  rw [hA (Function.update (fun _ _ _ => Classical.arbitrary _) w X) fun u _ _ => by rw [Function.update_self]]
  refine Dat.arrAt_forall_of_covers _ w P hcov (fun t hf y => ?_) i harr
  obtain ⟨Y, -, h⟩ := hX t t.isLt hf
  have := hP t Y _ h y
  rw [RDat.withAfter_after, Function.update_self]
  exact this

variable [FloatOps F] [Named F]

/-- The arrays of the region. -/
abbrev Arr0 (F : FTy → Type) (c : Dev nD) : Type := (w : Fin 12) → Buf (Elt F) (((cfg0).win w).arr.view.loc (c.tc : Thread nD τ))

/-- A block of rows meets a condition. -/
def BlockOK (ok : ℕ → Elt F .f32 → Prop) (t : Fin grid0.N) (X : S2048.Idx → Elt F .f32) : Prop := ∀ j, ok (t.val * 2048 + (j 0).val) (X j)

/-- The region's data: the inputs stay as found, every output block meets its condition. -/
def dat0 (A : (c : Dev nD) → Arr0 F c) (okP okK : RowOK F) (c : Dev nD) : RDat τ (Elt F) (HIx 1) ℕ UU ℕ cfg0 c where
  A := A c
  after w t Y X := match w with
    | ⟨0, _⟩ | ⟨1, _⟩ | ⟨2, _⟩ | ⟨3, _⟩ => X = Y
    | ⟨4, _⟩ => BlockOK (okP 0) t X
    | ⟨5, _⟩ => BlockOK (okP 1) t X
    | ⟨6, _⟩ => BlockOK (okP 2) t X
    | ⟨7, _⟩ => BlockOK (okP 3) t X
    | ⟨8, _⟩ => BlockOK (okK 0) t X
    | ⟨9, _⟩ => BlockOK (okK 1) t X
    | ⟨10, _⟩ => BlockOK (okK 2) t X
    | ⟨11, _⟩ => BlockOK (okK 3) t X
  Φ _ := Pipeline.scopedRest spec0 c
  q _ := fullShare
  owed _ := (K (F := F)).Otc c 0
  recorded _ := past (F := F) c 0

variable (A : (c : Dev nD) → Arr0 F c) (okP okK : RowOK F)

theorem plain0 : Plain 0 0 (dat0 A okP okK) := ⟨fun _ _ => rfl, fun _ _ => rfl, fun _ _ => rfl, fun _ _ => rfl⟩

/-- What the conditions ask: a point's blocks, whatever the nodes' buffer holds past the nodes' end, give rows that meet them. -/
def Rows0 : Prop := ∀ (c : Dev nD) (t : Fin grid0.N) (d0 : S4x2048x128.Idx → Elt F .f32) (d1 : S4x2048.Idx → Elt F .f32) (d2 : S1x128.Idx → Elt F .f32)
    (d3 : S1x1.Idx → Elt F .f32) (m : Fin 4),
  let h := (dat0 A okP okK c).fetched 0 t d0
  let g := (dat0 A okP okK c).fetched 1 t d1
  let w := (dat0 A okP okK c).fetched 2 t d2
  let b := (dat0 A okP okK c).fetched 3 t d3
  BlockOK (okP m) t (predOf m h w b) ∧ BlockOK (okK m) t (keyOf m h g w b)

variable [∀ e, Nonempty (Elt F e)]

theorem body0 (hR : Rows0 A okP okK) (c : Dev nD) : (dat0 A okP okK c).BodyObligation (defs₀ (F := F)) 𝒱₀ none Set.univ := fun t Y hY => by
  have hin : ∀ w : Fin 12, (cfg0.win w).isOut = false → (∀ t Y X, (dat0 A okP okK c).after w t Y X → X = Y) →
      (∀ t t' : Fin cfg0.N, (cfg0.win w).index t = (cfg0.win w).index t' → (cfg0.win w).clip (cfg0.grid.coords t) = (cfg0.win w).clip (cfg0.grid.coords t')) →
      ∃ d, Y w = (dat0 A okP okK c).fetched w t d := fun w hw hk hc => RDat.finds_in_eq_fetched _ w hw hc hk t _ (hY w)
  obtain ⟨d0, h0⟩ := hin 0 rfl (fun _ _ _ h => h) (fun t t' h => by
    funext a
    exact congrArg (fun f : Fin 3 → ℕ => Pipeline.Clip.of (f a) (S4x2048x128.size a) (S4x100000x128.size a)) h)
  obtain ⟨d1, h1⟩ := hin 1 rfl (fun _ _ _ h => h) (fun _ _ _ => rfl)
  obtain ⟨d2, h2⟩ := hin 2 rfl (fun _ _ _ h => h) (fun _ _ _ => rfl)
  obtain ⟨d3, h3⟩ := hin 3 rfl (fun _ _ _ h => h) (fun _ _ _ => rfl)
  have hr := fun m => hR c t d0 d1 d2 d3 m
  simp only [← h0, ← h1, ← h2, ← h3] at hr
  rw [bigSep_W0, bigSep_W0, show (dat0 A okP okK c).Φ t.succ = (dat0 A okP okK c).Φ t.castSucc from rfl,
    show (dat0 A okP okK c).owesAt none t.succ = (dat0 A okP okK c).owesAt none t.castSucc from rfl]
  iintro ⟨HΦ, HO, H0, H1, H2, H3, H4, H5, H6, H7, H8, H9, H10, H11⟩
  iapply (stage1_body 𝒱₀ none c (grid0.coords t) _ _ _ _ _ _ _ _ _ _ _ _ _ _ _ _ _ _ _ _ _ _ _ _
    (Y 0) (Y 1) (Y 2) (Y 3) (Y 4) (Y 5) (Y 6) (Y 7) (Y 8) (Y 9) (Y 10) (Y 11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [HO]; · iexact HO
  isplitl [H0]; · iexists _; isplitr; rotate_left; (· iexact H0); ipureintro; exact rfl
  isplitl [H1]; · iexists _; isplitr; rotate_left; (· iexact H1); ipureintro; exact rfl
  isplitl [H2]; · iexists _; isplitr; rotate_left; (· iexact H2); ipureintro; exact rfl
  isplitl [H3]; · iexists _; isplitr; rotate_left; (· iexact H3); ipureintro; exact rfl
  isplitl [H4]; · iexists _; isplitr; rotate_left; (· iexact H4); ipureintro; exact (hr 0).1
  isplitl [H5]; · iexists _; isplitr; rotate_left; (· iexact H5); ipureintro; exact (hr 1).1
  isplitl [H6]; · iexists _; isplitr; rotate_left; (· iexact H6); ipureintro; exact (hr 2).1
  isplitl [H7]; · iexists _; isplitr; rotate_left; (· iexact H7); ipureintro; exact (hr 3).1
  isplitl [H8]; · iexists _; isplitr; rotate_left; (· iexact H8); ipureintro; exact (hr 0).2
  isplitl [H9]; · iexists _; isplitr; rotate_left; (· iexact H9); ipureintro; exact (hr 1).2
  isplitl [H10]; · iexists _; isplitr; rotate_left; (· iexact H10); ipureintro; exact (hr 2).2
  iexists _; isplitr; rotate_left; (· iexact H11); ipureintro; exact (hr 3).2

/-- A point's block of every output starts at the point's own row. -/
theorem index_out (t : Fin grid0.N) : win0_4.index t 0 = t.val ∧ win0_5.index t 0 = t.val ∧ win0_6.index t 0 = t.val ∧ win0_7.index t 0 = t.val
    ∧ win0_8.index t 0 = t.val ∧ win0_9.index t 0 = t.val ∧ win0_10.index t 0 = t.val ∧ win0_11.index t 0 = t.val := by
  revert t; decide +kernel

/-- The arrays after the region: the inputs as found, every row of every output meeting its condition. -/
structure End0 (c : Dev nD) (G : Arr0 F c) : Prop where
  in0 : G 0 = A c 0
  in1 : G 1 = A c 1
  in2 : G 2 = A c 2
  in3 : G 3 = A c 3
  p0 : ∀ i : S102400.Idx, okP 0 (i 0).val (G 4 i)
  p1 : ∀ i : S102400.Idx, okP 1 (i 0).val (G 5 i)
  p2 : ∀ i : S102400.Idx, okP 2 (i 0).val (G 6 i)
  p3 : ∀ i : S102400.Idx, okP 3 (i 0).val (G 7 i)
  k0 : ∀ i : S102400.Idx, okK 0 (i 0).val (G 8 i)
  k1 : ∀ i : S102400.Idx, okK 1 (i 0).val (G 9 i)
  k2 : ∀ i : S102400.Idx, okK 2 (i 0).val (G 10 i)
  k3 : ∀ i : S102400.Idx, okK 3 (i 0).val (G 11 i)

set_option maxHeartbeats 1000000 in
theorem end0 (c : Dev nD) (G : Arr0 F c) (hG : ∀ w, (dat0 A okP okK c).ArrAt w cfg0.N (G w)) : End0 A okP okK c G where
  in0 := (congrFun ((dat0 A okP okK c).ArrAt_in 0 rfl cfg0.N) _).mp (hG 0)
  in1 := (congrFun ((dat0 A okP okK c).ArrAt_in 1 rfl cfg0.N) _).mp (hG 1)
  in2 := (congrFun ((dat0 A okP okK c).ArrAt_in 2 rfl cfg0.N) _).mp (hG 2)
  in3 := (congrFun ((dat0 A okP okK c).ArrAt_in 3 rfl cfg0.N) _).mp (hG 3)
  p0 := arrAt_forall (dat0 A okP okK c) 4 (fun i v => okP 0 (i 0).val v) (by decide +kernel) (Memref.isWhole_whole _) (fun t Y X h y => by
    have := h ((cfg0.win 4).xinj (cfg0.grid.coords t) y)
    blk_simp
    rw [(index_out t).1]
    exact this) (hG 4)
  p1 := arrAt_forall (dat0 A okP okK c) 5 (fun i v => okP 1 (i 0).val v) (by decide +kernel) (Memref.isWhole_whole _) (fun t Y X h y => by
    have := h ((cfg0.win 5).xinj (cfg0.grid.coords t) y)
    blk_simp
    rw [(index_out t).2.1]
    exact this) (hG 5)
  p2 := arrAt_forall (dat0 A okP okK c) 6 (fun i v => okP 2 (i 0).val v) (by decide +kernel) (Memref.isWhole_whole _) (fun t Y X h y => by
    have := h ((cfg0.win 6).xinj (cfg0.grid.coords t) y)
    blk_simp
    rw [(index_out t).2.2.1]
    exact this) (hG 6)
  p3 := arrAt_forall (dat0 A okP okK c) 7 (fun i v => okP 3 (i 0).val v) (by decide +kernel) (Memref.isWhole_whole _) (fun t Y X h y => by
    have := h ((cfg0.win 7).xinj (cfg0.grid.coords t) y)
    blk_simp
    rw [(index_out t).2.2.2.1]
    exact this) (hG 7)
  k0 := arrAt_forall (dat0 A okP okK c) 8 (fun i v => okK 0 (i 0).val v) (by decide +kernel) (Memref.isWhole_whole _) (fun t Y X h y => by
    have := h ((cfg0.win 8).xinj (cfg0.grid.coords t) y)
    blk_simp
    rw [(index_out t).2.2.2.2.1]
    exact this) (hG 8)
  k1 := arrAt_forall (dat0 A okP okK c) 9 (fun i v => okK 1 (i 0).val v) (by decide +kernel) (Memref.isWhole_whole _) (fun t Y X h y => by
    have := h ((cfg0.win 9).xinj (cfg0.grid.coords t) y)
    blk_simp
    rw [(index_out t).2.2.2.2.2.1]
    exact this) (hG 9)
  k2 := arrAt_forall (dat0 A okP okK c) 10 (fun i v => okK 2 (i 0).val v) (by decide +kernel) (Memref.isWhole_whole _) (fun t Y X h y => by
    have := h ((cfg0.win 10).xinj (cfg0.grid.coords t) y)
    blk_simp
    rw [(index_out t).2.2.2.2.2.2.1]
    exact this) (hG 10)
  k3 := arrAt_forall (dat0 A okP okK c) 11 (fun i v => okK 3 (i 0).val v) (by decide +kernel) (Memref.isWhole_whole _) (fun t Y X h y => by
    have := h ((cfg0.win 11).xinj (cfg0.grid.coords t) y)
    blk_simp
    rw [(index_out t).2.2.2.2.2.2.2]
    exact this) (hG 11)

/-- After the region the device holds arrays that the conditions hold of. -/
theorem arrsEnd0 (c : Dev nD) : arrsEnd 0 (dat0 A okP okK) c ⊢ iprop(∃ G : Arr0 F c, ⌜End0 A okP okK c G⌝ ∗ arrs 0 c G) := by
  refine (arrsEnd_elim c).trans ?_
  iintro ⟨%G, %h, H⟩
  iexists G
  isplitr
  · ipureintro; exact end0 A okP okK c G h
  iexact H

end Cert.Proof

end
-- ==== Proof.Stage3.lean ====
/-
  The last TensorCore kernel's region: one point over whole arrays, which reads the five families of bins and writes the
  three results.
-/
module

public import proofs.«01_k».proof.Proof.Setup
public import Idealize.ShloMosaic.Lib.Pipeline.ArrRel
public import Idealize.ShloMosaic.Lib.Pipeline.FrameBody
public import Idealize.ShloMosaic.Lib.Pipeline.ValueKit.Geometry
public import Idealize.ShloMosaic.Lib.Pipeline.ValueKit.Basic

@[expose] public section

set_option pp.maxSteps 400

noncomputable section

namespace Cert.Proof

open Cert.KernelIdeal Cert.KernelIdeal.Gen Cert.Proof.Tc

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat Window)

variable {F : FTy → Type} [FloatOps F] [Named F]

local notation "𝕄" => MT nD τ sig (HIx 1) (Elt F) ℕ UU ℕ

/-- The arrays of the region. -/
abbrev Arr1 (F : FTy → Type) (c : Dev nD) : Type := (w : Fin 8) → Buf (Elt F) (((cfg2).win w).arr.view.loc (c.tc : Thread nD τ))

/-- The region's data: the inputs stay as found, the outputs are what the body computes of the input arrays. -/
def dat1 (A : (c : Dev nD) → Arr1 F c) (c : Dev nD) : RDat τ (Elt F) (HIx 1) ℕ UU ℕ cfg2 c where
  A := A c
  after w _ Y X := match w with
    | ⟨0, _⟩ | ⟨1, _⟩ | ⟨2, _⟩ | ⟨3, _⟩ | ⟨4, _⟩ => X = Y
    | ⟨5, _⟩ => X = resI (A c 0) (A c 1)
    | ⟨6, _⟩ => X = resG (A c 0) (A c 1) (A c 2) (A c 3)
    | ⟨7, _⟩ => X = resE (A c 3) (A c 4)
  Φ _ := Pipeline.scopedRest spec2 c
  q _ := fullShare
  owed _ := (K (F := F)).Otc c 1
  recorded _ := past (F := F) c 1

variable (A : (c : Dev nD) → Arr1 F c)

theorem plain1 : Plain 1 1 (dat1 A) := ⟨fun _ _ => rfl, fun _ _ => rfl, fun _ _ => rfl, fun _ _ => rfl⟩

/-! A point's fetch of an input brings the whole array. -/

theorem fetched0 (c : Dev nD) (t : Fin cfg2.N) (d) : (dat1 A c).fetched 0 t d = A c 0 := by
  funext j
  refine (win2_0.fill_xinj (grid2.coords t) d ((dat1 A c).blockOf 0 t) j).trans ?_
  show (win2_0.blk t).view.read (Elt F) (A c 0) j = _
  blk_simp
  refine congrArg (A c 0) (funext fun a => Fin.ext ?_)
  blk_simp
  rw [show win2_0.index t a = 0 from rfl, Nat.zero_mul, Nat.zero_add]

theorem fetched1 (c : Dev nD) (t : Fin cfg2.N) (d) : (dat1 A c).fetched 1 t d = A c 1 := by
  funext j
  refine (win2_1.fill_xinj (grid2.coords t) d ((dat1 A c).blockOf 1 t) j).trans ?_
  show (win2_1.blk t).view.read (Elt F) (A c 1) j = _
  blk_simp
  refine congrArg (A c 1) (funext fun a => Fin.ext ?_)
  blk_simp
  rw [show win2_1.index t a = 0 from rfl, Nat.zero_mul, Nat.zero_add]

theorem fetched2 (c : Dev nD) (t : Fin cfg2.N) (d) : (dat1 A c).fetched 2 t d = A c 2 := by
  funext j
  refine (win2_2.fill_xinj (grid2.coords t) d ((dat1 A c).blockOf 2 t) j).trans ?_
  show (win2_2.blk t).view.read (Elt F) (A c 2) j = _
  blk_simp
  refine congrArg (A c 2) (funext fun a => Fin.ext ?_)
  blk_simp
  rw [show win2_2.index t a = 0 from rfl, Nat.zero_mul, Nat.zero_add]

theorem fetched3 (c : Dev nD) (t : Fin cfg2.N) (d) : (dat1 A c).fetched 3 t d = A c 3 := by
  funext j
  refine (win2_3.fill_xinj (grid2.coords t) d ((dat1 A c).blockOf 3 t) j).trans ?_
  show (win2_3.blk t).view.read (Elt F) (A c 3) j = _
  blk_simp
  refine congrArg (A c 3) (funext fun a => Fin.ext ?_)
  blk_simp
  rw [show win2_3.index t a = 0 from rfl, Nat.zero_mul, Nat.zero_add]

theorem fetched4 (c : Dev nD) (t : Fin cfg2.N) (d) : (dat1 A c).fetched 4 t d = A c 4 := by
  funext j
  refine (win2_4.fill_xinj (grid2.coords t) d ((dat1 A c).blockOf 4 t) j).trans ?_
  show (win2_4.blk t).view.read (Elt F) (A c 4) j = _
  blk_simp
  refine congrArg (A c 4) (funext fun a => Fin.ext ?_)
  blk_simp
  rw [show win2_4.index t a = 0 from rfl, Nat.zero_mul, Nat.zero_add]

variable [∀ e, Nonempty (Elt F e)]

theorem body1 (c : Dev nD) : (dat1 A c).BodyObligation (defs₀ (F := F)) 𝒱₀ none Set.univ := fun t Y hY => by
  have hin : ∀ w : Fin 8, (cfg2.win w).isOut = false → (∀ t Y X, (dat1 A c).after w t Y X → X = Y) →
      (∀ t t' : Fin cfg2.N, (cfg2.win w).index t = (cfg2.win w).index t' → (cfg2.win w).clip (cfg2.grid.coords t) = (cfg2.win w).clip (cfg2.grid.coords t')) →
      ∃ d, Y w = (dat1 A c).fetched w t d := fun w hw hk hc => RDat.finds_in_eq_fetched _ w hw hc hk t _ (hY w)
  have h0 : Y 0 = A c 0 := by
    obtain ⟨d, h⟩ := hin 0 rfl (fun _ _ _ h => h) (fun _ _ _ => rfl)
    exact h.trans (fetched0 A c t d)
  have h1 : Y 1 = A c 1 := by
    obtain ⟨d, h⟩ := hin 1 rfl (fun _ _ _ h => h) (fun _ _ _ => rfl)
    exact h.trans (fetched1 A c t d)
  have h2 : Y 2 = A c 2 := by
    obtain ⟨d, h⟩ := hin 2 rfl (fun _ _ _ h => h) (fun _ _ _ => rfl)
    exact h.trans (fetched2 A c t d)
  have h3 : Y 3 = A c 3 := by
    obtain ⟨d, h⟩ := hin 3 rfl (fun _ _ _ h => h) (fun _ _ _ => rfl)
    exact h.trans (fetched3 A c t d)
  have h4 : Y 4 = A c 4 := by
    obtain ⟨d, h⟩ := hin 4 rfl (fun _ _ _ h => h) (fun _ _ _ => rfl)
    exact h.trans (fetched4 A c t d)
  rw [bigSep_W2, bigSep_W2, show (dat1 A c).Φ t.succ = (dat1 A c).Φ t.castSucc from rfl,
    show (dat1 A c).owesAt none t.succ = (dat1 A c).owesAt none t.castSucc from rfl, h0, h1, h2, h3, h4]
  iintro ⟨HΦ, HO, H0, H1, H2, H3, H4, H5, H6, H7⟩
  iapply (comb_body 𝒱₀ none c _ _ _ _ _ _ _ _ _ _ _ _ _ _ _ _ (A c 0) (A c 1) (A c 2) (A c 3) (A c 4) (Y 5) (Y 6) (Y 7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HO]; · iexact HO
  isplitl [H0]; · iexists _; isplitr; rotate_left; (· iexact H0); ipureintro; exact rfl
  isplitl [H1]; · iexists _; isplitr; rotate_left; (· iexact H1); ipureintro; exact rfl
  isplitl [H2]; · iexists _; isplitr; rotate_left; (· iexact H2); ipureintro; exact rfl
  isplitl [H3]; · iexists _; isplitr; rotate_left; (· iexact H3); ipureintro; exact rfl
  isplitl [H4]; · iexists _; isplitr; rotate_left; (· iexact H4); ipureintro; exact rfl
  isplitl [H5]; · iexists _; isplitr; rotate_left; (· iexact H5); ipureintro; exact rfl
  isplitl [H6]; · iexists _; isplitr; rotate_left; (· iexact H6); ipureintro; exact rfl
  iexists _; isplitr; rotate_left; (· iexact H7); ipureintro; exact rfl

/-- The arrays after the region: the inputs as found, the three results of them. -/
structure End1 (c : Dev nD) (G : Arr1 F c) : Prop where
  in0 : G 0 = A c 0
  in1 : G 1 = A c 1
  in2 : G 2 = A c 2
  in3 : G 3 = A c 3
  in4 : G 4 = A c 4
  rs : G 5 = resI (A c 0) (A c 1)
  ga : G 6 = resG (A c 0) (A c 1) (A c 2) (A c 3)
  ne : G 7 = resE (A c 3) (A c 4)

theorem end1 (c : Dev nD) (G : Arr1 F c) (hG : ∀ w, (dat1 A c).ArrAt w cfg2.N (G w)) : End1 A c G where
  in0 := (congrFun ((dat1 A c).ArrAt_in 0 rfl cfg2.N) _).mp (hG 0)
  in1 := (congrFun ((dat1 A c).ArrAt_in 1 rfl cfg2.N) _).mp (hG 1)
  in2 := (congrFun ((dat1 A c).ArrAt_in 2 rfl cfg2.N) _).mp (hG 2)
  in3 := (congrFun ((dat1 A c).ArrAt_in 3 rfl cfg2.N) _).mp (hG 3)
  in4 := (congrFun ((dat1 A c).ArrAt_in 4 rfl cfg2.N) _).mp (hG 4)
  rs := by
    obtain ⟨X, ⟨Y, -, h⟩, e⟩ := RDat.ArrAt.emb_eq_of_wholeAt (hG 5) (t₀ := t2_0) (by decide +kernel)
    funext j
    exact (e j).trans (congrFun h _)
  ga := by
    obtain ⟨X, ⟨Y, -, h⟩, e⟩ := RDat.ArrAt.emb_eq_of_wholeAt (hG 6) (t₀ := t2_0) (by decide +kernel)
    funext j
    exact (e j).trans (congrFun h _)
  ne := by
    obtain ⟨X, ⟨Y, -, h⟩, e⟩ := RDat.ArrAt.emb_eq_of_wholeAt (hG 7) (t₀ := t2_0) (by decide +kernel)
    funext j
    exact (e j).trans (congrFun h _)

/-- After the region the device holds arrays that this holds of. -/
theorem arrsEnd1 (c : Dev nD) : arrsEnd 1 (dat1 A) c ⊢ iprop(∃ G : Arr1 F c, ⌜End1 A c G⌝ ∗ arrs 1 c G) := by
  refine (arrsEnd_elim c).trans ?_
  iintro ⟨%G, %h, H⟩
  iexists G
  isplitr
  · ipureintro; exact end1 A c G h
  iexact H

end Cert.Proof

end
-- ==== Proof.Line.lean ====
/-
  Two straight lines of host operations, in two programs, that are operation for operation the same: what the one writes,
  the other writes too. The operations' results lie one after the other in both programs' device memory, so that a
  buffer's place names it in both.
-/
module

public import Idealize.ShloMosaic.PureOps
public import Idealize.ShloMosaic.Lib.StableHlo.Run

@[expose] public section

set_option pp.maxSteps 400

noncomputable section

namespace Cert.Proof.Line

open Idealize.ShloMosaic
open Idealize.SL.Sem

/-- A buffer's place in the device's main memory; 0 for a buffer that lies elsewhere. -/
def pos {sig : RefSig} (r : Ref sig .tc) : ℕ :=
  match r.space with
  | .hbm => r.idx.val
  | _ => 0

theorem pos_inj {sig : RefSig} {r s : Ref sig .tc} (h : pos r = pos s) (hr : 0 < pos r) : r = s := by
  obtain ⟨sp, i, a⟩ := r
  obtain ⟨sq, j, b⟩ := s
  have hs : 0 < pos (⟨sq, j, b⟩ : Ref sig .tc) := h ▸ hr
  cases sp <;> first | exact absurd hr (Nat.lt_irrefl 0) | skip
  cases sq <;> first | exact absurd hs (Nat.lt_irrefl 0) | skip
  have e : i = j := Fin.ext h
  subst e
  rfl

section

variable {τ τ' : Topo} {sig sig' : RefSig} {F : FTy → Type} [FloatOps F]

/-- What a buffer holds, at its tensor's type. -/
def rd {τ : Topo} {sig : RefSig} (V : Valuation τ sig (Elt F)) {T : BufTy} (t : StableHlo.TRef sig T) : T.Contents (Elt F) :=
  t.ofBuf (V (Proc.devRef .tc t.ref))

/-- Two memories hold the same at every place from 4 up to `n`. -/
def Agree (n : ℕ) (V : Valuation τ sig (Elt F)) (V' : Valuation τ' sig' (Elt F)) : Prop :=
  ∀ (T : BufTy) (t : StableHlo.TRef sig T) (t' : StableHlo.TRef sig' T), pos t.ref = pos t'.ref → 4 ≤ pos t.ref → pos t.ref < n → rd V t = rd V' t'

/-- The places whose contents are followed: the zero and its copies, and the result, which is no less than it. -/
def followed : List ℕ := [14, 16, 18, 276, 277]

/-- What is known of the contents of place `p`. -/
def Spec (p : ℕ) (T : BufTy) (v : T.Contents (Elt F)) : Prop :=
  (p ∈ [14, 16, 18, 276] → ∀ (h : T.elt = .f32) (i : T.shape.Idx), cast (congrArg (Elt F) h) (v i) = (Scalar.ofBits .f32 0#32 : F .f32))
  ∧ (p = 277 → ∀ (h : T.elt = .f32) (i : T.shape.Idx), ∃ w : F .f32, cast (congrArg (Elt F) h) (v i) = FloatOps.maximumf (Scalar.ofBits .f32 0#32 : F .f32) w)

/-- What is known of the places before `n`. -/
def Known (n : ℕ) (V : Valuation τ sig (Elt F)) : Prop :=
  ∀ (T : BufTy) (t : StableHlo.TRef sig T), 0 < pos t.ref → pos t.ref < n → Spec (pos t.ref) T (rd V t)

theorem spec_other {p : ℕ} (h : p ∉ followed) (T : BufTy) (v : T.Contents (Elt F)) : Spec p T v :=
  ⟨fun e => absurd (by simp only [followed, List.mem_cons, List.not_mem_nil, or_false] at e ⊢; omega) h, fun e => absurd (by simp only [followed, List.mem_cons, List.not_mem_nil, or_false]; omega) h⟩

/-- Two operations, one of each program, writing place `n`. -/
structure Step (n : ℕ) (op : HloOp τ sig (Elt F)) (op' : HloOp τ' sig' (Elt F)) : Prop where
  bufs : op.bufs ⊆ StableHlo.tcRefs τ sig
  bufs' : op'.bufs ⊆ StableHlo.tcRefs τ' sig'
  fresh : op.fresh = ∅
  fresh' : op'.fresh = ∅
  writes : ∀ r : Ref sig .tc, Proc.devRef .tc r ∈ op.writes → pos r = n
  writes' : ∀ r : Ref sig' .tc, Proc.devRef .tc r ∈ op'.writes → pos r = n
  agree : ∀ V V', Agree n V V' → Agree (n + 1) (op.result V) (op'.result V')
  known : ∀ V, Known n V → Known (n + 1) (op.result V)

theorem rd_keep {op : HloOp τ sig (Elt F)} {n : ℕ} (hw : ∀ r : Ref sig .tc, Proc.devRef .tc r ∈ op.writes → pos r = n)
    (V : Valuation τ sig (Elt F)) {T : BufTy} (t : StableHlo.TRef sig T) (h : pos t.ref ≠ n) : rd (op.result V) t = rd V t := by
  unfold rd
  rw [op.result_of_not_mem V fun hm => h (hw _ hm)]

/-- A typed reference is its buffer's. -/
theorem same_place {T T₂ : BufTy} (t : StableHlo.TRef sig T₂) (y : StableHlo.TRef sig T) (h : t.ref = y.ref) : ∃ e : T₂ = T, e ▸ t = y := by
  obtain ⟨r, rfl, d, u⟩ := t
  obtain ⟨s, rfl, d', u'⟩ := y
  obtain rfl : r = s := h
  exact ⟨rfl, rfl⟩

theorem step_of {n : ℕ} {op : HloOp τ sig (Elt F)} {op' : HloOp τ' sig' (Elt F)} {T : BufTy} (y : StableHlo.TRef sig T) (y' : StableHlo.TRef sig' T)
    (hn : 4 ≤ n) (hy : pos y.ref = n) (hy' : pos y'.ref = n) (hb : op.bufs ⊆ StableHlo.tcRefs τ sig) (hb' : op'.bufs ⊆ StableHlo.tcRefs τ' sig')
    (hf : op.fresh = ∅) (hf' : op'.fresh = ∅) (hw : op.writes = {Proc.devRef .tc y.ref}) (hw' : op'.writes = {Proc.devRef .tc y'.ref})
    (hv : ∀ V V', Agree n V V' → rd (op.result V) y = rd (op'.result V') y') (hs : ∀ V, Known n V → Spec n T (rd (op.result V) y)) : Step n op op' := by
  have w : ∀ r : Ref sig .tc, Proc.devRef .tc r ∈ op.writes → pos r = n := fun r hr => by
    rw [hw, Finset.mem_singleton] at hr
    rw [Proc.devRef_injective _ hr, hy]
  have w' : ∀ r : Ref sig' .tc, Proc.devRef .tc r ∈ op'.writes → pos r = n := fun r hr => by
    rw [hw', Finset.mem_singleton] at hr
    rw [Proc.devRef_injective _ hr, hy']
  refine ⟨hb, hb', hf, hf', w, w', fun V V' hA T₂ t t' e h4 hlt => ?_, fun V hK T₂ t h0 hlt => ?_⟩
  · by_cases ht : pos t.ref = n
    · obtain ⟨rfl, rfl⟩ := same_place t y (pos_inj (ht.trans hy.symm) (by omega))
      obtain ⟨e', rfl⟩ := same_place t' y' (pos_inj ((e.symm.trans ht).trans hy'.symm) (by omega))
      exact hv V V' hA
    · rw [rd_keep w V t ht, rd_keep w' V' t' (by omega)]
      exact hA T₂ t t' e h4 (by omega)
  · by_cases ht : pos t.ref = n
    · obtain ⟨rfl, rfl⟩ := same_place t y (pos_inj (ht.trans hy.symm) (by omega))
      rw [ht]
      exact hs V hK
    · rw [rd_keep w V t ht]
      exact hK T₂ t h0 (by omega)

section Ops

variable {n : ℕ} {Ta Tb Ty : BufTy} (a : StableHlo.TRef sig Ta) (b : StableHlo.TRef sig Tb) (y : StableHlo.TRef sig Ty)
  (a' : StableHlo.TRef sig' Ta) (b' : StableHlo.TRef sig' Tb) (y' : StableHlo.TRef sig' Ty)

theorem rd_nullary (v : Ty.Contents (Elt F)) (V : Valuation τ sig (Elt F)) : rd ((StableHlo.TRef.nullary (τ := τ) y v).result V) y = v := by
  unfold rd
  rw [StableHlo.nullary_result]
  exact StableHlo.TRef.ofBuf_toBuf y v

theorem rd_unary (f : Ta.Contents (Elt F) → Ty.Contents (Elt F)) (V : Valuation τ sig (Elt F)) :
    rd ((StableHlo.TRef.unary (τ := τ) a y f).result V) y = f (rd V a) := by
  unfold rd
  rw [StableHlo.unary_result]
  exact StableHlo.TRef.ofBuf_toBuf y _

theorem rd_binary (f : Ta.Contents (Elt F) → Tb.Contents (Elt F) → Ty.Contents (Elt F)) (V : Valuation τ sig (Elt F)) :
    rd ((StableHlo.TRef.binary (τ := τ) a b y f).result V) y = f (rd V a) (rd V b) := by
  unfold rd
  rw [StableHlo.binary_result]
  exact StableHlo.TRef.ofBuf_toBuf y _

/-- An operand's place, the same in both programs and already written. -/
abbrev Before (n : ℕ) {T : BufTy} (a : StableHlo.TRef sig T) (a' : StableHlo.TRef sig' T) : Prop := pos a.ref = pos a'.ref ∧ 4 ≤ pos a.ref ∧ pos a.ref < n

/-- A result's place. -/
abbrev Here (n : ℕ) {T : BufTy} (y : StableHlo.TRef sig T) (y' : StableHlo.TRef sig' T) : Prop := 4 ≤ n ∧ pos y.ref = n ∧ pos y'.ref = n

theorem step_nullary' (v : Ty.Contents (Elt F)) (h : Here n y y') (hs : Spec n Ty v) :
    Step n (StableHlo.TRef.nullary (τ := τ) y v) (StableHlo.TRef.nullary (τ := τ') y' v) :=
  step_of y y' h.1 h.2.1 h.2.2 (StableHlo.nullary_bufs_sub ..) (StableHlo.nullary_bufs_sub ..) rfl rfl rfl rfl
    (fun V V' _ => by rw [rd_nullary, rd_nullary]) (fun V _ => by rw [rd_nullary]; exact hs)

theorem step_unary' (f : Ta.Contents (Elt F) → Ty.Contents (Elt F)) (h : Here n y y') (ha : Before n a a')
    (hs : ∀ v, Spec (pos a.ref) Ta v → Spec n Ty (f v)) :
    Step n (StableHlo.TRef.unary (τ := τ) a y f) (StableHlo.TRef.unary (τ := τ') a' y' f) :=
  step_of y y' h.1 h.2.1 h.2.2 (StableHlo.unary_bufs_sub ..) (StableHlo.unary_bufs_sub ..) rfl rfl rfl rfl
    (fun V V' hA => by rw [rd_unary, rd_unary, hA _ a a' ha.1 ha.2.1 ha.2.2])
    (fun V hK => by rw [rd_unary]; exact hs _ (hK _ a (by omega) ha.2.2))

theorem step_binary' (f : Ta.Contents (Elt F) → Tb.Contents (Elt F) → Ty.Contents (Elt F)) (h : Here n y y') (ha : Before n a a') (hb : Before n b b')
    (hs : ∀ v w, Spec (pos a.ref) Ta v → Spec n Ty (f v w)) :
    Step n (StableHlo.TRef.binary (τ := τ) a b y f) (StableHlo.TRef.binary (τ := τ') a' b' y' f) :=
  step_of y y' h.1 h.2.1 h.2.2 (StableHlo.binary_bufs_sub ..) (StableHlo.binary_bufs_sub ..) rfl rfl rfl rfl
    (fun V V' hA => by rw [rd_binary, rd_binary, hA _ a a' ha.1 ha.2.1 ha.2.2, hA _ b b' hb.1 hb.2.1 hb.2.2])
    (fun V hK => by rw [rd_binary]; exact hs _ _ (hK _ a (by omega) ha.2.2))

theorem step_nullary (v : Ty.Contents (Elt F)) (h : Here n y y' ∧ n ∉ followed) :
    Step n (StableHlo.TRef.nullary (τ := τ) y v) (StableHlo.TRef.nullary (τ := τ') y' v) :=
  step_nullary' y y' v h.1 (spec_other h.2 _ _)

theorem step_unary (f : Ta.Contents (Elt F) → Ty.Contents (Elt F)) (h : Here n y y' ∧ Before n a a' ∧ n ∉ followed) :
    Step n (StableHlo.TRef.unary (τ := τ) a y f) (StableHlo.TRef.unary (τ := τ') a' y' f) :=
  step_unary' a y a' y' f h.1 h.2.1 fun _ _ => spec_other h.2.2 _ _

theorem step_binary (f : Ta.Contents (Elt F) → Tb.Contents (Elt F) → Ty.Contents (Elt F)) (h : Here n y y' ∧ Before n a a' ∧ Before n b b' ∧ n ∉ followed) :
    Step n (StableHlo.TRef.binary (τ := τ) a b y f) (StableHlo.TRef.binary (τ := τ') a' b' y' f) :=
  step_binary' a b y a' b' y' f h.1 h.2.1 h.2.2.1 fun _ _ _ => spec_other h.2.2.2 _ _

theorem rd_reshape (he : Ta.elt = Ty.elt) (hn : Ta.shape.ShapeCasts Ty.shape) (V : Valuation τ sig (Elt F)) :
    rd ((StableHlo.TRef.reshape (Val := Elt F) (τ := τ) a y he hn).result V) y = fun i => he ▸ shapeCast Ty.shape (rd V a) hn i := by
  unfold rd
  obtain ⟨r, rfl, d, u⟩ := a
  obtain ⟨s, rfl, d', u'⟩ := y
  exact StableHlo.reshape_result ..

theorem step_reshape (he : Ta.elt = Ty.elt) (hn : Ta.shape.ShapeCasts Ty.shape) (h : Here n y y' ∧ Before n a a' ∧ n ∉ followed) :
    Step n (StableHlo.TRef.reshape (Val := Elt F) (τ := τ) a y he hn) (StableHlo.TRef.reshape (Val := Elt F) (τ := τ') a' y' he hn) :=
  step_of y y' h.1.1 h.1.2.1 h.1.2.2 (StableHlo.reshape_bufs_sub ..) (StableHlo.reshape_bufs_sub ..) rfl rfl rfl rfl
    (fun V V' hA => by rw [rd_reshape, rd_reshape, hA _ a a' h.2.1.1 h.2.1.2.1 h.2.1.2.2])
    (fun V _ => spec_other h.2.2 _ _)

end Ops

/-- Two lists of operations writing the places from `n` up to `k`. -/
structure Lines (n : ℕ) (l : List (HloOp τ sig (Elt F))) (l' : List (HloOp τ' sig' (Elt F))) (k : ℕ) : Prop where
  le : n ≤ k
  bufs : ∀ op ∈ l, op.bufs ⊆ StableHlo.tcRefs τ sig
  bufs' : ∀ op ∈ l', op.bufs ⊆ StableHlo.tcRefs τ' sig'
  fresh : ∀ op ∈ l, op.fresh = ∅
  fresh' : ∀ op ∈ l', op.fresh = ∅
  writes : ∀ op ∈ l, ∀ r : Ref sig .tc, Proc.devRef .tc r ∈ op.writes → n ≤ pos r ∧ pos r < k
  writes' : ∀ op ∈ l', ∀ r : Ref sig' .tc, Proc.devRef .tc r ∈ op.writes → n ≤ pos r ∧ pos r < k
  agree : ∀ V V', Agree n V V' → Agree k (StableHlo.after l V) (StableHlo.after l' V')
  known : ∀ V, Known n V → Known k (StableHlo.after l V)

theorem lines_nil (n : ℕ) : Lines n ([] : List (HloOp τ sig (Elt F))) ([] : List (HloOp τ' sig' (Elt F))) n :=
  ⟨le_rfl, fun _ h => (nomatch h), fun _ h => (nomatch h), fun _ h => (nomatch h), fun _ h => (nomatch h), fun _ h => (nomatch h),
    fun _ h => (nomatch h), fun _ _ h => h, fun _ h => h⟩

theorem lines_one {n : ℕ} {op : HloOp τ sig (Elt F)} {op' : HloOp τ' sig' (Elt F)} (h : Step n op op') : Lines n [op] [op'] (n + 1) := by
  refine ⟨Nat.le_succ n, ?_, ?_, ?_, ?_, ?_, ?_, h.agree, h.known⟩
  all_goals intro o ho; cases List.mem_singleton.mp ho
  exacts [h.bufs, h.bufs', h.fresh, h.fresh', fun r hr => by have := h.writes r hr; omega, fun r hr => by have := h.writes' r hr; omega]

theorem after_two : ∀ (l₁ l₂ : List (HloOp τ sig (Elt F))) (V : Valuation τ sig (Elt F)),
    StableHlo.after (l₁ ++ l₂) V = StableHlo.after l₂ (StableHlo.after l₁ V)
  | [], _, _ => rfl
  | op :: l, l₂, V => after_two l l₂ (op.result V)

theorem lines_append {n m k : ℕ} {l₁ l₂ : List (HloOp τ sig (Elt F))} {l₁' l₂' : List (HloOp τ' sig' (Elt F))}
    (h₁ : Lines n l₁ l₁' m) (h₂ : Lines m l₂ l₂' k) : Lines n (l₁ ++ l₂) (l₁' ++ l₂') k := by
  have e₁ := h₁.le
  have e₂ := h₂.le
  refine ⟨e₁.trans e₂, ?_, ?_, ?_, ?_, ?_, ?_, fun V V' hA => ?_, fun V hK => ?_⟩
  · exact fun o ho => (List.mem_append.mp ho).elim (h₁.bufs o) (h₂.bufs o)
  · exact fun o ho => (List.mem_append.mp ho).elim (h₁.bufs' o) (h₂.bufs' o)
  · exact fun o ho => (List.mem_append.mp ho).elim (h₁.fresh o) (h₂.fresh o)
  · exact fun o ho => (List.mem_append.mp ho).elim (h₁.fresh' o) (h₂.fresh' o)
  · exact fun o ho r hr => (List.mem_append.mp ho).elim (fun h => by have := h₁.writes o h r hr; omega) fun h => by have := h₂.writes o h r hr; omega
  · exact fun o ho r hr => (List.mem_append.mp ho).elim (fun h => by have := h₁.writes' o h r hr; omega) fun h => by have := h₂.writes' o h r hr; omega
  · rw [after_two, after_two]
    exact h₂.agree _ _ (h₁.agree _ _ hA)
  · rw [after_two]
    exact h₂.known _ (h₁.known _ hK)

end

section Programs

variable {nD nD' : ℕ} {τ τ' : Topo} {sig sig' : RefSig} {F : FTy → Type} [FloatOps F] {Λ Λ' : Labels}

/-- Two programs that are two such lists. -/
def Sim (n : ℕ) (P : Prog (TpuEff nD τ sig (Elt F) Λ .tc) PUnit) (P' : Prog (TpuEff nD' τ' sig' (Elt F) Λ' .tc) PUnit) (k : ℕ) : Prop :=
  ∃ l l', P = StableHlo.seq l ∧ P' = StableHlo.seq l' ∧ Lines n l l' k

variable {n m k : ℕ} {P Q : Prog (TpuEff nD τ sig (Elt F) Λ .tc) PUnit} {P' Q' : Prog (TpuEff nD' τ' sig' (Elt F) Λ' .tc) PUnit}

theorem sim_nil : Sim n (pure ⟨⟩ : Prog (TpuEff nD τ sig (Elt F) Λ .tc) PUnit) (pure ⟨⟩ : Prog (TpuEff nD' τ' sig' (Elt F) Λ' .tc) PUnit) n :=
  ⟨[], [], rfl, rfl, lines_nil n⟩

theorem sim_bind (h₁ : Sim n P P' m) (h₂ : Sim m Q Q' k) : Sim n (P >>= fun _ => Q) (P' >>= fun _ => Q') k := by
  obtain ⟨l, l', rfl, rfl, h⟩ := h₁
  obtain ⟨g, g', rfl, rfl, h'⟩ := h₂
  exact ⟨l ++ g, l' ++ g', (StableHlo.seq_append l g).symm, (StableHlo.seq_append l' g').symm, lines_append h h'⟩

theorem sim_one {op : HloOp τ sig (Elt F)} {op' : HloOp τ' sig' (Elt F)} (h : Step n op op') :
    Sim n (hlo rfl op (fun _ => .ret ⟨⟩) : Prog (TpuEff nD τ sig (Elt F) Λ .tc) PUnit) (hlo rfl op' (fun _ => .ret ⟨⟩) : Prog (TpuEff nD' τ' sig' (Elt F) Λ' .tc) PUnit) (n + 1) :=
  ⟨[op], [op'], (bind_pure _).symm, (bind_pure _).symm, lines_one h⟩

end Programs

end Cert.Proof.Line

end
-- ==== Proof.Draw.lean ====
/-
  The uniform draw of the kernel's program and of the reference's: the same host operations at the same places of the two
  device memories, so the two draw the same numbers; and none of the numbers is below zero.
-/
module

public import proofs.«01_k».proof.Proof.Line
public import proofs.«01_k».proof.Proof.Gen.KernelIdeal
public import proofs.«01_k».proof.Proof.Gen.ReferenceIdeal

@[expose] public section

set_option pp.maxSteps 400

noncomputable section

namespace Cert.Proof.Draw

open Idealize.ShloMosaic
open Idealize.SL.Sem
open Cert.Proof.Line

variable {F : FTy → Type} [FloatOps F] [Named F]

section Kernel

open Cert.KernelIdeal Cert.KernelIdeal.Gen

/-- The kernel's key and the draw's ends, and the draw. -/
def kernelDraw : Prog (TpuEff nD τ sig (Elt F) (SparseCore.Sig (Pipeline.Sig Λ₀ (Fin 2) fun p => (pcfgs (F := F) p).Adm) 1) .tc) PUnit := do
  hlo rfl (StableHlo.TRef.nullary (.of main_c) (constantI S_ 32 42#32)) (fun _ => .ret ⟨⟩)
  hlo rfl (StableHlo.TRef.nullary (.of main_c_0) (constantI S_ 32 32#32)) (fun _ => .ret ⟨⟩)
  hlo rfl (StableHlo.TRef.binary (.of main_c) (.of main_c_0) (.of main_v0) (Host.shrui : (⟨S_, .i32⟩ : BufTy).Contents (Elt F) → (⟨S_, .i32⟩ : BufTy).Contents (Elt F) → (⟨S_, .i32⟩ : BufTy).Contents (Elt F))) (fun _ => .ret ⟨⟩)
  hlo rfl (StableHlo.TRef.unary (.of main_v0) (.of main_v1) (id : (⟨S_, .i32⟩ : BufTy).Contents (Elt F) → (⟨S_, .i32⟩ : BufTy).Contents (Elt F))) (fun _ => .ret ⟨⟩)
  hlo rfl (StableHlo.TRef.unary (.of main_v1) (.of main_v2) (broadcastInDim S1 ![] bcast_S_S1 : (⟨S_, .i32⟩ : BufTy).Contents (Elt F) → (⟨S1, .i32⟩ : BufTy).Contents (Elt F))) (fun _ => .ret ⟨⟩)
  hlo rfl (StableHlo.TRef.nullary (.of main_c_1) (constantI S_ 32 4294967295#32)) (fun _ => .ret ⟨⟩)
  hlo rfl (StableHlo.TRef.binary (.of main_c) (.of main_c_1) (.of main_v3) (andi : (⟨S_, .i32⟩ : BufTy).Contents (Elt F) → (⟨S_, .i32⟩ : BufTy).Contents (Elt F) → (⟨S_, .i32⟩ : BufTy).Contents (Elt F))) (fun _ => .ret ⟨⟩)
  hlo rfl (StableHlo.TRef.unary (.of main_v3) (.of main_v4) (id : (⟨S_, .i32⟩ : BufTy).Contents (Elt F) → (⟨S_, .i32⟩ : BufTy).Contents (Elt F))) (fun _ => .ret ⟨⟩)
  hlo rfl (StableHlo.TRef.unary (.of main_v4) (.of main_v5) (broadcastInDim S1 ![] bcast_S_S1 : (⟨S_, .i32⟩ : BufTy).Contents (Elt F) → (⟨S1, .i32⟩ : BufTy).Contents (Elt F))) (fun _ => .ret ⟨⟩)
  hlo rfl (StableHlo.TRef.binary (.of main_v2) (.of main_v5) (.of main_v6) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
  hlo rfl (StableHlo.TRef.nullary (.of main_cst) (constant S_ .f32 0x00000000#32)) (fun _ => .ret ⟨⟩)
  hlo rfl (StableHlo.TRef.nullary (.of main_cst_2) (constant S_ .f32 0x3F800000#32)) (fun _ => .ret ⟨⟩)
  fn_uniform.body (.of main_v6) (.of main_cst) (.of main_cst_2) main_call0

end Kernel

section Reference

open Cert.ReferenceIdeal Cert.ReferenceIdeal.Gen

/-- The reference's. -/
def refDraw : Prog (TpuEff nD τ sig (Elt F) (Pipeline.Sig Λ₀ (Fin 0) fun p => (pcfgs (F := F) p).Adm) .tc) PUnit := do
  hlo rfl (StableHlo.TRef.nullary (.of main_c) (constantI S_ 32 42#32)) (fun _ => .ret ⟨⟩)
  hlo rfl (StableHlo.TRef.nullary (.of main_c_0) (constantI S_ 32 32#32)) (fun _ => .ret ⟨⟩)
  hlo rfl (StableHlo.TRef.binary (.of main_c) (.of main_c_0) (.of main_v0) (Host.shrui : (⟨S_, .i32⟩ : BufTy).Contents (Elt F) → (⟨S_, .i32⟩ : BufTy).Contents (Elt F) → (⟨S_, .i32⟩ : BufTy).Contents (Elt F))) (fun _ => .ret ⟨⟩)
  hlo rfl (StableHlo.TRef.unary (.of main_v0) (.of main_v1) (id : (⟨S_, .i32⟩ : BufTy).Contents (Elt F) → (⟨S_, .i32⟩ : BufTy).Contents (Elt F))) (fun _ => .ret ⟨⟩)
  hlo rfl (StableHlo.TRef.unary (.of main_v1) (.of main_v2) (broadcastInDim S1 ![] bcast_S_S1 : (⟨S_, .i32⟩ : BufTy).Contents (Elt F) → (⟨S1, .i32⟩ : BufTy).Contents (Elt F))) (fun _ => .ret ⟨⟩)
  hlo rfl (StableHlo.TRef.nullary (.of main_c_1) (constantI S_ 32 4294967295#32)) (fun _ => .ret ⟨⟩)
  hlo rfl (StableHlo.TRef.binary (.of main_c) (.of main_c_1) (.of main_v3) (andi : (⟨S_, .i32⟩ : BufTy).Contents (Elt F) → (⟨S_, .i32⟩ : BufTy).Contents (Elt F) → (⟨S_, .i32⟩ : BufTy).Contents (Elt F))) (fun _ => .ret ⟨⟩)
  hlo rfl (StableHlo.TRef.unary (.of main_v3) (.of main_v4) (id : (⟨S_, .i32⟩ : BufTy).Contents (Elt F) → (⟨S_, .i32⟩ : BufTy).Contents (Elt F))) (fun _ => .ret ⟨⟩)
  hlo rfl (StableHlo.TRef.unary (.of main_v4) (.of main_v5) (broadcastInDim S1 ![] bcast_S_S1 : (⟨S_, .i32⟩ : BufTy).Contents (Elt F) → (⟨S1, .i32⟩ : BufTy).Contents (Elt F))) (fun _ => .ret ⟨⟩)
  hlo rfl (StableHlo.TRef.binary (.of main_v2) (.of main_v5) (.of main_v6) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
  hlo rfl (StableHlo.TRef.nullary (.of main_cst) (constant S_ .f32 0x00000000#32)) (fun _ => .ret ⟨⟩)
  hlo rfl (StableHlo.TRef.nullary (.of main_cst_2) (constant S_ .f32 0x3F800000#32)) (fun _ => .ret ⟨⟩)
  fn_uniform.body (.of main_v6) (.of main_cst) (.of main_cst_2) main_call0

end Reference

set_option maxRecDepth 20000
set_option maxHeartbeats 0

theorem part0 : Sim 38 (Cert.KernelIdeal.fn_threefry2x32.body_part0 (F := F) Cert.KernelIdeal.main_call0.v5 Cert.KernelIdeal.main_call0.v7 Cert.KernelIdeal.main_call0.v18 Cert.KernelIdeal.main_call0.v17 Cert.KernelIdeal.main_call0_call0)
    (Cert.ReferenceIdeal.fn_threefry2x32.body_part0 (F := F) Cert.ReferenceIdeal.main_call0.v5 Cert.ReferenceIdeal.main_call0.v7 Cert.ReferenceIdeal.main_call0.v18 Cert.ReferenceIdeal.main_call0.v17 Cert.ReferenceIdeal.main_call0_call0) 98 := by
  unfold Cert.KernelIdeal.fn_threefry2x32.body_part0 Cert.ReferenceIdeal.fn_threefry2x32.body_part0
  repeat first
    | exact sim_nil
    | refine sim_bind (sim_one (step_binary _ _ _ _ _ _ _ (by decide))) ?_
    | refine sim_bind (sim_one (step_unary _ _ _ _ _ (by decide))) ?_
    | refine sim_bind (sim_one (step_nullary _ _ _ (by decide))) ?_
    | exact sim_one (step_binary _ _ _ _ _ _ _ (by decide))
    | exact sim_one (step_unary _ _ _ _ _ (by decide))
    | exact sim_one (step_nullary _ _ _ (by decide))

theorem part1 : Sim 98 (Cert.KernelIdeal.fn_threefry2x32.body_part1 (F := F) Cert.KernelIdeal.main_call0.v5 Cert.KernelIdeal.main_call0.v7 Cert.KernelIdeal.main_call0.v18 Cert.KernelIdeal.main_call0.v17 Cert.KernelIdeal.main_call0_call0)
    (Cert.ReferenceIdeal.fn_threefry2x32.body_part1 (F := F) Cert.ReferenceIdeal.main_call0.v5 Cert.ReferenceIdeal.main_call0.v7 Cert.ReferenceIdeal.main_call0.v18 Cert.ReferenceIdeal.main_call0.v17 Cert.ReferenceIdeal.main_call0_call0) 158 := by
  unfold Cert.KernelIdeal.fn_threefry2x32.body_part1 Cert.ReferenceIdeal.fn_threefry2x32.body_part1
  repeat first
    | exact sim_nil
    | refine sim_bind (sim_one (step_binary _ _ _ _ _ _ _ (by decide))) ?_
    | refine sim_bind (sim_one (step_unary _ _ _ _ _ (by decide))) ?_
    | refine sim_bind (sim_one (step_nullary _ _ _ (by decide))) ?_
    | exact sim_one (step_binary _ _ _ _ _ _ _ (by decide))
    | exact sim_one (step_unary _ _ _ _ _ (by decide))
    | exact sim_one (step_nullary _ _ _ (by decide))

theorem part2 : Sim 158 (Cert.KernelIdeal.fn_threefry2x32.body_part2 (F := F) Cert.KernelIdeal.main_call0.v5 Cert.KernelIdeal.main_call0.v7 Cert.KernelIdeal.main_call0.v18 Cert.KernelIdeal.main_call0.v17 Cert.KernelIdeal.main_call0_call0)
    (Cert.ReferenceIdeal.fn_threefry2x32.body_part2 (F := F) Cert.ReferenceIdeal.main_call0.v5 Cert.ReferenceIdeal.main_call0.v7 Cert.ReferenceIdeal.main_call0.v18 Cert.ReferenceIdeal.main_call0.v17 Cert.ReferenceIdeal.main_call0_call0) 218 := by
  unfold Cert.KernelIdeal.fn_threefry2x32.body_part2 Cert.ReferenceIdeal.fn_threefry2x32.body_part2
  repeat first
    | exact sim_nil
    | refine sim_bind (sim_one (step_binary _ _ _ _ _ _ _ (by decide))) ?_
    | refine sim_bind (sim_one (step_unary _ _ _ _ _ (by decide))) ?_
    | refine sim_bind (sim_one (step_nullary _ _ _ (by decide))) ?_
    | exact sim_one (step_binary _ _ _ _ _ _ _ (by decide))
    | exact sim_one (step_unary _ _ _ _ _ (by decide))
    | exact sim_one (step_nullary _ _ _ (by decide))

theorem part3 : Sim 218 (Cert.KernelIdeal.fn_threefry2x32.body_part3 (F := F) Cert.KernelIdeal.main_call0.v5 Cert.KernelIdeal.main_call0.v7 Cert.KernelIdeal.main_call0.v18 Cert.KernelIdeal.main_call0.v17 Cert.KernelIdeal.main_call0_call0)
    (Cert.ReferenceIdeal.fn_threefry2x32.body_part3 (F := F) Cert.ReferenceIdeal.main_call0.v5 Cert.ReferenceIdeal.main_call0.v7 Cert.ReferenceIdeal.main_call0.v18 Cert.ReferenceIdeal.main_call0.v17 Cert.ReferenceIdeal.main_call0_call0) 260 := by
  unfold Cert.KernelIdeal.fn_threefry2x32.body_part3 Cert.ReferenceIdeal.fn_threefry2x32.body_part3
  repeat first
    | exact sim_nil
    | refine sim_bind (sim_one (step_binary _ _ _ _ _ _ _ (by decide))) ?_
    | refine sim_bind (sim_one (step_unary _ _ _ _ _ (by decide))) ?_
    | refine sim_bind (sim_one (step_nullary _ _ _ (by decide))) ?_
    | exact sim_one (step_binary _ _ _ _ _ _ _ (by decide))
    | exact sim_one (step_unary _ _ _ _ _ (by decide))
    | exact sim_one (step_nullary _ _ _ (by decide))

/-- The generator, mixed twenty times, of the two programs. -/
theorem mixed : Sim 38 (Cert.KernelIdeal.fn_threefry2x32.body (F := F) Cert.KernelIdeal.main_call0.v5 Cert.KernelIdeal.main_call0.v7 Cert.KernelIdeal.main_call0.v18 Cert.KernelIdeal.main_call0.v17 Cert.KernelIdeal.main_call0_call0)
    (Cert.ReferenceIdeal.fn_threefry2x32.body (F := F) Cert.ReferenceIdeal.main_call0.v5 Cert.ReferenceIdeal.main_call0.v7 Cert.ReferenceIdeal.main_call0.v18 Cert.ReferenceIdeal.main_call0.v17 Cert.ReferenceIdeal.main_call0_call0) 260 := by
  unfold Cert.KernelIdeal.fn_threefry2x32.body Cert.ReferenceIdeal.fn_threefry2x32.body
  exact sim_bind part0 (sim_bind part1 (sim_bind part2 part3))

theorem spec_zero {p : ℕ} {s : Shape} (hp : p ∈ [14, 16, 18, 276]) (v : (⟨s, .f32⟩ : BufTy).Contents (Elt F))
    (h : ∀ i, v i = (Scalar.ofBits .f32 0#32 : F .f32)) : Spec p ⟨s, .f32⟩ v :=
  ⟨fun _ _ i => h i, fun e => absurd (e ▸ hp) (by decide)⟩

theorem zero_spec {p : ℕ} {s : Shape} (hp : p ∈ [14, 16, 18, 276]) (v : (⟨s, .f32⟩ : BufTy).Contents (Elt F)) (h : Spec p ⟨s, .f32⟩ v) (i : s.Idx) :
    v i = (Scalar.ofBits .f32 0#32 : F .f32) := h.1 hp rfl i

theorem uniform : Sim 16 (Cert.KernelIdeal.fn_uniform.body (F := F) (.of Cert.KernelIdeal.main_v6) (.of Cert.KernelIdeal.main_cst) (.of Cert.KernelIdeal.main_cst_2) Cert.KernelIdeal.main_call0)
    (Cert.ReferenceIdeal.fn_uniform.body (F := F) (.of Cert.ReferenceIdeal.main_v6) (.of Cert.ReferenceIdeal.main_cst) (.of Cert.ReferenceIdeal.main_cst_2) Cert.ReferenceIdeal.main_call0) 278 := by
  unfold Cert.KernelIdeal.fn_uniform.body Cert.ReferenceIdeal.fn_uniform.body
  refine sim_bind (sim_one (step_unary' _ _ _ _ _ (by decide) (by decide) fun v h => spec_zero (by decide) _ fun i => zero_spec (by decide) v h i)) ?_
  refine sim_bind (sim_one (step_unary _ _ _ _ _ (by decide))) ?_
  refine sim_bind (sim_one (step_unary' _ _ _ _ _ (by decide) (by decide) fun v h => spec_zero (by decide) _ fun i => zero_spec (by decide) v h _)) ?_
  repeat first
    | refine sim_bind (sim_one (step_binary _ _ _ _ _ _ _ (by decide))) ?_
    | refine sim_bind (sim_one (step_unary _ _ _ _ _ (by decide))) ?_
    | refine sim_bind (sim_one (step_nullary _ _ _ (by decide))) ?_
    | refine sim_bind (sim_one (step_reshape _ _ _ _ _ _ (by decide))) ?_
    | refine sim_bind mixed ?_
  refine sim_bind (sim_one (step_unary' _ _ _ _ _ (by decide) (by decide) fun v h => spec_zero (by decide) _ fun i => zero_spec (by decide) v h _)) ?_
  refine sim_bind (sim_one (step_binary' _ _ _ _ _ _ _ (by decide) (by decide) (by decide) fun v w h =>
    ⟨fun e => absurd e (by decide), fun _ _ i => ⟨w i, congrArg (fun z => FloatOps.maximumf z (w i)) (zero_spec (by decide) v h i)⟩⟩)) ?_
  exact sim_nil

theorem draws : Sim 4 (kernelDraw (F := F)) (refDraw (F := F)) 278 := by
  unfold kernelDraw refDraw
  iterate 10
    refine sim_bind (sim_one ?_) ?_
    · first
        | exact step_binary _ _ _ _ _ _ _ (by decide)
        | exact step_unary _ _ _ _ _ (by decide)
        | exact step_nullary _ _ _ (by decide)
  refine sim_bind (sim_one (step_nullary' _ _ _ (by decide) (spec_zero (by decide) _ fun i => rfl))) ?_
  refine sim_bind (sim_one (step_nullary _ _ _ (by decide))) ?_
  exact uniform

/-- The draw's operations in the kernel's program. -/
def kOps : List (HloOp Cert.KernelIdeal.τ Cert.KernelIdeal.sig (Elt F)) := draws.choose

/-- The draw's operations in the reference's. -/
def rOps : List (HloOp Cert.ReferenceIdeal.τ Cert.ReferenceIdeal.sig (Elt F)) := draws.choose_spec.choose

theorem kernelDraw_eq : kernelDraw (F := F) = StableHlo.seq kOps := draws.choose_spec.choose_spec.1

theorem refDraw_eq : refDraw (F := F) = StableHlo.seq rOps := draws.choose_spec.choose_spec.2.1

theorem lines : Lines 4 (kOps (F := F)) rOps 278 := draws.choose_spec.choose_spec.2.2

/-- The draw leaves what lies outside its places. -/
theorem k_keep (V : Valuation Cert.KernelIdeal.τ Cert.KernelIdeal.sig (Elt F)) (r : Ref Cert.KernelIdeal.sig .tc) (h : ¬ (4 ≤ pos r ∧ pos r < 278)) :
    StableHlo.after kOps V (Proc.devRef .tc r) = V (Proc.devRef .tc r) :=
  StableHlo.after_of_forall_not_mem _ V fun op ho hm => h (lines.writes op ho r hm)

theorem r_keep (V : Valuation Cert.ReferenceIdeal.τ Cert.ReferenceIdeal.sig (Elt F)) (r : Ref Cert.ReferenceIdeal.sig .tc) (h : ¬ (4 ≤ pos r ∧ pos r < 278)) :
    StableHlo.after rOps V (Proc.devRef .tc r) = V (Proc.devRef .tc r) :=
  StableHlo.after_of_forall_not_mem _ V fun op ho hm => h (lines.writes' op ho r hm)

/-- The two programs draw the same numbers, whatever else their memories hold. -/
theorem same_draw (V : Valuation Cert.KernelIdeal.τ Cert.KernelIdeal.sig (Elt F)) (V' : Valuation Cert.ReferenceIdeal.τ Cert.ReferenceIdeal.sig (Elt F)) :
    (StableHlo.after kOps V (Proc.devRef .tc Cert.KernelIdeal.main_v7) : Cert.KernelIdeal.S4x100000.Idx → F .f32)
      = StableHlo.after rOps V' (Proc.devRef .tc Cert.ReferenceIdeal.main_v7) :=
  lines.agree V V' (fun _ t t' _ h4 hlt => absurd hlt (by omega)) ⟨Cert.KernelIdeal.S4x100000, .f32⟩ (.of Cert.KernelIdeal.main_v7) (.of Cert.ReferenceIdeal.main_v7)
    (by decide) (by decide) (by decide)

/-- Each is the larger of zero and something. -/
theorem draw_max (V : Valuation Cert.KernelIdeal.τ Cert.KernelIdeal.sig (Elt F)) (i : Cert.KernelIdeal.S4x100000.Idx) :
    ∃ w : F .f32, (StableHlo.after kOps V (Proc.devRef .tc Cert.KernelIdeal.main_v7) : Cert.KernelIdeal.S4x100000.Idx → F .f32) i
      = FloatOps.maximumf (Scalar.ofBits .f32 0#32 : F .f32) w :=
  (lines.known V (fun _ t h0 hlt => spec_other (by simp only [followed, List.mem_cons, List.not_mem_nil, or_false]; omega) _ _) ⟨Cert.KernelIdeal.S4x100000, .f32⟩ (.of Cert.KernelIdeal.main_v7)
    (by decide) (by decide)).2 (by decide) rfl i

end Cert.Proof.Draw

end
-- ==== Proof.Host.lean ====
/-
  The whole program on a device's TensorCore: the host's operations, the first TensorCore kernel, the binning on the
  SparseCores, the second TensorCore kernel.
-/
module

public import proofs.«01_k».proof.Proof.Deal
public import proofs.«01_k».proof.Proof.Stage1
public import proofs.«01_k».proof.Proof.Stage3
public import proofs.«01_k».proof.Proof.Draw
public import Idealize.ShloMosaic.Lib.StableHlo.Run

@[expose] public section

set_option pp.maxSteps 400

noncomputable section

namespace Cert.Proof

open Cert.KernelIdeal Cert.KernelIdeal.Gen Cert.Proof.Tile Cert.Proof.Sc

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts

variable {F : FTy → Type} [FloatOps F] [Named F]

local notation "𝕄" => MT nD τ sig (HIx 1) (Elt F) ℕ UU ℕ

/-! ## The host's operations before the first kernel -/

/-- What follows the draw. -/
def restOps : List (HloOp τ sig (Elt F)) :=
  [StableHlo.nullary main_cst_3 (constant S_ .f32 0x1E3CE508#32),
   StableHlo.unary main_cst_3 main_v8 (broadcastInDim S4x100000 ![] bcast_S_S4x100000 : (⟨S_, .f32⟩ : BufTy).Contents (Elt F) → (⟨S4x100000, .f32⟩ : BufTy).Contents (Elt F)),
   StableHlo.binary main_v7 main_v8 main_v9 (addf : (⟨S4x100000, .f32⟩ : BufTy).Contents (Elt F) → (⟨S4x100000, .f32⟩ : BufTy).Contents (Elt F) → (⟨S4x100000, .f32⟩ : BufTy).Contents (Elt F)),
   StableHlo.unary main_v9 main_v10 (Host.log : (⟨S4x100000, .f32⟩ : BufTy).Contents (Elt F) → (⟨S4x100000, .f32⟩ : BufTy).Contents (Elt F)),
   StableHlo.unary main_v10 main_v11 (Host.negf : (⟨S4x100000, .f32⟩ : BufTy).Contents (Elt F) → (⟨S4x100000, .f32⟩ : BufTy).Contents (Elt F)),
   StableHlo.nullary main_cst_4 (constant S_ .f32 0x1E3CE508#32),
   StableHlo.unary main_cst_4 main_v12 (broadcastInDim S4x100000 ![] bcast_S_S4x100000 : (⟨S_, .f32⟩ : BufTy).Contents (Elt F) → (⟨S4x100000, .f32⟩ : BufTy).Contents (Elt F)),
   StableHlo.binary main_v11 main_v12 main_v13 (addf : (⟨S4x100000, .f32⟩ : BufTy).Contents (Elt F) → (⟨S4x100000, .f32⟩ : BufTy).Contents (Elt F) → (⟨S4x100000, .f32⟩ : BufTy).Contents (Elt F)),
   StableHlo.unary main_v13 main_v14 (Host.log : (⟨S4x100000, .f32⟩ : BufTy).Contents (Elt F) → (⟨S4x100000, .f32⟩ : BufTy).Contents (Elt F)),
   StableHlo.unary main_v14 main_v15 (Host.negf : (⟨S4x100000, .f32⟩ : BufTy).Contents (Elt F) → (⟨S4x100000, .f32⟩ : BufTy).Contents (Elt F)),
   StableHlo.nullary main_c_5 (constantI S_ 32 0#32),
   StableHlo.TRef.unary (StableHlo.TRef.of (T := ⟨S_, .i32⟩) main_c_5) (StableHlo.TRef.of (T := ⟨S_, .f32⟩) main_call1_v0) (sitofp .f32),
   StableHlo.TRef.binary (StableHlo.TRef.of (T := ⟨S4x100000, .f32⟩) main_v15) (StableHlo.TRef.of (T := ⟨S_, .f32⟩) main_call1_v0) (StableHlo.TRef.of (T := ⟨S4x102400, .f32⟩) main_v16) (fun x v => pad S4x102400 ![0, 0] ![0, 2400] ![0, 0] x v pads_S4x100000_S4x102400_000_024000 h_S_),
   StableHlo.nullary main_c_6 (constantI S_ 32 256#32),
   StableHlo.TRef.unary (StableHlo.TRef.of (T := ⟨S_, .i32⟩) main_c_6) (StableHlo.TRef.of (T := ⟨S_, .i32⟩) main_call2_v0) id,
   StableHlo.TRef.binary (StableHlo.TRef.of (T := ⟨S100000, .i32⟩) main_arg1) (StableHlo.TRef.of (T := ⟨S_, .i32⟩) main_call2_v0) (StableHlo.TRef.of (T := ⟨S102400, .i32⟩) main_v17) (fun x v => pad S102400 ![0] ![2400] ![0] x v pads_S100000_S102400_024000 h_S_),
   StableHlo.reshape main_arg2 main_v18 (rfl : (.f32 : EltTy) = .f32) shapeCasts_S128x1_S1x128,
   StableHlo.reshape main_arg3 main_v19 (rfl : (.f32 : EltTy) = .f32) shapeCasts_S1_S1x1]

/-- The draw and what follows it. -/
def hostOps : List (HloOp τ sig (Elt F)) := Draw.kOps ++ restOps

def tail1 : List (HloOp τ sig (Elt F)) :=
  [StableHlo.reshape main_v21_0 main_v22 (rfl : (.f32 : EltTy) = .f32) shapeCasts_S4x32x4352_S4x512x272,
   StableHlo.reshape main_v21_1 main_v23 (rfl : (.i32 : EltTy) = .i32) shapeCasts_S4x32x4352_S4x512x272,
   StableHlo.reshape main_v21_2 main_v24 (rfl : (.f32 : EltTy) = .f32) shapeCasts_S4x32x4352_S4x512x272,
   StableHlo.reshape main_v21_3 main_v25 (rfl : (.f32 : EltTy) = .f32) shapeCasts_S4x32x4352_S4x512x272,
   StableHlo.reshape main_v21_4 main_v26 (rfl : (.f32 : EltTy) = .f32) shapeCasts_S4x32x4352_S4x512x272]

theorem main_draw (d : Dev nD) : main (F := F) d = (Draw.kernelDraw >>= fun _ => StableHlo.seqK restOps (Prog.lift (.customCall (SparseCore.inner (Pipeline.entry 0)) ()) >>= fun _ =>
    (sc (F := F)).run d 0 >>= fun _ => StableHlo.seqK tail1 (Prog.lift (.customCall (SparseCore.inner (Pipeline.entry 1)) ()) >>= fun _ => pure ⟨⟩))) := by
  chain_rfl

/-- @main: the operations, the kernels between them. -/
theorem main_eq (d : Dev nD) : main (F := F) d = StableHlo.seqK hostOps (Prog.lift (.customCall (SparseCore.inner (Pipeline.entry 0)) ()) >>= fun _ =>
    (sc (F := F)).run d 0 >>= fun _ => StableHlo.seqK tail1 (Prog.lift (.customCall (SparseCore.inner (Pipeline.entry 1)) ()) >>= fun _ => pure ⟨⟩)) := by
  rw [main_draw, Draw.kernelDraw_eq, ← StableHlo.seq_bind_seqK restOps, ← StableHlo.seq_bind_seqK hostOps, hostOps, StableHlo.seq_append, bind_assoc]

/-- The TensorCore's unscoped references. -/
def ucRefs : Finset (DevRef τ sig) := (StableHlo.tcRefs τ sig).filter fun b => ¬ b.isScoped

theorem mem_uc (b : Ref sig .tc) (h : (Proc.devRef (τ := τ) .tc b).isScoped = false) : Proc.devRef .tc b ∈ ucRefs :=
  Finset.mem_filter.mpr ⟨StableHlo.devRef_mem_tcRefs b, by rw [h]; exact Bool.false_ne_true⟩

theorem unscoped_held (d : Dev nD) (W : Valuation τ sig (Elt F)) :
    (unscopedBufs d (fun b => W (Proc.devRef .tc b)) : sProp 𝕄) = StableHlo.held (SparseCore.T d) ucRefs W := by
  unfold unscopedBufs StableHlo.held ucRefs StableHlo.tcRefs
  rw [Finset.filter_map, bigSep_map]
  rfl

theorem uc1 {a : Ref sig .tc} {op : HloOp τ sig (Elt F)} (h : op.bufs = {Proc.devRef .tc a}) (ha : (Proc.devRef (τ := τ) .tc a).isScoped = false) :
    op.bufs ⊆ ucRefs := by
  rw [h]; exact Finset.singleton_subset_iff.mpr (mem_uc a ha)

theorem uc2 {a b : Ref sig .tc} {op : HloOp τ sig (Elt F)} (h : op.bufs = {Proc.devRef .tc a, Proc.devRef .tc b}) (ha : (Proc.devRef (τ := τ) .tc a).isScoped = false)
    (hb : (Proc.devRef (τ := τ) .tc b).isScoped = false) : op.bufs ⊆ ucRefs := by
  rw [h]; exact Finset.insert_subset (mem_uc a ha) (Finset.singleton_subset_iff.mpr (mem_uc b hb))

theorem uc3 {a b c : Ref sig .tc} {op : HloOp τ sig (Elt F)} (h : op.bufs = {Proc.devRef .tc a, Proc.devRef .tc b, Proc.devRef .tc c})
    (ha : (Proc.devRef (τ := τ) .tc a).isScoped = false) (hb : (Proc.devRef (τ := τ) .tc b).isScoped = false)
    (hc : (Proc.devRef (τ := τ) .tc c).isScoped = false) : op.bufs ⊆ ucRefs := by
  rw [h]; exact Finset.insert_subset (mem_uc a ha) (Finset.insert_subset (mem_uc b hb) (Finset.singleton_subset_iff.mpr (mem_uc c hc)))

theorem rest_uc : ∀ op ∈ (restOps : List (HloOp τ sig (Elt F))), op.bufs ⊆ ucRefs := by
  refine List.forall_iff_forall_mem.mp ?_
  unfold restOps
  simp only [List.forall_cons, List.Forall, and_true]
  refine ⟨uc1 rfl rfl,
    uc2 rfl rfl rfl,
    uc3 rfl rfl rfl rfl,
    uc2 rfl rfl rfl,
    uc2 rfl rfl rfl,
    uc1 rfl rfl,
    uc2 rfl rfl rfl,
    uc3 rfl rfl rfl rfl,
    uc2 rfl rfl rfl,
    uc2 rfl rfl rfl,
    uc1 rfl rfl,
    uc2 rfl rfl rfl,
    uc3 rfl rfl rfl rfl,
    uc1 rfl rfl,
    uc2 rfl rfl rfl,
    uc3 rfl rfl rfl rfl,
    uc2 rfl rfl rfl,
    uc2 rfl rfl rfl⟩

/-- What they write. -/
def restW : List (Ref sig .tc) := [main_cst_3, main_v8, main_v9, main_v10, main_v11, main_cst_4, main_v12, main_v13, main_v14, main_v15, main_c_5, main_call1_v0, main_v16, main_c_6, main_call2_v0, main_v17, main_v18, main_v19]

theorem rest_writes : (restOps (F := F)).map HloOp.writes = restW.map fun r => {Proc.devRef (τ := τ) .tc r} := rfl

theorem rest_fresh : ∀ op ∈ (restOps : List (HloOp τ sig (Elt F))), op.fresh = ∅ :=
  List.forall_iff_forall_mem.mp (StableHlo.forall_fresh_of_map rfl)

theorem host_uc : ∀ op ∈ (hostOps : List (HloOp τ sig (Elt F))), op.bufs ⊆ ucRefs := fun op h =>
  (List.mem_append.mp h).elim (fun h => fun b hb => Finset.mem_filter.mpr ⟨Draw.lines.bufs op h hb, by rw [op.no_scoped b hb]; exact Bool.false_ne_true⟩) (rest_uc op)

theorem host_fresh : ∀ op ∈ (hostOps : List (HloOp τ sig (Elt F))), op.fresh = ∅ := fun op h =>
  (List.mem_append.mp h).elim (Draw.lines.fresh op) (rest_fresh op)

variable (m : (ℓ : Loc nD τ sig) → Buf (Elt F) ℓ)

/-- The buffers at launch, and before the first kernel. -/
abbrev V0 (d : Dev nD) : Valuation τ sig (Elt F) := fun b => m (d, b)
def V1 (d : Dev nD) : Valuation τ sig (Elt F) := StableHlo.after hostOps (V0 m d)

/-- The buffers after the draw. -/
def Vd (d : Dev nD) : Valuation τ sig (Elt F) := StableHlo.after Draw.kOps (V0 m d)

theorem V1_eq (d : Dev nD) : V1 m d = StableHlo.after restOps (Vd m d) := Line.after_two ..

/-- The numbers drawn. -/
def U (d : Dev nD) : S4x100000.Idx → Elt F .f32 := Vd m d (Proc.devRef .tc main_v7)

theorem Vd_keep (d : Dev nD) (r : Ref sig .tc) (h : ¬ (4 ≤ Line.pos r ∧ Line.pos r < 278)) : Vd m d (Proc.devRef .tc r) = m ((SparseCore.T d).loc r) :=
  Draw.k_keep (V0 m d) r h

theorem V1_keep (d : Dev nD) (r : Ref sig .tc) (h : r ∉ restW ∧ ¬ (4 ≤ Line.pos r ∧ Line.pos r < 278)) : V1 m d (Proc.devRef .tc r) = m ((SparseCore.T d).loc r) := by
  rw [V1_eq, StableHlo.after_of_writes_sub restOps (Vd m d) (StableHlo.forall_writes_sub_of_map rest_writes) h.1]
  exact Vd_keep m d r h.2

/-! ## The buffers the kernels use -/

/-- What the kernels read and write. -/
abbrev kept : Finset (DevRef τ sig) :=
  {Proc.devRef .tc main_arg0, Proc.devRef .tc main_arg1, Proc.devRef .tc main_arg2, Proc.devRef .tc main_arg3, Proc.devRef .tc main_v16, Proc.devRef .tc main_v17, Proc.devRef .tc main_v18, Proc.devRef .tc main_v19, Proc.devRef .tc main_v20_0, Proc.devRef .tc main_v20_1, Proc.devRef .tc main_v20_2, Proc.devRef .tc main_v20_3, Proc.devRef .tc main_v20_4, Proc.devRef .tc main_v20_5, Proc.devRef .tc main_v20_6, Proc.devRef .tc main_v20_7, Proc.devRef .tc main_v21_0, Proc.devRef .tc main_v21_1, Proc.devRef .tc main_v21_2, Proc.devRef .tc main_v21_3, Proc.devRef .tc main_v21_4, Proc.devRef .tc main_v22, Proc.devRef .tc main_v23, Proc.devRef .tc main_v24, Proc.devRef .tc main_v25, Proc.devRef .tc main_v26, Proc.devRef .tc main_v27_0, Proc.devRef .tc main_v27_1, Proc.devRef .tc main_v27_2}

theorem kept_sub : kept ⊆ ucRefs := by
  refine Finset.insert_subset (mem_uc main_arg0 rfl) ?_
  refine Finset.insert_subset (mem_uc main_arg1 rfl) ?_
  refine Finset.insert_subset (mem_uc main_arg2 rfl) ?_
  refine Finset.insert_subset (mem_uc main_arg3 rfl) ?_
  refine Finset.insert_subset (mem_uc main_v16 rfl) ?_
  refine Finset.insert_subset (mem_uc main_v17 rfl) ?_
  refine Finset.insert_subset (mem_uc main_v18 rfl) ?_
  refine Finset.insert_subset (mem_uc main_v19 rfl) ?_
  refine Finset.insert_subset (mem_uc main_v20_0 rfl) ?_
  refine Finset.insert_subset (mem_uc main_v20_1 rfl) ?_
  refine Finset.insert_subset (mem_uc main_v20_2 rfl) ?_
  refine Finset.insert_subset (mem_uc main_v20_3 rfl) ?_
  refine Finset.insert_subset (mem_uc main_v20_4 rfl) ?_
  refine Finset.insert_subset (mem_uc main_v20_5 rfl) ?_
  refine Finset.insert_subset (mem_uc main_v20_6 rfl) ?_
  refine Finset.insert_subset (mem_uc main_v20_7 rfl) ?_
  refine Finset.insert_subset (mem_uc main_v21_0 rfl) ?_
  refine Finset.insert_subset (mem_uc main_v21_1 rfl) ?_
  refine Finset.insert_subset (mem_uc main_v21_2 rfl) ?_
  refine Finset.insert_subset (mem_uc main_v21_3 rfl) ?_
  refine Finset.insert_subset (mem_uc main_v21_4 rfl) ?_
  refine Finset.insert_subset (mem_uc main_v22 rfl) ?_
  refine Finset.insert_subset (mem_uc main_v23 rfl) ?_
  refine Finset.insert_subset (mem_uc main_v24 rfl) ?_
  refine Finset.insert_subset (mem_uc main_v25 rfl) ?_
  refine Finset.insert_subset (mem_uc main_v26 rfl) ?_
  refine Finset.insert_subset (mem_uc main_v27_0 rfl) ?_
  refine Finset.insert_subset (mem_uc main_v27_1 rfl) ?_
  exact Finset.singleton_subset_iff.mpr (mem_uc main_v27_2 rfl)

set_option maxHeartbeats 4000000 in
theorem held_kept (d : Dev nD) (V : Valuation τ sig (Elt F)) : (StableHlo.held (SparseCore.T d) kept V : sProp 𝕄) = iprop(
    ((SparseCore.T d).loc main_arg0 ↦{fullShare} V (Proc.devRef .tc main_arg0)) ∗ ((SparseCore.T d).loc main_arg1 ↦{fullShare} V (Proc.devRef .tc main_arg1)) ∗ ((SparseCore.T d).loc main_arg2 ↦{fullShare} V (Proc.devRef .tc main_arg2)) ∗ ((SparseCore.T d).loc main_arg3 ↦{fullShare} V (Proc.devRef .tc main_arg3)) ∗ ((SparseCore.T d).loc main_v16 ↦{fullShare} V (Proc.devRef .tc main_v16)) ∗ ((SparseCore.T d).loc main_v17 ↦{fullShare} V (Proc.devRef .tc main_v17)) ∗ ((SparseCore.T d).loc main_v18 ↦{fullShare} V (Proc.devRef .tc main_v18)) ∗ ((SparseCore.T d).loc main_v19 ↦{fullShare} V (Proc.devRef .tc main_v19)) ∗ ((SparseCore.T d).loc main_v20_0 ↦{fullShare} V (Proc.devRef .tc main_v20_0)) ∗ ((SparseCore.T d).loc main_v20_1 ↦{fullShare} V (Proc.devRef .tc main_v20_1)) ∗ ((SparseCore.T d).loc main_v20_2 ↦{fullShare} V (Proc.devRef .tc main_v20_2)) ∗ ((SparseCore.T d).loc main_v20_3 ↦{fullShare} V (Proc.devRef .tc main_v20_3)) ∗ ((SparseCore.T d).loc main_v20_4 ↦{fullShare} V (Proc.devRef .tc main_v20_4)) ∗ ((SparseCore.T d).loc main_v20_5 ↦{fullShare} V (Proc.devRef .tc main_v20_5)) ∗ ((SparseCore.T d).loc main_v20_6 ↦{fullShare} V (Proc.devRef .tc main_v20_6)) ∗ ((SparseCore.T d).loc main_v20_7 ↦{fullShare} V (Proc.devRef .tc main_v20_7)) ∗ ((SparseCore.T d).loc main_v21_0 ↦{fullShare} V (Proc.devRef .tc main_v21_0)) ∗ ((SparseCore.T d).loc main_v21_1 ↦{fullShare} V (Proc.devRef .tc main_v21_1)) ∗ ((SparseCore.T d).loc main_v21_2 ↦{fullShare} V (Proc.devRef .tc main_v21_2)) ∗ ((SparseCore.T d).loc main_v21_3 ↦{fullShare} V (Proc.devRef .tc main_v21_3)) ∗ ((SparseCore.T d).loc main_v21_4 ↦{fullShare} V (Proc.devRef .tc main_v21_4)) ∗ ((SparseCore.T d).loc main_v22 ↦{fullShare} V (Proc.devRef .tc main_v22)) ∗ ((SparseCore.T d).loc main_v23 ↦{fullShare} V (Proc.devRef .tc main_v23)) ∗ ((SparseCore.T d).loc main_v24 ↦{fullShare} V (Proc.devRef .tc main_v24)) ∗ ((SparseCore.T d).loc main_v25 ↦{fullShare} V (Proc.devRef .tc main_v25)) ∗ ((SparseCore.T d).loc main_v26 ↦{fullShare} V (Proc.devRef .tc main_v26)) ∗ ((SparseCore.T d).loc main_v27_0 ↦{fullShare} V (Proc.devRef .tc main_v27_0)) ∗ ((SparseCore.T d).loc main_v27_1 ↦{fullShare} V (Proc.devRef .tc main_v27_1)) ∗ ((SparseCore.T d).loc main_v27_2 ↦{fullShare} V (Proc.devRef .tc main_v27_2))) := by
  unfold StableHlo.held kept
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Cert.Proof

end
-- ==== Proof.Ids.lean ====
/-
  What the host's operations leave for the kernels, and that the rows' identifiers stay inside the bins.
-/
module

public import proofs.«01_k».proof.Proof.Host
public import Idealize.ShloMosaic.Lib.KernelVsHost
public import Idealize.ShloMosaic.Lib.ReduceAll

@[expose] public section

set_option pp.maxSteps 400

noncomputable section

namespace Cert.Proof

open Cert.KernelIdeal Cert.KernelIdeal.Gen Cert.Proof.Tile Cert.Proof.Sc

open Idealize.ShloMosaic
open Idealize.SL.Sem
open Cert.KernelIdeal.Facts

variable {F : FTy → Type} [FloatOps F] [Named F]

variable (m : (ℓ : Loc nD τ sig) → Buf (Elt F) ℓ) (d : Dev nD)

/-- The keys' noise: of the uniform draws. -/
abbrev gum (u : S4x100000.Idx → Elt F .f32) : S4x100000.Idx → Elt F .f32 :=
  Host.negf (Host.log (addf (Host.negf (Host.log (addf u (broadcastInDim S4x100000 ![] bcast_S_S4x100000 (constant S_ .f32 0x1E3CE508#32)))))
    (broadcastInDim S4x100000 ![] bcast_S_S4x100000 (constant S_ .f32 0x1E3CE508#32))))

theorem v16_eq : V1 m d (Proc.devRef .tc main_v16) = (pad S4x102400 ![0, 0] ![0, 2400] ![0, 0] (gum (U m d))
    (sitofp .f32 (constantI S_ 32 0#32)) pads_S4x100000_S4x102400_000_024000 h_S_ : S4x102400.Idx → Elt F .f32) := by
  unfold U
  rw [V1_eq]
  generalize Vd m d = V
  unfold restOps
  after_results
  rfl

theorem v17_eq : V1 m d (Proc.devRef .tc main_v17) = (pad S102400 ![0] ![2400] ![0] (m ((SparseCore.T d).loc main_arg1))
    (constantI S_ 32 256#32) pads_S100000_S102400_024000 h_S_ : S102400.Idx → Elt F .i32) := by
  rw [V1_eq, ← Vd_keep m d main_arg1 (by decide)]
  generalize Vd m d = V
  unfold restOps
  after_results
  rfl

theorem v18_eq : V1 m d (Proc.devRef .tc main_v18) = (shapeCast S1x128 (m ((SparseCore.T d).loc main_arg2) : S128x1.Idx → Elt F .f32) shapeCasts_S128x1_S1x128 : S1x128.Idx → Elt F .f32) := by
  rw [V1_eq, ← Vd_keep m d main_arg2 (by decide)]
  generalize Vd m d = V
  unfold restOps
  after_results
  rfl

theorem v19_eq : V1 m d (Proc.devRef .tc main_v19) = (shapeCast S1x1 (m ((SparseCore.T d).loc main_arg3) : S1.Idx → Elt F .f32) shapeCasts_S1_S1x1 : S1x1.Idx → Elt F .f32) := by
  rw [V1_eq, ← Vd_keep m d main_arg3 (by decide)]
  generalize Vd m d = V
  unfold restOps
  after_results
  rfl

/-- A node's number as an index of one axis. -/
abbrev ix1 {n : ℕ} (k : Fin n) : (⟨1, ![n]⟩ : Shape).Idx := fun a => match a with | 0 => k

/-- A padded identifier: the node's own below the nodes' end, 256 past it. -/
theorem ids_lt (i : S102400.Idx) (h : (i 0).val < 100000) : V1 m d (Proc.devRef .tc main_v17) i = m ((SparseCore.T d).loc main_arg1) (ix1 (⟨(i 0).val, h⟩ : Fin 100000)) := by
  rw [v17_eq]
  refine pad_apply_of_inside _ _ _ _ _ _ _ _ _ fun a => ?_
  match a with | 0 => exact (by show (i 0).val = 0 + (i 0).val * (0 + 1); omega)

theorem ids_ge (i : S102400.Idx) (h : ¬ (i 0).val < 100000) : V1 m d (Proc.devRef .tc main_v17) i = 256#32 := by
  rw [v17_eq]
  refine (pad_apply_of_not_inside _ _ _ _ _ _ _ _ 0 fun hc => h ?_).trans rfl
  have := hc.2.2
  have e : ((i 0).val - 0) / (0 + 1) < 100000 := this
  omega

/-- Every identifier is a segment's number. -/
def InRange : Prop := ∀ (d : Dev nD) (i : S100000.Idx), (m ((SparseCore.T d).loc main_arg1) i : BitVec 32).toNat < 256

theorem ids_le (h : InRange m) (i : S102400.Idx) : (V1 m d (Proc.devRef .tc main_v17) i : BitVec 32).toNat ≤ 256 := by
  by_cases hi : (i 0).val < 100000
  · rw [ids_lt m d i hi]; exact (h d _).le
  · rw [ids_ge m d i hi]; decide

theorem lanes_apply (y : S16.Idx) : lanes y = BitVec.ofNat 32 (y 0).val := by
  show BitVec.ofNat 32 (0 * 16 + (y 0).val) = _
  rw [Nat.zero_mul, Nat.zero_add]

/-- A bin's number: its lane's block of 272, the row's identifier in it. -/
theorem bins_toNat (ids : S3200.Idx → Elt F .i32) (h : ∀ j, (ids j : BitVec 32).toNat ≤ 256) (t : Fin k1_t2_loop.trips) (y : S16.Idx) :
    (bins (F := F) ids t y).toNat = (y 0).val * 272 + (ids (rows t y) : BitVec 32).toNat := by
  have h1 := h (rows t y)
  have h2 : (y 0).val < 16 := (y 0).isLt
  show (IntOp.addi (IntOp.muli (lanes y) 272#32) (ids (rows t y))).toNat = _
  rw [lanes_apply]
  simp only [IntOp.addi, IntOp.muli, BitVec.toNat_add, BitVec.toNat_mul, BitVec.toNat_ofNat]
  omega

theorem idsOK_of (ids : S3200.Idx → Elt F .i32) (h : ∀ j, (ids j : BitVec 32).toNat ≤ 256) : IdsOK (F := F) ids := fun t => by
  have key : ∀ (a : Fin S4352.rank) (x : S16.Idx), ((![bins (F := F) ids t] : Fin 1 → IVec S16 32) a x).toNat < S4352.size a := fun a x => by
    match a with
    | 0 =>
      have h2 : (x 0).val < 16 := (x 0).isLt
      have h1 := h (rows t x)
      show (bins (F := F) ids t x).toNat < 4352
      rw [bins_toNat ids h]
      omega
  unfold k1_chk1
  repeat' (first | exact key | constructor)

theorem idsOK (h : InRange m) (d : Dev nD) (L : grid1.Coords) :
    IdsOK (F := F) ((in1 L (Memref.whole main_v17_scv)).view.read (Elt F) (V1 m d (Proc.devRef .tc main_v17))) :=
  idsOK_of _ fun j => by
    rw [View.read_apply]
    exact ids_le m d h _

/-- The host's conjunction over the identifiers, read at one of them. -/
theorem inRange_key (v : BitVec 32) (e : IntOp.andi (IntOp.cmpi .sge v 0#32) (IntOp.cmpi .slt v 256#32) = 1#1) : v.toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof

end
-- ==== Proof.Launch.lean ====
/-
  The launch: the program's run on a device's TensorCore, from the launch's funds to the three results.
-/
module

public import proofs.«01_k».proof.Proof.Host
public import Idealize.ShloMosaic.Lib.SparseCore.Quiescent

@[expose] public section

set_option pp.maxSteps 400

noncomputable section

namespace Cert.Proof

open Cert.KernelIdeal Cert.KernelIdeal.Gen Cert.Proof.Tile Cert.Proof.Sc Cert.Proof.Tc

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts

variable {F : FTy → Type} [FloatOps F] [Named F]

local notation "𝕄" => MT nD τ sig (HIx 1) (Elt F) ℕ UU ℕ

/-! ## One reshape -/

/-- A reshape between two buffers held whole; the other buffers are at `V₀`. -/
theorem wp_reshape1 (V₀ : Valuation τ sig (Elt F)) (d : Dev nD) {x y : Ref sig .tc} {he : x.ty.elt = y.ty.elt} {hn : x.ty.shape.ShapeCasts y.ty.shape} {hx hy}
    (hne : x ≠ y) (f : Buf (Elt F) ((SparseCore.T d).loc x)) (g : Buf (Elt F) ((SparseCore.T d).loc y)) (Q : PUnit → sProp 𝕄) :
    iprop(boundary (SparseCore.T d) ∗ ((SparseCore.T d).loc x ↦{fullShare} f) ∗ ((SparseCore.T d).loc y ↦{fullShare} g)
      ∗ ((boundary (SparseCore.T d) ∗ ((SparseCore.T d).loc x ↦{fullShare} f)
          ∗ ((SparseCore.T d).loc y ↦{fullShare} (show Buf (Elt F) ((SparseCore.T d).loc y) from fun i => he ▸ shapeCast y.ty.shape f hn i))) -∗ Q ⟨⟩))
      ⊢ wp frame (wpE ((K (F := F)).defs (D (F := F))) 𝒱 (SparseCore.T d) none) Set.univ
          (hlo rfl (StableHlo.reshape x y he hn hx hy) fun _ => .ret (⟨⟩ : PUnit)) Q := by
  have hne' : (Proc.devRef (τ := τ) .tc x) ≠ Proc.devRef .tc y := fun h => hne (Proc.devRef_injective _ h)
  have heq : ∀ W : Valuation τ sig (Elt F), (StableHlo.held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := fun W => by
    unfold StableHlo.held
    rw [SparseCore.bigSep_insert' (by rw [Finset.mem_singleton]; exact hne'), bigSep_singleton]
  let V : Valuation τ sig (Elt F) := Function.update (Function.update V₀ (Proc.devRef .tc x) f) (Proc.devRef .tc y) g
  have hVx : V (Proc.devRef .tc x) = f := (Function.update_of_ne hne' _ _).trans (Function.update_self _ _ _)
  have hVy : V (Proc.devRef .tc y) = g := Function.update_self _ _ _
  have h1 := heq V
  rw [hVx, hVy] at h1
  have h2 := heq ((StableHlo.reshape x y he hn hx hy).result V)
  rw [StableHlo.reshape_result' he hn hx hy V, StableHlo.reshape_result_ne _ _ he hn hx hy V hne, hVx] at h2
  iintro ⟨Hb, Hx, Hy, Hk⟩
  iapply (StableHlo.wp_hlo_within 𝒱 (SparseCore.T d) none Set.univ (op := StableHlo.reshape x y he hn hx hy)
    (S := {Proc.devRef .tc x, Proc.devRef .tc y}) (Finset.Subset.refl _) (V := V)) $$ [Hb Hx Hy]
  · isplitl [Hb]; · iexact Hb
    iapply (Entails.of_eq h1.symm)
    isplitl [Hx] <;> iassumption
  iintro ⟨Hb, Hh⟩
  ihave Hh' := (Entails.of_eq h2) $$ Hh
  icases Hh' with ⟨Hx, Hy⟩
  rw [wp_ret]; imodintro
  iapply Hk
  isplitl [Hb]; · iexact Hb
  isplitl [Hx] <;> iassumption

/-! ## The buffers of the two TensorCore kernels -/

variable (m : (ℓ : Loc nD τ sig) → Buf (Elt F) ℓ) (okP okK : RowOK F)

/-- The first kernel's arrays as it finds them. -/
def A0 (c : Dev nD) : Arr0 F c := fun w => V1 m c (Proc.devRef .tc (Pipeline.arrRef (cfgs 0).spec w))

/-- The padded segment numbers. -/
abbrev idsM (d : Dev nD) : S102400.Idx → Elt F .i32 := V1 m d (Proc.devRef .tc main_v17)

/-- The bins as the last kernel reads them. -/
abbrev re {α : Type} (B : S4x32x4352.Idx → α) : S4x512x272.Idx → α := shapeCast S4x512x272 B shapeCasts_S4x32x4352_S4x512x272

/-- The last kernel's arrays as it finds them. -/
def A1 (B0 : S4x32x4352.Idx → Elt F .f32) (B1 : S4x32x4352.Idx → Elt F .i32) (B2 B3 B4 : S4x32x4352.Idx → Elt F .f32)
    (R0 : S4x256.Idx → Elt F .i32) (R1 R2 : S4x256.Idx → Elt F .f32) (c : Dev nD) : Arr1 F c := fun
  | ⟨0, _⟩ => re B0 | ⟨1, _⟩ => re B1 | ⟨2, _⟩ => re B2 | ⟨3, _⟩ => re B3 | ⟨4, _⟩ => re B4 | ⟨5, _⟩ => R0 | ⟨6, _⟩ => R1 | ⟨7, _⟩ => R2

omit [FloatOps F] [Named F] in
theorem arrs0_eq (d : Dev nD) (G : Arr0 F d) : (arrs 0 d G : sProp 𝕄) = iprop(
    ((SparseCore.T d).loc main_arg0 ↦{fullShare} (G 0)) ∗ ((SparseCore.T d).loc main_v16 ↦{fullShare} (G 1)) ∗ ((SparseCore.T d).loc main_v18 ↦{fullShare} (G 2)) ∗ ((SparseCore.T d).loc main_v19 ↦{fullShare} (G 3)) ∗ ((SparseCore.T d).loc main_v20_0 ↦{fullShare} (G 4)) ∗ ((SparseCore.T d).loc main_v20_1 ↦{fullShare} (G 5)) ∗ ((SparseCore.T d).loc main_v20_2 ↦{fullShare} (G 6)) ∗ ((SparseCore.T d).loc main_v20_3 ↦{fullShare} (G 7)) ∗ ((SparseCore.T d).loc main_v20_4 ↦{fullShare} (G 8)) ∗ ((SparseCore.T d).loc main_v20_5 ↦{fullShare} (G 9)) ∗ ((SparseCore.T d).loc main_v20_6 ↦{fullShare} (G 10)) ∗ ((SparseCore.T d).loc main_v20_7 ↦{fullShare} (G 11))) := bigSep_W0 _

omit [FloatOps F] [Named F] in
theorem arrs1_eq (d : Dev nD) (G : Arr1 F d) : (arrs 1 d G : sProp 𝕄) = iprop(
    ((SparseCore.T d).loc main_v22 ↦{fullShare} (G 0)) ∗ ((SparseCore.T d).loc main_v23 ↦{fullShare} (G 1)) ∗ ((SparseCore.T d).loc main_v24 ↦{fullShare} (G 2)) ∗ ((SparseCore.T d).loc main_v25 ↦{fullShare} (G 3)) ∗ ((SparseCore.T d).loc main_v26 ↦{fullShare} (G 4)) ∗ ((SparseCore.T d).loc main_v27_0 ↦{fullShare} (G 5)) ∗ ((SparseCore.T d).loc main_v27_1 ↦{fullShare} (G 6)) ∗ ((SparseCore.T d).loc main_v27_2 ↦{fullShare} (G 7))) := bigSep_W2 _

/-! ## The run on the TensorCore -/

/-- The results: the five bin arrays there were, and what the last kernel makes of them. -/
def Res (d : Dev nD) (r0 : S4x256.Idx → Elt F .i32) (r1 r2 : S4x256.Idx → Elt F .f32) : Prop :=
  ∃ B0 B1 B2 B3 B4, BinsOf d (idsM m) okP okK B0 B1 B2 B3 B4
    ∧ r0 = resI (re B0) (re B1) ∧ r1 = resG (re B0) (re B1) (re B2) (re B3) ∧ r2 = resE (re B3) (re B4)

/-- What the TensorCore ends with: the arguments as they were, the results. -/
def FIN (d : Dev nD) : sProp 𝕄 := iprop(
  ((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3))
  ∗ ∃ r0 r1 r2, ⌜Res m okP okK d r0 r1 r2⌝ ∗ ((SparseCore.T d).loc main_v27_0 ↦{fullShare} r0) ∗ ((SparseCore.T d).loc main_v27_1 ↦{fullShare} r1)
    ∗ ((SparseCore.T d).loc main_v27_2 ↦{fullShare} r2))

/-- What the launch funds a device's TensorCore with: both kernels' ghost state. -/
def funds (d : Dev nD) : sProp 𝕄 := iprop(fund (F := F) 0 d ∗ fund (F := F) 1 d)

variable [∀ e, Nonempty (Elt F e)]

omit [FloatOps F] [Named F] [∀ e, Nonempty (Elt F e)] in
theorem owing_eq (d : Dev nD) {k n : ℕ} (h : k = n) :
    (iprop(∃ W, ⌜(K (F := F)).WBelow (SparseCore.T d) W (8 * k)⌝ ∗ owes (SparseCore.T d) ((K (F := F)).Otc d n) W) : sProp 𝕄) = owing d n := by
  subst h; rfl

set_option maxHeartbeats 4000000 in
theorem hmain (hR : Rows0 (A0 m) okP okK) (g : Dev nD → PrngReg) (κ : GSem nD τ sig → ℕ) (d : Dev nD) :
    iprop((K (F := F)).ctx EH (P (idsM m) okP okK) κ ∗ (K (F := F)).tcSt EH d 0 ∗ (K (F := F)).tcRes m g d ∗ funds d)
      ⊢ wp frame (wpE ((K (F := F)).defs (D (F := F))) 𝒱 (SparseCore.T d) none) Set.univ (main d)
          fun _ => iprop((K (F := F)).tcSt EH d 1 ∗ FIN m okP okK d ∗ (K (F := F)).tcEnd d) := by
  have e0 : SparseCore.Cfg.Blocks.fst 1 1 0 = 0 := by decide
  have e1 : SparseCore.Cfg.Blocks.fst 1 1 1 = 1 := by decide
  unfold SparseCore.Cfg.tcRes SparseCore.Cfg.tcEnd funds
  rw [show (unscopedBufs d (fun b => m ((SparseCore.T d).loc b)) : sProp 𝕄) = StableHlo.held (SparseCore.T d) ucRefs (V0 m d) from unscoped_held d (V0 m d),
    main_eq, ← StableHlo.seq_bind_seqK]
  iintro ⟨#Hctx, Hst, ⟨Hb, Hheld, Hts, -⟩, ⟨Hf0, Hf1⟩⟩
  iapply (StableHlo.wp_seq 𝒱 none Set.univ d ucRefs _ hostOps host_uc host_fresh (V0 m d)) $$ [Hb Hheld]
  · isplitl [Hb] <;> iassumption
  rw [show StableHlo.after hostOps (V0 m d) = V1 m d from rfl]
  iintro ⟨Hb, Hheld⟩
  ihave Hh := (Entails.of_eq ((StableHlo.held_sub_split (SparseCore.T d) kept_sub (V1 m d)).trans (congrArg (fun X => iprop(X ∗ _)) (held_kept d (V1 m d))))) $$ Hheld
  icases Hh with ⟨⟨Harg0, Harg1, Harg2, Harg3, Hv8, Hv9, Hv10, Hv11, Hv12_0, Hv12_1, Hv12_2, Hv12_3, Hv12_4, Hv12_5, Hv12_6, Hv12_7, Hv13_0, Hv13_1, Hv13_2, Hv13_3, Hv13_4, Hv14, Hv15, Hv16, Hv17, Hv18, Hv19_0, Hv19_1, Hv19_2⟩, -⟩
  have hlev : (K (F := F)).ctx EH (P (idsM m) okP okK) κ ⊢ (levAts (K (F := F)).L (K (F := F)).lev : sProp 𝕄) := (K (F := F)).ctx_levAts κ
  -- the first kernel
  rw [wp_bind]
  unfold SparseCore.Cfg.tcSt
  icases Hst with ⟨HO, Hst⟩
  iapply (region_wp launch0 (plain0 (A0 m) okP okK) (body0 (A0 m) okP okK hR) d)
  isplitl [Hb]; · iexact Hb
  isplitl [Harg0 Hv8 Hv10 Hv11 Hv12_0 Hv12_1 Hv12_2 Hv12_3 Hv12_4 Hv12_5 Hv12_6 Hv12_7]
  · iapply (Entails.of_eq (arrs0_eq d (A0 m d)).symm)
    isplitl [Harg0]; · iexact Harg0
    isplitl [Hv8]; · iexact Hv8
    isplitl [Hv10]; · iexact Hv10
    isplitl [Hv11]; · iexact Hv11
    isplitl [Hv12_0]; · iexact Hv12_0
    isplitl [Hv12_1]; · iexact Hv12_1
    isplitl [Hv12_2]; · iexact Hv12_2
    isplitl [Hv12_3]; · iexact Hv12_3
    isplitl [Hv12_4]; · iexact Hv12_4
    isplitl [Hv12_5]; · iexact Hv12_5
    isplitl [Hv12_6]; · iexact Hv12_6
    iexact Hv12_7
  isplitl [HO]; · iapply (Entails.of_eq (owing_eq d e0)); iexact HO
  isplitr; · iapply hlev; iexact Hctx
  isplitl [Hf0]; · iexact Hf0
  iintro ⟨Hb, HA, HO⟩
  ihave HA' := (arrsEnd0 (A0 m) okP okK d) $$ HA
  icases HA' with ⟨%G, %hG, HA⟩
  ihave HA' := (Entails.of_eq (arrs0_eq d G)) $$ HA
  icases HA' with ⟨Harg0, Hv8, Hv10, Hv11, Hv12_0, Hv12_1, Hv12_2, Hv12_3, Hv12_4, Hv12_5, Hv12_6, Hv12_7⟩
  rw [hG.in0]
  -- the bins
  rw [wp_bind]
  iapply ((K (F := F)).wp_run (D (F := F)) 𝒱 (EH := EH) (P := P (idsM m) okP okK) κ d 0)
  isplitr; · iexact Hctx
  isplitl [HO Hst]
  · unfold SparseCore.Cfg.tcSt
    isplitl [HO]
    · iapply (Entails.of_eq (owing_eq d e0).symm); iexact HO
    iexact Hst
  isplitl [Hv9 Hv12_0 Hv12_1 Hv12_2 Hv12_3 Hv12_4 Hv12_5 Hv12_6 Hv12_7 Hv13_0 Hv13_1 Hv13_2 Hv13_3 Hv13_4]
  · iapply (tiles_in d (idsM m) okP okK ![G 4, G 5, G 6, G 7] ![G 8, G 9, G 10, G 11] ⟨fun
      | 0 => hG.p0 | 1 => hG.p1 | 2 => hG.p2 | 3 => hG.p3, fun | 0 => hG.k0 | 1 => hG.k1 | 2 => hG.k2 | 3 => hG.k3⟩ _ _ _ _ _)
    isplitl [Hv9]; · iexact Hv9
    isplitl [Hv12_0]; · iexact Hv12_0
    isplitl [Hv12_1]; · iexact Hv12_1
    isplitl [Hv12_2]; · iexact Hv12_2
    isplitl [Hv12_3]; · iexact Hv12_3
    isplitl [Hv12_4]; · iexact Hv12_4
    isplitl [Hv12_5]; · iexact Hv12_5
    isplitl [Hv12_6]; · iexact Hv12_6
    isplitl [Hv12_7]; · iexact Hv12_7
    isplitl [Hv13_0]; · iexact Hv13_0
    isplitl [Hv13_1]; · iexact Hv13_1
    isplitl [Hv13_2]; · iexact Hv13_2
    isplitl [Hv13_3]; · iexact Hv13_3
    iexact Hv13_4
  iintro ⟨Hst, Hdn⟩
  ihave Hdn' := (tiles_out d (idsM m) okP okK) $$ Hdn
  icases Hdn' with ⟨%B0, %B1, %B2, %B3, %B4, %hB, Hv13_0, Hv13_1, Hv13_2, Hv13_3, Hv13_4⟩
  -- the reshapes
  unfold tail1 StableHlo.seqK StableHlo.seqK StableHlo.seqK StableHlo.seqK StableHlo.seqK StableHlo.seqK
  rw [wp_bind]
  iapply (wp_reshape1 (V0 m d) d (by decide) B0)
  isplitl [Hb]; · iexact Hb
  isplitl [Hv13_0]; · iexact Hv13_0
  isplitl [Hv14]; · iexact Hv14
  iintro ⟨Hb, Hv13_0, Hv14⟩
  rw [wp_bind]
  iapply (wp_reshape1 (V0 m d) d (by decide) B1)
  isplitl [Hb]; · iexact Hb
  isplitl [Hv13_1]; · iexact Hv13_1
  isplitl [Hv15]; · iexact Hv15
  iintro ⟨Hb, Hv13_1, Hv15⟩
  rw [wp_bind]
  iapply (wp_reshape1 (V0 m d) d (by decide) B2)
  isplitl [Hb]; · iexact Hb
  isplitl [Hv13_2]; · iexact Hv13_2
  isplitl [Hv16]; · iexact Hv16
  iintro ⟨Hb, Hv13_2, Hv16⟩
  rw [wp_bind]
  iapply (wp_reshape1 (V0 m d) d (by decide) B3)
  isplitl [Hb]; · iexact Hb
  isplitl [Hv13_3]; · iexact Hv13_3
  isplitl [Hv17]; · iexact Hv17
  iintro ⟨Hb, Hv13_3, Hv17⟩
  rw [wp_bind]
  iapply (wp_reshape1 (V0 m d) d (by decide) B4)
  isplitl [Hb]; · iexact Hb
  isplitl [Hv13_4]; · iexact Hv13_4
  isplitl [Hv18]; · iexact Hv18
  iintro ⟨Hb, Hv13_4, Hv18⟩
  -- the last kernel
  rw [wp_bind]
  unfold SparseCore.Cfg.tcSt
  icases Hst with ⟨HO, Hst⟩
  iapply (region_wp launch2 (plain1 (A1 B0 B1 B2 B3 B4 (V1 m d (Proc.devRef .tc main_v27_0)) (V1 m d (Proc.devRef .tc main_v27_1)) (V1 m d (Proc.devRef .tc main_v27_2)))) (body1 _) d)
  isplitl [Hb]; · iexact Hb
  isplitl [Hv14 Hv15 Hv16 Hv17 Hv18 Hv19_0 Hv19_1 Hv19_2]
  · iapply (Entails.of_eq (arrs1_eq d _).symm)
    isplitl [Hv14]; · iexact Hv14
    isplitl [Hv15]; · iexact Hv15
    isplitl [Hv16]; · iexact Hv16
    isplitl [Hv17]; · iexact Hv17
    isplitl [Hv18]; · iexact Hv18
    isplitl [Hv19_0]; · iexact Hv19_0
    isplitl [Hv19_1]; · iexact Hv19_1
    iexact Hv19_2
  isplitl [HO]; · iapply (Entails.of_eq (owing_eq d e1)); iexact HO
  isplitr; · iapply hlev; iexact Hctx
  isplitl [Hf1]; · iexact Hf1
  iintro ⟨Hb, HA, HO⟩
  ihave HA' := (arrsEnd1 _ d) $$ HA
  icases HA' with ⟨%G', %hG', HA⟩
  ihave HA' := (Entails.of_eq (arrs1_eq d G')) $$ HA
  icases HA' with ⟨Hv14, Hv15, Hv16, Hv17, Hv18, Hv19_0, Hv19_1, Hv19_2⟩
  rw [wp_pure]; imodintro
  isplitl [HO Hst]
  · isplitl [HO]
    · iapply (Entails.of_eq (owing_eq d e1).symm); iexact HO
    iexact Hst
  isplitr [Hb Hts]
  · unfold FIN
    rw [show A0 m d 0 = m ((SparseCore.T d).loc main_arg0) from V1_keep m d main_arg0 (by decide), V1_keep m d main_arg1 (by decide),
      V1_keep m d main_arg2 (by decide), V1_keep m d main_arg3 (by decide)]
    isplitl [Harg0]; · iexact Harg0
    isplitl [Harg1]; · iexact Harg1
    isplitl [Harg2]; · iexact Harg2
    isplitl [Harg3]; · iexact Harg3
    iexists (G' 5), (G' 6), (G' 7)
    isplitr
    · ipureintro
      exact ⟨B0, B1, B2, B3, B4, hB, hG'.rs, hG'.ga, hG'.ne⟩
    isplitl [Hv19_0]; · iexact Hv19_0
    isplitl [Hv19_1]; · iexact Hv19_1
    iexact Hv19_2
  isplitl [Hb] <;> iassumption

/-! ## The launch's funds, and what the end says of the memory -/

omit [∀ e, Nonempty (Elt F e)] in
theorem funds_of : iprop((bigSep Finset.univ fun c : Dev nD => bigSep Finset.univ fun p => Pipeline.cellsGhost cfgs (EP (F := F)) p c)
      ∗ (bigSep Finset.univ fun c : Dev nD => bigSep Finset.univ fun p => Pipeline.toksInit cfgs (EP (F := F)) p c))
    ⊢ (bigSep Finset.univ fun d : Dev nD => funds d : sProp 𝕄) := by
  have h : ∀ d : Dev nD, iprop((bigSep Finset.univ fun p => Pipeline.cellsGhost cfgs (EP (F := F)) p d)
      ∗ (bigSep Finset.univ fun p => Pipeline.toksInit cfgs (EP (F := F)) p d)) ⊢ (funds d : sProp 𝕄) := fun d => by
    unfold funds fund
    rw [show (Finset.univ : Finset (Fin 2)) = {0, 1} by decide, SparseCore.bigSep_insert' (by decide), bigSep_singleton,
      SparseCore.bigSep_insert' (by decide), bigSep_singleton]
    iintro ⟨⟨A0, A1⟩, B0, B1⟩
    isplitl [A0 B0]
    · isplitl [A0] <;> iassumption
    isplitl [A1] <;> iassumption
  rw [← bigSep_sep']
  exact bigSep_mono fun d _ => h d

theorem hu₀ : (ownU (u₀ (F := F)) : sProp 𝕄)
    ⊢ |={Set.univ}=> iprop(BI.own (EH (initOf (K (F := F)).hsCells (K (F := F)).hsToks)) ∗ (bigSep Finset.univ fun d : Dev nD => funds d)
        ∗ bigSep Finset.univ fun thr : Thread nD τ => bigSep Finset.univ fun q : Fin 1 => (P (idsM m) okP okK).x q thr) := by
  unfold u₀
  iintro Hu
  ihave H := (ownU_pair _ _) $$ Hu
  icases H with ⟨HH, HR⟩
  have hp : (BI.own (embR ((initOf (Pipeline.cells (nD := nD) (τ := τ) cfgs cellOf_inj) (Pipeline.launchToks (nD := nD) (τ := τ) cfgs cellOf_inj), 1) : UPipe × Counters)) : sProp 𝕄)
      ⊢ BI.own (EP (F := F) (initOf (Pipeline.cells (nD := nD) (τ := τ) cfgs cellOf_inj) (Pipeline.launchToks (nD := nD) (τ := τ) cfgs cellOf_inj))) := by
    unfold EP
    exact (own_pair_emb (embR : Emb (UPipe × Counters) (MT nD τ sig (HIx 1) (Elt F) ℕ UU ℕ)) _ _).trans sep_elim_left
  ihave HR' := hp $$ HR
  imod (Pipeline.fund_ghost cfgs (EP (F := F)) cellOf_inj) $$ HR' with ⟨Hg, Ht⟩
  imodintro
  isplitl [HH]; · iexact HH
  isplitl [Hg Ht]
  · iapply (funds_of (F := F))
    isplitl [Hg] <;> iassumption
  unfold P; dsimp only
  have he : ∀ {I : Type} (s : Finset I), (bigSep s fun _ => iprop(emp)) = (iprop(emp) : sProp 𝕄) := fun s => bigSep_emp_const s
  rw [show (bigSep Finset.univ fun _ : Thread nD τ => bigSep Finset.univ fun _ : Fin 1 => (iprop(emp) : sProp 𝕄)) = iprop(emp) from by
    rw [bigSep_congr fun _ _ => he _, he]]
  iempintro

/-- What the end says of a device's memory. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_arg2) = m ((SparseCore.T d).loc main_arg2) ∧ s'.mem.mem ((SparseCore.T d).loc main_arg3) = m ((SparseCore.T d).loc main_arg3)
    ∧ Res m okP okK d (s'.mem.mem ((SparseCore.T d).loc main_v27_0)) (s'.mem.mem ((SparseCore.T d).loc main_v27_1)) (s'.mem.mem ((SparseCore.T d).loc main_v27_2))

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

theorem hfin (d : Dev nD) (s' : Phys nD τ sig (Elt F)) : iprop(FIN m okP okK d ∗ SI s') ⊢ (⌜fq m okP okK d s'⌝ : sProp 𝕄) := by
  unfold FIN
  iintro ⟨⟨H0, H1, H2, H3, %r0, %r1, %r2, %hr, H5, H6, H7⟩, HSI⟩
  icases (agree s' _ _) $$ [H0 HSI] with ⟨%h0, HSI⟩
  · isplitl [H0] <;> iassumption
  icases (agree s' _ _) $$ [H1 HSI] with ⟨%h1, HSI⟩
  · isplitl [H1] <;> iassumption
  icases (agree s' _ _) $$ [H2 HSI] with ⟨%h2, HSI⟩
  · isplitl [H2] <;> iassumption
  icases (agree s' _ _) $$ [H3 HSI] with ⟨%h3, HSI⟩
  · isplitl [H3] <;> iassumption
  icases (agree s' _ _) $$ [H5 HSI] with ⟨%h5, HSI⟩
  · isplitl [H5] <;> iassumption
  icases (agree s' _ _) $$ [H6 HSI] with ⟨%h6, HSI⟩
  · isplitl [H6] <;> iassumption
  icases (agree s' _ _) $$ [H7 HSI] with ⟨%h7, HSI⟩
  · isplitl [H7] <;> iassumption
  ipureintro
  exact ⟨h0, h1, h2, h3, by rw [h5, h6, h7]; exact hr⟩

/-! ## The program's run -/

/-- The whole program, whatever the launch's schedule: the arguments stay, the results are what the last kernel makes of bins of
    rows that meet their conditions, every semaphore ends at zero. -/
theorem run_main (hR : Rows0 (A0 m) okP okK) (hids : ∀ d L, IdsOK ((in1 L (Memref.whole main_v17_scv)).view.read (Elt F) (idsM m d))) (g : Dev nD → PrngReg) :
    θ_run (Cert.KernelIdeal.defs (F := F)) (Cert.KernelIdeal.threads (F := F)) ⟨m, fun _ => 0, g⟩ fun r =>
      (∀ d : Dev nD, r.2.mem ((SparseCore.T d).loc main_arg0) = m ((SparseCore.T d).loc main_arg0) ∧ r.2.mem ((SparseCore.T d).loc main_arg1) = m ((SparseCore.T d).loc main_arg1) ∧ r.2.mem ((SparseCore.T d).loc main_arg2) = m ((SparseCore.T d).loc main_arg2) ∧ r.2.mem ((SparseCore.T d).loc main_arg3) = m ((SparseCore.T d).loc main_arg3)
        ∧ Res m okP okK d (r.2.mem ((SparseCore.T d).loc main_v27_0)) (r.2.mem ((SparseCore.T d).loc main_v27_1)) (r.2.mem ((SparseCore.T d).loc main_v27_2)))
      ∧ r.2.sem = fun _ => 0 :=
  SparseCore.Cfg.θ_run_sc_quiescent (K := K (F := F)) (D := D (F := F)) (𝒱 := 𝒱) (EH := EH) (P := P (idsM m) okP okK) (A := ∅) facts v₀
    (fun q hq => match q with | 0 => nomatch hq)
    (fun q _ => match q with | 0 => tileObl (idsM m) okP okK facts hids)
    (fun q _ => match q with | 0 => SparseCore.Cfg.VecSplit.of_plain (vecSplit (idsM m) okP okK))
    m g main funds (FIN m okP okK) (u₀ (F := F)) (sep_elim_left.trans (hu₀ m okP okK)) (hmain m okP okK hR g) (fq m okP okK) (hfin m okP okK) _
    (fun _ h hz => ⟨h, hz⟩)

end Cert.Proof

end
-- ==== Proof.Bridge.lean ====
/-
  The kernel as written and the kernel with its mask named are one program over any carrier whose named constant is that literal.
-/
module

public import proofs.«01_k».proof.Defs
public import proofs.«01_k».proof.Proof.Gen.Kernel
public import proofs.«01_k».proof.Proof.Gen.KernelIdeal

@[expose] public section
noncomputable section
namespace Cert.Proof.Bridge
open Idealize.ShloMosaic

/-- Every named constant read as the number its pattern stands for. -/
@[reducible] def plain (F : FTy → Type) [FloatOps F] : Named F := ⟨fun _ _ φ b => Scalar.ofBits φ b⟩

set_option maxRecDepth 20000
set_option maxHeartbeats 0
theorem defs0_eq {F : FTy → Type} [FloatOps F] : (Cert.Kernel.defs₀ (F := F)) = (letI := plain F; Cert.KernelIdeal.defs₀ (F := F)) := by
  funext p ℓ a
  match p, ℓ, a with
  | .tc, (0 : Fin 3), a => rfl
  | .tc, (1 : Fin 3), a => rfl
  | .tc, (2 : Fin 3), a => rfl
  | .scScalar c, (0 : Fin 3), a => rfl
  | .scScalar c, (1 : Fin 3), a => rfl
  | .scScalar c, (2 : Fin 3), a => rfl
  | .scVector c s, (0 : Fin 3), a => rfl
  | .scVector c s, (1 : Fin 3), a => rfl
  | .scVector c s, (2 : Fin 3), a => rfl
theorem defs_eq {F : FTy → Type} [FloatOps F] : (Cert.Kernel.defs (F := F)) = (letI := plain F; Cert.KernelIdeal.defs (F := F)) := by
  unfold Cert.Kernel.defs Cert.KernelIdeal.defs
  rw [defs0_eq]
  rfl
theorem threads_eq {F : FTy → Type} [FloatOps F] : (Cert.Kernel.threads (F := F)) = letI := plain F; Cert.KernelIdeal.threads (F := F) := by exact rfl
end Cert.Proof.Bridge
-- ==== Proof.RefLine.lean ====
/-
  The reference's host operations after the draw, in order, and what each of its results is in terms of the arguments and of the
  numbers drawn: every run ends with those terms.
-/
module

public import proofs.«01_k».proof.Proof.Draw
public import Idealize.ShloMosaic.Lib.Pipeline.Frame

@[expose] public section

set_option Elab.async false
set_option maxRecDepth 20000

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F] [Named F]

/-! ## The operations -/

/-- The noise of the draws, the nodes of each segment, the predictions and their segment maxima. -/
abbrev ops0 : List (HloOp τ sig (Elt F)) :=
  [ nullary main_cst_3 (constant S_ .f32 0x1E3CE508#32),
    unary main_cst_3 main_v8 (broadcastInDim S4x100000 ![] bcast_S_S4x100000 : (⟨S_, .f32⟩ : BufTy).Contents (Elt F) → (⟨S4x100000, .f32⟩ : BufTy).Contents (Elt F)),
    binary main_v7 main_v8 main_v9 (addf : (⟨S4x100000, .f32⟩ : BufTy).Contents (Elt F) → (⟨S4x100000, .f32⟩ : BufTy).Contents (Elt F) → (⟨S4x100000, .f32⟩ : BufTy).Contents (Elt F)),
    unary main_v9 main_v10 (Host.log : (⟨S4x100000, .f32⟩ : BufTy).Contents (Elt F) → (⟨S4x100000, .f32⟩ : BufTy).Contents (Elt F)),
    unary main_v10 main_v11 (Host.negf : (⟨S4x100000, .f32⟩ : BufTy).Contents (Elt F) → (⟨S4x100000, .f32⟩ : BufTy).Contents (Elt F)),
    nullary main_cst_4 (constant S_ .f32 0x1E3CE508#32),
    unary main_cst_4 main_v12 (broadcastInDim S4x100000 ![] bcast_S_S4x100000 : (⟨S_, .f32⟩ : BufTy).Contents (Elt F) → (⟨S4x100000, .f32⟩ : BufTy).Contents (Elt F)),
    binary main_v11 main_v12 main_v13 (addf : (⟨S4x100000, .f32⟩ : BufTy).Contents (Elt F) → (⟨S4x100000, .f32⟩ : BufTy).Contents (Elt F) → (⟨S4x100000, .f32⟩ : BufTy).Contents (Elt F)),
    unary main_v13 main_v14 (Host.log : (⟨S4x100000, .f32⟩ : BufTy).Contents (Elt F) → (⟨S4x100000, .f32⟩ : BufTy).Contents (Elt F)),
    unary main_v14 main_v15 (Host.negf : (⟨S4x100000, .f32⟩ : BufTy).Contents (Elt F) → (⟨S4x100000, .f32⟩ : BufTy).Contents (Elt F)),
    unary main_arg1 main_v16 (broadcastInDim S1x100000x1 ![1] bcast_S100000_S1x100000x1_1 : (⟨S100000, .i32⟩ : BufTy).Contents (Elt F) → (⟨S1x100000x1, .i32⟩ : BufTy).Contents (Elt F)),
    nullary main_v17 (iotaInDim S256 32 0),
    unary main_v17 main_v18 (broadcastInDim S1x1x256 ![2] bcast_S256_S1x1x256_2 : (⟨S256, .i32⟩ : BufTy).Contents (Elt F) → (⟨S1x1x256, .i32⟩ : BufTy).Contents (Elt F)),
    unary main_v16 main_v19 (broadcastInDim S1x100000x256 ![0, 1, 2] bcast_S1x100000x1_S1x100000x256_0_1_2 : (⟨S1x100000x1, .i32⟩ : BufTy).Contents (Elt F) → (⟨S1x100000x256, .i32⟩ : BufTy).Contents (Elt F)),
    unary main_v18 main_v20 (broadcastInDim S1x100000x256 ![0, 1, 2] bcast_S1x1x256_S1x100000x256_0_1_2 : (⟨S1x1x256, .i32⟩ : BufTy).Contents (Elt F) → (⟨S1x100000x256, .i32⟩ : BufTy).Contents (Elt F)),
    binary main_v19 main_v20 main_v21 (cmpi .eq : (⟨S1x100000x256, .i32⟩ : BufTy).Contents (Elt F) → (⟨S1x100000x256, .i32⟩ : BufTy).Contents (Elt F) → (⟨S1x100000x256, .i1⟩ : BufTy).Contents (Elt F)),
    binary main_arg0 main_arg2 main_v22 ((fun l r => Host.dotGeneral dot_S4x100000x128_S128x1_S4x100000x1_2_0_01_1_n_n none l r) : (⟨S4x100000x128, .f32⟩ : BufTy).Contents (Elt F) → (⟨S128x1, .f32⟩ : BufTy).Contents (Elt F) → (⟨S4x100000x1, .f32⟩ : BufTy).Contents (Elt F)),
    unary main_arg3 main_v23 (broadcastInDim S1x1x1 ![2] bcast_S1_S1x1x1_2 : (⟨S1, .f32⟩ : BufTy).Contents (Elt F) → (⟨S1x1x1, .f32⟩ : BufTy).Contents (Elt F)),
    unary main_v23 main_v24 (broadcastInDim S4x100000x1 ![0, 1, 2] bcast_S1x1x1_S4x100000x1_0_1_2 : (⟨S1x1x1, .f32⟩ : BufTy).Contents (Elt F) → (⟨S4x100000x1, .f32⟩ : BufTy).Contents (Elt F)),
    binary main_v22 main_v24 main_v25 (addf : (⟨S4x100000x1, .f32⟩ : BufTy).Contents (Elt F) → (⟨S4x100000x1, .f32⟩ : BufTy).Contents (Elt F) → (⟨S4x100000x1, .f32⟩ : BufTy).Contents (Elt F)),
    reshape main_v25 main_v26 (rfl : (.f32 : EltTy) = .f32) shapeCasts_S4x100000x1_S4x100000,
    unary main_v26 main_v27 (broadcastInDim S4x100000x1 ![0, 1] bcast_S4x100000_S4x100000x1_0_1 : (⟨S4x100000, .f32⟩ : BufTy).Contents (Elt F) → (⟨S4x100000x1, .f32⟩ : BufTy).Contents (Elt F)),
    nullary main_cst_5 (constant S_ .f32 0xFF800000#32),
    TRef.unary (TRef.of (T := ⟨S_, .f32⟩) main_cst_5) (TRef.of (T := ⟨S_, .f32⟩) main_call1_v0) id,
    TRef.unary (TRef.of (T := ⟨S1x100000x256, .i1⟩) main_v21) (TRef.of (T := ⟨S4x100000x256, .i1⟩) main_call1_v1) (broadcastInDim S4x100000x256 ![0, 1, 2] bcast_S1x100000x256_S4x100000x256_0_1_2),
    TRef.unary (TRef.of (T := ⟨S4x100000x1, .f32⟩) main_v27) (TRef.of (T := ⟨S4x100000x256, .f32⟩) main_call1_v2) (broadcastInDim S4x100000x256 ![0, 1, 2] bcast_S4x100000x1_S4x100000x256_0_1_2),
    TRef.unary (TRef.of (T := ⟨S_, .f32⟩) main_call1_v0) (TRef.of (T := ⟨S4x100000x256, .f32⟩) main_call1_v3) (broadcastInDim S4x100000x256 ![] bcast_S_S4x100000x256),
    TRef.ternary (TRef.of (T := ⟨S4x100000x256, .i1⟩) main_call1_v1) (TRef.of (T := ⟨S4x100000x256, .f32⟩) main_call1_v2) (TRef.of (T := ⟨S4x100000x256, .f32⟩) main_call1_v3) (TRef.of (T := ⟨S4x100000x256, .f32⟩) main_v28) select,
    nullary main_cst_6 (constant S_ .f32 0xFF800000#32),
    binary main_v28 main_cst_6 main_v29 ((fun x v => Host.reduce FloatOps.maximumf x v reducesTo_S4x100000x256_S4x256_d1 h_S_) : (⟨S4x100000x256, .f32⟩ : BufTy).Contents (Elt F) → (⟨S_, .f32⟩ : BufTy).Contents (Elt F) → (⟨S4x256, .f32⟩ : BufTy).Contents (Elt F)) ]

/-- The exponentials less the maxima, their segment sums, the probabilities. -/
abbrev ops1 : List (HloOp τ sig (Elt F)) :=
  [ nullary main_c_7 (constantI S_ 32 0#32),
    unary main_c_7 main_v30 (broadcastInDim S100000 ![] bcast_S_S100000 : (⟨S_, .i32⟩ : BufTy).Contents (Elt F) → (⟨S100000, .i32⟩ : BufTy).Contents (Elt F)),
    binary main_arg1 main_v30 main_v31 (cmpi .slt : (⟨S100000, .i32⟩ : BufTy).Contents (Elt F) → (⟨S100000, .i32⟩ : BufTy).Contents (Elt F) → (⟨S100000, .i1⟩ : BufTy).Contents (Elt F)),
    nullary main_c_8 (constantI S_ 32 256#32),
    unary main_c_8 main_v32 (broadcastInDim S100000 ![] bcast_S_S100000 : (⟨S_, .i32⟩ : BufTy).Contents (Elt F) → (⟨S100000, .i32⟩ : BufTy).Contents (Elt F)),
    binary main_arg1 main_v32 main_v33 (addi : (⟨S100000, .i32⟩ : BufTy).Contents (Elt F) → (⟨S100000, .i32⟩ : BufTy).Contents (Elt F) → (⟨S100000, .i32⟩ : BufTy).Contents (Elt F)),
    ternary main_v31 main_v33 main_arg1 main_v34 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v34 main_v35 (broadcastInDim S100000x1 ![0] bcast_S100000_S100000x1_0 : (⟨S100000, .i32⟩ : BufTy).Contents (Elt F) → (⟨S100000x1, .i32⟩ : BufTy).Contents (Elt F)),
    binary main_v29 main_v35 main_v36 ((fun x i => Host.gather gather_S4x256_S100000x1_S4x100000_0_1_n_n_1_1_41 x i) : (⟨S4x256, .f32⟩ : BufTy).Contents (Elt F) → (⟨S100000x1, .i32⟩ : BufTy).Contents (Elt F) → (⟨S4x100000, .f32⟩ : BufTy).Contents (Elt F)),
    binary main_v26 main_v36 main_v37 (subf : (⟨S4x100000, .f32⟩ : BufTy).Contents (Elt F) → (⟨S4x100000, .f32⟩ : BufTy).Contents (Elt F) → (⟨S4x100000, .f32⟩ : BufTy).Contents (Elt F)),
    unary main_v37 main_v38 (Host.exp : (⟨S4x100000, .f32⟩ : BufTy).Contents (Elt F) → (⟨S4x100000, .f32⟩ : BufTy).Contents (Elt F)),
    unary main_v38 main_v39 (broadcastInDim S4x100000x1 ![0, 1] bcast_S4x100000_S4x100000x1_0_1 : (⟨S4x100000, .f32⟩ : BufTy).Contents (Elt F) → (⟨S4x100000x1, .f32⟩ : BufTy).Contents (Elt F)),
    nullary main_cst_9 (constant S_ .f32 0x00000000#32),
    TRef.unary (TRef.of (T := ⟨S_, .f32⟩) main_cst_9) (TRef.of (T := ⟨S_, .f32⟩) main_call2_v0) id,
    TRef.unary (TRef.of (T := ⟨S1x100000x256, .i1⟩) main_v21) (TRef.of (T := ⟨S4x100000x256, .i1⟩) main_call2_v1) (broadcastInDim S4x100000x256 ![0, 1, 2] bcast_S1x100000x256_S4x100000x256_0_1_2),
    TRef.unary (TRef.of (T := ⟨S4x100000x1, .f32⟩) main_v39) (TRef.of (T := ⟨S4x100000x256, .f32⟩) main_call2_v2) (broadcastInDim S4x100000x256 ![0, 1, 2] bcast_S4x100000x1_S4x100000x256_0_1_2),
    TRef.unary (TRef.of (T := ⟨S_, .f32⟩) main_call2_v0) (TRef.of (T := ⟨S4x100000x256, .f32⟩) main_call2_v3) (broadcastInDim S4x100000x256 ![] bcast_S_S4x100000x256),
    TRef.ternary (TRef.of (T := ⟨S4x100000x256, .i1⟩) main_call2_v1) (TRef.of (T := ⟨S4x100000x256, .f32⟩) main_call2_v2) (TRef.of (T := ⟨S4x100000x256, .f32⟩) main_call2_v3) (TRef.of (T := ⟨S4x100000x256, .f32⟩) main_v40) select,
    nullary main_cst_10 (constant S_ .f32 0x00000000#32),
    binary main_v40 main_cst_10 main_v41 ((fun x v => Host.reduceAdd x v reducesTo_S4x100000x256_S4x256_d1 h_S_) : (⟨S4x100000x256, .f32⟩ : BufTy).Contents (Elt F) → (⟨S_, .f32⟩ : BufTy).Contents (Elt F) → (⟨S4x256, .f32⟩ : BufTy).Contents (Elt F)),
    nullary main_c_11 (constantI S_ 32 0#32),
    unary main_c_11 main_v42 (broadcastInDim S100000 ![] bcast_S_S100000 : (⟨S_, .i32⟩ : BufTy).Contents (Elt F) → (⟨S100000, .i32⟩ : BufTy).Contents (Elt F)),
    binary main_arg1 main_v42 main_v43 (cmpi .slt : (⟨S100000, .i32⟩ : BufTy).Contents (Elt F) → (⟨S100000, .i32⟩ : BufTy).Contents (Elt F) → (⟨S100000, .i1⟩ : BufTy).Contents (Elt F)),
    nullary main_c_12 (constantI S_ 32 256#32),
    unary main_c_12 main_v44 (broadcastInDim S100000 ![] bcast_S_S100000 : (⟨S_, .i32⟩ : BufTy).Contents (Elt F) → (⟨S100000, .i32⟩ : BufTy).Contents (Elt F)),
    binary main_arg1 main_v44 main_v45 (addi : (⟨S100000, .i32⟩ : BufTy).Contents (Elt F) → (⟨S100000, .i32⟩ : BufTy).Contents (Elt F) → (⟨S100000, .i32⟩ : BufTy).Contents (Elt F)),
    ternary main_v43 main_v45 main_arg1 main_v46 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v46 main_v47 (broadcastInDim S100000x1 ![0] bcast_S100000_S100000x1_0 : (⟨S100000, .i32⟩ : BufTy).Contents (Elt F) → (⟨S100000x1, .i32⟩ : BufTy).Contents (Elt F)),
    binary main_v41 main_v47 main_v48 ((fun x i => Host.gather gather_S4x256_S100000x1_S4x100000_0_1_n_n_1_1_41 x i) : (⟨S4x256, .f32⟩ : BufTy).Contents (Elt F) → (⟨S100000x1, .i32⟩ : BufTy).Contents (Elt F) → (⟨S4x100000, .f32⟩ : BufTy).Contents (Elt F)),
    binary main_v38 main_v48 main_v49 (Host.divf : (⟨S4x100000, .f32⟩ : BufTy).Contents (Elt F) → (⟨S4x100000, .f32⟩ : BufTy).Contents (Elt F) → (⟨S4x100000, .f32⟩ : BufTy).Contents (Elt F)) ]

/-- The logarithms, the keys and their segment maxima. -/
abbrev ops2 : List (HloOp τ sig (Elt F)) :=
  [ unary main_v49 main_v50 (Host.log : (⟨S4x100000, .f32⟩ : BufTy).Contents (Elt F) → (⟨S4x100000, .f32⟩ : BufTy).Contents (Elt F)),
    binary main_v50 main_v15 main_v51 (addf : (⟨S4x100000, .f32⟩ : BufTy).Contents (Elt F) → (⟨S4x100000, .f32⟩ : BufTy).Contents (Elt F) → (⟨S4x100000, .f32⟩ : BufTy).Contents (Elt F)),
    unary main_v51 main_v52 (broadcastInDim S4x100000x1 ![0, 1] bcast_S4x100000_S4x100000x1_0_1 : (⟨S4x100000, .f32⟩ : BufTy).Contents (Elt F) → (⟨S4x100000x1, .f32⟩ : BufTy).Contents (Elt F)),
    nullary main_cst_13 (constant S_ .f32 0xFF800000#32),
    TRef.unary (TRef.of (T := ⟨S_, .f32⟩) main_cst_13) (TRef.of (T := ⟨S_, .f32⟩) main_call3_v0) id,
    TRef.unary (TRef.of (T := ⟨S1x100000x256, .i1⟩) main_v21) (TRef.of (T := ⟨S4x100000x256, .i1⟩) main_call3_v1) (broadcastInDim S4x100000x256 ![0, 1, 2] bcast_S1x100000x256_S4x100000x256_0_1_2),
    TRef.unary (TRef.of (T := ⟨S4x100000x1, .f32⟩) main_v52) (TRef.of (T := ⟨S4x100000x256, .f32⟩) main_call3_v2) (broadcastInDim S4x100000x256 ![0, 1, 2] bcast_S4x100000x1_S4x100000x256_0_1_2),
    TRef.unary (TRef.of (T := ⟨S_, .f32⟩) main_call3_v0) (TRef.of (T := ⟨S4x100000x256, .f32⟩) main_call3_v3) (broadcastInDim S4x100000x256 ![] bcast_S_S4x100000x256),
    TRef.ternary (TRef.of (T := ⟨S4x100000x256, .i1⟩) main_call3_v1) (TRef.of (T := ⟨S4x100000x256, .f32⟩) main_call3_v2) (TRef.of (T := ⟨S4x100000x256, .f32⟩) main_call3_v3) (TRef.of (T := ⟨S4x100000x256, .f32⟩) main_v53) select,
    nullary main_cst_14 (constant S_ .f32 0xFF800000#32),
    binary main_v53 main_cst_14 main_v54 ((fun x v => Host.reduce FloatOps.maximumf x v reducesTo_S4x100000x256_S4x256_d1 h_S_) : (⟨S4x100000x256, .f32⟩ : BufTy).Contents (Elt F) → (⟨S_, .f32⟩ : BufTy).Contents (Elt F) → (⟨S4x256, .f32⟩ : BufTy).Contents (Elt F)),
    nullary main_c_15 (constantI S_ 32 0#32) ]

/-- The chosen nodes, their logarithms of probability, the negative entropies. -/
abbrev ops3 : List (HloOp τ sig (Elt F)) :=
  [ unary main_c_15 main_v55 (broadcastInDim S100000 ![] bcast_S_S100000 : (⟨S_, .i32⟩ : BufTy).Contents (Elt F) → (⟨S100000, .i32⟩ : BufTy).Contents (Elt F)),
    binary main_arg1 main_v55 main_v56 (cmpi .slt : (⟨S100000, .i32⟩ : BufTy).Contents (Elt F) → (⟨S100000, .i32⟩ : BufTy).Contents (Elt F) → (⟨S100000, .i1⟩ : BufTy).Contents (Elt F)),
    nullary main_c_16 (constantI S_ 32 256#32),
    unary main_c_16 main_v57 (broadcastInDim S100000 ![] bcast_S_S100000 : (⟨S_, .i32⟩ : BufTy).Contents (Elt F) → (⟨S100000, .i32⟩ : BufTy).Contents (Elt F)),
    binary main_arg1 main_v57 main_v58 (addi : (⟨S100000, .i32⟩ : BufTy).Contents (Elt F) → (⟨S100000, .i32⟩ : BufTy).Contents (Elt F) → (⟨S100000, .i32⟩ : BufTy).Contents (Elt F)),
    ternary main_v56 main_v58 main_arg1 main_v59 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v59 main_v60 (broadcastInDim S100000x1 ![0] bcast_S100000_S100000x1_0 : (⟨S100000, .i32⟩ : BufTy).Contents (Elt F) → (⟨S100000x1, .i32⟩ : BufTy).Contents (Elt F)),
    binary main_v54 main_v60 main_v61 ((fun x i => Host.gather gather_S4x256_S100000x1_S4x100000_0_1_n_n_1_1_41 x i) : (⟨S4x256, .f32⟩ : BufTy).Contents (Elt F) → (⟨S100000x1, .i32⟩ : BufTy).Contents (Elt F) → (⟨S4x100000, .f32⟩ : BufTy).Contents (Elt F)),
    binary main_v51 main_v61 main_v62 (cmpf .oge : (⟨S4x100000, .f32⟩ : BufTy).Contents (Elt F) → (⟨S4x100000, .f32⟩ : BufTy).Contents (Elt F) → (⟨S4x100000, .i1⟩ : BufTy).Contents (Elt F)),
    nullary main_v63 (iotaInDim S100000 32 0),
    unary main_v63 main_v64 (broadcastInDim S1x100000 ![1] bcast_S100000_S1x100000_1 : (⟨S100000, .i32⟩ : BufTy).Contents (Elt F) → (⟨S1x100000, .i32⟩ : BufTy).Contents (Elt F)),
    nullary main_c_17 (constantI S_ 32 100000#32),
    TRef.unary (TRef.of (T := ⟨S_, .i32⟩) main_c_17) (TRef.of (T := ⟨S_, .i32⟩) main_call4_v0) id,
    TRef.unary (TRef.of (T := ⟨S1x100000, .i32⟩) main_v64) (TRef.of (T := ⟨S4x100000, .i32⟩) main_call4_v1) (broadcastInDim S4x100000 ![0, 1] bcast_S1x100000_S4x100000_0_1),
    TRef.unary (TRef.of (T := ⟨S_, .i32⟩) main_call4_v0) (TRef.of (T := ⟨S4x100000, .i32⟩) main_call4_v2) (broadcastInDim S4x100000 ![] bcast_S_S4x100000),
    TRef.ternary (TRef.of (T := ⟨S4x100000, .i1⟩) main_v62) (TRef.of (T := ⟨S4x100000, .i32⟩) main_call4_v1) (TRef.of (T := ⟨S4x100000, .i32⟩) main_call4_v2) (TRef.of (T := ⟨S4x100000, .i32⟩) main_v65) select,
    unary main_v65 main_v66 (broadcastInDim S4x100000x1 ![0, 1] bcast_S4x100000_S4x100000x1_0_1 : (⟨S4x100000, .i32⟩ : BufTy).Contents (Elt F) → (⟨S4x100000x1, .i32⟩ : BufTy).Contents (Elt F)),
    nullary main_c_18 (constantI S_ 32 2147483647#32),
    TRef.unary (TRef.of (T := ⟨S_, .i32⟩) main_c_18) (TRef.of (T := ⟨S_, .i32⟩) main_call5_v0) id,
    TRef.unary (TRef.of (T := ⟨S1x100000x256, .i1⟩) main_v21) (TRef.of (T := ⟨S4x100000x256, .i1⟩) main_call5_v1) (broadcastInDim S4x100000x256 ![0, 1, 2] bcast_S1x100000x256_S4x100000x256_0_1_2),
    TRef.unary (TRef.of (T := ⟨S4x100000x1, .i32⟩) main_v66) (TRef.of (T := ⟨S4x100000x256, .i32⟩) main_call5_v2) (broadcastInDim S4x100000x256 ![0, 1, 2] bcast_S4x100000x1_S4x100000x256_0_1_2),
    TRef.unary (TRef.of (T := ⟨S_, .i32⟩) main_call5_v0) (TRef.of (T := ⟨S4x100000x256, .i32⟩) main_call5_v3) (broadcastInDim S4x100000x256 ![] bcast_S_S4x100000x256),
    TRef.ternary (TRef.of (T := ⟨S4x100000x256, .i1⟩) main_call5_v1) (TRef.of (T := ⟨S4x100000x256, .i32⟩) main_call5_v2) (TRef.of (T := ⟨S4x100000x256, .i32⟩) main_call5_v3) (TRef.of (T := ⟨S4x100000x256, .i32⟩) main_v67) select,
    nullary main_c_19 (constantI S_ 32 2147483647#32),
    binary main_v67 main_c_19 main_v68 ((fun x v => Host.reduce IntOp.minsi x v reducesTo_S4x100000x256_S4x256_d1 h_S_) : (⟨S4x100000x256, .i32⟩ : BufTy).Contents (Elt F) → (⟨S_, .i32⟩ : BufTy).Contents (Elt F) → (⟨S4x256, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S4x256, .i32⟩) main_call6_v0) (broadcastInDim S4x256 ![] bcast_S_S4x256),
    TRef.binary (TRef.of (T := ⟨S4x256, .i32⟩) main_v68) (TRef.of (T := ⟨S4x256, .i32⟩) main_call6_v0) (TRef.of (T := ⟨S4x256, .i1⟩) main_call6_v1) (cmpi .slt),
    TRef.nullary (TRef.of (T := ⟨S_, .i32⟩) main_call6_c_0) (constantI S_ 32 100000#32),
    TRef.unary (TRef.of (T := ⟨S_, .i32⟩) main_call6_c_0) (TRef.of (T := ⟨S4x256, .i32⟩) main_call6_v2) (broadcastInDim S4x256 ![] bcast_S_S4x256),
    TRef.binary (TRef.of (T := ⟨S4x256, .i32⟩) main_v68) (TRef.of (T := ⟨S4x256, .i32⟩) main_call6_v2) (TRef.of (T := ⟨S4x256, .i32⟩) main_call6_v3) addi,
    TRef.ternary (TRef.of (T := ⟨S4x256, .i1⟩) main_call6_v1) (TRef.of (T := ⟨S4x256, .i32⟩) main_call6_v3) (TRef.of (T := ⟨S4x256, .i32⟩) main_v68) (TRef.of (T := ⟨S4x256, .i32⟩) main_call6_v4) select,
    TRef.reshape (TRef.of (T := ⟨S4x256, .i32⟩) main_call6_v4) (TRef.of (T := ⟨S4x256x1, .i32⟩) main_call6_v5) (rfl : (.i32 : EltTy) = .i32) shapeCasts_S4x256_S4x256x1,
    TRef.nullary (TRef.of (T := ⟨S1, .i32⟩) main_call6_c_1) (constantI S1 32 99999#32),
    TRef.nullary (TRef.of (T := ⟨S_, .i32⟩) main_call6_c_2) (constantI S_ 32 0#32),
    TRef.unary (TRef.of (T := ⟨S_, .i32⟩) main_call6_c_2) (TRef.of (T := ⟨S4x256x1, .i32⟩) main_call6_v6) (broadcastInDim S4x256x1 ![] bcast_S_S4x256x1),
    TRef.binary (TRef.of (T := ⟨S4x256x1, .i32⟩) main_call6_v5) (TRef.of (T := ⟨S4x256x1, .i32⟩) main_call6_v6) (TRef.of (T := ⟨S4x256x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S4x256x1, .i32⟩) main_call6_v9) (broadcastInDim S4x256x1 ![0, 1, 2] bcast_S1x1x1_S4x256x1_0_1_2),
    TRef.binary (TRef.of (T := ⟨S4x256x1, .i32⟩) main_call6_v5) (TRef.of (T := ⟨S4x256x1, .i32⟩) main_call6_v9) (TRef.of (T := ⟨S4x256x1, .i1⟩) main_call6_v10) (cmpi .sle),
    TRef.binary (TRef.of (T := ⟨S4x256x1, .i1⟩) main_call6_v7) (TRef.of (T := ⟨S4x256x1, .i1⟩) main_call6_v10) (TRef.of (T := ⟨S4x256x1, .i1⟩) main_call6_v11) andi,
    TRef.nullary (TRef.of (T := ⟨S_, .i1⟩) main_call6_c_3) (constantI S_ 1 1#1),
    TRef.binary (TRef.of (T := ⟨S4x256x1, .i1⟩) main_call6_v11) (TRef.of (T := ⟨S_, .i1⟩) main_call6_c_3) (TRef.of (T := ⟨S4x256, .i1⟩) main_call6_v12) (fun x v => Host.reduce IntOp.andi x v reducesTo_S4x256x1_S4x256_d2 h_S_),
    TRef.binary (TRef.of (T := ⟨S4x100000, .f32⟩) main_v50) (TRef.of (T := ⟨S4x256x1, .i32⟩) main_call6_v5) (TRef.of (T := ⟨S4x256, .f32⟩) main_call6_v13) (fun x i => Host.gather gather_S4x100000_S4x256x1_S4x256_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S4x256, .f32⟩) main_call6_v14) (broadcastInDim S4x256 ![] bcast_S_S4x256),
    TRef.ternary (TRef.of (T := ⟨S4x256, .i1⟩) main_call6_v12) (TRef.of (T := ⟨S4x256, .f32⟩) main_call6_v13) (TRef.of (T := ⟨S4x256, .f32⟩) main_call6_v14) (TRef.of (T := ⟨S4x256, .f32⟩) main_v69) select,
    binary main_v49 main_v50 main_v70 (mulf : (⟨S4x100000, .f32⟩ : BufTy).Contents (Elt F) → (⟨S4x100000, .f32⟩ : BufTy).Contents (Elt F) → (⟨S4x100000, .f32⟩ : BufTy).Contents (Elt F)),
    unary main_v70 main_v71 (broadcastInDim S4x100000x1 ![0, 1] bcast_S4x100000_S4x100000x1_0_1 : (⟨S4x100000, .f32⟩ : BufTy).Contents (Elt F) → (⟨S4x100000x1, .f32⟩ : BufTy).Contents (Elt F)),
    nullary main_cst_20 (constant S_ .f32 0x00000000#32),
    TRef.unary (TRef.of (T := ⟨S_, .f32⟩) main_cst_20) (TRef.of (T := ⟨S_, .f32⟩) main_call7_v0) id,
    TRef.unary (TRef.of (T := ⟨S1x100000x256, .i1⟩) main_v21) (TRef.of (T := ⟨S4x100000x256, .i1⟩) main_call7_v1) (broadcastInDim S4x100000x256 ![0, 1, 2] bcast_S1x100000x256_S4x100000x256_0_1_2),
    TRef.unary (TRef.of (T := ⟨S4x100000x1, .f32⟩) main_v71) (TRef.of (T := ⟨S4x100000x256, .f32⟩) main_call7_v2) (broadcastInDim S4x100000x256 ![0, 1, 2] bcast_S4x100000x1_S4x100000x256_0_1_2),
    TRef.unary (TRef.of (T := ⟨S_, .f32⟩) main_call7_v0) (TRef.of (T := ⟨S4x100000x256, .f32⟩) main_call7_v3) (broadcastInDim S4x100000x256 ![] bcast_S_S4x100000x256),
    TRef.ternary (TRef.of (T := ⟨S4x100000x256, .i1⟩) main_call7_v1) (TRef.of (T := ⟨S4x100000x256, .f32⟩) main_call7_v2) (TRef.of (T := ⟨S4x100000x256, .f32⟩) main_call7_v3) (TRef.of (T := ⟨S4x100000x256, .f32⟩) main_v72) select,
    nullary main_cst_21 (constant S_ .f32 0x00000000#32),
    binary main_v72 main_cst_21 main_v73 ((fun x v => Host.reduceAdd x v reducesTo_S4x100000x256_S4x256_d1 h_S_) : (⟨S4x100000x256, .f32⟩ : BufTy).Contents (Elt F) → (⟨S_, .f32⟩ : BufTy).Contents (Elt F) → (⟨S4x256, .f32⟩ : BufTy).Contents (Elt F)) ]

/-- All of them. -/
abbrev ops : List (HloOp τ sig (Elt F)) := ops0 ++ (ops1 ++ (ops2 ++ ops3))

/-- The reference is the draw and then these. -/
theorem main_draw (c : Dev nD) : main (F := F) c = (Draw.refDraw >>= fun _ => seq ops) := by chain_rfl

theorem main_eq (c : Dev nD) : main (F := F) c = seq (Draw.rOps ++ ops) := by
  rw [main_draw, Draw.refDraw_eq]
  exact (seq_append Draw.rOps ops).symm

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., unary_bufs_sub .., unary_bufs_sub .., unary_bufs_sub .., nullary_bufs_sub .., unary_bufs_sub .., unary_bufs_sub .., unary_bufs_sub .., binary_bufs_sub .., binary_bufs_sub .., unary_bufs_sub .., unary_bufs_sub .., binary_bufs_sub .., reshape_bufs_sub .., unary_bufs_sub .., nullary_bufs_sub .., unary_bufs_sub .., unary_bufs_sub .., unary_bufs_sub .., unary_bufs_sub .., ternary_bufs_sub .., nullary_bufs_sub .., binary_bufs_sub ..⟩
theorem ops0_fresh : ∀ op ∈ (ops0 : List (HloOp τ sig (Elt F))), op.fresh = ∅ := List.forall_iff_forall_mem.mp (forall_fresh_of_map rfl)

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., unary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops1_fresh : ∀ op ∈ (ops1 : List (HloOp τ sig (Elt F))), op.fresh = ∅ := List.forall_iff_forall_mem.mp (forall_fresh_of_map rfl)

theorem ops2_sub : (ops2 : List (HloOp τ sig (Elt F))).Forall fun op => op.bufs ⊆ tcRefs τ sig :=
  ⟨unary_bufs_sub .., binary_bufs_sub .., unary_bufs_sub .., nullary_bufs_sub .., unary_bufs_sub .., unary_bufs_sub .., unary_bufs_sub .., unary_bufs_sub .., ternary_bufs_sub .., nullary_bufs_sub .., binary_bufs_sub .., nullary_bufs_sub ..⟩
theorem ops2_fresh : ∀ op ∈ (ops2 : List (HloOp τ sig (Elt F))), op.fresh = ∅ := List.forall_iff_forall_mem.mp (forall_fresh_of_map rfl)

theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., unary_bufs_sub .., unary_bufs_sub .., ternary_bufs_sub .., unary_bufs_sub .., nullary_bufs_sub .., unary_bufs_sub .., unary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., unary_bufs_sub .., nullary_bufs_sub .., unary_bufs_sub .., unary_bufs_sub .., unary_bufs_sub .., unary_bufs_sub .., ternary_bufs_sub .., nullary_bufs_sub .., binary_bufs_sub ..⟩
theorem ops3_fresh : ∀ op ∈ (ops3 : List (HloOp τ sig (Elt F))), op.fresh = ∅ := List.forall_iff_forall_mem.mp (forall_fresh_of_map rfl)

theorem ops_sub : ((Draw.rOps ++ ops : List (HloOp τ sig (Elt F)))).Forall fun op => op.bufs ⊆ tcRefs τ sig :=
  List.forall_iff_forall_mem.mpr fun op h => by
    simp only [ops, List.mem_append] at h
    rcases h with h | h | h | h | h
    exacts [Draw.lines.bufs' op h, List.forall_iff_forall_mem.mp ops0_sub op h, List.forall_iff_forall_mem.mp ops1_sub op h,
      List.forall_iff_forall_mem.mp ops2_sub op h, List.forall_iff_forall_mem.mp ops3_sub op h]

theorem ops_fresh : ∀ op ∈ ((Draw.rOps ++ ops : List (HloOp τ sig (Elt F)))), op.fresh = ∅ := fun op h => by
  simp only [ops, List.mem_append] at h
  rcases h with h | h | h | h | h
  exacts [Draw.lines.fresh' op h, ops0_fresh op h, ops1_fresh op h, ops2_fresh op h, ops3_fresh op h]

/-! ## The terms that later operations read more than once -/

/-- Which nodes are in which segment. -/
def res_main_v21 (V0 : Valuation τ sig (Elt F)) : (Proc.devRef .tc main_v21 : DevRef τ sig).ty.Contents (Elt F) :=
  cmpi .eq (broadcastInDim S1x100000x256 ![0, 1, 2] bcast_S1x100000x1_S1x100000x256_0_1_2 (broadcastInDim S1x100000x1 ![1] bcast_S100000_S1x100000x1_1 (V0 (Proc.devRef .tc main_arg1)))) (broadcastInDim S1x100000x256 ![0, 1, 2] bcast_S1x1x256_S1x100000x256_0_1_2 (broadcastInDim S1x1x256 ![2] bcast_S256_S1x1x256_2 (iotaInDim S256 32 0)))

/-- The predictions. -/
def res_main_v26 (V0 : Valuation τ sig (Elt F)) : (Proc.devRef .tc main_v26 : DevRef τ sig).ty.Contents (Elt F) :=
  shapeCast _ (addf (Host.dotGeneral dot_S4x100000x128_S128x1_S4x100000x1_2_0_01_1_n_n none (V0 (Proc.devRef .tc main_arg0)) (V0 (Proc.devRef .tc main_arg2))) (broadcastInDim S4x100000x1 ![0, 1, 2] bcast_S1x1x1_S4x100000x1_0_1_2 (broadcastInDim S1x1x1 ![2] bcast_S1_S1x1x1_2 (V0 (Proc.devRef .tc main_arg3))))) shapeCasts_S4x100000x1_S4x100000

/-- The exponentials of the predictions less their segment's maximum. -/
def res_main_v38 (V0 : Valuation τ sig (Elt F)) : (Proc.devRef .tc main_v38 : DevRef τ sig).ty.Contents (Elt F) :=
  Host.exp (subf (res_main_v26 V0) (Host.gather gather_S4x256_S100000x1_S4x100000_0_1_n_n_1_1_41 (Host.reduce FloatOps.maximumf (select (broadcastInDim S4x100000x256 ![0, 1, 2] bcast_S1x100000x256_S4x100000x256_0_1_2 (res_main_v21 V0)) (broadcastInDim S4x100000x256 ![0, 1, 2] bcast_S4x100000x1_S4x100000x256_0_1_2 (broadcastInDim S4x100000x1 ![0, 1] bcast_S4x100000_S4x100000x1_0_1 (res_main_v26 V0))) (broadcastInDim S4x100000x256 ![] bcast_S_S4x100000x256 (id (constant S_ .f32 0xFF800000#32)))) (constant S_ .f32 0xFF800000#32) reducesTo_S4x100000x256_S4x256_d1 h_S_) (broadcastInDim S100000x1 ![0] bcast_S100000_S100000x1_0 (select (cmpi .slt (V0 (Proc.devRef .tc main_arg1)) (broadcastInDim S100000 ![] bcast_S_S100000 (constantI S_ 32 0#32))) (addi (V0 (Proc.devRef .tc main_arg1)) (broadcastInDim S100000 ![] bcast_S_S100000 (constantI S_ 32 256#32))) (V0 (Proc.devRef .tc main_arg1))))))

/-- The probabilities. -/
def res_main_v49 (V0 : Valuation τ sig (Elt F)) : (Proc.devRef .tc main_v49 : DevRef τ sig).ty.Contents (Elt F) :=
  Host.divf (res_main_v38 V0) (Host.gather gather_S4x256_S100000x1_S4x100000_0_1_n_n_1_1_41 (Host.reduceAdd (select (broadcastInDim S4x100000x256 ![0, 1, 2] bcast_S1x100000x256_S4x100000x256_0_1_2 (res_main_v21 V0)) (broadcastInDim S4x100000x256 ![0, 1, 2] bcast_S4x100000x1_S4x100000x256_0_1_2 (broadcastInDim S4x100000x1 ![0, 1] bcast_S4x100000_S4x100000x1_0_1 (res_main_v38 V0))) (broadcastInDim S4x100000x256 ![] bcast_S_S4x100000x256 (id (constant S_ .f32 0x00000000#32)))) (constant S_ .f32 0x00000000#32) reducesTo_S4x100000x256_S4x256_d1 h_S_) (broadcastInDim S100000x1 ![0] bcast_S100000_S100000x1_0 (select (cmpi .slt (V0 (Proc.devRef .tc main_arg1)) (broadcastInDim S100000 ![] bcast_S_S100000 (constantI S_ 32 0#32))) (addi (V0 (Proc.devRef .tc main_arg1)) (broadcastInDim S100000 ![] bcast_S_S100000 (constantI S_ 32 256#32))) (V0 (Proc.devRef .tc main_arg1)))))

/-- Their logarithms. -/
def res_main_v50 (V0 : Valuation τ sig (Elt F)) : (Proc.devRef .tc main_v50 : DevRef τ sig).ty.Contents (Elt F) :=
  Host.log (res_main_v49 V0)

/-- The keys. -/
def res_main_v51 (V0 : Valuation τ sig (Elt F)) : (Proc.devRef .tc main_v51 : DevRef τ sig).ty.Contents (Elt F) :=
  addf (res_main_v50 V0) (Host.negf (Host.log (addf (Host.negf (Host.log (addf (V0 (Proc.devRef .tc main_v7)) (broadcastInDim S4x100000 ![] bcast_S_S4x100000 (constant S_ .f32 0x1E3CE508#32))))) (broadcastInDim S4x100000 ![] bcast_S_S4x100000 (constant S_ .f32 0x1E3CE508#32)))))

/-- The chosen nodes. -/
def res_main_v68 (V0 : Valuation τ sig (Elt F)) : (Proc.devRef .tc main_v68 : DevRef τ sig).ty.Contents (Elt F) :=
  Host.reduce IntOp.minsi (select (broadcastInDim S4x100000x256 ![0, 1, 2] bcast_S1x100000x256_S4x100000x256_0_1_2 (res_main_v21 V0)) (broadcastInDim S4x100000x256 ![0, 1, 2] bcast_S4x100000x1_S4x100000x256_0_1_2 (broadcastInDim S4x100000x1 ![0, 1] bcast_S4x100000_S4x100000x1_0_1 (select (cmpf .oge (res_main_v51 V0) (Host.gather gather_S4x256_S100000x1_S4x100000_0_1_n_n_1_1_41 (Host.reduce FloatOps.maximumf (select (broadcastInDim S4x100000x256 ![0, 1, 2] bcast_S1x100000x256_S4x100000x256_0_1_2 (res_main_v21 V0)) (broadcastInDim S4x100000x256 ![0, 1, 2] bcast_S4x100000x1_S4x100000x256_0_1_2 (broadcastInDim S4x100000x1 ![0, 1] bcast_S4x100000_S4x100000x1_0_1 (res_main_v51 V0))) (broadcastInDim S4x100000x256 ![] bcast_S_S4x100000x256 (id (constant S_ .f32 0xFF800000#32)))) (constant S_ .f32 0xFF800000#32) reducesTo_S4x100000x256_S4x256_d1 h_S_) (broadcastInDim S100000x1 ![0] bcast_S100000_S100000x1_0 (select (cmpi .slt (V0 (Proc.devRef .tc main_arg1)) (broadcastInDim S100000 ![] bcast_S_S100000 (constantI S_ 32 0#32))) (addi (V0 (Proc.devRef .tc main_arg1)) (broadcastInDim S100000 ![] bcast_S_S100000 (constantI S_ 32 256#32))) (V0 (Proc.devRef .tc main_arg1)))))) (broadcastInDim S4x100000 ![0, 1] bcast_S1x100000_S4x100000_0_1 (broadcastInDim S1x100000 ![1] bcast_S100000_S1x100000_1 (iotaInDim S100000 32 0))) (broadcastInDim S4x100000 ![] bcast_S_S4x100000 (id (constantI S_ 32 100000#32)))))) (broadcastInDim S4x100000x256 ![] bcast_S_S4x100000x256 (id (constantI S_ 32 2147483647#32)))) (constantI S_ 32 2147483647#32) reducesTo_S4x100000x256_S4x256_d1 h_S_

/-- The chosen nodes as places to gather from. -/
def res_main_call6_v5 (V0 : Valuation τ sig (Elt F)) : (Proc.devRef .tc main_call6_v5 : DevRef τ sig).ty.Contents (Elt F) :=
  shapeCast _ (select (cmpi .slt (res_main_v68 V0) (broadcastInDim S4x256 ![] bcast_S_S4x256 (constantI S_ 32 0#32))) (addi (res_main_v68 V0) (broadcastInDim S4x256 ![] bcast_S_S4x256 (constantI S_ 32 100000#32))) (res_main_v68 V0)) shapeCasts_S4x256_S4x256x1

/-! ## The buffers after each list -/

/-- The buffers after the first list. -/
def w1 (V0 : Valuation τ sig (Elt F)) : Valuation τ sig (Elt F) := after ops0 V0
/-- What the list writes. -/
abbrev ops0_W : List (Ref sig .tc) := [main_cst_3, main_v8, main_v9, main_v10, main_v11, main_cst_4, main_v12, main_v13, main_v14, main_v15, main_v16, main_v17, main_v18, main_v19, main_v20, main_v21, main_v22, main_v23, main_v24, main_v25, main_v26, main_v27, main_cst_5, main_call1_v0, main_call1_v1, main_call1_v2, main_call1_v3, main_v28, main_cst_6, main_v29]
theorem ops0_writes : (ops0 (F := F)).map HloOp.writes = ops0_W.map fun r => {Proc.devRef (τ := τ) .tc r} := rfl
theorem w1_keep (V0 : Valuation τ sig (Elt F)) (r : Ref sig .tc) (h : r ∉ ops0_W) : w1 V0 (Proc.devRef .tc r) = V0 (Proc.devRef .tc r) :=
  after_of_writes_sub ops0 _ (forall_writes_sub_of_map ops0_writes) h
theorem w1_args (V0 : Valuation τ sig (Elt F)) : w1 V0 (no_index (Proc.devRef .tc main_arg0)) = V0 (Proc.devRef .tc main_arg0)
    ∧ w1 V0 (no_index (Proc.devRef .tc main_arg1)) = V0 (Proc.devRef .tc main_arg1)
    ∧ w1 V0 (no_index (Proc.devRef .tc main_arg2)) = V0 (Proc.devRef .tc main_arg2)
    ∧ w1 V0 (no_index (Proc.devRef .tc main_arg3)) = V0 (Proc.devRef .tc main_arg3)
    ∧ w1 V0 (no_index (Proc.devRef .tc main_v7)) = V0 (Proc.devRef .tc main_v7) :=
  ⟨w1_keep V0 _ (by decide), w1_keep V0 _ (by decide), w1_keep V0 _ (by decide), w1_keep V0 _ (by decide), w1_keep V0 _ (by decide)⟩
set_option maxHeartbeats 2000000 in
theorem w1_main_v15 (V0 : Valuation τ sig (Elt F)) : w1 V0 (no_index (Proc.devRef .tc main_v15)) = Host.negf (Host.log (addf (Host.negf (Host.log (addf (V0 (Proc.devRef .tc main_v7)) (broadcastInDim S4x100000 ![] bcast_S_S4x100000 (constant S_ .f32 0x1E3CE508#32))))) (broadcastInDim S4x100000 ![] bcast_S_S4x100000 (constant S_ .f32 0x1E3CE508#32)))) := by
  unfold w1
  simp only [ops0, TRef.ternary, TRef.unary, TRef.toBuf, TRef.ofBuf, cast_eq]
  after_results_simp
set_option maxHeartbeats 2000000 in
theorem w1_main_v21 (V0 : Valuation τ sig (Elt F)) : w1 V0 (no_index (Proc.devRef .tc main_v21)) = res_main_v21 V0 := by
  unfold w1
  simp only [ops0, TRef.ternary, TRef.unary, TRef.toBuf, TRef.ofBuf, cast_eq]
  after_results_simp
  rfl
set_option maxHeartbeats 2000000 in
theorem w1_main_v26 (V0 : Valuation τ sig (Elt F)) : w1 V0 (no_index (Proc.devRef .tc main_v26)) = res_main_v26 V0 := by
  unfold w1
  simp only [ops0, TRef.ternary, TRef.unary, TRef.toBuf, TRef.ofBuf, cast_eq]
  after_results_simp
  rfl
set_option maxHeartbeats 2000000 in
theorem w1_main_v29 (V0 : Valuation τ sig (Elt F)) : w1 V0 (no_index (Proc.devRef .tc main_v29)) = Host.reduce FloatOps.maximumf (select (broadcastInDim S4x100000x256 ![0, 1, 2] bcast_S1x100000x256_S4x100000x256_0_1_2 (res_main_v21 V0)) (broadcastInDim S4x100000x256 ![0, 1, 2] bcast_S4x100000x1_S4x100000x256_0_1_2 (broadcastInDim S4x100000x1 ![0, 1] bcast_S4x100000_S4x100000x1_0_1 (res_main_v26 V0))) (broadcastInDim S4x100000x256 ![] bcast_S_S4x100000x256 (id (constant S_ .f32 0xFF800000#32)))) (constant S_ .f32 0xFF800000#32) reducesTo_S4x100000x256_S4x256_d1 h_S_ := by
  unfold w1
  simp only [ops0, TRef.ternary, TRef.unary, TRef.toBuf, TRef.ofBuf, cast_eq]
  after_results_simp
  rfl

/-- After the second. -/
def w2 (V0 : Valuation τ sig (Elt F)) : Valuation τ sig (Elt F) := after ops1 (w1 V0)
/-- What the list writes. -/
abbrev ops1_W : List (Ref sig .tc) := [main_c_7, main_v30, main_v31, main_c_8, main_v32, main_v33, main_v34, main_v35, main_v36, main_v37, main_v38, main_v39, main_cst_9, main_call2_v0, main_call2_v1, main_call2_v2, main_call2_v3, main_v40, main_cst_10, main_v41, main_c_11, main_v42, main_v43, main_c_12, main_v44, main_v45, main_v46, main_v47, main_v48, main_v49]
theorem ops1_writes : (ops1 (F := F)).map HloOp.writes = ops1_W.map fun r => {Proc.devRef (τ := τ) .tc r} := rfl
theorem w2_keep (V0 : Valuation τ sig (Elt F)) (r : Ref sig .tc) (h : r ∉ ops1_W) : w2 V0 (Proc.devRef .tc r) = w1 V0 (Proc.devRef .tc r) :=
  after_of_writes_sub ops1 _ (forall_writes_sub_of_map ops1_writes) h
theorem w2_args (V0 : Valuation τ sig (Elt F)) : w2 V0 (no_index (Proc.devRef .tc main_arg0)) = V0 (Proc.devRef .tc main_arg0)
    ∧ w2 V0 (no_index (Proc.devRef .tc main_arg1)) = V0 (Proc.devRef .tc main_arg1)
    ∧ w2 V0 (no_index (Proc.devRef .tc main_arg2)) = V0 (Proc.devRef .tc main_arg2)
    ∧ w2 V0 (no_index (Proc.devRef .tc main_arg3)) = V0 (Proc.devRef .tc main_arg3)
    ∧ w2 V0 (no_index (Proc.devRef .tc main_v7)) = V0 (Proc.devRef .tc main_v7) :=
  ⟨(w2_keep V0 _ (by decide)).trans (w1_args V0).1, (w2_keep V0 _ (by decide)).trans (w1_args V0).2.1, (w2_keep V0 _ (by decide)).trans (w1_args V0).2.2.1, (w2_keep V0 _ (by decide)).trans (w1_args V0).2.2.2.1, (w2_keep V0 _ (by decide)).trans (w1_args V0).2.2.2.2⟩
theorem w2_main_v15 (V0 : Valuation τ sig (Elt F)) : w2 V0 (no_index (Proc.devRef .tc main_v15)) = Host.negf (Host.log (addf (Host.negf (Host.log (addf (V0 (Proc.devRef .tc main_v7)) (broadcastInDim S4x100000 ![] bcast_S_S4x100000 (constant S_ .f32 0x1E3CE508#32))))) (broadcastInDim S4x100000 ![] bcast_S_S4x100000 (constant S_ .f32 0x1E3CE508#32)))) :=
  (w2_keep V0 main_v15 (by decide)).trans (w1_main_v15 V0)
theorem w2_main_v21 (V0 : Valuation τ sig (Elt F)) : w2 V0 (no_index (Proc.devRef .tc main_v21)) = res_main_v21 V0 :=
  (w2_keep V0 main_v21 (by decide)).trans (w1_main_v21 V0)
set_option maxHeartbeats 2000000 in
theorem w2_main_v49 (V0 : Valuation τ sig (Elt F)) : w2 V0 (no_index (Proc.devRef .tc main_v49)) = res_main_v49 V0 := by
  unfold w2
  simp only [ops1, TRef.ternary, TRef.unary, TRef.toBuf, TRef.ofBuf, cast_eq]
  after_results_simp
  simp only [w1_args, w1_main_v21, w1_main_v29, w1_main_v26] <;> rfl

/-- After the third. -/
def w3 (V0 : Valuation τ sig (Elt F)) : Valuation τ sig (Elt F) := after ops2 (w2 V0)
/-- What the list writes. -/
abbrev ops2_W : List (Ref sig .tc) := [main_v50, main_v51, main_v52, main_cst_13, main_call3_v0, main_call3_v1, main_call3_v2, main_call3_v3, main_v53, main_cst_14, main_v54, main_c_15]
theorem ops2_writes : (ops2 (F := F)).map HloOp.writes = ops2_W.map fun r => {Proc.devRef (τ := τ) .tc r} := rfl
theorem w3_keep (V0 : Valuation τ sig (Elt F)) (r : Ref sig .tc) (h : r ∉ ops2_W) : w3 V0 (Proc.devRef .tc r) = w2 V0 (Proc.devRef .tc r) :=
  after_of_writes_sub ops2 _ (forall_writes_sub_of_map ops2_writes) h
theorem w3_args (V0 : Valuation τ sig (Elt F)) : w3 V0 (no_index (Proc.devRef .tc main_arg0)) = V0 (Proc.devRef .tc main_arg0)
    ∧ w3 V0 (no_index (Proc.devRef .tc main_arg1)) = V0 (Proc.devRef .tc main_arg1)
    ∧ w3 V0 (no_index (Proc.devRef .tc main_arg2)) = V0 (Proc.devRef .tc main_arg2)
    ∧ w3 V0 (no_index (Proc.devRef .tc main_arg3)) = V0 (Proc.devRef .tc main_arg3)
    ∧ w3 V0 (no_index (Proc.devRef .tc main_v7)) = V0 (Proc.devRef .tc main_v7) :=
  ⟨(w3_keep V0 _ (by decide)).trans (w2_args V0).1, (w3_keep V0 _ (by decide)).trans (w2_args V0).2.1, (w3_keep V0 _ (by decide)).trans (w2_args V0).2.2.1, (w3_keep V0 _ (by decide)).trans (w2_args V0).2.2.2.1, (w3_keep V0 _ (by decide)).trans (w2_args V0).2.2.2.2⟩
theorem w3_main_v21 (V0 : Valuation τ sig (Elt F)) : w3 V0 (no_index (Proc.devRef .tc main_v21)) = res_main_v21 V0 :=
  (w3_keep V0 main_v21 (by decide)).trans (w2_main_v21 V0)
theorem w3_main_v49 (V0 : Valuation τ sig (Elt F)) : w3 V0 (no_index (Proc.devRef .tc main_v49)) = res_main_v49 V0 :=
  (w3_keep V0 main_v49 (by decide)).trans (w2_main_v49 V0)
set_option maxHeartbeats 1200000 in
theorem w3_main_v50 (V0 : Valuation τ sig (Elt F)) : w3 V0 (no_index (Proc.devRef .tc main_v50)) = res_main_v50 V0 := by
  unfold w3
  simp only [ops2, TRef.ternary, TRef.unary, TRef.toBuf, TRef.ofBuf, cast_eq]
  after_results_simp
  simp only [w2_main_v49] <;> rfl
set_option maxHeartbeats 1200000 in
theorem w3_main_v51 (V0 : Valuation τ sig (Elt F)) : w3 V0 (no_index (Proc.devRef .tc main_v51)) = res_main_v51 V0 := by
  unfold w3
  simp only [ops2, TRef.ternary, TRef.unary, TRef.toBuf, TRef.ofBuf, cast_eq]
  after_results_simp
  simp only [w2_main_v15, w2_main_v49] <;> rfl
set_option maxHeartbeats 1200000 in
theorem w3_main_v54 (V0 : Valuation τ sig (Elt F)) : w3 V0 (no_index (Proc.devRef .tc main_v54)) = Host.reduce FloatOps.maximumf (select (broadcastInDim S4x100000x256 ![0, 1, 2] bcast_S1x100000x256_S4x100000x256_0_1_2 (res_main_v21 V0)) (broadcastInDim S4x100000x256 ![0, 1, 2] bcast_S4x100000x1_S4x100000x256_0_1_2 (broadcastInDim S4x100000x1 ![0, 1] bcast_S4x100000_S4x100000x1_0_1 (res_main_v51 V0))) (broadcastInDim S4x100000x256 ![] bcast_S_S4x100000x256 (id (constant S_ .f32 0xFF800000#32)))) (constant S_ .f32 0xFF800000#32) reducesTo_S4x100000x256_S4x256_d1 h_S_ := by
  unfold w3
  simp only [ops2, TRef.ternary, TRef.unary, TRef.toBuf, TRef.ofBuf, cast_eq]
  after_results_simp
  simp only [w2_main_v15, w2_main_v49, w2_main_v21] <;> rfl
set_option maxHeartbeats 1200000 in
theorem w3_main_c_15 (V0 : Valuation τ sig (Elt F)) : w3 V0 (no_index (Proc.devRef .tc main_c_15)) = constantI S_ 32 0#32 := by
  unfold w3
  simp only [ops2, TRef.ternary, TRef.unary, TRef.toBuf, TRef.ofBuf, cast_eq]
  after_results_simp
  all_goals rfl

/-- After the fourth. -/
def w4 (V0 : Valuation τ sig (Elt F)) : Valuation τ sig (Elt F) := after ops3 (w3 V0)
/-- What the list writes. -/
abbrev ops3_W : List (Ref sig .tc) := [main_v55, main_v56, main_c_16, main_v57, main_v58, main_v59, main_v60, main_v61, main_v62, main_v63, main_v64, main_c_17, main_call4_v0, main_call4_v1, main_call4_v2, main_v65, main_v66, main_c_18, main_call5_v0, main_call5_v1, main_call5_v2, main_call5_v3, main_v67, main_c_19, main_v68, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v69, main_v70, main_v71, main_cst_20, main_call7_v0, main_call7_v1, main_call7_v2, main_call7_v3, main_v72, main_cst_21, main_v73]
theorem ops3_writes : (ops3 (F := F)).map HloOp.writes = ops3_W.map fun r => {Proc.devRef (τ := τ) .tc r} := rfl
theorem w4_keep (V0 : Valuation τ sig (Elt F)) (r : Ref sig .tc) (h : r ∉ ops3_W) : w4 V0 (Proc.devRef .tc r) = w3 V0 (Proc.devRef .tc r) :=
  after_of_writes_sub ops3 _ (forall_writes_sub_of_map ops3_writes) h
theorem w4_args (V0 : Valuation τ sig (Elt F)) : w4 V0 (no_index (Proc.devRef .tc main_arg0)) = V0 (Proc.devRef .tc main_arg0)
    ∧ w4 V0 (no_index (Proc.devRef .tc main_arg1)) = V0 (Proc.devRef .tc main_arg1)
    ∧ w4 V0 (no_index (Proc.devRef .tc main_arg2)) = V0 (Proc.devRef .tc main_arg2)
    ∧ w4 V0 (no_index (Proc.devRef .tc main_arg3)) = V0 (Proc.devRef .tc main_arg3)
    ∧ w4 V0 (no_index (Proc.devRef .tc main_v7)) = V0 (Proc.devRef .tc main_v7) :=
  ⟨(w4_keep V0 _ (by decide)).trans (w3_args V0).1, (w4_keep V0 _ (by decide)).trans (w3_args V0).2.1, (w4_keep V0 _ (by decide)).trans (w3_args V0).2.2.1, (w4_keep V0 _ (by decide)).trans (w3_args V0).2.2.2.1, (w4_keep V0 _ (by decide)).trans (w3_args V0).2.2.2.2⟩
set_option maxHeartbeats 2000000 in
theorem w4_main_v68 (V0 : Valuation τ sig (Elt F)) : w4 V0 (no_index (Proc.devRef .tc main_v68)) = res_main_v68 V0 := by
  unfold w4
  simp only [ops3, TRef.binary, TRef.nullary, TRef.reshape, TRef.ternary, TRef.unary, TRef.toBuf, TRef.ofBuf, cast_eq]
  after_results_simp
  simp only [w3_args, w3_main_c_15, w3_main_v54, w3_main_v51, w3_main_v21] <;> rfl
set_option maxHeartbeats 2000000 in
theorem w4_main_v69 (V0 : Valuation τ sig (Elt F)) : w4 V0 (no_index (Proc.devRef .tc main_v69)) = select (Host.reduce IntOp.andi (andi (cmpi .sge (res_main_call6_v5 V0) (broadcastInDim S4x256x1 ![] bcast_S_S4x256x1 (constantI S_ 32 0#32))) (cmpi .sle (res_main_call6_v5 V0) (broadcastInDim S4x256x1 ![0, 1, 2] bcast_S1x1x1_S4x256x1_0_1_2 (broadcastInDim S1x1x1 ![2] bcast_S1_S1x1x1_2 (constantI S1 32 99999#32))))) (constantI S_ 1 1#1) reducesTo_S4x256x1_S4x256_d2 h_S_) (Host.gather gather_S4x100000_S4x256x1_S4x256_n_1_0_0_1_2_11 (res_main_v50 V0) (res_main_call6_v5 V0)) (broadcastInDim S4x256 ![] bcast_S_S4x256 (constant S_ .f32 0x7FC00000#32)) := by
  unfold w4
  simp only [ops3, TRef.binary, TRef.nullary, TRef.reshape, TRef.ternary, TRef.unary, TRef.toBuf, TRef.ofBuf, cast_eq]
  after_results_simp
  simp only [w3_args, w3_main_c_15, w3_main_v54, w3_main_v51, w3_main_v21, w3_main_v50] <;> rfl
set_option maxHeartbeats 2000000 in
theorem w4_main_v73 (V0 : Valuation τ sig (Elt F)) : w4 V0 (no_index (Proc.devRef .tc main_v73)) = Host.reduceAdd (select (broadcastInDim S4x100000x256 ![0, 1, 2] bcast_S1x100000x256_S4x100000x256_0_1_2 (res_main_v21 V0)) (broadcastInDim S4x100000x256 ![0, 1, 2] bcast_S4x100000x1_S4x100000x256_0_1_2 (broadcastInDim S4x100000x1 ![0, 1] bcast_S4x100000_S4x100000x1_0_1 (mulf (res_main_v49 V0) (res_main_v50 V0)))) (broadcastInDim S4x100000x256 ![] bcast_S_S4x100000x256 (id (constant S_ .f32 0x00000000#32)))) (constant S_ .f32 0x00000000#32) reducesTo_S4x100000x256_S4x256_d1 h_S_ := by
  unfold w4
  simp only [ops3, TRef.binary, TRef.nullary, TRef.reshape, TRef.ternary, TRef.unary, TRef.toBuf, TRef.ofBuf, cast_eq]
  after_results_simp
  simp only [w3_main_v50, w3_main_v49, w3_main_v21] <;> rfl

theorem after_ops (V0 : Valuation τ sig (Elt F)) : after (Draw.rOps ++ ops) V0 = w4 (after Draw.rOps V0) := by
  simp only [ops, Line.after_two]
  rfl

/-- The buffers of a device after the draw. -/
abbrev drawn (m : (ℓ : Loc nD τ sig) → Buf (Elt F) ℓ) (c : Dev nD) : Valuation τ sig (Elt F) := after Draw.rOps (launchContents m c)

/-- An argument is kept by the draw and by the operations after it. -/
theorem kept (m : (ℓ : Loc nD τ sig) → Buf (Elt F) ℓ) (c : Dev nD) (r : Ref sig .tc) {x : Buf (Elt F) ((c.tc : Thread nD τ).loc r)}
    (h : x = after (Draw.rOps ++ ops) (launchContents m c) (Proc.devRef .tc r)) (hp : ¬ (4 ≤ Line.pos r ∧ Line.pos r < 278))
    (e : w4 (drawn m c) (Proc.devRef .tc r) = drawn m c (Proc.devRef .tc r)) : x = m ((c.tc : Thread nD τ).loc r) :=
  h.trans ((congrFun (after_ops (launchContents m c)) _).trans (e.trans (Draw.r_keep (launchContents m c) r hp)))

/-- Every run of the reference ends with its results at their terms of the arguments and the numbers drawn, the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = res_main_v68 (drawn m c)
      ∧ r.2.mem ((c.tc : Thread nD τ).loc main_v69) = select (Host.reduce IntOp.andi (andi (cmpi .sge (res_main_call6_v5 (drawn m c)) (broadcastInDim S4x256x1 ![] bcast_S_S4x256x1 (constantI S_ 32 0#32))) (cmpi .sle (res_main_call6_v5 (drawn m c)) (broadcastInDim S4x256x1 ![0, 1, 2] bcast_S1x1x1_S4x256x1_0_1_2 (broadcastInDim S1x1x1 ![2] bcast_S1_S1x1x1_2 (constantI S1 32 99999#32))))) (constantI S_ 1 1#1) reducesTo_S4x256x1_S4x256_d2 h_S_) (Host.gather gather_S4x100000_S4x256x1_S4x256_n_1_0_0_1_2_11 (res_main_v50 (drawn m c)) (res_main_call6_v5 (drawn m c))) (broadcastInDim S4x256 ![] bcast_S_S4x256 (constant S_ .f32 0x7FC00000#32))
      ∧ r.2.mem ((c.tc : Thread nD τ).loc main_v73) = Host.reduceAdd (select (broadcastInDim S4x100000x256 ![0, 1, 2] bcast_S1x100000x256_S4x100000x256_0_1_2 (res_main_v21 (drawn m c))) (broadcastInDim S4x100000x256 ![0, 1, 2] bcast_S4x100000x1_S4x100000x256_0_1_2 (broadcastInDim S4x100000x1 ![0, 1] bcast_S4x100000_S4x100000x1_0_1 (mulf (res_main_v49 (drawn m c)) (res_main_v50 (drawn m c))))) (broadcastInDim S4x100000x256 ![] bcast_S_S4x100000x256 (id (constant S_ .f32 0x00000000#32)))) (constant S_ .f32 0x00000000#32) reducesTo_S4x100000x256_S4x256_d1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v68).trans ((congrFun (after_ops (launchContents m c)) (Proc.devRef .tc main_v68)).trans (w4_main_v68 (drawn m c))),
      (h c main_v69).trans ((congrFun (after_ops (launchContents m c)) (Proc.devRef .tc main_v69)).trans (w4_main_v69 (drawn m c))),
      (h c main_v73).trans ((congrFun (after_ops (launchContents m c)) (Proc.devRef .tc main_v73)).trans (w4_main_v73 (drawn m c))),
      (kept m c main_arg0 (h c main_arg0) (by decide) (w4_args (drawn m c)).1),
      (kept m c main_arg1 (h c main_arg1) (by decide) (w4_args (drawn m c)).2.1),
      (kept m c main_arg2 (h c main_arg2) (by decide) (w4_args (drawn m c)).2.2.1),
      (kept m c main_arg3 (h c main_arg3) (by decide) (w4_args (drawn m c)).2.2.2.1)⟩)
    (run_seq scopedRefs_eq scopedSems_eq defs main (fun _ => Draw.rOps ++ ops) main_eq (fun _ => ops_sub) m ρ fun _ => ops_fresh)

end Cert.Proof.Ref

end
-- ==== Proof.Frames.lean ====
/-
  The frames of the kernel, as written and with its mask named, and of the reference; and the named mask.
-/
module

public import proofs.«01_k».proof.Proof.Ids
public import proofs.«01_k».proof.Proof.Launch
public import proofs.«01_k».proof.Proof.Bridge
public import proofs.«01_k».proof.Proof.RefLine

@[expose] public section

set_option pp.maxSteps 400

noncomputable section

namespace Cert.Proof

open Idealize.ShloMosaic
open Idealize.SL.Sem

theorem pre_ids_facts : Cert.Pre_ids_in_range.Facts where
  bcast_S_S100000 := by decide
  reducesTo_S100000_S_d0 := by decide
  h_S_ := by decide

/-- What `ids_in_range` says of one identifier. -/
theorem ids_of_range [Cert.Pre_ids_in_range.Facts] {F : FTy → Type} [FloatOps F] (a0 : FVec F Cert.Pre_ids_in_range.S4x100000x128 .f32) (a1 : IVec Cert.Pre_ids_in_range.S100000 32) (a2 : FVec F Cert.Pre_ids_in_range.S128x1 .f32) (a3 : FVec F Cert.Pre_ids_in_range.S1 .f32)
    (h : Cert.Pre_ids_in_range.fn (F := F) a0 a1 a2 a3 = fun _ => 1#1) (i : Cert.Pre_ids_in_range.S100000.Idx) : (a1 i).toNat < 256 := by
  have : Subsingleton Cert.Pre_ids_in_range.S_.Idx := ⟨fun _ _ => funext fun a => a.elim0⟩
  refine inRange_key _ ?_
  have e := Idealize.ShloMosaic.Host.reduce_andi_all _ _ _ _ (fun a => a.elim0) (congrFun h (fun a => a.elim0)) i
  simpa only [Cert.Pre_ids_in_range.fn, andi, cmpi, broadcastInDim, constantI] using e

open Cert.KernelIdeal Cert.KernelIdeal.Gen in
/-- The frame, over any float values, wherever the identifiers are in range. -/
theorem frame_any {F : FTy → Type} [FloatOps F] [Named F] [∀ e, Nonempty (Elt F e)]
    (m : (ℓ : Loc nD τ sig) → Buf (Elt F) ℓ) (h : InRange m) (g : Dev nD → PrngReg) :
    θ_run (Cert.KernelIdeal.defs (F := F)) (Cert.KernelIdeal.threads (F := F)) ⟨m, fun _ => 0, g⟩ fun r => (∀ d : Dev nD,
        r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)) ∧ r.2.sem = fun _ => 0 :=
  (θ_run _ _ _).mono (fun r hr => ⟨fun d => ⟨(hr.1 d).1, (hr.1 d).2.1, (hr.1 d).2.2.1, (hr.1 d).2.2.2.1⟩, hr.2⟩)
    (run_main m (fun _ _ _ => True) (fun _ _ _ => True) (fun _ _ _ _ _ _ _ => ⟨fun _ => trivial, fun _ => trivial⟩) (fun d L => idsOK m h d L) g)

instance nonempty_bits (e : EltTy) : Nonempty (Elt Bits e) := ⟨default⟩
instance nonempty_ideal (e : EltTy) : Nonempty (Elt Ideal e) := ⟨default⟩

set_option maxHeartbeats 1000000 in
theorem frame_P : Cert.quiescent_Kernel (hKernel := Cert.Kernel.Gen.facts) (hPre_ids_in_range := pre_ids_facts) := fun m g h => by
  rw [Cert.Proof.Bridge.defs_eq, Cert.Proof.Bridge.threads_eq]
  letI := Cert.Proof.Bridge.plain Bits
  exact frame_any (F := Bits) m (fun d i => haveI := pre_ids_facts; ids_of_range _ _ _ _ (h d) i) g

theorem frame_PI : Cert.quiescent_KernelIdeal (hKernelIdeal := Cert.KernelIdeal.Gen.facts) (hPre_ids_in_range := pre_ids_facts) := fun m g h =>
  frame_any (F := Ideal) m (fun d i => haveI := pre_ids_facts; ids_of_range _ _ _ _ (h d) i) g

theorem frame_RI : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.Proof.Ref.run (F := Ideal) m g)

theorem mask_named : Cert.preserves_Kernel_KernelIdeal :=
  IdealRules.named_const.statement Cert.KernelIdeal.κ "mask" .f32 0xFF61B1E6#32 ⊥ rfl

end Cert.Proof

end
-- ==== Proof.PreOk.lean ====
/-
  What the equation's precondition says, and the frames under it.
-/
module

public import proofs.«01_k».proof.Proof.Frames

@[expose] public section

set_option pp.maxSteps 400

noncomputable section

namespace Cert.Proof

open Idealize.ShloMosaic
open Idealize.SL.Sem

theorem pre_ok_facts : Cert.Pre_ok.Facts where
  bcast_S_S100000 := by decide
  reducesTo_S100000_S_d0 := by decide
  h_S_ := by decide
  bcast_S100000_S100000x1_0 := by decide
  bcast_S256_S1x256_1 := by decide
  bcast_S100000x1_S100000x256_0_1 := by decide
  bcast_S1x256_S100000x256_0_1 := by decide
  reducesTo_S100000x256_S256_d0 := by decide
  reducesTo_S256_S_d0 := by decide
  bcast_S_S4x100000x128 := by decide
  reducesTo_S4x100000x128_S_d0_1_2 := by decide
  bcast_S_S128x1 := by decide
  reducesTo_S128x1_S_d0_1 := by decide
  bcast_S_S1 := by decide
  reducesTo_S1_S_d0 := by decide

/-- What `ok` says of one identifier. -/
theorem ids_of_ok [Cert.Pre_ok.Facts] {F : FTy → Type} [FloatOps F] (a0 : FVec F Cert.Pre_ok.S4x100000x128 .f32) (a1 : IVec Cert.Pre_ok.S100000 32) (a2 : FVec F Cert.Pre_ok.S128x1 .f32) (a3 : FVec F Cert.Pre_ok.S1 .f32)
    (h : Cert.Pre_ok.fn (F := F) a0 a1 a2 a3 = fun _ => 1#1) (i : Cert.Pre_ok.S100000.Idx) : (a1 i).toNat < 256 := by
  have : Subsingleton Cert.Pre_ok.S_.Idx := ⟨fun _ _ => funext fun a => a.elim0⟩
  refine inRange_key _ ?_
  have e := congrFun h (fun a => a.elim0)
  unfold Cert.Pre_ok.fn Cert.Pre_ok.fn_part1 at e
  have e := (IntOp.andi_eq_one.mp (IntOp.andi_eq_one.mp (IntOp.andi_eq_one.mp (IntOp.andi_eq_one.mp e).1).1).1).1
  have e := Idealize.ShloMosaic.Host.reduce_andi_all _ _ _ _ _ e i
  simpa only [andi, cmpi, broadcastInDim, constantI] using e

theorem frame_PI_ok : Cert.quiescent_KernelIdeal_pre_ok (hKernelIdeal := Cert.KernelIdeal.Gen.facts) (hPre_ok := pre_ok_facts) := fun m g h =>
  frame_any (F := Ideal) m (fun d i => haveI := pre_ok_facts; ids_of_ok _ _ _ _ (h d) i) g

theorem frame_RI_ok : Cert.quiescent_ReferenceIdeal_pre_ok (hReferenceIdeal := Cert.ReferenceIdeal.Gen.facts) (hPre_ok := pre_ok_facts) :=
  fun m g _ => frame_RI m g trivial

end Cert.Proof

end
-- ==== Proof.Closed.lean ====
/-
  The closed form of a bin: after a tile's pass over its rows, an accumulator's entry holds the sums over the rows of its
  segment, and the greatest key with the first row attaining it.
-/
module

public import proofs.«01_k».proof.Proof.Frames
public import Idealize.ShloMosaic.Lib.IdealHost

@[expose] public section

set_option pp.maxSteps 400

noncomputable section

namespace Cert.Proof

open Cert.KernelIdeal Cert.KernelIdeal.Gen Cert.Proof.Tile Cert.Proof.Sc

open Idealize.ShloMosaic
open Idealize.SL.Sem

/-! ## A scatter read at one entry -/

section Scatter

variable {F : FTy → Type} [FloatOps F]

/-- A fold that changes the entry `j` at most at one place of its list, by a function of the entry. -/
theorem foldl_at {α β ι : Type} (step : (ι → β) → α → ι → β) (j : ι) (l₀ : α) (upd : β → β)
    (hit : ∀ g, step g l₀ j = upd (g j)) (miss : ∀ g k, k ≠ l₀ → step g k j = g j) (l : List α) (hl : l.Nodup) (g : ι → β) :
    ((l₀ ∈ l → l.foldl step g j = upd (g j)) ∧ (l₀ ∉ l → l.foldl step g j = g j)) := by
  induction l generalizing g with
  | nil => exact ⟨fun h => absurd h (by simp), fun _ => rfl⟩
  | cons a l ih =>
    have ih := ih (List.nodup_cons.mp hl).2 (step g a)
    have hn := (List.nodup_cons.mp hl).1
    refine ⟨fun h => ?_, fun h => ?_⟩
    · rcases List.mem_cons.mp h with h | h
      · subst h
        exact (ih.2 hn).trans (hit g)
      · rw [List.foldl_cons, ih.1 h, miss g a (fun e => hn (e ▸ h))]
    · rw [List.foldl_cons, ih.2 (fun hm => h (List.mem_cons_of_mem _ hm)), miss g a (fun e => h (e ▸ List.mem_cons_self))]

variable {s : Shape} {e : EltTy} {d : Fin 1 → ℕ}

/-- What a lane that names the entry leaves there. -/
theorem storeIdx_hit (f : Vec F s e) (idxs : Fin s.rank → IVec ⟨1, d⟩ 32) (v : Vec F ⟨1, d⟩ e) (mask : IVec ⟨1, d⟩ 1) (add : Bool)
    (h : ∀ a x, (idxs a x).toNat < s.size a) (j : s.Idx) (k₀ : Fin (d 0)) (h₀ : ∀ a, (idxs a (Shape.ofLane k₀)).toNat = (j a).val)
    (hne : ∀ k, k ≠ k₀ → ∃ a, (idxs a (Shape.ofLane k)).toNat ≠ (j a).val) :
    storeIdx f idxs v mask add h j = if mask (Shape.ofLane k₀) = 1 then (if add then Elt.idxAdd e (f j) (v (Shape.ofLane k₀)) else v (Shape.ofLane k₀)) else f j := by
  have hj : idxAt idxs h (Shape.ofLane k₀) = j := funext fun a => Fin.ext (h₀ a)
  refine ((foldl_at _ j k₀ (fun b => if mask (Shape.ofLane k₀) = 1 then (if add then Elt.idxAdd e b (v (Shape.ofLane k₀)) else v (Shape.ofLane k₀)) else b)
    (fun g => ?_) (fun g k hk => ?_) (List.finRange (d 0)) (List.nodup_finRange _) f).1 (List.mem_finRange _))
  · by_cases hm : mask (Shape.ofLane k₀) = 1
    · simp only [hm, if_true, hj, implies_true]
    · simp only [hm, if_false]
  · by_cases hm : mask (Shape.ofLane k) = 1
    · obtain ⟨a, ha⟩ := hne k hk
      simp only [hm, if_true]
      exact if_neg fun hc => ha (hc a).symm
    · simp only [hm, if_false]

/-- An entry no lane names stays. -/
theorem storeIdx_miss (f : Vec F s e) (idxs : Fin s.rank → IVec ⟨1, d⟩ 32) (v : Vec F ⟨1, d⟩ e) (mask : IVec ⟨1, d⟩ 1) (add : Bool)
    (h : ∀ a x, (idxs a x).toNat < s.size a) (j : s.Idx) (k₀ : Fin (d 0))
    (hne : ∀ k, ∃ a, (idxs a (Shape.ofLane k)).toNat ≠ (j a).val) : storeIdx f idxs v mask add h j = f j := by
  refine (foldl_at _ j k₀ id (fun g => ?_) (fun g k _ => ?_) (List.finRange (d 0)) (List.nodup_finRange _) f).1 (List.mem_finRange _)
  · by_cases hm : mask (Shape.ofLane k₀) = 1
    · obtain ⟨a, ha⟩ := hne k₀
      simp only [hm, if_true]
      exact if_neg fun hc => ha (hc a).symm
    · simp only [hm, if_false, id]
  · by_cases hm : mask (Shape.ofLane k) = 1
    · obtain ⟨a, ha⟩ := hne k
      simp only [hm, if_true]
      exact if_neg fun hc => ha (hc a).symm
    · simp only [hm, if_false]

end Scatter

/-! ## The bin's closed form -/

/-- What a bin holds of the rows `S`: the sums over them, and the greatest key, the first row attaining it and its prediction. -/
structure BinAt (S : Finset ℕ) (x : ℕ → ℝ) (kf : ℕ → EReal) (aK : EReal) (aA : BitVec 32) (aP s2 s3 : EReal) : Prop where
  s2 : s2 = ((∑ r ∈ S, Real.exp (x r) : ℝ) : EReal)
  s3 : s3 = ((∑ r ∈ S, Real.exp (x r) * x r : ℝ) : EReal)
  best : (S = ∅ ∧ aK = ⊥) ∨ ∃ r ∈ S, aK = kf r ∧ aA = BitVec.ofNat 32 r ∧ aP = (x r : EReal)
    ∧ ∀ r' ∈ S, kf r' ≤ kf r ∧ (kf r' = kf r → r ≤ r')

/-- One more row, past the others. -/
theorem BinAt.step {S : Finset ℕ} {x : ℕ → ℝ} {kf : ℕ → EReal} {aK : EReal} {aA : BitVec 32} {aP s2 s3 : EReal} (h : BinAt S x kf aK aA aP s2 s3)
    (r : ℕ) (hk : ⊥ < kf r) (hr : ∀ r' ∈ S, r' < r) :
    BinAt (insert r S) x kf (if aK < kf r then kf r else aK) (if aK < kf r then BitVec.ofNat 32 r else aA)
      (if aK < kf r then (x r : EReal) else aP) (s2 + ((Real.exp (x r) : ℝ) : EReal)) (s3 + ((Real.exp (x r) * x r : ℝ) : EReal)) := by
  have hn : r ∉ S := fun hm => lt_irrefl _ (hr r hm)
  refine ⟨?_, ?_, Or.inr ?_⟩
  · rw [h.s2, Finset.sum_insert hn, add_comm, EReal.coe_add]
  · rw [h.s3, Finset.sum_insert hn, add_comm, EReal.coe_add]
  · rcases h.best with ⟨hS, hK⟩ | ⟨r₁, h₁, hK, hA, hP, hb⟩
    · have hlt : aK < kf r := by rw [hK]; exact hk
      refine ⟨r, Finset.mem_insert_self _ _, if_pos hlt, if_pos hlt, if_pos hlt, fun r' h' => ?_⟩
      rcases Finset.mem_insert.mp h' with h' | h'
      · subst h'; exact ⟨le_rfl, fun _ => le_rfl⟩
      · rw [hS] at h'; exact absurd h' (by simp)
    · by_cases hlt : aK < kf r
      · have hlt' : kf r₁ < kf r := hK ▸ hlt
        refine ⟨r, Finset.mem_insert_self _ _, if_pos hlt, if_pos hlt, if_pos hlt, fun r' h' => ?_⟩
        rcases Finset.mem_insert.mp h' with h' | h'
        · subst h'; exact ⟨le_rfl, fun _ => le_rfl⟩
        · have hl := (hb r' h').1.trans_lt hlt'
          exact ⟨hl.le, fun e => absurd e hl.ne⟩
      · have hge : kf r ≤ kf r₁ := hK ▸ not_lt.mp hlt
        refine ⟨r₁, Finset.mem_insert_of_mem h₁, by rw [if_neg hlt, hK], by rw [if_neg hlt, hA], by rw [if_neg hlt, hP], fun r' h' => ?_⟩
        rcases Finset.mem_insert.mp h' with h' | h'
        · subst h'; exact ⟨hge, fun _ => (hr r₁ h₁).le⟩
        · exact hb r' h'

/-! ## A tile's pass -/

/-- A lane of the sixteen. -/
abbrev laneIx (y : Fin 16) : S16.Idx := Shape.ofLane (d := ![16]) y

/-- A lane's bin. -/
abbrev binIx (y : Fin 16) (b : Fin 272) : S4352.Idx := ix1 (⟨y.val * 272 + b.val, by omega⟩ : Fin 4352)

/-- The rows of the segment `Seg` that lane `y` of tile `w` has met before trip `n`. -/
def met (Seg : Finset ℕ) (w : ℕ) (y : Fin 16) (n : ℕ) : Finset ℕ :=
  Seg.filter fun r => r / 3200 * 16 + r % 16 = w * 16 + y.val ∧ r < 3200 * w + 16 * n

theorem met_hit (Seg : Finset ℕ) (w : ℕ) (y : Fin 16) (n : ℕ) (hn : n < 200) (h : 3200 * w + 16 * n + y.val ∈ Seg) :
    met Seg w y (n + 1) = insert (3200 * w + 16 * n + y.val) (met Seg w y n) := by
  have hy := y.isLt
  ext r
  simp only [met, Finset.mem_filter, Finset.mem_insert]
  constructor
  · rintro ⟨h1, h2, h3⟩
    by_cases hr : r < 3200 * w + 16 * n
    · exact Or.inr ⟨h1, h2, hr⟩
    · left; omega
  · rintro (h1 | ⟨h1, h2, h3⟩)
    · subst h1; exact ⟨h, by omega, by omega⟩
    · exact ⟨h1, h2, by omega⟩

theorem met_miss (Seg : Finset ℕ) (w : ℕ) (y : Fin 16) (n : ℕ) (hn : n < 200) (h : 3200 * w + 16 * n + y.val ∉ Seg) :
    met Seg w y (n + 1) = met Seg w y n := by
  have hy := y.isLt
  ext r
  simp only [met, Finset.mem_filter]
  constructor
  · rintro ⟨h1, h2, h3⟩
    refine ⟨h1, h2, ?_⟩
    by_contra hr
    have : r = 3200 * w + 16 * n + y.val := by omega
    exact h (this ▸ h1)
  · rintro ⟨h1, h2, h3⟩
    exact ⟨h1, h2, by omega⟩

theorem trips_eq : k1_t2_loop.trips = 200 := rfl

theorem pay14_apply (w : ℕ) (v2 : BitVec 32) (hv : v2 = BitVec.ofNat 32 (3200 * w)) (t : Fin k1_t2_loop.trips) (y : Fin 16) :
    k1_pay14 v2 lanes 0#32 1#32 t (laneIx y) = BitVec.ofNat 32 (3200 * w + 16 * t.val + y.val) := by
  show IntOp.addi (Scalar.addi (Scalar.addi 0#32 v2) (Scalar.muli (Scf.iv 0#32 1#32 t) 16#32)) (lanes (laneIx y)) = _
  rw [lanes_apply, hv]
  apply BitVec.eq_of_toNat_eq
  have e : (Scf.iv 0#32 1#32 t : BitVec 32) = 0#32 + BitVec.ofNat 32 t.val * 1#32 := rfl
  have e2 : (laneIx y 0).val = y.val := rfl
  rw [e2]
  simp only [e, Scalar.addi, Scalar.muli, IntOp.addi, IntOp.muli, BitVec.toNat_add, BitVec.toNat_mul, BitVec.toNat_ofNat]
  omega

theorem accs_bin (w : ℕ) (v2 : BitVec 32) (hv : v2 = BitVec.ofNat 32 (3200 * w))
    (ids : S3200.Idx → Elt Ideal .i32) (p k : S3200.Idx → Elt Ideal .f32) (hid : ∀ j, (ids j : BitVec 32).toNat ≤ 256)
    (Seg : Finset ℕ) (x : ℕ → ℝ) (kf : ℕ → EReal) (hkf : ∀ r ∈ Seg, ⊥ < kf r) (y : Fin 16) (b : Fin 272)
    (h1 : ∀ t, (ids (rows t (laneIx y)) : BitVec 32).toNat = b.val ↔ 3200 * w + 16 * t.val + y.val ∈ Seg)
    (h2 : ∀ t, 3200 * w + 16 * t.val + y.val ∈ Seg → p (rows t (laneIx y)) = ((x (3200 * w + 16 * t.val + y.val) : ℝ) : EReal)
      ∧ k (rows t (laneIx y)) = kf (3200 * w + 16 * t.val + y.val)) :
    ∀ n, n ≤ 200 → BinAt (met Seg w y n) x kf ((accs v2 ids p k n).aK (binIx y b)) ((accs v2 ids p k n).aA (binIx y b))
      ((accs v2 ids p k n).aP (binIx y b)) ((accs v2 ids p k n).s2 (binIx y b)) ((accs v2 ids p k n).s3 (binIx y b)) := by
  intro n
  induction n with
  | zero =>
    intro _
    have hmt : met Seg w y 0 = ∅ := by
      ext r
      simp only [met, Finset.mem_filter, Finset.notMem_empty, iff_false]
      rintro ⟨_, h2, h3⟩
      have hy := y.isLt
      omega
    rw [hmt]
    refine ⟨?_, ?_, Or.inl ⟨rfl, ?_⟩⟩
    · rw [Finset.sum_empty]; exact Ideal.ofBits_zero_f32
    · rw [Finset.sum_empty]; exact Ideal.ofBits_zero_f32
    · exact IdealRules.named_const.ideal_named_scalar _ _ _ _ rfl
  | succ n ih =>
    intro hn
    have ih := ih (by omega)
    have hlt : n < k1_t2_loop.trips := by rw [trips_eq]; omega
    have ha : accs v2 ids p k (n + 1) = stepAcc v2 ids p k ⟨n, hlt⟩ (accs v2 ids p k n) := dif_pos hlt
    have hc : k1_chk1 (bins (F := Ideal) ids ⟨n, hlt⟩) := idsOK_of ids hid _
    rw [ha, show stepAcc v2 ids p k ⟨n, hlt⟩ (accs v2 ids p k n) = _ from dif_pos hc]
    generalize accs v2 ids p k n = a at ih ⊢
    have hb : ∀ z : Fin 16, (bins (F := Ideal) ids ⟨n, hlt⟩ (laneIx z)).toNat = z.val * 272 + (ids (rows ⟨n, hlt⟩ (laneIx z)) : BitVec 32).toNat :=
      fun z => bins_toNat ids hid _ _
    have hother : ∀ z : Fin 16, z ≠ y → ∃ a : Fin S4352.rank, ((![bins (F := Ideal) ids ⟨n, hlt⟩] : Fin 1 → IVec S16 32) a (laneIx z)).toNat ≠ (binIx y b a).val := by
      intro z hz
      refine ⟨0, ?_⟩
      show (bins (F := Ideal) ids ⟨n, hlt⟩ (laneIx z)).toNat ≠ y.val * 272 + b.val
      rw [hb z]
      have := hid (rows ⟨n, hlt⟩ (laneIx z))
      have := b.isLt
      have : z.val ≠ y.val := fun e => hz (Fin.ext e)
      omega
    by_cases hs : 3200 * w + 16 * n + y.val ∈ Seg
    · have hid' := (h1 ⟨n, hlt⟩).mpr hs
      obtain ⟨hp, hk⟩ := h2 ⟨n, hlt⟩ hs
      have h₀ : ∀ a : Fin S4352.rank, ((![bins (F := Ideal) ids ⟨n, hlt⟩] : Fin 1 → IVec S16 32) a (laneIx y)).toNat = (binIx y b a).val := by
        intro a
        match a with
        | 0 =>
          show (bins (F := Ideal) ids ⟨n, hlt⟩ (laneIx y)).toNat = y.val * 272 + b.val
          rw [hb y, hid']
      have hj : idxAt (s := S4352) (![bins (F := Ideal) ids ⟨n, hlt⟩] : Fin 1 → IVec S16 32) (k1_idx3_inb _ hc) (laneIx y) = binIx y b :=
        funext fun a => Fin.ext (h₀ a)
      have hmask : (k1_pay17 (F := Ideal) (fun y => k (rows ⟨n, hlt⟩ y)) (loadIdx a.aK ![bins (F := Ideal) ids ⟨n, hlt⟩] (k1_idx3_inb _ hc)) (laneIx y) = 1)
          ↔ a.aK (binIx y b) < kf (3200 * w + 16 * n + y.val) := by
        show BitVec.ofBool (decide (a.aK (idxAt (s := S4352) (![bins (F := Ideal) ids ⟨n, hlt⟩] : Fin 1 → IVec S16 32) (k1_idx3_inb _ hc) (laneIx y)) < k (rows ⟨n, hlt⟩ (laneIx y)))) = 1 ↔ _
        rw [hj, hk]
        by_cases hd : a.aK (binIx y b) < kf (3200 * w + 16 * n + y.val)
        · exact ⟨fun _ => hd, fun _ => by rw [decide_eq_true hd]; rfl⟩
        · exact ⟨fun e => absurd e (by rw [decide_eq_false hd]; decide), fun h => absurd h hd⟩
      have hstep := ih.step (3200 * w + 16 * n + y.val) (hkf _ hs) (fun r' h' => by
        have := (Finset.mem_filter.mp h').2.2
        omega)
      rw [met_hit Seg w y n (by omega) hs]
      dsimp only
      rw [storeIdx_hit _ _ _ _ _ _ _ y h₀ hother, storeIdx_hit _ _ _ _ _ _ _ y h₀ hother, storeIdx_hit _ _ _ _ _ _ _ y h₀ hother,
        storeIdx_hit _ _ _ _ _ _ _ y h₀ hother, storeIdx_hit _ _ _ _ _ _ _ y h₀ hother]
      convert hstep using 1
      · simp only [hmask]; exact if_congr Iff.rfl hk rfl
      · simp only [hmask]; exact if_congr Iff.rfl (pay14_apply w v2 hv _ y) rfl
      · simp only [hmask]; exact if_congr Iff.rfl hp rfl
      · show a.s2 (binIx y b) + Ideal.exp (p (rows ⟨n, hlt⟩ (laneIx y))) = _
        rw [hp]; rfl
      · show a.s3 (binIx y b) + Ideal.exp (p (rows ⟨n, hlt⟩ (laneIx y))) * p (rows ⟨n, hlt⟩ (laneIx y)) = _
        rw [hp]; exact congrArg _ (EReal.coe_mul _ _).symm
    · have hid' : (ids (rows ⟨n, hlt⟩ (laneIx y)) : BitVec 32).toNat ≠ b.val := fun e => hs ((h1 ⟨n, hlt⟩).mp e)
      have hall : ∀ z : Fin 16, ∃ a : Fin S4352.rank, ((![bins (F := Ideal) ids ⟨n, hlt⟩] : Fin 1 → IVec S16 32) a (laneIx z)).toNat ≠ (binIx y b a).val := by
        intro z
        by_cases hz : z = y
        · subst hz
          refine ⟨0, ?_⟩
          show (bins (F := Ideal) ids ⟨n, hlt⟩ (laneIx z)).toNat ≠ z.val * 272 + b.val
          rw [hb z]
          omega
        · exact hother z hz
      rw [met_miss Seg w y n (by omega) hs]
      dsimp only
      rw [storeIdx_miss _ _ _ _ _ _ _ y hall, storeIdx_miss _ _ _ _ _ _ _ y hall, storeIdx_miss _ _ _ _ _ _ _ y hall,
        storeIdx_miss _ _ _ _ _ _ _ y hall, storeIdx_miss _ _ _ _ _ _ _ y hall]
      exact ih

end Cert.Proof

end
-- ==== Proof.Choice.lean ====
/-
  The sampled row of a segment: the first row attaining the greatest key. Folds read at their extreme values.
-/
module

public import proofs.«01_k».proof.Proof.Closed
public import Idealize.ShloMosaic.Lib.SortNet.Extract

@[expose] public section

noncomputable section

namespace Cert.Proof

open Idealize.ShloMosaic

/-- `r` is the first row of `S` attaining the greatest key. -/
def IsBest (S : Finset ℕ) (kf : ℕ → EReal) (r : ℕ) : Prop := r ∈ S ∧ ∀ r' ∈ S, kf r' ≤ kf r ∧ (kf r' = kf r → r ≤ r')

theorem exists_best (S : Finset ℕ) (kf : ℕ → EReal) (h : S.Nonempty) : ∃ r, IsBest S kf r := by
  obtain ⟨a, ha, hm⟩ := S.exists_max_image kf h
  have hne : (S.filter fun r => kf r = kf a).Nonempty := ⟨a, Finset.mem_filter.mpr ⟨ha, rfl⟩⟩
  obtain ⟨r, hr, hmin⟩ := (S.filter fun r => kf r = kf a).exists_min_image id hne
  obtain ⟨hr1, hr2⟩ := Finset.mem_filter.mp hr
  exact ⟨r, hr1, fun r' h' => ⟨hr2 ▸ hm r' h', fun e => hmin r' (Finset.mem_filter.mpr ⟨h', e.trans hr2⟩)⟩⟩

/-- A fold of `max` from the bottom is its greatest value. -/
theorem fold_max_eq {n : ℕ} (f : Fin n → EReal) (v : EReal) (h1 : ∀ i, f i ≤ v) (h2 : ∃ i, f i = v) :
    (Finset.univ : Finset (Fin n)).fold max ⊥ f = v := by
  obtain ⟨i, hi⟩ := h2
  refine le_antisymm ((Finset.fold_max_le _).mpr ⟨bot_le, fun j _ => h1 j⟩) ?_
  rw [Finset.le_fold_max]
  exact Or.inr ⟨i, Finset.mem_univ _, hi.ge⟩

theorem fold_minsi_toInt {n : ℕ} (f : Fin n → BitVec 32) (init : BitVec 32) (S : Finset (Fin n)) :
    (S.fold IntOp.minsi init f).toInt = S.fold min init.toInt fun i => (f i).toInt :=
  (Finset.fold_hom (op := IntOp.minsi) (op' := min) (m := BitVec.toInt) fun a b => SortNet.toInt_minsi a b).symm

/-- A fold of the signed minimum is its least value. -/
theorem fold_minsi_eq {n : ℕ} (f : Fin n → BitVec 32) (init v : BitVec 32) (h0 : v.toInt ≤ init.toInt) (h1 : ∀ i, v.toInt ≤ (f i).toInt) (h2 : ∃ i, f i = v) :
    (Finset.univ : Finset (Fin n)).fold IntOp.minsi init f = v := by
  obtain ⟨i, hi⟩ := h2
  apply BitVec.eq_of_toInt_eq
  rw [fold_minsi_toInt]
  refine le_antisymm ?_ ((Finset.le_fold_min _).mpr ⟨h0, fun j _ => h1 j⟩)
  rw [Finset.fold_min_le]
  exact Or.inr ⟨i, Finset.mem_univ _, by rw [hi]⟩

theorem coe_sum {ι : Type} (s : Finset ι) (f : ι → ℝ) : ((∑ i ∈ s, f i : ℝ) : EReal) = ∑ i ∈ s, ((f i : ℝ) : EReal) :=
  map_sum (⟨⟨((↑) : ℝ → EReal), rfl⟩, EReal.coe_add⟩ : ℝ →+ EReal) f s

theorem toInt_row (r : ℕ) (h : r < 102400) : (BitVec.ofNat 32 r).toInt = r := by
  rw [BitVec.toInt_eq_toNat_of_lt (by rw [BitVec.toNat_ofNat]; omega), BitVec.toNat_ofNat]
  omega

/-! ## The 512 rows of bins put together -/

section Combine

/-- The row of bins a node's row is counted in. -/
abbrev binRow (r : ℕ) : ℕ := r / 3200 * 16 + r % 16

variable {Seg : Finset ℕ} (hSeg : ∀ r ∈ Seg, r < 102400) {x : ℕ → ℝ} {kf : ℕ → EReal} {r₀ : ℕ} (hr : IsBest Seg kf r₀) (hk : ⊥ < kf r₀)
  {K P S2 S3 : Fin 512 → EReal} {A : Fin 512 → BitVec 32}
  (h : ∀ R : Fin 512, BinAt (Seg.filter fun r => binRow r = R.val) x kf (K R) (A R) (P R) (S2 R) (S3 R))

include hSeg in
theorem sum_rows (f : ℕ → ℝ) : (∑ R : Fin 512, ((∑ r ∈ Seg.filter (fun r => binRow r = R.val), f r : ℝ) : EReal)) = ((∑ r ∈ Seg, f r : ℝ) : EReal) := by
  rw [← coe_sum]
  congr 1
  rw [Fin.sum_univ_eq_sum_range (fun R => ∑ r ∈ Seg.filter (fun r => binRow r = R), f r) 512]
  exact Finset.sum_fiberwise_of_maps_to (fun r hm => Finset.mem_range.mpr (by have := hSeg r hm; show r / 3200 * 16 + r % 16 < 512; omega)) f

include hSeg h in
theorem sum_S2 : ∑ R, S2 R = ((∑ r ∈ Seg, Real.exp (x r) : ℝ) : EReal) :=
  (Finset.sum_congr rfl fun R _ => (h R).s2).trans (sum_rows hSeg _)

include hSeg h in
theorem sum_S3 : ∑ R, S3 R = ((∑ r ∈ Seg, Real.exp (x r) * x r : ℝ) : EReal) :=
  (Finset.sum_congr rfl fun R _ => (h R).s3).trans (sum_rows hSeg _)

include hr hk h in
/-- A row of bins with the greatest key holds a row of the segment with that key, at or past the sampled one. -/
theorem bin_le (R : Fin 512) : K R ≤ kf r₀
    ∧ (K R = kf r₀ → ∃ r ∈ Seg, A R = BitVec.ofNat 32 r ∧ P R = (x r : EReal) ∧ r₀ ≤ r) := by
  rcases (h R).best with ⟨_, hK⟩ | ⟨r, hm, hK, hA, hP, _⟩
  · rw [hK]; exact ⟨bot_le, fun e => absurd e hk.ne⟩
  · have hm' := (Finset.mem_filter.mp hm).1
    rw [hK]
    exact ⟨(hr.2 r hm').1, fun e => ⟨r, hm', hA, hP, (hr.2 r hm').2 e⟩⟩

include hSeg hr h in
/-- The sampled row's own row of bins holds it. -/
theorem bin_hit : ∃ R, K R = kf r₀ ∧ A R = BitVec.ofNat 32 r₀ ∧ P R = (x r₀ : EReal) := by
  have hlt := hSeg _ hr.1
  have hb : binRow r₀ < 512 := by show r₀ / 3200 * 16 + r₀ % 16 < 512; omega
  have hm : r₀ ∈ Seg.filter fun r => binRow r = (⟨binRow r₀, hb⟩ : Fin 512).val := Finset.mem_filter.mpr ⟨hr.1, rfl⟩
  refine ⟨⟨binRow r₀, hb⟩, ?_⟩
  rcases (h ⟨binRow r₀, hb⟩).best with ⟨he, _⟩ | ⟨r, hm', hK, hA, hP, hb'⟩
  · rw [he] at hm; exact absurd hm (by simp)
  · have e1 := le_antisymm (hb' r₀ hm).1 (hr.2 r (Finset.mem_filter.mp hm').1).1
    have e2 : r = r₀ := le_antisymm ((hb' r₀ hm).2 e1) ((hr.2 r (Finset.mem_filter.mp hm').1).2 e1.symm)
    subst e2
    exact ⟨hK, hA, hP⟩

include hSeg hr hk h in
theorem kmax_eq : (Finset.univ : Finset (Fin 512)).fold max ⊥ K = kf r₀ := by
  obtain ⟨R, hK, _, _⟩ := bin_hit hSeg hr h
  exact fold_max_eq _ _ (fun R => (bin_le hr hk h R).1) ⟨R, hK⟩

include hSeg hr hk h in
theorem amin_eq : (Finset.univ : Finset (Fin 512)).fold IntOp.minsi 2147483647#32 (fun R => if K R = kf r₀ then A R else 2147483647#32) = BitVec.ofNat 32 r₀ := by
  have hlt := hSeg _ hr.1
  have himax : (BitVec.ofNat 32 r₀).toInt ≤ (2147483647#32 : BitVec 32).toInt := by
    rw [toInt_row _ hlt]; show (r₀ : ℤ) ≤ 2147483647; omega
  obtain ⟨R, hK, hA, _⟩ := bin_hit hSeg hr h
  refine fold_minsi_eq _ _ _ himax (fun R' => ?_) ⟨R, by rw [if_pos hK, hA]⟩
  by_cases hkR : K R' = kf r₀
  · obtain ⟨r, hm, hA', _, hle⟩ := (bin_le hr hk h R').2 hkR
    rw [if_pos hkR, hA', toInt_row _ hlt, toInt_row _ (hSeg r hm)]
    exact_mod_cast hle
  · rw [if_neg hkR]; exact himax

include hSeg hr hk h in
theorem pstar_eq : (Finset.univ : Finset (Fin 512)).fold max ⊥ (fun R => if K R = kf r₀ ∧ A R = BitVec.ofNat 32 r₀ then P R else ⊥) = (x r₀ : EReal) := by
  obtain ⟨R, hK, hA, hP⟩ := bin_hit hSeg hr h
  refine fold_max_eq _ _ (fun R' => ?_) ⟨R, by rw [if_pos ⟨hK, hA⟩, hP]⟩
  by_cases hkR : K R' = kf r₀ ∧ A R' = BitVec.ofNat 32 r₀
  · obtain ⟨r, hm, hA', hP', _⟩ := (bin_le hr hk h R').2 hkR.1
    have e : r = r₀ := by
      have := congrArg BitVec.toNat (hA'.symm.trans hkR.2)
      rw [BitVec.toNat_ofNat, BitVec.toNat_ofNat] at this
      have := hSeg r hm
      have := hSeg r₀ hr.1
      omega
    rw [if_pos hkR, hP', e]
  · rw [if_neg hkR]; exact bot_le

end Combine

end Cert.Proof

end
-- ==== Proof.Columns.lean ====
/-
  The combination of the bins read at a segment: the three results of the kernel are the sampled row, its log probability
  and the negative entropy of the segment.
-/
module

public import proofs.«01_k».proof.Proof.Choice
public import Idealize.ShloMosaic.Lib.Pointwise

@[expose] public section

set_option pp.maxSteps 1000

noncomputable section

namespace Cert.Proof

open Cert.KernelIdeal Cert.KernelIdeal.Gen Cert.Proof.Tile Cert.Proof.Sc Cert.Proof.Tc

open Idealize.ShloMosaic
open Idealize.ShloMosaic (ix2 ix3)
open Idealize.SL.Sem

theorem ofBits_ninf : Ideal.ofBits .f32 4286578688#32 = ⊥ := by
  simp [Ideal.ofBits, Ideal.ieee]

theorem lt272 (b : Fin 256) : b.val < 272 := by omega

/-! ## The bins of a row -/

section Rows

variable {F : FTy → Type} [FloatOps F] [Named F]

theorem squeeze_at {α : Type} (g : S1x1x4352.Idx → α) (k : Fin 4352) (h : S1x1x4352.ShapeCasts S4352) :
    shapeCast S4352 g h (Idealize.ShloMosaic.ix1 k) = g (ix3 (0 : Fin 1) (0 : Fin 1) k) := by
  pointwise

theorem rect_at (m : Fin 4) (w : Fin 32) (k : Fin 4352) {off : Fin 3 → ℕ} (inb : ∀ a, off a + S1x1x4352.size a ≤ S4x32x4352.size a)
    (h : off = ![m.val, w.val, 0]) :
    (Rect.unit (s := S4x32x4352) off S1x1x4352.size inb).emb (ix3 (0 : Fin 1) (0 : Fin 1) k) = ix3 m w k := by
  subst h
  funext a
  apply Fin.ext
  match a with
  | 0 => exact (by show m.val + 1 * 0 = m.val; omega)
  | 1 => exact (by show w.val + 1 * 0 = w.val; omega)
  | 2 => exact (by show 0 + 1 * k.val = k.val; omega)

/-- A tile's number. -/
abbrev tileNo (t : Tl) : Fin 32 := ⟨2 * t.2.val + t.1.val, by have := t.1.isLt; have := t.2.isLt; omega⟩

theorem outRd_at (t : Tl) (m : Fin 4) {e : EltTy} (M : Memref sig .scVector .hbm S4x32x4352 e) (f : M.view.ty.Contents (Elt F)) (k : Fin 4352) :
    (M.view.read (Elt F) f) (ix3 m (tileNo t) k) = outRd (at' t) m M f (Idealize.ShloMosaic.ix1 k) := by
  fin_cases m
  · refine (congrArg _ (rect_at 0 (tileNo t) k (k1_off6_inb (at' t)) (k1_off6_eq (at' t))).symm).trans ?_
    exact (squeeze_at (fun i => M.view.read (Elt F) f ((Rect.unit (s := S4x32x4352) (k1_off6 (at' t)) S1x1x4352.size (k1_off6_inb (at' t))).emb i)) k (by decide)).symm
  · refine (congrArg _ (rect_at 1 (tileNo t) k (k1_off7_inb (at' t)) (k1_off7_eq (at' t))).symm).trans ?_
    exact (squeeze_at (fun i => M.view.read (Elt F) f ((Rect.unit (s := S4x32x4352) (k1_off7 (at' t)) S1x1x4352.size (k1_off7_inb (at' t))).emb i)) k (by decide)).symm
  · refine (congrArg _ (rect_at 2 (tileNo t) k (k1_off8_inb (at' t)) (k1_off8_eq (at' t))).symm).trans ?_
    exact (squeeze_at (fun i => M.view.read (Elt F) f ((Rect.unit (s := S4x32x4352) (k1_off8 (at' t)) S1x1x4352.size (k1_off8_inb (at' t))).emb i)) k (by decide)).symm
  · refine (congrArg _ (rect_at 3 (tileNo t) k (k1_off9_inb (at' t)) (k1_off9_eq (at' t))).symm).trans ?_
    exact (squeeze_at (fun i => M.view.read (Elt F) f ((Rect.unit (s := S4x32x4352) (k1_off9 (at' t)) S1x1x4352.size (k1_off9_inb (at' t))).emb i)) k (by decide)).symm

/-- The row of bins of a tile's lane. -/
abbrev rowOf (w : Fin 32) (y : Fin 16) : Fin 512 := ⟨w.val * 16 + y.val, by omega⟩

theorem re_at {e : EltTy} (B : S4x32x4352.Idx → Elt F e) (h : S4x32x4352.ShapeCasts S4x512x272) (m : Fin 4) (w : Fin 32) (y : Fin 16) (b : Fin 272) :
    (shapeCast S4x512x272 B h : S4x512x272.Idx → Elt F e) (ix3 m (rowOf w y) b) = B (ix3 m w ⟨y.val * 272 + b.val, by omega⟩) := by
  pointwise
  refine congrArg₂ (fun u v => B (ix3 m u v)) (Fin.ext ?_) (Fin.ext ?_)
  · show (w.val * 16 + y.val) / 16 = w.val
    omega
  · show (w.val * 16 + y.val) % 16 * 272 + b.val = y.val * 272 + b.val
    omega

theorem slabB_at {e : EltTy} (x : S4x512x272.Idx → Elt F e) (m : Fin 4) (R : Fin 512) (b : Fin 272) :
    slabB m x (ix3 (0 : Fin 1) R b) = x (ix3 m R b) := by
  fin_cases m <;> pointwise [slabB]

end Rows

/-! ## The results at a segment -/

section Results

variable {Seg : Finset ℕ} (hSeg : ∀ r ∈ Seg, r < 102400) {x : ℕ → ℝ} {kf : ℕ → EReal} {r₀ : ℕ} (hr : IsBest Seg kf r₀) (hk : ⊥ < kf r₀)
  (K : S4x512x272.Idx → Elt Ideal .f32) (A : S4x512x272.Idx → Elt Ideal .i32) (P S2 S3 : S4x512x272.Idx → Elt Ideal .f32) (m : Fin 4) (b : Fin 256)
  (h : ∀ R : Fin 512, BinAt (Seg.filter fun r => binRow r = R.val) x kf (K (ix3 m R (⟨b.val, lt272 b⟩ : Fin 272))) (A (ix3 m R (⟨b.val, lt272 b⟩ : Fin 272)))
    (P (ix3 m R (⟨b.val, lt272 b⟩ : Fin 272))) (S2 (ix3 m R (⟨b.val, lt272 b⟩ : Fin 272))) (S3 (ix3 m R (⟨b.val, lt272 b⟩ : Fin 272))))

theorem rowIx_eq (b : Fin 256) : rowIx b = ix2 (0 : Fin 1) b := by
  funext a
  match a with | 0 => rfl | 1 => rfl

/-- The sum of the exponentials over a segment is positive. -/
theorem sumExp_pos (hne : Seg.Nonempty) : 0 < ∑ r ∈ Seg, Real.exp (x r) := Finset.sum_pos (fun _ _ => Real.exp_pos _) hne

theorem log_coe (v : ℝ) (hv : 0 < v) : Ideal.log (v : EReal) = ((Real.log v : ℝ) : EReal) := by
  show (if v ≤ 0 then (⊥ : EReal) else ((Real.log v : ℝ) : EReal)) = _
  rw [if_neg hv.not_ge]

theorem div_coe (a v : ℝ) (hv : v ≠ 0) : Ideal.div (a : EReal) (v : EReal) = ((a / v : ℝ) : EReal) := by
  have h0 : (v : EReal) ≠ 0 := by exact_mod_cast hv
  unfold Ideal.div
  rw [if_neg h0, ← EReal.coe_inv, ← EReal.coe_mul, div_eq_mul_inv]

include hSeg hr hk h in
theorem resI_at : resI K A (ix2 m b) = BitVec.ofNat 32 r₀ := by
  have e : resI K A (ix2 m b) = combI (slabB m K) (slabB m A) (rowIx b) := rfl
  rw [e, rowIx_eq]
  pointwise [combI, k2_pay11, k2_pay6, k2_pay5, k2_pay4, k2_pay3]
  simp only [slabB_at, ofBits_ninf]
  rw [kmax_eq hSeg hr hk h]
  exact amin_eq hSeg hr hk h

include hSeg hr hk h in
theorem resG_at : resG K A P S2 (ix2 m b) = ((x r₀ - Real.log (∑ r ∈ Seg, Real.exp (x r)) : ℝ) : EReal) := by
  have e : resG K A P S2 (ix2 m b) = combG (slabB m K) (slabB m A) (slabB m P) (slabB m S2) (ix2 (0 : Fin 1) b) := by
    exact congrArg (combG (slabB m K) (slabB m A) (slabB m P) (slabB m S2)) (rowIx_eq b)
  have hmask : (Named.named κ "mask" 4284592614#32 : Ideal .f32) = ⊥ := IdealRules.named_const.ideal_named_scalar _ _ _ _ rfl
  rw [e]
  pointwise [combG, k2_pay12, k2_pay7, k2_pay6, k2_pay5, k2_pay4, k2_pay3, k2_pay10, k2_pay8]
  simp only [slabB_at, ofBits_ninf]
  rw [kmax_eq hSeg hr hk h, amin_eq hSeg hr hk h, sum_S2 hSeg h, log_coe _ (sumExp_pos ⟨r₀, hr.1⟩), EReal.coe_sub]
  refine congrArg₂ (fun a b : EReal => a - b) ?_ rfl
  refine Eq.trans ?_ (pstar_eq hSeg hr hk h)
  refine congrArg (fun f => Finset.fold max (⊥ : EReal) f Finset.univ) (funext fun R => ?_)
  rw [hmask]
  by_cases h1 : K (ix3 m R (⟨b.val, lt272 b⟩ : Fin 272)) = kf r₀
  · by_cases h2 : A (ix3 m R (⟨b.val, lt272 b⟩ : Fin 272)) = BitVec.ofNat 32 r₀
    · rw [if_pos ⟨h1, h2⟩]; simp only [h1, h2]; simp [IntOp.andi, IntOp.cmpi, Scalar.select]
    · rw [if_neg fun hc => h2 hc.2]; simp only [h1]; simp [IntOp.andi, IntOp.cmpi, Scalar.select, beq_eq_false_iff_ne.mpr h2]
  · rw [if_neg fun hc => h1 hc.1]; simp [IntOp.andi, IntOp.cmpi, Scalar.select, h1]

include hSeg hr h in
theorem resE_at : resE S2 S3 (ix2 m b) = (((∑ r ∈ Seg, Real.exp (x r) * x r) / (∑ r ∈ Seg, Real.exp (x r)) - Real.log (∑ r ∈ Seg, Real.exp (x r)) : ℝ) : EReal) := by
  have e : resE S2 S3 (ix2 m b) = combE (slabB m S2) (slabB m S3) (ix2 (0 : Fin 1) b) := by
    exact congrArg (combE (slabB m S2) (slabB m S3)) (rowIx_eq b)
  have hp := sumExp_pos (x := x) (Seg := Seg) ⟨r₀, hr.1⟩
  rw [e]
  pointwise [combE, k2_pay13, k2_pay8, k2_pay9, k2_pay10]
  simp only [slabB_at]
  rw [sum_S2 hSeg h, sum_S3 hSeg h, log_coe _ hp, div_coe _ _ hp.ne', EReal.coe_sub]

end Results

/-! ## The bins of the launch -/

section Launch

variable (m : (ℓ : Loc nD τ sig) → Buf (Elt Ideal) ℓ) (d : Dev nD)

/-- A node's segment. -/
abbrev segOf (r : ℕ) : ℕ := if h : r < 100000 then (m ((SparseCore.T d).loc main_arg1) (ix1 (⟨r, h⟩ : Fin 100000)) : BitVec 32).toNat else 256

/-- The nodes of a segment. -/
abbrev SegF (b : ℕ) : Finset ℕ := (Finset.range 100000).filter fun r => segOf m d r = b

theorem seg_lt {b : ℕ} : ∀ r ∈ SegF m d b, r < 102400 := fun r hr => by
  have := Finset.mem_range.mp (Finset.mem_filter.mp hr).1
  omega

/-- A node's condition: its prediction is the given real. -/
abbrev okOf (x : Fin 4 → ℕ → ℝ) : RowOK Ideal := fun mm r v => r < 100000 → v = ((x mm r : ℝ) : EReal)

/-- A node's condition: its key is the given number. -/
abbrev okKey (k : Fin 4 → ℕ → EReal) : RowOK Ideal := fun mm r v => r < 100000 → v = k mm r

theorem ids_seg (i : S102400.Idx) : (V1 m d (Proc.devRef .tc main_v17) i : BitVec 32).toNat = segOf m d (i 0).val := by
  unfold segOf
  by_cases hi : (i 0).val < 100000
  · rw [ids_lt m d i hi, dif_pos hi]
  · rw [ids_ge m d i hi, dif_neg hi]; rfl

variable (hin : InRange m) (x : Fin 4 → ℕ → ℝ) (kf : Fin 4 → ℕ → EReal)
  (hkf : ∀ mm, ∀ r < 100000, ⊥ < kf mm r)
  {B0 : S4x32x4352.Idx → Elt Ideal .f32} {B1 : S4x32x4352.Idx → Elt Ideal .i32} {B2 B3 B4 : S4x32x4352.Idx → Elt Ideal .f32}
  (hB : BinsOf d (fun d => V1 m d (Proc.devRef .tc main_v17)) (okOf x) (okKey kf) B0 B1 B2 B3 B4)

include hin hkf hB in
theorem bins_at (mm : Fin 4) (t : Tl) (y : Fin 16) (b : Fin 256) :
    BinAt ((SegF m d b.val).filter fun r => binRow r = (rowOf (tileNo t) y).val) (x mm) (kf mm)
      (B0 (ix3 mm (tileNo t) ⟨y.val * 272 + b.val, by omega⟩)) (B1 (ix3 mm (tileNo t) ⟨y.val * 272 + b.val, by omega⟩))
      (B2 (ix3 mm (tileNo t) ⟨y.val * 272 + b.val, by omega⟩)) (B3 (ix3 mm (tileNo t) ⟨y.val * 272 + b.val, by omega⟩))
      (B4 (ix3 mm (tileNo t) ⟨y.val * 272 + b.val, by omega⟩)) := by
  obtain ⟨ids, p, k, hT, hacc⟩ := hB t
  have hacc := hacc mm
  have hw : (tileNo t).val = 2 * t.2.val + t.1.val := rfl
  have hy := y.isLt
  have ht1 : t.1.val < 2 := t.1.isLt
  have ht2 : t.2.val < 16 := t.2.isLt
  have hrow : ∀ tr, rowAt (at' t) (rows tr (laneIx y)) = 3200 * (tileNo t).val + 16 * tr.val + y.val := fun tr => by
    have e : (rows tr (laneIx y) 0).val = 16 * tr.val + y.val := by
      have := congrFun (k1_off4_eq tr) 0
      show (k1_off4 tr) 0 + 1 * y.val = _
      rw [this]
      show 16 * tr.val + 1 * y.val = _
      omega
    show 6400 * t.2.val + 3200 * t.1.val + (rows tr (laneIx y) 0).val = _
    rw [e]
    omega
  have hids : ∀ j, (ids j : BitVec 32).toNat = segOf m d (rowAt (at' t) j) := fun j => by
    rw [hT.ids, View.read_apply]
    exact (ids_seg m d ((in1 (at' t) (Memref.whole main_v17_scv)).view.emb j)).trans (congrArg (segOf m d) (in1_at t j))
  have hle : ∀ j, (ids j : BitVec 32).toNat ≤ 256 := fun j => by
    rw [hids j]
    unfold segOf
    split
    · exact (hin d _).le
    · exact le_rfl
  have hmem : ∀ r, r ∈ SegF m d b.val ↔ segOf m d r = b.val := fun r => by
    simp only [SegF, Finset.mem_filter, Finset.mem_range]
    refine ⟨fun hh => hh.2, fun hh => ⟨?_, hh⟩⟩
    by_contra hc
    have := b.isLt
    rw [segOf, dif_neg hc] at hh
    omega
  have hbase : base (at' t) = BitVec.ofNat 32 (3200 * (tileNo t).val) := by
    apply BitVec.eq_of_toNat_eq
    show (IntOp.muli (IntOp.addi (IntOp.muli (BitVec.ofNat 32 t.2.val) 2#32) (BitVec.ofNat 32 t.1.val)) 3200#32).toNat = _
    simp only [IntOp.addi, IntOp.muli, BitVec.toNat_add, BitVec.toNat_mul, BitVec.toNat_ofNat]
    omega
  have key := accs_bin (tileNo t).val (base (at' t)) hbase ids (p mm) (k mm) hle (SegF m d b.val) (x mm) (kf mm)
    (fun r hr => hkf mm r (Finset.mem_range.mp (Finset.mem_filter.mp hr).1)) y (⟨b.val, lt272 b⟩ : Fin 272)
    (fun tr => by rw [hids, hrow, hmem]) (fun tr hs => by
      have hlt := Finset.mem_range.mp (Finset.mem_filter.mp hs).1
      have e1 := hT.p mm (rows tr (laneIx y))
      have e2 := hT.k mm (rows tr (laneIx y))
      rw [hrow] at e1 e2
      exact ⟨e1 hlt, e2 hlt⟩) 200 le_rfl
  rw [trips_eq] at hacc
  rw [← hacc] at key
  have hmet : met (SegF m d b.val) (tileNo t).val y 200 = (SegF m d b.val).filter fun r => binRow r = (rowOf (tileNo t) y).val := by
    ext r
    simp only [met, Finset.mem_filter, and_congr_right_iff]
    intro _
    show _ ∧ _ ↔ r / 3200 * 16 + r % 16 = (tileNo t).val * 16 + y.val
    omega
  rw [hmet] at key
  have e0 := outRd_at (F := Ideal) t mm (Memref.whole main_v21_0_scv) B0 ⟨y.val * 272 + b.val, by omega⟩
  have e1 := outRd_at (F := Ideal) t mm (Memref.whole main_v21_1_scv) B1 ⟨y.val * 272 + b.val, by omega⟩
  have e2 := outRd_at (F := Ideal) t mm (Memref.whole main_v21_2_scv) B2 ⟨y.val * 272 + b.val, by omega⟩
  have e3 := outRd_at (F := Ideal) t mm (Memref.whole main_v21_3_scv) B3 ⟨y.val * 272 + b.val, by omega⟩
  have e4 := outRd_at (F := Ideal) t mm (Memref.whole main_v21_4_scv) B4 ⟨y.val * 272 + b.val, by omega⟩
  have hix : ∀ k : Fin 4352, (Idealize.ShloMosaic.ix1 k : S4352.Idx) = ix1 k := fun k => by
    funext a
    match a with | 0 => rfl
  rw [hix] at e0 e1 e2 e3 e4
  convert key using 1
  · exact e0
  · exact e1
  · exact e2
  · exact e3
  · exact e4

include hin hkf hB in
theorem bins_row (h : S4x32x4352.ShapeCasts S4x512x272) (mm : Fin 4) (R : Fin 512) (b : Fin 256) :
    BinAt ((SegF m d b.val).filter fun r => binRow r = R.val) (x mm) (kf mm)
      ((shapeCast S4x512x272 B0 h : S4x512x272.Idx → Elt Ideal .f32) (ix3 mm R (⟨b.val, lt272 b⟩ : Fin 272)))
      ((shapeCast S4x512x272 B1 h : S4x512x272.Idx → Elt Ideal .i32) (ix3 mm R (⟨b.val, lt272 b⟩ : Fin 272)))
      ((shapeCast S4x512x272 B2 h : S4x512x272.Idx → Elt Ideal .f32) (ix3 mm R (⟨b.val, lt272 b⟩ : Fin 272)))
      ((shapeCast S4x512x272 B3 h : S4x512x272.Idx → Elt Ideal .f32) (ix3 mm R (⟨b.val, lt272 b⟩ : Fin 272)))
      ((shapeCast S4x512x272 B4 h : S4x512x272.Idx → Elt Ideal .f32) (ix3 mm R (⟨b.val, lt272 b⟩ : Fin 272))) := by
  have hR := R.isLt
  have e : R = rowOf (tileNo (⟨R.val / 16 % 2, by omega⟩, ⟨R.val / 32, by omega⟩)) ⟨R.val % 16, by omega⟩ := by
    apply Fin.ext
    show R.val = (2 * (R.val / 32) + R.val / 16 % 2) * 16 + R.val % 16
    omega
  rw [e, re_at (F := Ideal) B0, re_at (F := Ideal) B1, re_at (F := Ideal) B2, re_at (F := Ideal) B3, re_at (F := Ideal) B4]
  exact bins_at m d hin x kf hkf hB mm _ _ b

end Launch

end Cert.Proof

end
-- ==== Proof.Reals.lean ====
/-
  The rows of the problem: a node's prediction as a real number, its noise and its key as extended reals above minus infinity, when
  the weights, the offset and the nodes are reals and every draw plus its guard is positive.
-/
module

public import proofs.«01_k».proof.Proof.Columns

@[expose] public section

set_option pp.maxSteps 1000

noncomputable section

namespace Cert.Proof

open Cert.KernelIdeal Cert.KernelIdeal.Gen Cert.Proof.Tile Cert.Proof.Sc Cert.Proof.Tc

open Idealize.ShloMosaic
open Idealize.ShloMosaic (ix2 ix3)
open Idealize.SL.Sem

/-- The guard of both logarithms. -/
def eps : ℝ := (Ideal.ofBits .f32 507307272#32).toReal

theorem eps_val : Ideal.ofBits .f32 507307272#32 = ((eps : ℝ) : EReal) ∧ 0 < eps := by
  have h : ∃ v : ℝ, 0 < v ∧ Ideal.ofBits .f32 507307272#32 = (v : EReal) := by
    simp [Ideal.ofBits, Ideal.ieee]
    refine ⟨(12379400 : ℝ) * ((2 ^ 90 : ℝ))⁻¹, by positivity, ?_⟩
    rw [EReal.coe_mul]
  obtain ⟨v, hv, e⟩ := h
  unfold eps
  rw [e, EReal.toReal_coe]
  exact ⟨rfl, hv⟩

theorem log_bot_lt {a : EReal} (h : 0 < a) : ⊥ < Ideal.log a := by
  induction a with
  | bot => exact absurd h (by simp)
  | coe v =>
    rw [log_coe v (by exact_mod_cast h)]
    exact EReal.bot_lt_coe _
  | top => exact bot_lt_top

theorem log_lt_top {a : EReal} (h : a < ⊤) : Ideal.log a < ⊤ := by
  induction a with
  | bot => exact bot_lt_top
  | coe v =>
    show (if v ≤ 0 then (⊥ : EReal) else ((Real.log v : ℝ) : EReal)) < ⊤
    split
    · exact bot_lt_top
    · exact EReal.coe_lt_top _
  | top => exact absurd h (lt_irrefl _)

/-- The noise of a draw is above minus infinity where the first logarithm's argument is positive. -/
theorem noise_bot_lt {u : EReal} (h : ((-eps : ℝ) : EReal) < u) :
    ⊥ < -(Ideal.log (-(Ideal.log (u + ((eps : ℝ) : EReal))) + ((eps : ℝ) : EReal))) := by
  have h1 : 0 < u + ((eps : ℝ) : EReal) := by
    induction u with
    | bot => exact absurd h (by simp)
    | coe v =>
      have : -eps < v := by exact_mod_cast h
      rw [← EReal.coe_add]
      exact_mod_cast (by linarith : 0 < v + eps)
    | top => rw [EReal.top_add_coe]; exact EReal.coe_lt_top 0
  have h2 : -(Ideal.log (u + ((eps : ℝ) : EReal))) < ⊤ := by
    rw [EReal.neg_lt_comm, EReal.neg_top]
    exact log_bot_lt h1
  have h3 := log_lt_top (EReal.add_lt_top h2.ne (EReal.coe_ne_top eps))
  rwa [← EReal.neg_top, ← EReal.neg_lt_neg_iff, neg_neg, neg_neg]

/-- The nodes, the weights and the offset are reals, the draws above the guard's negative. -/
structure RealArgs (a0 : S4x100000x128.Idx → EReal) (a2 : S128x1.Idx → EReal) (a3 : S1.Idx → EReal) (a4 : S4x100000.Idx → EReal) : Prop where
  h : ∀ i, a0 i = ((a0 i).toReal : EReal)
  w : ∀ i, a2 i = ((a2 i).toReal : EReal)
  b : ∀ i, a3 i = ((a3 i).toReal : EReal)
  u : ∀ i, ((-eps : ℝ) : EReal) < a4 i

section

variable (a0 : S4x100000x128.Idx → EReal) (a2 : S128x1.Idx → EReal) (a3 : S1.Idx → EReal) (a4 : S4x100000.Idx → EReal)

/-- A node's prediction. -/
def xR (mm : Fin 4) (r : ℕ) : ℝ := if h : r < 100000 then
  (∑ k : Fin 128, (a0 (ix3 mm (⟨r, h⟩ : Fin 100000) k)).toReal * (a2 (ix2 k (0 : Fin 1))).toReal) + (a3 (Idealize.ShloMosaic.ix1 (0 : Fin 1))).toReal else 0

/-- A node's noise. -/
def nR (mm : Fin 4) (r : ℕ) : EReal := if h : r < 100000 then gum (F := Ideal) a4 (ix2 mm (⟨r, h⟩ : Fin 100000)) else 0

/-- A node's key. -/
def kR (mm : Fin 4) (r : ℕ) : EReal := ((xR a0 a2 a3 mm r : ℝ) : EReal) + nR a4 mm r

variable {a0 a2 a3 a4} (H : RealArgs a0 a2 a3 a4)

include H in
theorem dot_real (mm : Fin 4) (r : Fin 100000) :
    ((∑ k : Fin 128, a0 (ix3 mm r k) * a2 (ix2 k (0 : Fin 1)) : EReal) + a3 (Idealize.ShloMosaic.ix1 (0 : Fin 1)) : EReal) = ((xR a0 a2 a3 mm r.val : ℝ) : EReal) := by
  unfold xR
  rw [dif_pos r.isLt, EReal.coe_add, coe_sum, ← H.b]
  refine congrArg (· + _) (Finset.sum_congr rfl fun k _ => ?_)
  rw [EReal.coe_mul, ← H.h, ← H.w]

theorem gum_at (mm : Fin 4) (r : Fin 100000) : gum (F := Ideal) a4 (ix2 mm r) = nR a4 mm r.val := by
  unfold nR
  rw [dif_pos r.isLt]

include H in
theorem nR_bot_lt (mm : Fin 4) (r : ℕ) : ⊥ < nR a4 mm r := by
  unfold nR
  split
  · pointwise [gum]
    rw [eps_val.1]
    exact noise_bot_lt (H.u _)
  · exact EReal.bot_lt_coe 0

include H in
/-- Every key is above minus infinity. -/
theorem kR_bot_lt (mm : Fin 4) (r : ℕ) : ⊥ < kR a0 a2 a3 a4 mm r :=
  EReal.bot_lt_add_iff.mpr ⟨EReal.bot_lt_coe _, nR_bot_lt H mm r⟩

end

end Cert.Proof

end
-- ==== Proof.StageVal.lean ====
/-
  What the first kernel's rows are: a row's prediction is the dot product with the weights plus the offset, its key the
  prediction plus the row's noise, on every row below the nodes' end.
-/
module

public import proofs.«01_k».proof.Proof.Reals

@[expose] public section

set_option pp.maxSteps 1000

noncomputable section

namespace Cert.Proof

open Cert.KernelIdeal Cert.KernelIdeal.Gen Cert.Proof.Tile Cert.Proof.Sc Cert.Proof.Tc

open Idealize.ShloMosaic
open Idealize.ShloMosaic (ix2 ix3)
open Idealize.SL.Sem

theorem slabH_at (h : S4x2048x128.Idx → Elt Ideal .f32) (mm : Fin 4) (j : Fin 2048) (k : Fin 128) :
    slabH mm h (ix3 (0 : Fin 1) j k) = h (ix3 mm j k) := by
  fin_cases mm <;> pointwise [slabH]

theorem slabG_at (g : S4x2048.Idx → Elt Ideal .f32) (mm : Fin 4) (j : Fin 2048) :
    slabG mm g (ix2 (0 : Fin 1) j) = g (ix2 mm j) := by
  fin_cases mm <;> pointwise [slabG]

theorem predOf_at (h : S4x2048x128.Idx → Elt Ideal .f32) (w : S1x128.Idx → Elt Ideal .f32) (b : S1x1.Idx → Elt Ideal .f32) (mm : Fin 4) (j : Fin 2048) :
    predOf mm h w b (Idealize.ShloMosaic.ix1 j) = ((∑ k : Fin 128, w (ix2 (0 : Fin 1) k) * h (ix3 mm j k) : EReal) + b (ix2 (0 : Fin 1) (0 : Fin 1)) : EReal) := by
  pointwise [predOf, k0_pay9, k0_pay8, k0_pay7]
  simp only [slabH_at]

theorem keyOf_at (h : S4x2048x128.Idx → Elt Ideal .f32) (g : S4x2048.Idx → Elt Ideal .f32) (w : S1x128.Idx → Elt Ideal .f32) (b : S1x1.Idx → Elt Ideal .f32) (mm : Fin 4) (j : Fin 2048) :
    keyOf mm h g w b (Idealize.ShloMosaic.ix1 j) = (((∑ k : Fin 128, w (ix2 (0 : Fin 1) k) * h (ix3 mm j k) : EReal) + b (ix2 (0 : Fin 1) (0 : Fin 1)) : EReal) + g (ix2 mm j) : EReal) := by
  pointwise [keyOf, k0_pay10, k0_pay8, k0_pay7]
  simp only [slabH_at, slabG_at]

section Fetched

variable (m : (ℓ : Loc nD τ sig) → Buf (Elt Ideal) ℓ) (c : Dev nD) (okP okK : RowOK Ideal) (t : Fin grid0.N)

theorem transform0 (t : Fin grid0.N) (ht : t.val < 49) : cc0_transform_0 (grid0.coords t) = ![0, t.val, 0] := by
  have key : ∀ t : Fin grid0.N, t.val < 49 → cc0_transform_0 (grid0.coords t) = ![0, t.val, 0] := by decide +kernel
  exact key t ht

theorem moved_h (mm : Fin 4) (j : Fin 2048) (k : Fin 128) (h : t.val * 2048 + j.val < 100000) (a : Fin 3) :
    ((ix3 mm j k : S4x2048x128.Idx) a).val < win0_0.xsize (grid0.coords t) a := by
  have ht : t.val < 49 := by omega
  show _ < (Pipeline.Clip.of (cc0_transform_0 (grid0.coords t) a) (S4x2048x128.size a) (S4x100000x128.size a)).extent (S4x2048x128.size a)
  rw [transform0 t ht]
  unfold Pipeline.Clip.of
  match a with
  | 0 => exact mm.isLt
  | 1 =>
    show j.val < Pipeline.Clip.extent (if (t.val + 1) * 2048 ≤ 100000 then none else some (100000 - t.val * 2048)) 2048
    split
    · exact j.isLt
    · show j.val < 100000 - t.val * 2048
      omega
  | 2 => exact k.isLt

theorem fetched_h (d) (mm : Fin 4) (j : Fin 2048) (k : Fin 128) (h : t.val * 2048 + j.val < 100000) :
    (dat0 (A0 m) okP okK c).fetched 0 t d (ix3 mm j k) = m ((SparseCore.T c).loc main_arg0) (ix3 mm (⟨t.val * 2048 + j.val, h⟩ : Fin 100000) k) := by
  have ht : t.val < 49 := by omega
  refine (win0_0.fill_xinj (grid0.coords t) d ((dat0 (A0 m) okP okK c).blockOf 0 t) (fun a => ⟨((ix3 mm j k : S4x2048x128.Idx) a).val, moved_h t mm j k h a⟩)).trans ?_
  show (win0_0.blk t).view.read (Elt Ideal) (V1 m c (Proc.devRef .tc main_arg0)) _ = _
  rw [V1_keep m c main_arg0 (by decide), View.read_apply]
  refine congrArg (m ((SparseCore.T c).loc main_arg0)) (funext fun a => Fin.ext ?_)
  have e1 : win0_0.index t a = (![0, t.val, 0] : Fin 3 → ℕ) a := congrFun (transform0 t ht) a
  show win0_0.index t a * S4x2048x128.size a + 1 * ((ix3 mm j k : S4x2048x128.Idx) a).val = _
  rw [e1]
  match a with
  | 0 => show 0 * 4 + 1 * mm.val = mm.val; omega
  | 1 => show t.val * 2048 + 1 * j.val = t.val * 2048 + j.val; omega
  | 2 => show 0 * 128 + 1 * k.val = k.val; omega

theorem fetched_g (d) (mm : Fin 4) (j : Fin 2048) (h : t.val * 2048 + j.val < 100000) :
    (dat0 (A0 m) okP okK c).fetched 1 t d (ix2 mm j) = V1 m c (Proc.devRef .tc main_v16) (ix2 mm (⟨t.val * 2048 + j.val, by omega⟩ : Fin 102400)) := by
  refine (win0_1.fill_xinj (grid0.coords t) d ((dat0 (A0 m) okP okK c).blockOf 1 t) (ix2 mm j)).trans ?_
  show (win0_1.blk t).view.read (Elt Ideal) (V1 m c (Proc.devRef .tc main_v16)) _ = _
  blk_simp
  have e0 : cc0_transform_1 (grid0.coords t) = ![0, t.val] := by
    have key : ∀ t : Fin grid0.N, cc0_transform_1 (grid0.coords t) = ![0, t.val] := by decide +kernel
    exact key t
  refine congrArg (V1 m c (Proc.devRef .tc main_v16)) (funext fun a => Fin.ext ?_)
  blk_simp
  have e1 : win0_1.index t a = (![0, t.val] : Fin 2 → ℕ) a := congrFun e0 a
  rw [e1]
  match a with
  | 0 => show 0 * 4 + mm.val = mm.val; omega
  | 1 => show t.val * 2048 + j.val = _; rfl

theorem fetched_w (d) : (dat0 (A0 m) okP okK c).fetched 2 t d = V1 m c (Proc.devRef .tc main_v18) := by
  funext j
  refine (win0_2.fill_xinj (grid0.coords t) d ((dat0 (A0 m) okP okK c).blockOf 2 t) j).trans ?_
  show (win0_2.blk t).view.read (Elt Ideal) (V1 m c (Proc.devRef .tc main_v18)) j = _
  blk_simp
  refine congrArg (V1 m c (Proc.devRef .tc main_v18)) (funext fun a => Fin.ext ?_)
  blk_simp
  rw [show win0_2.index t a = 0 from by match a with | 0 => rfl | 1 => rfl, Nat.zero_mul, Nat.zero_add]

theorem fetched_b (d) : (dat0 (A0 m) okP okK c).fetched 3 t d = V1 m c (Proc.devRef .tc main_v19) := by
  funext j
  refine (win0_3.fill_xinj (grid0.coords t) d ((dat0 (A0 m) okP okK c).blockOf 3 t) j).trans ?_
  show (win0_3.blk t).view.read (Elt Ideal) (V1 m c (Proc.devRef .tc main_v19)) j = _
  blk_simp
  refine congrArg (V1 m c (Proc.devRef .tc main_v19)) (funext fun a => Fin.ext ?_)
  blk_simp
  rw [show win0_3.index t a = 0 from by match a with | 0 => rfl | 1 => rfl, Nat.zero_mul, Nat.zero_add]

variable (H : ∀ c, RealArgs (m ((SparseCore.T c).loc main_arg0)) (m ((SparseCore.T c).loc main_arg2)) (m ((SparseCore.T c).loc main_arg3)) (U m c))

/-- A device's predictions and keys. -/
abbrev xM : Fin 4 → ℕ → ℝ := xR (m ((SparseCore.T c).loc main_arg0)) (m ((SparseCore.T c).loc main_arg2)) (m ((SparseCore.T c).loc main_arg3))
abbrev kM : Fin 4 → ℕ → EReal := kR (m ((SparseCore.T c).loc main_arg0)) (m ((SparseCore.T c).loc main_arg2)) (m ((SparseCore.T c).loc main_arg3)) (U m c)

theorem w_at (k : Fin 128) : V1 m c (Proc.devRef .tc main_v18) (ix2 (0 : Fin 1) k) = m ((SparseCore.T c).loc main_arg2) (ix2 k (0 : Fin 1)) := by
  rw [v18_eq]
  generalize m ((SparseCore.T c).loc main_arg2) = f
  revert f
  intro (f : S128x1.Idx → Elt Ideal .f32)
  pointwise

theorem b_at : V1 m c (Proc.devRef .tc main_v19) (ix2 (0 : Fin 1) (0 : Fin 1)) = m ((SparseCore.T c).loc main_arg3) (Idealize.ShloMosaic.ix1 (0 : Fin 1)) := by
  rw [v19_eq]
  generalize m ((SparseCore.T c).loc main_arg3) = f
  revert f
  intro (f : S1.Idx → Elt Ideal .f32)
  pointwise

theorem g_at (mm : Fin 4) (r : ℕ) (h : r < 100000) : V1 m c (Proc.devRef .tc main_v16) (ix2 mm (⟨r, by omega⟩ : Fin 102400)) = gum (U m c) (ix2 mm (⟨r, h⟩ : Fin 100000)) := by
  rw [v16_eq]
  refine pad_apply_of_inside _ _ _ _ _ _ _ _ _ fun a => ?_
  match a with
  | 0 => show mm.val = 0 + mm.val * (0 + 1); omega
  | 1 => show r = 0 + r * (0 + 1); omega

include H in
theorem rows_ok (h : S4x2048x128.Idx → Elt Ideal .f32) (g : S4x2048.Idx → Elt Ideal .f32) (w : S1x128.Idx → Elt Ideal .f32) (b : S1x1.Idx → Elt Ideal .f32) (mm : Fin 4)
    (hh : ∀ (j : Fin 2048) (k : Fin 128) (hj : t.val * 2048 + j.val < 100000), h (ix3 mm j k) = m ((SparseCore.T c).loc main_arg0) (ix3 mm (⟨t.val * 2048 + j.val, hj⟩ : Fin 100000) k))
    (hg : ∀ (j : Fin 2048), t.val * 2048 + j.val < 100000 → g (ix2 mm j) = nR (U m c) mm (t.val * 2048 + j.val))
    (hw : ∀ k : Fin 128, w (ix2 (0 : Fin 1) k) = m ((SparseCore.T c).loc main_arg2) (ix2 k (0 : Fin 1)))
    (hb : b (ix2 (0 : Fin 1) (0 : Fin 1)) = m ((SparseCore.T c).loc main_arg3) (Idealize.ShloMosaic.ix1 (0 : Fin 1))) :
    BlockOK (okOf (xM m c) mm) t (predOf mm h w b) ∧ BlockOK (okKey (kM m c) mm) t (keyOf mm h g w b) := by
  have hp : ∀ (j : Fin 2048) (hj : t.val * 2048 + j.val < 100000), ((∑ k : Fin 128, w (ix2 (0 : Fin 1) k) * h (ix3 mm j k) : EReal) + b (ix2 (0 : Fin 1) (0 : Fin 1)) : EReal) = ((xM m c mm (t.val * 2048 + j.val) : ℝ) : EReal) := fun j hj => by
    rw [← dot_real (H c) mm (⟨t.val * 2048 + j.val, hj⟩ : Fin 100000), hb]
    refine congrArg (· + _) (Finset.sum_congr rfl fun k _ => ?_)
    rw [hh j k hj, hw, mul_comm]
  refine ⟨fun j hj => ?_, fun j hj => ?_⟩
  · obtain ⟨j, rfl⟩ : ∃ k : Fin 2048, j = Idealize.ShloMosaic.ix1 k := ⟨j 0, funext fun a => by match a with | 0 => rfl⟩
    exact (predOf_at h w b mm j).trans (hp j hj)
  · obtain ⟨j, rfl⟩ : ∃ k : Fin 2048, j = Idealize.ShloMosaic.ix1 k := ⟨j 0, funext fun a => by match a with | 0 => rfl⟩
    refine (keyOf_at h g w b mm j).trans ?_
    rw [hp j hj, hg j hj]
    rfl

include H in
/-- The rows of the first kernel are the predictions and the keys. -/
theorem rows0 : Rows0 (A0 m) (okOf (xM m c)) (okKey (kM m c)) := fun c' t d0 d1 d2 d3 mm => by
  obtain rfl : c' = c := Subsingleton.elim _ _
  exact rows_ok m c' t H _ _ _ _ mm (fun j k hj => fetched_h m c' _ _ t d0 mm j k hj)
    (fun j hj => (fetched_g m c' _ _ t d1 mm j hj).trans ((g_at m c' mm _ hj).trans (gum_at mm ⟨_, hj⟩)))
    (fun k => (congrFun (fetched_w m c' _ _ t d2) _).trans (w_at m c' k)) ((congrFun (fetched_b m c' _ _ t d3) _).trans (b_at m c'))

end Fetched

end Cert.Proof

end
-- ==== Proof.RefOps.lean ====
/-
  The reference's operations read at an index: a segment's greatest, least and sum, a node's own segment's value, and the value at a
  chosen node.
-/
module

public import proofs.«01_k».proof.Proof.Reals
public import proofs.«01_k».proof.Proof.Gen.ReferenceIdeal

@[expose] public section

set_option pp.maxSteps 1000

noncomputable section

namespace Cert.Proof.Ref

open Cert.ReferenceIdeal Cert.ReferenceIdeal.Gen

open Idealize.ShloMosaic
open Idealize.ShloMosaic (ix2 ix3)
open Idealize.ShloMosaic renaming ix1 → jx

/-! ## The gathers -/

theorem gather_node {α : Type} (x : S4x256.Idx → α) (idx : S100000x1.Idx → BitVec 32) (mm : Fin 4) (r : Fin 100000) :
    Host.gather gather_S4x256_S100000x1_S4x100000_0_1_n_n_1_1_41 x idx (ix2 mm r)
      = x (ix2 mm (⟨min (idx (ix2 r (0 : Fin 1))).toInt.toNat 255, by omega⟩ : Fin 256)) := by
  unfold Host.gather
  congr 1
  funext a
  refine Fin.ext ?_
  show GatherDims.start _ (ix2 mm r) idx a + GatherDims.batchCoord _ (ix2 mm r) a + GatherDims.offCoord _ (ix2 mm r) a = _
  match a with
  | 0 =>
    rw [GatherDims.batchCoord_eq_zero _ _ _ (fun h => by cases h)]
    unfold GatherDims.start
    rw [dif_neg (by decide)]
    unfold GatherDims.offCoord
    rw [dif_pos (by decide)]
    show 0 + 0 + mm.val = mm.val
    omega
  | 1 =>
    rw [GatherDims.batchCoord_eq_zero _ _ _ (fun h => by cases h), GatherDims.offCoord_eq_zero _ _ _ (by decide)]
    unfold GatherDims.start
    rw [dif_pos (show (1 : Fin 2) ∈ gather_S4x256_S100000x1_S4x100000_0_1_n_n_1_1_41.startIndexMap from List.mem_singleton.mpr rfl)]
    have hsi : gather_S4x256_S100000x1_S4x100000_0_1_n_n_1_1_41.siIdx (ix2 mm r) ⟨List.idxOf (1 : Fin 2) gather_S4x256_S100000x1_S4x100000_0_1_n_n_1_1_41.startIndexMap,
        List.idxOf_lt_length_iff.2 (List.mem_singleton.mpr rfl)⟩ = ix2 r (0 : Fin 1) := by
      funext b
      refine Fin.ext ?_
      match b with
      | 0 => rfl
      | 1 => rfl
    rw [hsi]
    rfl

theorem gather_chosen {α : Type} (x : S4x100000.Idx → α) (idx : S4x256x1.Idx → BitVec 32) (mm : Fin 4) (b : Fin 256) :
    Host.gather gather_S4x100000_S4x256x1_S4x256_n_1_0_0_1_2_11 x idx (ix2 mm b)
      = x (ix2 mm (⟨min (idx (ix3 mm b (0 : Fin 1))).toInt.toNat 99999, by omega⟩ : Fin 100000)) := by
  unfold Host.gather
  congr 1
  funext a
  refine Fin.ext ?_
  show GatherDims.start _ (ix2 mm b) idx a + GatherDims.batchCoord _ (ix2 mm b) a + GatherDims.offCoord _ (ix2 mm b) a = _
  match a with
  | 0 =>
    rw [GatherDims.start_batching _ _ _ _ (List.mem_singleton.mpr rfl), GatherDims.offCoord_eq_zero _ _ _ (by decide)]
    unfold GatherDims.batchCoord
    rw [dif_pos (show (0 : Fin 2) ∈ gather_S4x100000_S4x256x1_S4x256_n_1_0_0_1_2_11.operandBatchingDims from List.mem_singleton.mpr rfl)]
    show 0 + mm.val + 0 = mm.val
    omega
  | 1 =>
    rw [GatherDims.batchCoord_eq_zero _ _ _ (by decide), GatherDims.offCoord_eq_zero _ _ _ (by decide)]
    unfold GatherDims.start
    rw [dif_pos (show (1 : Fin 2) ∈ gather_S4x100000_S4x256x1_S4x256_n_1_0_0_1_2_11.startIndexMap from List.mem_singleton.mpr rfl)]
    have hsi : gather_S4x100000_S4x256x1_S4x256_n_1_0_0_1_2_11.siIdx (ix2 mm b) ⟨List.idxOf (1 : Fin 2) gather_S4x100000_S4x256x1_S4x256_n_1_0_0_1_2_11.startIndexMap,
        List.idxOf_lt_length_iff.2 (List.mem_singleton.mpr rfl)⟩ = ix3 mm b (0 : Fin 1) := by
      funext c
      refine Fin.ext ?_
      match c with
      | 0 => rfl
      | 1 => rfl
      | 2 => rfl
    rw [hsi]
    rfl

/-! ## The segments' operations -/

section Seg

variable (a1 : S100000.Idx → BitVec 32)

/-- Which nodes are of which segment. -/
def memT : S1x100000x256.Idx → BitVec 1 :=
  cmpi .eq (broadcastInDim S1x100000x256 ![0, 1, 2] bcast_S1x100000x1_S1x100000x256_0_1_2 (broadcastInDim S1x100000x1 ![1] bcast_S100000_S1x100000x1_1 a1)) (broadcastInDim S1x100000x256 ![0, 1, 2] bcast_S1x1x256_S1x100000x256_0_1_2 (broadcastInDim S1x1x256 ![2] bcast_S256_S1x1x256_2 (iotaInDim S256 32 0)))

/-- The nodes' values over the segments, `z` on the nodes of other segments. -/
def maskT {e : EltTy} (v : S4x100000.Idx → Elt Ideal e) (z : S_.Idx → Elt Ideal e) : S4x100000x256.Idx → Elt Ideal e :=
  select (broadcastInDim S4x100000x256 ![0, 1, 2] bcast_S1x100000x256_S4x100000x256_0_1_2 (memT a1)) (broadcastInDim S4x100000x256 ![0, 1, 2] bcast_S4x100000x1_S4x100000x256_0_1_2 (broadcastInDim S4x100000x1 ![0, 1] bcast_S4x100000_S4x100000x1_0_1 v)) (broadcastInDim S4x100000x256 ![] bcast_S_S4x100000x256 (id z))

/-- The nodes' segments as indices. -/
def idxT : S100000x1.Idx → BitVec 32 :=
  broadcastInDim S100000x1 ![0] bcast_S100000_S100000x1_0 (select (cmpi .slt a1 (broadcastInDim S100000 ![] bcast_S_S100000 (constantI S_ 32 0#32))) (addi a1 (broadcastInDim S100000 ![] bcast_S_S100000 (constantI S_ 32 256#32))) a1)

/-- Every segment's greatest, sum and least; every node's own segment's value. -/
def maxT (v : S4x100000.Idx → Ideal .f32) : S4x256.Idx → Ideal .f32 :=
  Host.reduce FloatOps.maximumf (maskT (e := .f32) a1 v (constant (F := Ideal) S_ .f32 0xFF800000#32)) (constant (F := Ideal) S_ .f32 0xFF800000#32) reducesTo_S4x100000x256_S4x256_d1 h_S_
def sumT (v : S4x100000.Idx → Ideal .f32) : S4x256.Idx → Ideal .f32 :=
  Host.reduceAdd (maskT (e := .f32) a1 v (constant (F := Ideal) S_ .f32 0x00000000#32)) (constant (F := Ideal) S_ .f32 0x00000000#32) reducesTo_S4x100000x256_S4x256_d1 h_S_
def minT (v : S4x100000.Idx → BitVec 32) : S4x256.Idx → BitVec 32 :=
  Host.reduce IntOp.minsi (maskT (e := .i32) a1 v (constantI S_ 32 2147483647#32)) (constantI S_ 32 2147483647#32) reducesTo_S4x100000x256_S4x256_d1 h_S_
def takeT {α : Type} (x : S4x256.Idx → α) : S4x100000.Idx → α := Host.gather gather_S4x256_S100000x1_S4x100000_0_1_n_n_1_1_41 x (idxT a1)

variable (hin : ∀ i, (a1 i).toNat < 256)

theorem select_mem {α : Type} {v : BitVec 32} {b : ℕ} (hv : v.toNat < 256) (hb : b < 256) (x y : α) :
    Scalar.select (IntOp.cmpi .eq v (BitVec.ofNat 32 b)) x y = if v.toNat = b then x else y := by
  have h : v = BitVec.ofNat 32 b ↔ v.toNat = b := by
    rw [← BitVec.toNat_inj, BitVec.toNat_ofNat, Nat.mod_eq_of_lt (by omega)]
  by_cases e : v.toNat = b
  · rw [if_pos e, h.mpr e]; simp [Scalar.select, IntOp.cmpi]
  · rw [if_neg e]; simp [Scalar.select, IntOp.cmpi, beq_eq_false_iff_ne.mpr (mt h.mp e)]

include hin in
theorem maskT_at {e : EltTy} (v : S4x100000.Idx → Elt Ideal e) (z : S_.Idx → Elt Ideal e) (mm : Fin 4) (r : Fin 100000) (b : Fin 256) :
    maskT a1 v z (ix3 mm r b) = if (a1 (jx r)).toNat = b.val then v (ix2 mm r) else z ValueIdx.ix0 := by
  pointwise [maskT, memT]
  rw [select_mem (hin _) b.isLt]
  rfl

include hin in
theorem maxT_at (v : S4x100000.Idx → Ideal .f32) (mm : Fin 4) (b : Fin 256) :
    maxT a1 v (ix2 mm b) = (Finset.univ : Finset (Fin 100000)).fold max (⊥ : EReal) fun r => if (a1 (jx r)).toNat = b.val then v (ix2 mm r) else ⊥ := by
  pointwise [maxT]
  simp only [maskT_at a1 hin]
  rw [ofBits_ninf]
  exact congrArg (fun z => Finset.fold max (⊥ : EReal) z Finset.univ) (funext fun r => by
    show (if _ then _ else Ideal.ofBits .f32 4286578688#32) = _
    rw [ofBits_ninf])

include hin in
theorem sumT_at (v : S4x100000.Idx → Ideal .f32) (mm : Fin 4) (b : Fin 256) :
    sumT a1 v (ix2 mm b) = (∑ r : Fin 100000, if (a1 (jx r)).toNat = b.val then v (ix2 mm r) else 0 : EReal) := by
  pointwise [sumT]
  simp only [maskT_at a1 hin]
  refine Finset.sum_congr rfl fun r _ => ?_
  show (if _ then _ else Ideal.ofBits .f32 0#32) = _
  rw [Ideal.ofBits_zero_f32]

include hin in
theorem minT_at (v : S4x100000.Idx → BitVec 32) (mm : Fin 4) (b : Fin 256) :
    minT a1 v (ix2 mm b) = (Finset.univ : Finset (Fin 100000)).fold IntOp.minsi 2147483647#32 fun r => if (a1 (jx r)).toNat = b.val then v (ix2 mm r) else 2147483647#32 := by
  pointwise [minT]
  simp only [maskT_at a1 hin]
  rfl

include hin in
theorem idxT_at (r : Fin 100000) : idxT a1 (ix2 r (0 : Fin 1)) = a1 (jx r) := by
  pointwise [idxT]
  have := hin (jx r)
  have h : IntOp.cmpi .slt (a1 (jx r)) 0#32 = 0#1 := by
    simp only [IntOp.cmpi, BitVec.slt_eq_decide]
    rw [BitVec.toInt_eq_toNat_of_lt (by omega)]
    rw [decide_eq_false (by simp)]
    rfl
  unfold Scalar.select
  rw [h]
  rfl

include hin in
theorem takeT_at {α : Type} (x : S4x256.Idx → α) (mm : Fin 4) (r : Fin 100000) : takeT a1 x (ix2 mm r) = x (ix2 mm (⟨(a1 (jx r)).toNat, hin _⟩ : Fin 256)) := by
  unfold takeT
  have := hin (jx r)
  refine (gather_node x _ mm r).trans (congrArg (fun k => x (ix2 mm k)) (Fin.ext ?_))
  show min (idxT a1 (ix2 r (0 : Fin 1))).toInt.toNat 255 = (a1 (jx r)).toNat
  rw [idxT_at a1 hin, BitVec.toInt_eq_toNat_of_lt (by omega)]
  omega

end Seg

end Cert.Proof.Ref

end
-- ==== Proof.PreVal.lean ====
/-
  What the equation's precondition says over the reals: the nodes, the weights and the offset are reals, every segment has a node.
-/
module

public import proofs.«01_k».proof.Proof.PreOk
public import proofs.«01_k».proof.Proof.RefOps

@[expose] public section

set_option pp.maxSteps 400

noncomputable section

namespace Cert.Proof.Pre

open Cert.Pre_ok

open Idealize.ShloMosaic
open Idealize.ShloMosaic (ix2 ix3)
open Idealize.ShloMosaic renaming ix1 → jx

theorem ofBool_one {p : Prop} [Decidable p] (h : BitVec.ofBool (decide p) = 1#1) : p := by
  by_cases hp : p
  · exact hp
  · rw [decide_eq_false hp] at h; exact absurd h (by decide)

theorem ofBits_inf : Ideal.ofBits .f32 2139095040#32 = ⊤ := by
  simp [Ideal.ofBits, Ideal.ieee]

/-- A value whose size is below infinity is a real. -/
theorem real_of_abs (x : EReal) (h : max x (-x) < ⊤) : x = (x.toReal : EReal) := by
  refine (EReal.coe_toReal ?_ ?_).symm
  · rintro rfl; simp at h
  · rintro rfl; simp at h

theorem fold_ori {ι : Type} [DecidableEq ι] (f : ι → BitVec 1) (S : Finset ι) : S.fold IntOp.ori 0#1 f = 1#1 → ∃ i ∈ S, f i = 1#1 := by
  induction S using Finset.induction with
  | empty => intro h; rw [Finset.fold_empty] at h; exact absurd h (by decide)
  | insert a S ha ih =>
    intro h
    rw [Finset.fold_insert ha] at h
    rcases IntOp.ori_eq_one.mp h with h | h
    · exact ⟨a, Finset.mem_insert_self _ _, h⟩
    · obtain ⟨i, hi, e⟩ := ih h
      exact ⟨i, Finset.mem_insert_of_mem hi, e⟩

variable [Facts]
variable (a0 : S4x100000x128.Idx → Ideal .f32) (a1 : S100000.Idx → BitVec 32) (a2 : S128x1.Idx → Ideal .f32) (a3 : S1.Idx → Ideal .f32) (a4 : Cert.KernelIdeal.S4x100000.Idx → Ideal .f32)

open Facts

theorem ori_at (b : Fin 256) : Host.reduce IntOp.ori (cmpi .eq (broadcastInDim S100000x256 ![0, 1] bcast_S100000x1_S100000x256_0_1 (broadcastInDim S100000x1 ![0] bcast_S100000_S100000x1_0 a1)) (broadcastInDim S100000x256 ![0, 1] bcast_S1x256_S100000x256_0_1 (broadcastInDim S1x256 ![1] bcast_S256_S1x256_1 (iotaInDim S256 32 0)))) (constantI S_ 1 0#1) reducesTo_S100000x256_S256_d0 h_S_ (jx b)
    = (Finset.univ : Finset (Fin 100000)).fold IntOp.ori 0#1 fun r => IntOp.cmpi .eq (a1 (jx r)) (BitVec.ofNat 32 b.val) := by
  pointwise

theorem real_of_ok (h : fn (F := Ideal) a0 a1 a2 a3 = fun _ => 1#1) (hu : ∀ i, ((-eps : ℝ) : EReal) < a4 i) :
    RealArgs a0 a2 a3 a4 ∧ ∀ b : Fin 256, ∃ r : Fin 100000, (a1 (jx r)).toNat = b.val := by
  have : Subsingleton S_.Idx := ⟨fun _ _ => funext fun a => a.elim0⟩
  have e := congrFun h (fun a => a.elim0)
  unfold fn fn_part1 at e
  obtain ⟨e, eb⟩ := IntOp.andi_eq_one.mp e
  obtain ⟨e, ew⟩ := IntOp.andi_eq_one.mp e
  obtain ⟨e, eh⟩ := IntOp.andi_eq_one.mp e
  obtain ⟨e, es⟩ := IntOp.andi_eq_one.mp e
  have eb := Host.reduce_andi_all _ _ _ _ _ eb
  have ew := Host.reduce_andi_all _ _ _ _ _ ew
  have eh := Host.reduce_andi_all _ _ _ _ _ eh
  have es := Host.reduce_andi_all _ _ _ _ _ es
  refine ⟨⟨fun i => real_of_abs _ ?_, fun i => real_of_abs _ ?_, fun i => real_of_abs _ ?_, hu⟩, fun b => ?_⟩
  · have := ofBool_one (p := max (a0 i) (-(a0 i)) < Ideal.ofBits .f32 2139095040#32) (eh i)
    rwa [ofBits_inf] at this
  · have := ofBool_one (p := max (a2 i) (-(a2 i)) < Ideal.ofBits .f32 2139095040#32) (ew i)
    rwa [ofBits_inf] at this
  · have := ofBool_one (p := max (a3 i) (-(a3 i)) < Ideal.ofBits .f32 2139095040#32) (eb i)
    rwa [ofBits_inf] at this
  · obtain ⟨r, -, hr⟩ := fold_ori _ _ ((ori_at a1 b).symm.trans (es (jx b)))
    refine ⟨r, ?_⟩
    have := congrArg BitVec.toNat (IntOp.cmpi_eq.mp hr)
    rw [BitVec.toNat_ofNat] at this
    omega

end Cert.Proof.Pre

end
-- ==== Proof.RefVal.lean ====
/-
  The reference's results: every segment's chosen node, its log probability and the segment's negative entropy.
-/
module

public import proofs.«01_k».proof.Proof.RefOps

@[expose] public section

set_option pp.maxSteps 1000

noncomputable section

namespace Cert.Proof.Ref

open Cert.ReferenceIdeal Cert.ReferenceIdeal.Gen

open Idealize.ShloMosaic
open Idealize.ShloMosaic (ix2 ix3)
open Idealize.ShloMosaic renaming ix1 → jx

/-! ## A segment's operations on reals -/

section Real

variable (a1 : S100000.Idx → BitVec 32)

/-- A node's segment, and a segment's nodes. -/
abbrev sg (r : ℕ) : ℕ := if h : r < 100000 then (a1 (jx (⟨r, h⟩ : Fin 100000))).toNat else 256
abbrev Seg (b : ℕ) : Finset ℕ := (Finset.range 100000).filter fun r => sg a1 r = b

/-- The first row attaining the greatest key. -/
def best (S : Finset ℕ) (kf : ℕ → EReal) : ℕ := if h : S.Nonempty then (exists_best S kf h).choose else 0

theorem best_spec {S : Finset ℕ} (kf : ℕ → EReal) (h : S.Nonempty) : IsBest S kf (best S kf) := by
  unfold best
  rw [dif_pos h]
  exact (exists_best S kf h).choose_spec

variable {a1}

theorem sg_fin (r : Fin 100000) : sg a1 r.val = (a1 (jx r)).toNat := by
  unfold sg
  rw [dif_pos r.isLt]

theorem mem_seg {b : ℕ} (r : Fin 100000) : r.val ∈ Seg a1 b ↔ (a1 (jx r)).toNat = b := by
  rw [Finset.mem_filter, sg_fin]
  exact ⟨fun h => h.2, fun h => ⟨Finset.mem_range.mpr r.isLt, h⟩⟩

theorem seg_fin {b r : ℕ} (h : r ∈ Seg a1 b) : ∃ q : Fin 100000, q.val = r ∧ (a1 (jx q)).toNat = b := by
  have hl := Finset.mem_range.mp (Finset.mem_filter.mp h).1
  exact ⟨⟨r, hl⟩, rfl, (mem_seg (⟨r, hl⟩ : Fin 100000)).mp h⟩

variable (hin : ∀ i, (a1 i).toNat < 256) (mm : Fin 4) (b : Fin 256)

include hin in
theorem max_real (v : S4x100000.Idx → Ideal .f32) (y : ℕ → EReal) (hv : ∀ r : Fin 100000, v (ix2 mm r) = y r.val) {r₁ : ℕ} (h : IsBest (Seg a1 b.val) y r₁) :
    maxT a1 v (ix2 mm b) = y r₁ := by
  rw [maxT_at a1 hin]
  refine fold_max_eq _ _ (fun r => ?_) ?_
  · by_cases e : (a1 (jx r)).toNat = b.val
    · rw [if_pos e, hv]
      exact (h.2 _ ((mem_seg r).mpr e)).1
    · rw [if_neg e]; exact bot_le
  · obtain ⟨q, hq, e⟩ := seg_fin h.1
    exact ⟨q, by rw [if_pos e, hv, hq]⟩

include hin in
theorem sum_real (v : S4x100000.Idx → Ideal .f32) (y : ℕ → ℝ) (hv : ∀ r : Fin 100000, v (ix2 mm r) = ((y r.val : ℝ) : EReal)) :
    sumT a1 v (ix2 mm b) = ((∑ r ∈ Seg a1 b.val, y r : ℝ) : EReal) := by
  rw [sumT_at a1 hin, Finset.sum_filter, ← Fin.sum_univ_eq_sum_range (fun r => if sg a1 r = b.val then y r else 0), coe_sum]
  refine Finset.sum_congr rfl fun r _ => ?_
  rw [sg_fin]
  by_cases e : (a1 (jx r)).toNat = b.val
  · rw [if_pos e, if_pos e, hv]
  · rw [if_neg e, if_neg e]; rfl

/-- The first row attaining the greatest value, found as the least of the rows that reach their segment's greatest. -/
theorem min_real (v : S4x100000.Idx → BitVec 32) (y : ℕ → EReal) (hin : ∀ i, (a1 i).toNat < 256) {r₁ : ℕ} (h : IsBest (Seg a1 b.val) y r₁)
    (hv : ∀ r : Fin 100000, (a1 (jx r)).toNat = b.val → v (ix2 mm r) = if y r₁ ≤ y r.val then BitVec.ofNat 32 r.val else 100000#32) :
    minT a1 v (ix2 mm b) = BitVec.ofNat 32 r₁ := by
  obtain ⟨q, hq, e⟩ := seg_fin h.1
  have hlt : r₁ < 100000 := hq ▸ q.isLt
  have t1 := toInt_row r₁ (by omega)
  rw [minT_at a1 hin]
  refine fold_minsi_eq _ _ _ (by rw [t1]; show (r₁ : ℤ) ≤ 2147483647; omega) (fun r => ?_) ⟨q, by rw [if_pos e, hv q e, hq, if_pos le_rfl]⟩
  rw [t1]
  by_cases e' : (a1 (jx r)).toNat = b.val
  · rw [if_pos e', hv r e']
    by_cases hk : y r₁ ≤ y r.val
    · rw [if_pos hk, toInt_row _ (by omega)]
      have h2 := h.2 _ ((mem_seg r).mpr e')
      exact_mod_cast h2.2 (le_antisymm h2.1 hk)
    · rw [if_neg hk]
      show (r₁ : ℤ) ≤ 100000
      omega
  · rw [if_neg e']
    show (r₁ : ℤ) ≤ 2147483647
    omega

theorem isBest_shift {S : Finset ℕ} {kf y : ℕ → EReal} {c : ℝ} {r : ℕ} (hy : ∀ q ∈ S, y q = kf q - (c : EReal)) (h : IsBest S kf r) : IsBest S y r :=
  ⟨h.1, fun q hq => by
    rw [hy q hq, hy r h.1]
    refine ⟨EReal.sub_le_sub (h.2 q hq).1 le_rfl, fun e => (h.2 q hq).2 ?_⟩
    have := congrArg (· + (c : EReal)) e
    simpa only [EReal.sub_add_cancel] using this⟩

end Real

/-! ## The reference's arrays -/

section Arrays

variable (a0 : S4x100000x128.Idx → Ideal .f32) (a1 : S100000.Idx → BitVec 32) (a2 : S128x1.Idx → Ideal .f32) (a3 : S1.Idx → Ideal .f32) (a4 : S4x100000.Idx → Ideal .f32)

/-- The predictions. -/
def t18 : S4x100000.Idx → Ideal .f32 :=
  shapeCast _ (addf (Host.dotGeneral dot_S4x100000x128_S128x1_S4x100000x1_2_0_01_1_n_n none a0 a2) (broadcastInDim S4x100000x1 ![0, 1, 2] bcast_S1x1x1_S4x100000x1_0_1_2 (broadcastInDim S1x1x1 ![2] bcast_S1_S1x1x1_2 a3))) shapeCasts_S4x100000x1_S4x100000

/-- Their exponentials, the greatest of the segment taken off. -/
def t30 : S4x100000.Idx → Ideal .f32 := Host.exp (subf (t18 a0 a2 a3) (takeT a1 (maxT a1 (t18 a0 a2 a3))))

/-- The probabilities, their logarithms, the keys. -/
def t41 : S4x100000.Idx → Ideal .f32 := Host.divf (t30 a0 a1 a2 a3) (takeT a1 (sumT a1 (t30 a0 a1 a2 a3)))
def t42 : S4x100000.Idx → Ideal .f32 := Host.log (t41 a0 a1 a2 a3)
def t43 : S4x100000.Idx → Ideal .f32 := addf (t42 a0 a1 a2 a3) (gum (F := Ideal) a4)

/-- A node's own number where it reaches its segment's greatest key, the number of nodes elsewhere. -/
def tInd : S4x100000.Idx → BitVec 32 :=
  select (cmpf .oge (t43 a0 a1 a2 a3 a4) (takeT a1 (maxT a1 (t43 a0 a1 a2 a3 a4)))) (broadcastInDim S4x100000 ![0, 1] bcast_S1x100000_S4x100000_0_1 (broadcastInDim S1x100000 ![1] bcast_S100000_S1x100000_1 (iotaInDim S100000 32 0))) (broadcastInDim S4x100000 ![] bcast_S_S4x100000 (id (constantI S_ 32 100000#32)))

/-- The three results. -/
def t60 : S4x256.Idx → BitVec 32 := minT a1 (tInd a0 a1 a2 a3 a4)
def t5 : S4x256x1.Idx → BitVec 32 :=
  shapeCast _ (select (cmpi .slt (t60 a0 a1 a2 a3 a4) (broadcastInDim S4x256 ![] bcast_S_S4x256 (constantI S_ 32 0#32))) (addi (t60 a0 a1 a2 a3 a4) (broadcastInDim S4x256 ![] bcast_S_S4x256 (constantI S_ 32 100000#32))) (t60 a0 a1 a2 a3 a4)) shapeCasts_S4x256_S4x256x1
def t61 : S4x256.Idx → Ideal .f32 :=
  select (Host.reduce IntOp.andi (andi (cmpi .sge (t5 a0 a1 a2 a3 a4) (broadcastInDim S4x256x1 ![] bcast_S_S4x256x1 (constantI S_ 32 0#32))) (cmpi .sle (t5 a0 a1 a2 a3 a4) (broadcastInDim S4x256x1 ![0, 1, 2] bcast_S1x1x1_S4x256x1_0_1_2 (broadcastInDim S1x1x1 ![2] bcast_S1_S1x1x1_2 (constantI S1 32 99999#32))))) (constantI S_ 1 1#1) reducesTo_S4x256x1_S4x256_d2 h_S_) (Host.gather gather_S4x100000_S4x256x1_S4x256_n_1_0_0_1_2_11 (t42 a0 a1 a2 a3) (t5 a0 a1 a2 a3 a4)) (broadcastInDim S4x256 ![] bcast_S_S4x256 (constant S_ .f32 0x7FC00000#32))
def t65 : S4x256.Idx → Ideal .f32 := sumT a1 (mulf (t41 a0 a1 a2 a3) (t42 a0 a1 a2 a3))

variable {a0 a1 a2 a3 a4} (H : RealArgs a0 a2 a3 a4) (hin : ∀ i, (a1 i).toNat < 256) (hne : ∀ b : Fin 256, (Seg a1 b.val).Nonempty) (mm : Fin 4)

include H in
theorem t18_at (r : Fin 100000) : t18 a0 a2 a3 (ix2 mm r) = ((xR a0 a2 a3 mm r.val : ℝ) : EReal) := by
  rw [← dot_real H mm r]
  pointwise [t18]

/-- A segment's greatest prediction and its sum of exponentials. -/
abbrev muS (a0 : S4x100000x128.Idx → Ideal .f32) (a1 : S100000.Idx → BitVec 32) (a2 : S128x1.Idx → Ideal .f32) (a3 : S1.Idx → Ideal .f32) (mm : Fin 4) (b : ℕ) : ℝ := xR a0 a2 a3 mm (best (Seg a1 b) fun q => ((xR a0 a2 a3 mm q : ℝ) : EReal))
abbrev expS (a0 : S4x100000x128.Idx → Ideal .f32) (a1 : S100000.Idx → BitVec 32) (a2 : S128x1.Idx → Ideal .f32) (a3 : S1.Idx → Ideal .f32) (mm : Fin 4) (b : ℕ) : ℝ := ∑ q ∈ Seg a1 b, Real.exp (xR a0 a2 a3 mm q)

include H hin hne in
theorem t30_at (r : Fin 100000) : t30 a0 a1 a2 a3 (ix2 mm r) = ((Real.exp (xR a0 a2 a3 mm r.val - muS a0 a1 a2 a3 mm (sg a1 r.val)) : ℝ) : EReal) := by
  pointwise [t30]
  rw [takeT_at a1 hin, t18_at H, max_real hin mm _ _ (fun q => ((xR a0 a2 a3 mm q : ℝ) : EReal)) (t18_at H mm) (best_spec _ (hne _)), ← EReal.coe_sub, sg_fin]
  rfl

include hne in
theorem expS_pos (b : Fin 256) : 0 < expS a0 a1 a2 a3 mm b.val := sumExp_pos (hne b)

include H hin hne in
theorem sum30 (b : Fin 256) : sumT a1 (t30 a0 a1 a2 a3) (ix2 mm b) = ((Real.exp (- muS a0 a1 a2 a3 mm b.val) * expS a0 a1 a2 a3 mm b.val : ℝ) : EReal) := by
  rw [sum_real hin mm b _ (fun q => Real.exp (xR a0 a2 a3 mm q - muS a0 a1 a2 a3 mm (sg a1 q))) (t30_at H hin hne mm), Finset.mul_sum]
  refine congrArg (fun z : ℝ => (z : EReal)) (Finset.sum_congr rfl fun r hr => ?_)
  rw [(Finset.mem_filter.mp hr).2, ← Real.exp_add]
  congr 1
  ring

include H hin hne in
theorem t41_at (r : Fin 100000) : t41 a0 a1 a2 a3 (ix2 mm r) = ((Real.exp (xR a0 a2 a3 mm r.val) / expS a0 a1 a2 a3 mm (sg a1 r.val) : ℝ) : EReal) := by
  pointwise [t41]
  have hp := expS_pos (a0 := a0) (a2 := a2) (a3 := a3) hne mm (⟨(a1 (jx r)).toNat, hin _⟩ : Fin 256)
  rw [takeT_at a1 hin, t30_at H hin hne, sum30 H hin hne, div_coe _ _ (mul_ne_zero (Real.exp_ne_zero _) hp.ne'), sg_fin]
  rw [sub_eq_add_neg, Real.exp_add, mul_comm (Real.exp (xR a0 a2 a3 mm r.val)), mul_div_mul_left _ _ (Real.exp_ne_zero _)]

include H hin hne in
theorem t42_at (r : Fin 100000) : t42 a0 a1 a2 a3 (ix2 mm r) = ((xR a0 a2 a3 mm r.val - Real.log (expS a0 a1 a2 a3 mm (sg a1 r.val)) : ℝ) : EReal) := by
  pointwise [t42]
  have hp := expS_pos (a0 := a0) (a2 := a2) (a3 := a3) hne mm (⟨(a1 (jx r)).toNat, hin _⟩ : Fin 256)
  rw [t41_at H hin hne, sg_fin, log_coe _ (div_pos (Real.exp_pos _) hp), Real.log_div (Real.exp_ne_zero _) hp.ne', Real.log_exp]

include H hin hne in
theorem t43_at (r : Fin 100000) : t43 a0 a1 a2 a3 a4 (ix2 mm r) = kR a0 a2 a3 a4 mm r.val - ((Real.log (expS a0 a1 a2 a3 mm (sg a1 r.val)) : ℝ) : EReal) := by
  have e : t43 a0 a1 a2 a3 a4 (ix2 mm r) = (t42 a0 a1 a2 a3 (ix2 mm r) + gum (F := Ideal) a4 (ix2 mm r) : EReal) := rfl
  rw [e, t42_at H hin hne, gum_at, EReal.coe_sub, sub_eq_add_neg, add_right_comm]
  rfl

variable (b : Fin 256) {r₀ : ℕ} (hr : IsBest (Seg a1 b.val) (kR a0 a2 a3 a4 mm) r₀)

include hr in
theorem best43 : IsBest (Seg a1 b.val) (fun q => kR a0 a2 a3 a4 mm q - ((Real.log (expS a0 a1 a2 a3 mm (sg a1 q)) : ℝ) : EReal)) r₀ :=
  isBest_shift (c := Real.log (expS a0 a1 a2 a3 mm b.val)) (fun q hq => by rw [(Finset.mem_filter.mp hq).2]) hr

theorem iota_at (r : Fin 100000) : (broadcastInDim S4x100000 ![0, 1] bcast_S1x100000_S4x100000_0_1 (broadcastInDim S1x100000 ![1] bcast_S100000_S1x100000_1 (iotaInDim S100000 32 0)) : S4x100000.Idx → BitVec 32) (ix2 mm r)
    = BitVec.ofNat 32 r.val := by
  pointwise

theorem sel_at (f g : S4x100000.Idx → Ideal .f32) (p q : S4x100000.Idx → BitVec 32) (i : S4x100000.Idx) :
    select (cmpf .oge f g) p q i = if (g i : EReal) ≤ f i then p i else q i := by
  pointwise

theorem hundred_at (i : S4x100000.Idx) : (broadcastInDim S4x100000 ![] bcast_S_S4x100000 (id (constantI S_ 32 100000#32)) : S4x100000.Idx → BitVec 32) i = 100000#32 := rfl

theorem tInd_at (r : Fin 100000) : tInd a0 a1 a2 a3 a4 (ix2 mm r)
    = if (takeT a1 (maxT a1 (t43 a0 a1 a2 a3 a4)) (ix2 mm r) : EReal) ≤ t43 a0 a1 a2 a3 a4 (ix2 mm r) then BitVec.ofNat 32 r.val else 100000#32 := by
  unfold tInd
  rw [sel_at, iota_at, hundred_at]

include H hin hne hr in
theorem tInd_val (r : Fin 100000) (e : (a1 (jx r)).toNat = b.val) : tInd a0 a1 a2 a3 a4 (ix2 mm r)
    = if kR a0 a2 a3 a4 mm r₀ - ((Real.log (expS a0 a1 a2 a3 mm (sg a1 r₀)) : ℝ) : EReal) ≤ kR a0 a2 a3 a4 mm r.val - ((Real.log (expS a0 a1 a2 a3 mm (sg a1 r.val)) : ℝ) : EReal) then BitVec.ofNat 32 r.val else 100000#32 := by
  have hb := best43 mm b hr
  have e2 : (⟨(a1 (jx r)).toNat, hin _⟩ : Fin 256) = b := Fin.ext e
  rw [tInd_at, takeT_at a1 hin, e2, max_real hin mm b _ _ (t43_at H hin hne mm) hb, t43_at H hin hne]

include H hin hne hr in
theorem t60_at : t60 a0 a1 a2 a3 a4 (ix2 mm b) = BitVec.ofNat 32 r₀ := by
  unfold t60
  exact min_real mm b _ _ hin (best43 mm b hr) (tInd_val H hin hne mm b hr)

theorem t5_at : t5 a0 a1 a2 a3 a4 (ix3 mm b (0 : Fin 1)) = Scalar.select (IntOp.cmpi .slt (t60 a0 a1 a2 a3 a4 (ix2 mm b)) 0#32) (IntOp.addi (t60 a0 a1 a2 a3 a4 (ix2 mm b)) 100000#32) (t60 a0 a1 a2 a3 a4 (ix2 mm b)) := by
  pointwise [t5]

include H hin hne hr in
theorem t5_val : t5 a0 a1 a2 a3 a4 (ix3 mm b (0 : Fin 1)) = BitVec.ofNat 32 r₀ := by
  have hlt : r₀ < 100000 := Finset.mem_range.mp (Finset.mem_filter.mp hr.1).1
  rw [t5_at, t60_at H hin hne mm b hr]
  have h : IntOp.cmpi .slt (BitVec.ofNat 32 r₀) 0#32 = 0#1 := by
    simp only [IntOp.cmpi, BitVec.slt_eq_decide]
    rw [toInt_row _ (by omega), decide_eq_false (by simp)]
    rfl
  unfold Scalar.select
  rw [h]
  rfl

theorem t61_read : t61 a0 a1 a2 a3 a4 (ix2 mm b) = Scalar.select
      ((Finset.univ : Finset (Fin 1)).fold IntOp.andi 1#1 (fun x => IntOp.andi (IntOp.cmpi .sge (t5 a0 a1 a2 a3 a4 (ix3 mm b x)) 0#32)
            (IntOp.cmpi .sle (t5 a0 a1 a2 a3 a4 (ix3 mm b x)) 99999#32)))
      (Host.gather gather_S4x100000_S4x256x1_S4x256_n_1_0_0_1_2_11 (t42 a0 a1 a2 a3) (t5 a0 a1 a2 a3 a4) (ix2 mm b))
      (Ideal.ofBits FTy.f32 2143289344#32) := by
  pointwise [t61]

include H hin hne hr in
theorem t61_at : t61 a0 a1 a2 a3 a4 (ix2 mm b) = ((xR a0 a2 a3 mm r₀ - Real.log (expS a0 a1 a2 a3 mm b.val) : ℝ) : EReal) := by
  have hlt : r₀ < 100000 := Finset.mem_range.mp (Finset.mem_filter.mp hr.1).1
  have h5 := t5_val H hin hne mm b hr
  rw [t61_read]
  rw [gather_chosen]
  have eg : t42 a0 a1 a2 a3 (ix2 mm (⟨min (t5 a0 a1 a2 a3 a4 (ix3 mm b (0 : Fin 1))).toInt.toNat 99999, by omega⟩ : Fin 100000))
      = ((xR a0 a2 a3 mm r₀ - Real.log (expS a0 a1 a2 a3 mm b.val) : ℝ) : EReal) := by
    have e0 : (⟨min (t5 a0 a1 a2 a3 a4 (ix3 mm b (0 : Fin 1))).toInt.toNat 99999, by omega⟩ : Fin 100000) = ⟨r₀, hlt⟩ := Fin.ext (by
      show min (t5 a0 a1 a2 a3 a4 (ix3 mm b (0 : Fin 1))).toInt.toNat 99999 = r₀
      rw [h5, toInt_row _ (by omega)]
      omega)
    rw [e0, t42_at H hin hne]
    have := (Finset.mem_filter.mp hr.1).2
    rw [this]
  have c0 : IntOp.cmpi .sge (BitVec.ofNat 32 r₀) 0#32 = 1#1 := by
    rw [IntOp.cmpi_sge, toInt_row r₀ (by omega)]; show (0 : ℤ) ≤ r₀; omega
  have c1 : IntOp.cmpi .sle (BitVec.ofNat 32 r₀) 99999#32 = 1#1 := by
    rw [IntOp.cmpi_sle, toInt_row r₀ (by omega)]; show (r₀ : ℤ) ≤ 99999; omega
  have hf : (Finset.univ : Finset (Fin 1)).fold IntOp.andi 1#1 (fun x => IntOp.andi (IntOp.cmpi .sge (t5 a0 a1 a2 a3 a4 (ix3 mm b x)) 0#32)
            (IntOp.cmpi .sle (t5 a0 a1 a2 a3 a4 (ix3 mm b x)) 99999#32)) = 1#1 := by
    rw [Finset.univ_unique, Finset.fold_singleton]
    show IntOp.andi (IntOp.andi (IntOp.cmpi .sge (t5 a0 a1 a2 a3 a4 (ix3 mm b (0 : Fin 1))) 0#32) (IntOp.cmpi .sle (t5 a0 a1 a2 a3 a4 (ix3 mm b (0 : Fin 1))) 99999#32)) 1#1 = 1#1
    rw [h5, c0, c1]
    rfl
  rw [hf]
  exact eg

include H hin hne in
theorem t65_at : t65 a0 a1 a2 a3 (ix2 mm b) = (((∑ r ∈ Seg a1 b.val, Real.exp (xR a0 a2 a3 mm r) * xR a0 a2 a3 mm r) / expS a0 a1 a2 a3 mm b.val - Real.log (expS a0 a1 a2 a3 mm b.val) : ℝ) : EReal) := by
  have hp := expS_pos (a0 := a0) (a2 := a2) (a3 := a3) hne mm b
  unfold t65
  rw [sum_real hin mm b _ (fun q => Real.exp (xR a0 a2 a3 mm q) / expS a0 a1 a2 a3 mm (sg a1 q) * (xR a0 a2 a3 mm q - Real.log (expS a0 a1 a2 a3 mm (sg a1 q)))) fun r => by
    have e : mulf (t41 a0 a1 a2 a3) (t42 a0 a1 a2 a3) (ix2 mm r) = (t41 a0 a1 a2 a3 (ix2 mm r) * t42 a0 a1 a2 a3 (ix2 mm r) : EReal) := rfl
    rw [e, t41_at H hin hne, t42_at H hin hne, ← EReal.coe_mul]]
  refine congrArg (fun z : ℝ => (z : EReal)) ?_
  have e : ∀ r ∈ Seg a1 b.val, Real.exp (xR a0 a2 a3 mm r) / expS a0 a1 a2 a3 mm (sg a1 r) * (xR a0 a2 a3 mm r - Real.log (expS a0 a1 a2 a3 mm (sg a1 r)))
      = (Real.exp (xR a0 a2 a3 mm r) * xR a0 a2 a3 mm r) / expS a0 a1 a2 a3 mm b.val - Real.exp (xR a0 a2 a3 mm r) * (Real.log (expS a0 a1 a2 a3 mm b.val) / expS a0 a1 a2 a3 mm b.val) := fun r hr => by
    rw [(Finset.mem_filter.mp hr).2]
    ring
  rw [Finset.sum_congr rfl e, Finset.sum_sub_distrib, ← Finset.sum_div, ← Finset.sum_mul, mul_div_cancel₀ _ hp.ne']

end Arrays

end Cert.Proof.Ref

end
-- ==== Proof.RefRun.lean ====
/-
  A run of the reference ends with its three results in terms of the arguments and of the numbers drawn.
-/
module

public import proofs.«01_k».proof.Proof.RefVal
public import proofs.«01_k».proof.Proof.RefLine

@[expose] public section

set_option pp.maxSteps 400

noncomputable section

namespace Cert.Proof.Ref

open Cert.ReferenceIdeal Cert.ReferenceIdeal.Gen

open Idealize.ShloMosaic
open Idealize.SL.Sem

section Terms

variable (V : Valuation τ sig (Elt Ideal))

abbrev b0 : S4x100000x128.Idx → Ideal .f32 := V (Proc.devRef .tc main_arg0)
abbrev b1 : S100000.Idx → BitVec 32 := V (Proc.devRef .tc main_arg1)
abbrev b2 : S128x1.Idx → Ideal .f32 := V (Proc.devRef .tc main_arg2)
abbrev b3 : S1.Idx → Ideal .f32 := V (Proc.devRef .tc main_arg3)
abbrev b4 : S4x100000.Idx → Ideal .f32 := V (Proc.devRef .tc main_v7)

theorem mem_term : res_main_v21 V = memT (b1 V) := rfl

theorem pred_term : res_main_v26 V = t18 (b0 V) (b2 V) (b3 V) := rfl

theorem exp_term : res_main_v38 V = t30 (b0 V) (b1 V) (b2 V) (b3 V) := by
  unfold res_main_v38
  rw [mem_term, pred_term]
  rfl

theorem prob_term : res_main_v49 V = t41 (b0 V) (b1 V) (b2 V) (b3 V) := by
  unfold res_main_v49
  rw [mem_term, exp_term]
  rfl

theorem log_term : res_main_v50 V = t42 (b0 V) (b1 V) (b2 V) (b3 V) := by
  unfold res_main_v50
  rw [prob_term]
  rfl

theorem key_term : res_main_v51 V = t43 (b0 V) (b1 V) (b2 V) (b3 V) (b4 V) := by
  unfold res_main_v51
  rw [log_term]
  rfl

theorem chosen_term : res_main_v68 V = t60 (b0 V) (b1 V) (b2 V) (b3 V) (b4 V) := by
  unfold res_main_v68
  rw [mem_term, key_term]
  rfl

theorem place_term : res_main_call6_v5 V = t5 (b0 V) (b1 V) (b2 V) (b3 V) (b4 V) := by
  unfold res_main_call6_v5
  rw [chosen_term]
  rfl

end Terms

theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v68) = t60 (m ((c.tc : Thread nD τ).loc main_arg0)) (m ((c.tc : Thread nD τ).loc main_arg1)) (m ((c.tc : Thread nD τ).loc main_arg2)) (m ((c.tc : Thread nD τ).loc main_arg3)) (drawn m c (Proc.devRef .tc main_v7))
      ∧ r.2.mem ((c.tc : Thread nD τ).loc main_v69) = t61 (m ((c.tc : Thread nD τ).loc main_arg0)) (m ((c.tc : Thread nD τ).loc main_arg1)) (m ((c.tc : Thread nD τ).loc main_arg2)) (m ((c.tc : Thread nD τ).loc main_arg3)) (drawn m c (Proc.devRef .tc main_v7))
      ∧ r.2.mem ((c.tc : Thread nD τ).loc main_v73) = t65 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun r h c => by
    obtain ⟨h0, h1, h2, hk⟩ := h c
    rw [chosen_term] at h0
    rw [place_term, log_term] at h1
    rw [mem_term, prob_term, log_term] at h2
    have e : ∀ r : Ref sig .tc, ¬ (4 ≤ Line.pos r ∧ Line.pos r < 278) → drawn m c (Proc.devRef .tc r) = m ((c.tc : Thread nD τ).loc r) :=
      fun r hr => Draw.r_keep _ r hr
    simp only [b0, b1, b2, b3, e main_arg0 (by decide), e main_arg1 (by decide), e main_arg2 (by decide), e main_arg3 (by decide)] at h0 h1 h2
    exact ⟨h0, h1, h2, hk⟩) (run (F := Ideal) m g)

end Cert.Proof.Ref

end
-- ==== Proof.Equation.lean ====
/-
  The kernel's results are the reference's, wherever the precondition holds.
-/
module

public import proofs.«01_k».proof.Proof.StageVal
public import proofs.«01_k».proof.Proof.PreVal
public import proofs.«01_k».proof.Proof.RefRun

@[expose] public section

set_option pp.maxSteps 400

noncomputable section

namespace Cert.Proof

open Cert.KernelIdeal Cert.KernelIdeal.Gen Cert.Proof.Tile Cert.Proof.Sc Cert.Proof.Tc

open Idealize.ShloMosaic
open Idealize.ShloMosaic (ix2 ix3)
open Idealize.ShloMosaic renaming ix1 → jx
open Idealize.SL.Sem

section Device

variable (m : (ℓ : Loc nD τ sig) → Buf (Elt Ideal) ℓ)

/-- A device's arguments, and the numbers it draws. -/
abbrev c0 (d : Dev nD) : S4x100000x128.Idx → Ideal .f32 := m ((SparseCore.T d).loc main_arg0)
abbrev c1 (d : Dev nD) : S100000.Idx → BitVec 32 := m ((SparseCore.T d).loc main_arg1)
abbrev c2 (d : Dev nD) : S128x1.Idx → Ideal .f32 := m ((SparseCore.T d).loc main_arg2)
abbrev c3 (d : Dev nD) : S1.Idx → Ideal .f32 := m ((SparseCore.T d).loc main_arg3)
abbrev c4 (d : Dev nD) : S4x100000.Idx → Ideal .f32 := U m d

/-- A number drawn is a maximum with zero, so it lies above the guard's negative. -/
theorem drawn_gt (d : Dev nD) (i : S4x100000.Idx) : ((-eps : ℝ) : EReal) < c4 m d i := by
  obtain ⟨w, e⟩ := Draw.draw_max (V0 m d) i
  have h0 : (Scalar.ofBits .f32 0#32 : Ideal .f32) = (0 : EReal) := by simp [Scalar.ofBits, Ideal.ofBits, Ideal.ieee]
  have h1 : ((-eps : ℝ) : EReal) < 0 := by
    exact_mod_cast neg_lt_zero.mpr eps_val.2
  refine lt_of_lt_of_le h1 (le_of_le_of_eq ?_ e.symm)
  rw [h0]
  exact le_max_left (0 : EReal) w

theorem seg_same (d : Dev nD) (b : ℕ) : SegF m d b = Ref.Seg (c1 m d) b := by
  have hix : ∀ k : Fin 100000, (ix1 k : S100000.Idx) = jx k := fun k => by
    funext a
    match a with | 0 => rfl
  refine Finset.filter_congr fun r hr => ?_
  have hl := Finset.mem_range.mp hr
  unfold segOf Ref.sg
  rw [dif_pos hl, dif_pos hl, hix]

variable (H : ∀ d, RealArgs (c0 m d) (c2 m d) (c3 m d) (c4 m d)) (hin : InRange m) (d : Dev nD)
  (hne : ∀ b : Fin 256, (Ref.Seg (c1 m d) b.val).Nonempty)

include H hin hne in
/-- The three results a device ends with are the reference's. -/
theorem res_same {r0 : S4x256.Idx → Elt Ideal .i32} {r1 r2 : S4x256.Idx → Elt Ideal .f32} (h : Res m (okOf (xM m d)) (okKey (kM m d)) d r0 r1 r2) :
    r0 = Ref.t60 (c0 m d) (c1 m d) (c2 m d) (c3 m d) (c4 m d) ∧ r1 = Ref.t61 (c0 m d) (c1 m d) (c2 m d) (c3 m d) (c4 m d)
      ∧ r2 = Ref.t65 (c0 m d) (c1 m d) (c2 m d) (c3 m d) := by
  obtain ⟨B0, B1, B2, B3, B4, hB, rfl, rfl, rfl⟩ := h
  have key : ∀ (mm : Fin 4) (b : Fin 256), resI (re B0) (re B1) (ix2 mm b) = Ref.t60 (c0 m d) (c1 m d) (c2 m d) (c3 m d) (c4 m d) (ix2 mm b)
      ∧ resG (re B0) (re B1) (re B2) (re B3) (ix2 mm b) = Ref.t61 (c0 m d) (c1 m d) (c2 m d) (c3 m d) (c4 m d) (ix2 mm b)
      ∧ resE (re B3) (re B4) (ix2 mm b) = Ref.t65 (c0 m d) (c1 m d) (c2 m d) (c3 m d) (ix2 mm b) := fun mm b => by
    obtain ⟨r₀, hr⟩ := exists_best (SegF m d b.val) (kM m d mm) (by rw [seg_same]; exact hne b)
    have hrow := fun R : Fin 512 => bins_row m d hin (xM m d) (kM m d) (fun mm r _ => kR_bot_lt (H d) mm r) hB shapeCasts_S4x32x4352_S4x512x272 mm R b
    have hr' : IsBest (Ref.Seg (c1 m d) b.val) (kR (c0 m d) (c2 m d) (c3 m d) (c4 m d) mm) r₀ := by
      rw [← seg_same]; exact hr
    refine ⟨?_, ?_, ?_⟩
    · exact (resI_at (seg_lt m d) hr (kR_bot_lt (H d) mm r₀) _ _ _ _ _ mm b hrow).trans (Ref.t60_at (H d) (hin d) hne mm b hr').symm
    · refine (resG_at (seg_lt m d) hr (kR_bot_lt (H d) mm r₀) _ _ _ _ _ mm b hrow).trans (Eq.trans ?_ (Ref.t61_at (H d) (hin d) hne mm b hr').symm)
      rw [seg_same]
    · refine (resE_at (seg_lt m d) hr _ _ _ _ _ mm b hrow).trans (Eq.trans ?_ (Ref.t65_at (H d) (hin d) hne mm b).symm)
      rw [seg_same]
  refine ⟨funext fun i => ?_, funext fun i => ?_, funext fun i => ?_⟩
  · rw [ValueIdx.eq_ix2 i]; exact (key _ _).1
  · rw [ValueIdx.eq_ix2 i]; exact (key _ _).2.1
  · rw [ValueIdx.eq_ix2 i]; exact (key _ _).2.2

end Device

theorem equation : Cert.algebraic_KernelIdeal_ReferenceIdeal_pre_ok (hKernelIdeal := Cert.KernelIdeal.Gen.facts) (hReferenceIdeal := Cert.ReferenceIdeal.Gen.facts) (hPre_ok := pre_ok_facts) := fun m g m' g' hp ha => by
  haveI := pre_ok_facts
  have hv := fun d => Pre.real_of_ok _ _ _ _ (c4 m d) (hp d) (drawn_gt m d)
  have hin : InRange m := fun d i => ids_of_ok _ _ _ _ (hp d) i
  have H : ∀ d, RealArgs (c0 m d) (c2 m d) (c3 m d) (c4 m d) := fun d => (hv d).1
  have hne : ∀ d (b : Fin 256), (Ref.Seg (c1 m d) b.val).Nonempty := fun d b => by
    obtain ⟨r, hr⟩ := (hv d).2 b
    exact ⟨r.val, (Ref.mem_seg r).mpr hr⟩
  refine ⟨fun d => Ref.t60 (c0 m d) (c1 m d) (c2 m d) (c3 m d) (c4 m d), fun d => Ref.t61 (c0 m d) (c1 m d) (c2 m d) (c3 m d) (c4 m d),
    fun d => Ref.t65 (c0 m d) (c1 m d) (c2 m d) (c3 m d), ?_, ?_⟩
  · refine (θ_run _ _ _).mono (fun r hr d => ?_) (run_main m (okOf (xM m 0)) (okKey (kM m 0)) (rows0 m 0 H) (fun d L => idsOK m hin d L) g)
    obtain ⟨k0, k1, k2, k3, hres⟩ := hr.1 d
    have hd : (0 : Dev nD) = d := Subsingleton.elim _ _
    rw [hd] at hres
    obtain ⟨e0, e1, e2⟩ := res_same m H hin d (hne d) hres
    exact ⟨e0, e1, e2, k0, k1, k2, k3⟩
  · refine (θ_run _ _ _).mono (fun r hr d => ?_) (Ref.ref_run m' g')
    obtain ⟨e0, e1, e2, hk⟩ := hr d
    obtain ⟨a0, a1, a2, a3⟩ := ha d
    have eu : Ref.drawn m' d (Proc.devRef .tc Cert.ReferenceIdeal.main_v7) = c4 m d := (Draw.same_draw (V0 m d) _).symm
    rw [a0, a1, a2, a3, eu] at e0 e1
    rw [a0, a1, a2, a3] at e2
    exact ⟨e0, e1, e2, hk⟩

end Cert.Proof

end
-- ==== Proof.lean ====
/-
  The certificate's claim, put together.
-/
module

public import proofs.«01_k».proof.Proof.Frames
public import proofs.«01_k».proof.Proof.PreOk
public import proofs.«01_k».proof.Proof.Equation
public import proofs.«01_k».proof.Proof.Gen.ReferenceIdeal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, pre_ids_facts, pre_ok_facts,
  frame_P, frame_PI, frame_PI_ok, frame_RI, frame_RI_ok, mask_named, equation⟩

end Cert.Proof

end
